-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7)) (m ((c.tc : Thread Cert.SsdIdeal.nD Cert.SsdIdeal.τ).loc Cert.SsdIdeal.main_arg8))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_steps [hPre_finite_steps : Cert.Pre_finite_steps.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7)) (m ((c.tc : Thread Cert.SsdRefIdeal.nD Cert.SsdRefIdeal.τ).loc Cert.SsdRefIdeal.main_arg8))) = (fun _ => 1#1)

def Pre_InprojSmp (m : (ℓ : Loc Cert.InprojSmp.nD Cert.InprojSmp.τ Cert.InprojSmp.sig) → Buf (Elt Bits) ℓ) : Prop :=
  True

def Pre_InprojSmpIdeal (m : (ℓ : Loc Cert.InprojSmpIdeal.nD Cert.InprojSmpIdeal.τ Cert.InprojSmpIdeal.sig) → Buf (Elt Ideal) ℓ) : Prop :=
  True

def Pre_InprojSmpRefIdeal (m : (ℓ : Loc Cert.InprojSmpRefIdeal.nD Cert.InprojSmpRefIdeal.τ Cert.InprojSmpRefIdeal.sig) → Buf (Elt Ideal) ℓ) : Prop :=
  True

def Pre_FfnSmp (m : (ℓ : Loc Cert.FfnSmp.nD Cert.FfnSmp.τ Cert.FfnSmp.sig) → Buf (Elt Bits) ℓ) : Prop :=
  True

def Pre_FfnSmpIdeal (m : (ℓ : Loc Cert.FfnSmpIdeal.nD Cert.FfnSmpIdeal.τ Cert.FfnSmpIdeal.sig) → Buf (Elt Ideal) ℓ) : Prop :=
  True

def Pre_FfnSmpRefIdeal (m : (ℓ : Loc Cert.FfnSmpRefIdeal.nD Cert.FfnSmpRefIdeal.τ Cert.FfnSmpRefIdeal.sig) → Buf (Elt Ideal) ℓ) : Prop :=
  True

def Pre_SsdSmp (m : (ℓ : Loc Cert.SsdSmp.nD Cert.SsdSmp.τ Cert.SsdSmp.sig) → Buf (Elt Bits) ℓ) : Prop :=
  True

def Pre_SsdSmpIdeal (m : (ℓ : Loc Cert.SsdSmpIdeal.nD Cert.SsdSmpIdeal.τ Cert.SsdSmpIdeal.sig) → Buf (Elt Ideal) ℓ) : Prop :=
  True

def Pre_SsdSmpRefIdeal (m : (ℓ : Loc Cert.SsdSmpRefIdeal.nD Cert.SsdSmpRefIdeal.τ Cert.SsdSmpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_SsdRefIdeal_pre_finite_steps [hSsdRefIdeal : Cert.SsdRefIdeal.Facts] [hPre_finite_steps : Cert.Pre_finite_steps.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_steps m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_InprojSmp [hInprojSmp : Cert.InprojSmp.Facts] : Prop :=
  ∀ (m : (ℓ : Loc Cert.InprojSmp.nD Cert.InprojSmp.τ Cert.InprojSmp.sig) → Buf (Elt Bits) ℓ) (g : Dev Cert.InprojSmp.nD → PrngReg), Pre_InprojSmp m →
    θ_run (Cert.InprojSmp.defs (F := Bits)) (onTc (τ := Cert.InprojSmp.τ) (Cert.InprojSmp.main (F := Bits))) ⟨m, fun _ => 0, g⟩ (fun r => (∀ c : Dev Cert.InprojSmp.nD,
      r.2.mem ((c.tc : Thread Cert.InprojSmp.nD Cert.InprojSmp.τ).loc Cert.InprojSmp.main_arg0) = m ((c.tc : Thread Cert.InprojSmp.nD Cert.InprojSmp.τ).loc Cert.InprojSmp.main_arg0)
      ∧ r.2.mem ((c.tc : Thread Cert.InprojSmp.nD Cert.InprojSmp.τ).loc Cert.InprojSmp.main_arg1) = m ((c.tc : Thread Cert.InprojSmp.nD Cert.InprojSmp.τ).loc Cert.InprojSmp.main_arg1)
      ∧ r.2.mem ((c.tc : Thread Cert.InprojSmp.nD Cert.InprojSmp.τ).loc Cert.InprojSmp.main_arg2) = m ((c.tc : Thread Cert.InprojSmp.nD Cert.InprojSmp.τ).loc Cert.InprojSmp.main_arg2)
      ∧ r.2.mem ((c.tc : Thread Cert.InprojSmp.nD Cert.InprojSmp.τ).loc Cert.InprojSmp.main_arg3) = m ((c.tc : Thread Cert.InprojSmp.nD Cert.InprojSmp.τ).loc Cert.InprojSmp.main_arg3)
      ∧ r.2.mem ((c.tc : Thread Cert.InprojSmp.nD Cert.InprojSmp.τ).loc Cert.InprojSmp.main_arg4) = m ((c.tc : Thread Cert.InprojSmp.nD Cert.InprojSmp.τ).loc Cert.InprojSmp.main_arg4)
      ∧ r.2.mem ((c.tc : Thread Cert.InprojSmp.nD Cert.InprojSmp.τ).loc Cert.InprojSmp.main_arg5) = m ((c.tc : Thread Cert.InprojSmp.nD Cert.InprojSmp.τ).loc Cert.InprojSmp.main_arg5))
      ∧ r.2.sem = fun _ => 0)

def quiescent_InprojSmpIdeal [hInprojSmpIdeal : Cert.InprojSmpIdeal.Facts] : Prop :=
  ∀ (m : (ℓ : Loc Cert.InprojSmpIdeal.nD Cert.InprojSmpIdeal.τ Cert.InprojSmpIdeal.sig) → Buf (Elt Ideal) ℓ) (g : Dev Cert.InprojSmpIdeal.nD → PrngReg), Pre_InprojSmpIdeal m →
    θ_run (Cert.InprojSmpIdeal.defs (F := Ideal)) (onTc (τ := Cert.InprojSmpIdeal.τ) (Cert.InprojSmpIdeal.main (F := Ideal))) ⟨m, fun _ => 0, g⟩ (fun r => (∀ c : Dev Cert.InprojSmpIdeal.nD,
      r.2.mem ((c.tc : Thread Cert.InprojSmpIdeal.nD Cert.InprojSmpIdeal.τ).loc Cert.InprojSmpIdeal.main_arg0) = m ((c.tc : Thread Cert.InprojSmpIdeal.nD Cert.InprojSmpIdeal.τ).loc Cert.InprojSmpIdeal.main_arg0)
      ∧ r.2.mem ((c.tc : Thread Cert.InprojSmpIdeal.nD Cert.InprojSmpIdeal.τ).loc Cert.InprojSmpIdeal.main_arg1) = m ((c.tc : Thread Cert.InprojSmpIdeal.nD Cert.InprojSmpIdeal.τ).loc Cert.InprojSmpIdeal.main_arg1)
      ∧ r.2.mem ((c.tc : Thread Cert.InprojSmpIdeal.nD Cert.InprojSmpIdeal.τ).loc Cert.InprojSmpIdeal.main_arg2) = m ((c.tc : Thread Cert.InprojSmpIdeal.nD Cert.InprojSmpIdeal.τ).loc Cert.InprojSmpIdeal.main_arg2)
      ∧ r.2.mem ((c.tc : Thread Cert.InprojSmpIdeal.nD Cert.InprojSmpIdeal.τ).loc Cert.InprojSmpIdeal.main_arg3) = m ((c.tc : Thread Cert.InprojSmpIdeal.nD Cert.InprojSmpIdeal.τ).loc Cert.InprojSmpIdeal.main_arg3)
      ∧ r.2.mem ((c.tc : Thread Cert.InprojSmpIdeal.nD Cert.InprojSmpIdeal.τ).loc Cert.InprojSmpIdeal.main_arg4) = m ((c.tc : Thread Cert.InprojSmpIdeal.nD Cert.InprojSmpIdeal.τ).loc Cert.InprojSmpIdeal.main_arg4)
      ∧ r.2.mem ((c.tc : Thread Cert.InprojSmpIdeal.nD Cert.InprojSmpIdeal.τ).loc Cert.InprojSmpIdeal.main_arg5) = m ((c.tc : Thread Cert.InprojSmpIdeal.nD Cert.InprojSmpIdeal.τ).loc Cert.InprojSmpIdeal.main_arg5))
      ∧ r.2.sem = fun _ => 0)

def quiescent_InprojSmpRefIdeal [hInprojSmpRefIdeal : Cert.InprojSmpRefIdeal.Facts] : Prop :=
  ∀ (m : (ℓ : Loc Cert.InprojSmpRefIdeal.nD Cert.InprojSmpRefIdeal.τ Cert.InprojSmpRefIdeal.sig) → Buf (Elt Ideal) ℓ) (g : Dev Cert.InprojSmpRefIdeal.nD → PrngReg), Pre_InprojSmpRefIdeal m →
    θ_run (Cert.InprojSmpRefIdeal.defs (F := Ideal)) (onTc (τ := Cert.InprojSmpRefIdeal.τ) (Cert.InprojSmpRefIdeal.main (F := Ideal))) ⟨m, fun _ => 0, g⟩ (fun r => (∀ c : Dev Cert.InprojSmpRefIdeal.nD,
      r.2.mem ((c.tc : Thread Cert.InprojSmpRefIdeal.nD Cert.InprojSmpRefIdeal.τ).loc Cert.InprojSmpRefIdeal.main_arg0) = m ((c.tc : Thread Cert.InprojSmpRefIdeal.nD Cert.InprojSmpRefIdeal.τ).loc Cert.InprojSmpRefIdeal.main_arg0)
      ∧ r.2.mem ((c.tc : Thread Cert.InprojSmpRefIdeal.nD Cert.InprojSmpRefIdeal.τ).loc Cert.InprojSmpRefIdeal.main_arg1) = m ((c.tc : Thread Cert.InprojSmpRefIdeal.nD Cert.InprojSmpRefIdeal.τ).loc Cert.InprojSmpRefIdeal.main_arg1)
      ∧ r.2.mem ((c.tc : Thread Cert.InprojSmpRefIdeal.nD Cert.InprojSmpRefIdeal.τ).loc Cert.InprojSmpRefIdeal.main_arg2) = m ((c.tc : Thread Cert.InprojSmpRefIdeal.nD Cert.InprojSmpRefIdeal.τ).loc Cert.InprojSmpRefIdeal.main_arg2)
      ∧ r.2.mem ((c.tc : Thread Cert.InprojSmpRefIdeal.nD Cert.InprojSmpRefIdeal.τ).loc Cert.InprojSmpRefIdeal.main_arg3) = m ((c.tc : Thread Cert.InprojSmpRefIdeal.nD Cert.InprojSmpRefIdeal.τ).loc Cert.InprojSmpRefIdeal.main_arg3)
      ∧ r.2.mem ((c.tc : Thread Cert.InprojSmpRefIdeal.nD Cert.InprojSmpRefIdeal.τ).loc Cert.InprojSmpRefIdeal.main_arg4) = m ((c.tc : Thread Cert.InprojSmpRefIdeal.nD Cert.InprojSmpRefIdeal.τ).loc Cert.InprojSmpRefIdeal.main_arg4)
      ∧ r.2.mem ((c.tc : Thread Cert.InprojSmpRefIdeal.nD Cert.InprojSmpRefIdeal.τ).loc Cert.InprojSmpRefIdeal.main_arg5) = m ((c.tc : Thread Cert.InprojSmpRefIdeal.nD Cert.InprojSmpRefIdeal.τ).loc Cert.InprojSmpRefIdeal.main_arg5))
      ∧ r.2.sem = fun _ => 0)

def quiescent_FfnSmp [hFfnSmp : Cert.FfnSmp.Facts] : Prop :=
  ∀ (m : (ℓ : Loc Cert.FfnSmp.nD Cert.FfnSmp.τ Cert.FfnSmp.sig) → Buf (Elt Bits) ℓ) (g : Dev Cert.FfnSmp.nD → PrngReg), Pre_FfnSmp m →
    θ_run (Cert.FfnSmp.defs (F := Bits)) (onTc (τ := Cert.FfnSmp.τ) (Cert.FfnSmp.main (F := Bits))) ⟨m, fun _ => 0, g⟩ (fun r => (∀ c : Dev Cert.FfnSmp.nD,
      r.2.mem ((c.tc : Thread Cert.FfnSmp.nD Cert.FfnSmp.τ).loc Cert.FfnSmp.main_arg0) = m ((c.tc : Thread Cert.FfnSmp.nD Cert.FfnSmp.τ).loc Cert.FfnSmp.main_arg0)
      ∧ r.2.mem ((c.tc : Thread Cert.FfnSmp.nD Cert.FfnSmp.τ).loc Cert.FfnSmp.main_arg1) = m ((c.tc : Thread Cert.FfnSmp.nD Cert.FfnSmp.τ).loc Cert.FfnSmp.main_arg1)
      ∧ r.2.mem ((c.tc : Thread Cert.FfnSmp.nD Cert.FfnSmp.τ).loc Cert.FfnSmp.main_arg2) = m ((c.tc : Thread Cert.FfnSmp.nD Cert.FfnSmp.τ).loc Cert.FfnSmp.main_arg2)
      ∧ r.2.mem ((c.tc : Thread Cert.FfnSmp.nD Cert.FfnSmp.τ).loc Cert.FfnSmp.main_arg3) = m ((c.tc : Thread Cert.FfnSmp.nD Cert.FfnSmp.τ).loc Cert.FfnSmp.main_arg3)
      ∧ r.2.mem ((c.tc : Thread Cert.FfnSmp.nD Cert.FfnSmp.τ).loc Cert.FfnSmp.main_arg4) = m ((c.tc : Thread Cert.FfnSmp.nD Cert.FfnSmp.τ).loc Cert.FfnSmp.main_arg4)
      ∧ r.2.mem ((c.tc : Thread Cert.FfnSmp.nD Cert.FfnSmp.τ).loc Cert.FfnSmp.main_arg5) = m ((c.tc : Thread Cert.FfnSmp.nD Cert.FfnSmp.τ).loc Cert.FfnSmp.main_arg5)
      ∧ r.2.mem ((c.tc : Thread Cert.FfnSmp.nD Cert.FfnSmp.τ).loc Cert.FfnSmp.main_arg6) = m ((c.tc : Thread Cert.FfnSmp.nD Cert.FfnSmp.τ).loc Cert.FfnSmp.main_arg6)
      ∧ r.2.mem ((c.tc : Thread Cert.FfnSmp.nD Cert.FfnSmp.τ).loc Cert.FfnSmp.main_arg7) = m ((c.tc : Thread Cert.FfnSmp.nD Cert.FfnSmp.τ).loc Cert.FfnSmp.main_arg7)
      ∧ r.2.mem ((c.tc : Thread Cert.FfnSmp.nD Cert.FfnSmp.τ).loc Cert.FfnSmp.main_arg8) = m ((c.tc : Thread Cert.FfnSmp.nD Cert.FfnSmp.τ).loc Cert.FfnSmp.main_arg8)
      ∧ r.2.mem ((c.tc : Thread Cert.FfnSmp.nD Cert.FfnSmp.τ).loc Cert.FfnSmp.main_arg9) = m ((c.tc : Thread Cert.FfnSmp.nD Cert.FfnSmp.τ).loc Cert.FfnSmp.main_arg9)
      ∧ r.2.mem ((c.tc : Thread Cert.FfnSmp.nD Cert.FfnSmp.τ).loc Cert.FfnSmp.main_arg10) = m ((c.tc : Thread Cert.FfnSmp.nD Cert.FfnSmp.τ).loc Cert.FfnSmp.main_arg10)
      ∧ r.2.mem ((c.tc : Thread Cert.FfnSmp.nD Cert.FfnSmp.τ).loc Cert.FfnSmp.main_arg11) = m ((c.tc : Thread Cert.FfnSmp.nD Cert.FfnSmp.τ).loc Cert.FfnSmp.main_arg11)
      ∧ r.2.mem ((c.tc : Thread Cert.FfnSmp.nD Cert.FfnSmp.τ).loc Cert.FfnSmp.main_arg12) = m ((c.tc : Thread Cert.FfnSmp.nD Cert.FfnSmp.τ).loc Cert.FfnSmp.main_arg12)
      ∧ r.2.mem ((c.tc : Thread Cert.FfnSmp.nD Cert.FfnSmp.τ).loc Cert.FfnSmp.main_arg13) = m ((c.tc : Thread Cert.FfnSmp.nD Cert.FfnSmp.τ).loc Cert.FfnSmp.main_arg13))
      ∧ r.2.sem = fun _ => 0)

def quiescent_FfnSmpIdeal [hFfnSmpIdeal : Cert.FfnSmpIdeal.Facts] : Prop :=
  ∀ (m : (ℓ : Loc Cert.FfnSmpIdeal.nD Cert.FfnSmpIdeal.τ Cert.FfnSmpIdeal.sig) → Buf (Elt Ideal) ℓ) (g : Dev Cert.FfnSmpIdeal.nD → PrngReg), Pre_FfnSmpIdeal m →
    θ_run (Cert.FfnSmpIdeal.defs (F := Ideal)) (onTc (τ := Cert.FfnSmpIdeal.τ) (Cert.FfnSmpIdeal.main (F := Ideal))) ⟨m, fun _ => 0, g⟩ (fun r => (∀ c : Dev Cert.FfnSmpIdeal.nD,
      r.2.mem ((c.tc : Thread Cert.FfnSmpIdeal.nD Cert.FfnSmpIdeal.τ).loc Cert.FfnSmpIdeal.main_arg0) = m ((c.tc : Thread Cert.FfnSmpIdeal.nD Cert.FfnSmpIdeal.τ).loc Cert.FfnSmpIdeal.main_arg0)
      ∧ r.2.mem ((c.tc : Thread Cert.FfnSmpIdeal.nD Cert.FfnSmpIdeal.τ).loc Cert.FfnSmpIdeal.main_arg1) = m ((c.tc : Thread Cert.FfnSmpIdeal.nD Cert.FfnSmpIdeal.τ).loc Cert.FfnSmpIdeal.main_arg1)
      ∧ r.2.mem ((c.tc : Thread Cert.FfnSmpIdeal.nD Cert.FfnSmpIdeal.τ).loc Cert.FfnSmpIdeal.main_arg2) = m ((c.tc : Thread Cert.FfnSmpIdeal.nD Cert.FfnSmpIdeal.τ).loc Cert.FfnSmpIdeal.main_arg2)
      ∧ r.2.mem ((c.tc : Thread Cert.FfnSmpIdeal.nD Cert.FfnSmpIdeal.τ).loc Cert.FfnSmpIdeal.main_arg3) = m ((c.tc : Thread Cert.FfnSmpIdeal.nD Cert.FfnSmpIdeal.τ).loc Cert.FfnSmpIdeal.main_arg3)
      ∧ r.2.mem ((c.tc : Thread Cert.FfnSmpIdeal.nD Cert.FfnSmpIdeal.τ).loc Cert.FfnSmpIdeal.main_arg4) = m ((c.tc : Thread Cert.FfnSmpIdeal.nD Cert.FfnSmpIdeal.τ).loc Cert.FfnSmpIdeal.main_arg4)
      ∧ r.2.mem ((c.tc : Thread Cert.FfnSmpIdeal.nD Cert.FfnSmpIdeal.τ).loc Cert.FfnSmpIdeal.main_arg5) = m ((c.tc : Thread Cert.FfnSmpIdeal.nD Cert.FfnSmpIdeal.τ).loc Cert.FfnSmpIdeal.main_arg5)
      ∧ r.2.mem ((c.tc : Thread Cert.FfnSmpIdeal.nD Cert.FfnSmpIdeal.τ).loc Cert.FfnSmpIdeal.main_arg6) = m ((c.tc : Thread Cert.FfnSmpIdeal.nD Cert.FfnSmpIdeal.τ).loc Cert.FfnSmpIdeal.main_arg6)
      ∧ r.2.mem ((c.tc : Thread Cert.FfnSmpIdeal.nD Cert.FfnSmpIdeal.τ).loc Cert.FfnSmpIdeal.main_arg7) = m ((c.tc : Thread Cert.FfnSmpIdeal.nD Cert.FfnSmpIdeal.τ).loc Cert.FfnSmpIdeal.main_arg7)
      ∧ r.2.mem ((c.tc : Thread Cert.FfnSmpIdeal.nD Cert.FfnSmpIdeal.τ).loc Cert.FfnSmpIdeal.main_arg8) = m ((c.tc : Thread Cert.FfnSmpIdeal.nD Cert.FfnSmpIdeal.τ).loc Cert.FfnSmpIdeal.main_arg8)
      ∧ r.2.mem ((c.tc : Thread Cert.FfnSmpIdeal.nD Cert.FfnSmpIdeal.τ).loc Cert.FfnSmpIdeal.main_arg9) = m ((c.tc : Thread Cert.FfnSmpIdeal.nD Cert.FfnSmpIdeal.τ).loc Cert.FfnSmpIdeal.main_arg9)
      ∧ r.2.mem ((c.tc : Thread Cert.FfnSmpIdeal.nD Cert.FfnSmpIdeal.τ).loc Cert.FfnSmpIdeal.main_arg10) = m ((c.tc : Thread Cert.FfnSmpIdeal.nD Cert.FfnSmpIdeal.τ).loc Cert.FfnSmpIdeal.main_arg10)
      ∧ r.2.mem ((c.tc : Thread Cert.FfnSmpIdeal.nD Cert.FfnSmpIdeal.τ).loc Cert.FfnSmpIdeal.main_arg11) = m ((c.tc : Thread Cert.FfnSmpIdeal.nD Cert.FfnSmpIdeal.τ).loc Cert.FfnSmpIdeal.main_arg11)
      ∧ r.2.mem ((c.tc : Thread Cert.FfnSmpIdeal.nD Cert.FfnSmpIdeal.τ).loc Cert.FfnSmpIdeal.main_arg12) = m ((c.tc : Thread Cert.FfnSmpIdeal.nD Cert.FfnSmpIdeal.τ).loc Cert.FfnSmpIdeal.main_arg12)
      ∧ r.2.mem ((c.tc : Thread Cert.FfnSmpIdeal.nD Cert.FfnSmpIdeal.τ).loc Cert.FfnSmpIdeal.main_arg13) = m ((c.tc : Thread Cert.FfnSmpIdeal.nD Cert.FfnSmpIdeal.τ).loc Cert.FfnSmpIdeal.main_arg13))
      ∧ r.2.sem = fun _ => 0)

def quiescent_FfnSmpRefIdeal [hFfnSmpRefIdeal : Cert.FfnSmpRefIdeal.Facts] : Prop :=
  ∀ (m : (ℓ : Loc Cert.FfnSmpRefIdeal.nD Cert.FfnSmpRefIdeal.τ Cert.FfnSmpRefIdeal.sig) → Buf (Elt Ideal) ℓ) (g : Dev Cert.FfnSmpRefIdeal.nD → PrngReg), Pre_FfnSmpRefIdeal m →
    θ_run (Cert.FfnSmpRefIdeal.defs (F := Ideal)) (onTc (τ := Cert.FfnSmpRefIdeal.τ) (Cert.FfnSmpRefIdeal.main (F := Ideal))) ⟨m, fun _ => 0, g⟩ (fun r => (∀ c : Dev Cert.FfnSmpRefIdeal.nD,
      r.2.mem ((c.tc : Thread Cert.FfnSmpRefIdeal.nD Cert.FfnSmpRefIdeal.τ).loc Cert.FfnSmpRefIdeal.main_arg0) = m ((c.tc : Thread Cert.FfnSmpRefIdeal.nD Cert.FfnSmpRefIdeal.τ).loc Cert.FfnSmpRefIdeal.main_arg0)
      ∧ r.2.mem ((c.tc : Thread Cert.FfnSmpRefIdeal.nD Cert.FfnSmpRefIdeal.τ).loc Cert.FfnSmpRefIdeal.main_arg1) = m ((c.tc : Thread Cert.FfnSmpRefIdeal.nD Cert.FfnSmpRefIdeal.τ).loc Cert.FfnSmpRefIdeal.main_arg1)
      ∧ r.2.mem ((c.tc : Thread Cert.FfnSmpRefIdeal.nD Cert.FfnSmpRefIdeal.τ).loc Cert.FfnSmpRefIdeal.main_arg2) = m ((c.tc : Thread Cert.FfnSmpRefIdeal.nD Cert.FfnSmpRefIdeal.τ).loc Cert.FfnSmpRefIdeal.main_arg2)
      ∧ r.2.mem ((c.tc : Thread Cert.FfnSmpRefIdeal.nD Cert.FfnSmpRefIdeal.τ).loc Cert.FfnSmpRefIdeal.main_arg3) = m ((c.tc : Thread Cert.FfnSmpRefIdeal.nD Cert.FfnSmpRefIdeal.τ).loc Cert.FfnSmpRefIdeal.main_arg3)
      ∧ r.2.mem ((c.tc : Thread Cert.FfnSmpRefIdeal.nD Cert.FfnSmpRefIdeal.τ).loc Cert.FfnSmpRefIdeal.main_arg4) = m ((c.tc : Thread Cert.FfnSmpRefIdeal.nD Cert.FfnSmpRefIdeal.τ).loc Cert.FfnSmpRefIdeal.main_arg4)
      ∧ r.2.mem ((c.tc : Thread Cert.FfnSmpRefIdeal.nD Cert.FfnSmpRefIdeal.τ).loc Cert.FfnSmpRefIdeal.main_arg5) = m ((c.tc : Thread Cert.FfnSmpRefIdeal.nD Cert.FfnSmpRefIdeal.τ).loc Cert.FfnSmpRefIdeal.main_arg5)
      ∧ r.2.mem ((c.tc : Thread Cert.FfnSmpRefIdeal.nD Cert.FfnSmpRefIdeal.τ).loc Cert.FfnSmpRefIdeal.main_arg6) = m ((c.tc : Thread Cert.FfnSmpRefIdeal.nD Cert.FfnSmpRefIdeal.τ).loc Cert.FfnSmpRefIdeal.main_arg6)
      ∧ r.2.mem ((c.tc : Thread Cert.FfnSmpRefIdeal.nD Cert.FfnSmpRefIdeal.τ).loc Cert.FfnSmpRefIdeal.main_arg7) = m ((c.tc : Thread Cert.FfnSmpRefIdeal.nD Cert.FfnSmpRefIdeal.τ).loc Cert.FfnSmpRefIdeal.main_arg7)
      ∧ r.2.mem ((c.tc : Thread Cert.FfnSmpRefIdeal.nD Cert.FfnSmpRefIdeal.τ).loc Cert.FfnSmpRefIdeal.main_arg8) = m ((c.tc : Thread Cert.FfnSmpRefIdeal.nD Cert.FfnSmpRefIdeal.τ).loc Cert.FfnSmpRefIdeal.main_arg8)
      ∧ r.2.mem ((c.tc : Thread Cert.FfnSmpRefIdeal.nD Cert.FfnSmpRefIdeal.τ).loc Cert.FfnSmpRefIdeal.main_arg9) = m ((c.tc : Thread Cert.FfnSmpRefIdeal.nD Cert.FfnSmpRefIdeal.τ).loc Cert.FfnSmpRefIdeal.main_arg9)
      ∧ r.2.mem ((c.tc : Thread Cert.FfnSmpRefIdeal.nD Cert.FfnSmpRefIdeal.τ).loc Cert.FfnSmpRefIdeal.main_arg10) = m ((c.tc : Thread Cert.FfnSmpRefIdeal.nD Cert.FfnSmpRefIdeal.τ).loc Cert.FfnSmpRefIdeal.main_arg10)
      ∧ r.2.mem ((c.tc : Thread Cert.FfnSmpRefIdeal.nD Cert.FfnSmpRefIdeal.τ).loc Cert.FfnSmpRefIdeal.main_arg11) = m ((c.tc : Thread Cert.FfnSmpRefIdeal.nD Cert.FfnSmpRefIdeal.τ).loc Cert.FfnSmpRefIdeal.main_arg11)
      ∧ r.2.mem ((c.tc : Thread Cert.FfnSmpRefIdeal.nD Cert.FfnSmpRefIdeal.τ).loc Cert.FfnSmpRefIdeal.main_arg12) = m ((c.tc : Thread Cert.FfnSmpRefIdeal.nD Cert.FfnSmpRefIdeal.τ).loc Cert.FfnSmpRefIdeal.main_arg12)
      ∧ r.2.mem ((c.tc : Thread Cert.FfnSmpRefIdeal.nD Cert.FfnSmpRefIdeal.τ).loc Cert.FfnSmpRefIdeal.main_arg13) = m ((c.tc : Thread Cert.FfnSmpRefIdeal.nD Cert.FfnSmpRefIdeal.τ).loc Cert.FfnSmpRefIdeal.main_arg13))
      ∧ r.2.sem = fun _ => 0)

def quiescent_SsdSmp [hSsdSmp : Cert.SsdSmp.Facts] : Prop :=
  ∀ (m : (ℓ : Loc Cert.SsdSmp.nD Cert.SsdSmp.τ Cert.SsdSmp.sig) → Buf (Elt Bits) ℓ) (g : Dev Cert.SsdSmp.nD → PrngReg), Pre_SsdSmp m →
    θ_run (Cert.SsdSmp.defs (F := Bits)) (onTc (τ := Cert.SsdSmp.τ) (Cert.SsdSmp.main (F := Bits))) ⟨m, fun _ => 0, g⟩ (fun r => (∀ c : Dev Cert.SsdSmp.nD,
      r.2.mem ((c.tc : Thread Cert.SsdSmp.nD Cert.SsdSmp.τ).loc Cert.SsdSmp.main_arg0) = m ((c.tc : Thread Cert.SsdSmp.nD Cert.SsdSmp.τ).loc Cert.SsdSmp.main_arg0)
      ∧ r.2.mem ((c.tc : Thread Cert.SsdSmp.nD Cert.SsdSmp.τ).loc Cert.SsdSmp.main_arg1) = m ((c.tc : Thread Cert.SsdSmp.nD Cert.SsdSmp.τ).loc Cert.SsdSmp.main_arg1)
      ∧ r.2.mem ((c.tc : Thread Cert.SsdSmp.nD Cert.SsdSmp.τ).loc Cert.SsdSmp.main_arg2) = m ((c.tc : Thread Cert.SsdSmp.nD Cert.SsdSmp.τ).loc Cert.SsdSmp.main_arg2)
      ∧ r.2.mem ((c.tc : Thread Cert.SsdSmp.nD Cert.SsdSmp.τ).loc Cert.SsdSmp.main_arg3) = m ((c.tc : Thread Cert.SsdSmp.nD Cert.SsdSmp.τ).loc Cert.SsdSmp.main_arg3)
      ∧ r.2.mem ((c.tc : Thread Cert.SsdSmp.nD Cert.SsdSmp.τ).loc Cert.SsdSmp.main_arg4) = m ((c.tc : Thread Cert.SsdSmp.nD Cert.SsdSmp.τ).loc Cert.SsdSmp.main_arg4)
      ∧ r.2.mem ((c.tc : Thread Cert.SsdSmp.nD Cert.SsdSmp.τ).loc Cert.SsdSmp.main_arg5) = m ((c.tc : Thread Cert.SsdSmp.nD Cert.SsdSmp.τ).loc Cert.SsdSmp.main_arg5)
      ∧ r.2.mem ((c.tc : Thread Cert.SsdSmp.nD Cert.SsdSmp.τ).loc Cert.SsdSmp.main_arg6) = m ((c.tc : Thread Cert.SsdSmp.nD Cert.SsdSmp.τ).loc Cert.SsdSmp.main_arg6)
      ∧ r.2.mem ((c.tc : Thread Cert.SsdSmp.nD Cert.SsdSmp.τ).loc Cert.SsdSmp.main_arg7) = m ((c.tc : Thread Cert.SsdSmp.nD Cert.SsdSmp.τ).loc Cert.SsdSmp.main_arg7)
      ∧ r.2.mem ((c.tc : Thread Cert.SsdSmp.nD Cert.SsdSmp.τ).loc Cert.SsdSmp.main_arg8) = m ((c.tc : Thread Cert.SsdSmp.nD Cert.SsdSmp.τ).loc Cert.SsdSmp.main_arg8)
      ∧ r.2.mem ((c.tc : Thread Cert.SsdSmp.nD Cert.SsdSmp.τ).loc Cert.SsdSmp.main_arg9) = m ((c.tc : Thread Cert.SsdSmp.nD Cert.SsdSmp.τ).loc Cert.SsdSmp.main_arg9)
      ∧ r.2.mem ((c.tc : Thread Cert.SsdSmp.nD Cert.SsdSmp.τ).loc Cert.SsdSmp.main_arg10) = m ((c.tc : Thread Cert.SsdSmp.nD Cert.SsdSmp.τ).loc Cert.SsdSmp.main_arg10))
      ∧ r.2.sem = fun _ => 0)

def quiescent_SsdSmpIdeal [hSsdSmpIdeal : Cert.SsdSmpIdeal.Facts] : Prop :=
  ∀ (m : (ℓ : Loc Cert.SsdSmpIdeal.nD Cert.SsdSmpIdeal.τ Cert.SsdSmpIdeal.sig) → Buf (Elt Ideal) ℓ) (g : Dev Cert.SsdSmpIdeal.nD → PrngReg), Pre_SsdSmpIdeal m →
    θ_run (Cert.SsdSmpIdeal.defs (F := Ideal)) (onTc (τ := Cert.SsdSmpIdeal.τ) (Cert.SsdSmpIdeal.main (F := Ideal))) ⟨m, fun _ => 0, g⟩ (fun r => (∀ c : Dev Cert.SsdSmpIdeal.nD,
      r.2.mem ((c.tc : Thread Cert.SsdSmpIdeal.nD Cert.SsdSmpIdeal.τ).loc Cert.SsdSmpIdeal.main_arg0) = m ((c.tc : Thread Cert.SsdSmpIdeal.nD Cert.SsdSmpIdeal.τ).loc Cert.SsdSmpIdeal.main_arg0)
      ∧ r.2.mem ((c.tc : Thread Cert.SsdSmpIdeal.nD Cert.SsdSmpIdeal.τ).loc Cert.SsdSmpIdeal.main_arg1) = m ((c.tc : Thread Cert.SsdSmpIdeal.nD Cert.SsdSmpIdeal.τ).loc Cert.SsdSmpIdeal.main_arg1)
      ∧ r.2.mem ((c.tc : Thread Cert.SsdSmpIdeal.nD Cert.SsdSmpIdeal.τ).loc Cert.SsdSmpIdeal.main_arg2) = m ((c.tc : Thread Cert.SsdSmpIdeal.nD Cert.SsdSmpIdeal.τ).loc Cert.SsdSmpIdeal.main_arg2)
      ∧ r.2.mem ((c.tc : Thread Cert.SsdSmpIdeal.nD Cert.SsdSmpIdeal.τ).loc Cert.SsdSmpIdeal.main_arg3) = m ((c.tc : Thread Cert.SsdSmpIdeal.nD Cert.SsdSmpIdeal.τ).loc Cert.SsdSmpIdeal.main_arg3)
      ∧ r.2.mem ((c.tc : Thread Cert.SsdSmpIdeal.nD Cert.SsdSmpIdeal.τ).loc Cert.SsdSmpIdeal.main_arg4) = m ((c.tc : Thread Cert.SsdSmpIdeal.nD Cert.SsdSmpIdeal.τ).loc Cert.SsdSmpIdeal.main_arg4)
      ∧ r.2.mem ((c.tc : Thread Cert.SsdSmpIdeal.nD Cert.SsdSmpIdeal.τ).loc Cert.SsdSmpIdeal.main_arg5) = m ((c.tc : Thread Cert.SsdSmpIdeal.nD Cert.SsdSmpIdeal.τ).loc Cert.SsdSmpIdeal.main_arg5)
      ∧ r.2.mem ((c.tc : Thread Cert.SsdSmpIdeal.nD Cert.SsdSmpIdeal.τ).loc Cert.SsdSmpIdeal.main_arg6) = m ((c.tc : Thread Cert.SsdSmpIdeal.nD Cert.SsdSmpIdeal.τ).loc Cert.SsdSmpIdeal.main_arg6)
      ∧ r.2.mem ((c.tc : Thread Cert.SsdSmpIdeal.nD Cert.SsdSmpIdeal.τ).loc Cert.SsdSmpIdeal.main_arg7) = m ((c.tc : Thread Cert.SsdSmpIdeal.nD Cert.SsdSmpIdeal.τ).loc Cert.SsdSmpIdeal.main_arg7)
      ∧ r.2.mem ((c.tc : Thread Cert.SsdSmpIdeal.nD Cert.SsdSmpIdeal.τ).loc Cert.SsdSmpIdeal.main_arg8) = m ((c.tc : Thread Cert.SsdSmpIdeal.nD Cert.SsdSmpIdeal.τ).loc Cert.SsdSmpIdeal.main_arg8)
      ∧ r.2.mem ((c.tc : Thread Cert.SsdSmpIdeal.nD Cert.SsdSmpIdeal.τ).loc Cert.SsdSmpIdeal.main_arg9) = m ((c.tc : Thread Cert.SsdSmpIdeal.nD Cert.SsdSmpIdeal.τ).loc Cert.SsdSmpIdeal.main_arg9)
      ∧ r.2.mem ((c.tc : Thread Cert.SsdSmpIdeal.nD Cert.SsdSmpIdeal.τ).loc Cert.SsdSmpIdeal.main_arg10) = m ((c.tc : Thread Cert.SsdSmpIdeal.nD Cert.SsdSmpIdeal.τ).loc Cert.SsdSmpIdeal.main_arg10))
      ∧ r.2.sem = fun _ => 0)

def quiescent_SsdSmpRefIdeal [hSsdSmpRefIdeal : Cert.SsdSmpRefIdeal.Facts] : Prop :=
  ∀ (m : (ℓ : Loc Cert.SsdSmpRefIdeal.nD Cert.SsdSmpRefIdeal.τ Cert.SsdSmpRefIdeal.sig) → Buf (Elt Ideal) ℓ) (g : Dev Cert.SsdSmpRefIdeal.nD → PrngReg), Pre_SsdSmpRefIdeal m →
    θ_run (Cert.SsdSmpRefIdeal.defs (F := Ideal)) (onTc (τ := Cert.SsdSmpRefIdeal.τ) (Cert.SsdSmpRefIdeal.main (F := Ideal))) ⟨m, fun _ => 0, g⟩ (fun r => (∀ c : Dev Cert.SsdSmpRefIdeal.nD,
      r.2.mem ((c.tc : Thread Cert.SsdSmpRefIdeal.nD Cert.SsdSmpRefIdeal.τ).loc Cert.SsdSmpRefIdeal.main_arg0) = m ((c.tc : Thread Cert.SsdSmpRefIdeal.nD Cert.SsdSmpRefIdeal.τ).loc Cert.SsdSmpRefIdeal.main_arg0)
      ∧ r.2.mem ((c.tc : Thread Cert.SsdSmpRefIdeal.nD Cert.SsdSmpRefIdeal.τ).loc Cert.SsdSmpRefIdeal.main_arg1) = m ((c.tc : Thread Cert.SsdSmpRefIdeal.nD Cert.SsdSmpRefIdeal.τ).loc Cert.SsdSmpRefIdeal.main_arg1)
      ∧ r.2.mem ((c.tc : Thread Cert.SsdSmpRefIdeal.nD Cert.SsdSmpRefIdeal.τ).loc Cert.SsdSmpRefIdeal.main_arg2) = m ((c.tc : Thread Cert.SsdSmpRefIdeal.nD Cert.SsdSmpRefIdeal.τ).loc Cert.SsdSmpRefIdeal.main_arg2)
      ∧ r.2.mem ((c.tc : Thread Cert.SsdSmpRefIdeal.nD Cert.SsdSmpRefIdeal.τ).loc Cert.SsdSmpRefIdeal.main_arg3) = m ((c.tc : Thread Cert.SsdSmpRefIdeal.nD Cert.SsdSmpRefIdeal.τ).loc Cert.SsdSmpRefIdeal.main_arg3)
      ∧ r.2.mem ((c.tc : Thread Cert.SsdSmpRefIdeal.nD Cert.SsdSmpRefIdeal.τ).loc Cert.SsdSmpRefIdeal.main_arg4) = m ((c.tc : Thread Cert.SsdSmpRefIdeal.nD Cert.SsdSmpRefIdeal.τ).loc Cert.SsdSmpRefIdeal.main_arg4)
      ∧ r.2.mem ((c.tc : Thread Cert.SsdSmpRefIdeal.nD Cert.SsdSmpRefIdeal.τ).loc Cert.SsdSmpRefIdeal.main_arg5) = m ((c.tc : Thread Cert.SsdSmpRefIdeal.nD Cert.SsdSmpRefIdeal.τ).loc Cert.SsdSmpRefIdeal.main_arg5)
      ∧ r.2.mem ((c.tc : Thread Cert.SsdSmpRefIdeal.nD Cert.SsdSmpRefIdeal.τ).loc Cert.SsdSmpRefIdeal.main_arg6) = m ((c.tc : Thread Cert.SsdSmpRefIdeal.nD Cert.SsdSmpRefIdeal.τ).loc Cert.SsdSmpRefIdeal.main_arg6)
      ∧ r.2.mem ((c.tc : Thread Cert.SsdSmpRefIdeal.nD Cert.SsdSmpRefIdeal.τ).loc Cert.SsdSmpRefIdeal.main_arg7) = m ((c.tc : Thread Cert.SsdSmpRefIdeal.nD Cert.SsdSmpRefIdeal.τ).loc Cert.SsdSmpRefIdeal.main_arg7)
      ∧ r.2.mem ((c.tc : Thread Cert.SsdSmpRefIdeal.nD Cert.SsdSmpRefIdeal.τ).loc Cert.SsdSmpRefIdeal.main_arg8) = m ((c.tc : Thread Cert.SsdSmpRefIdeal.nD Cert.SsdSmpRefIdeal.τ).loc Cert.SsdSmpRefIdeal.main_arg8)
      ∧ r.2.mem ((c.tc : Thread Cert.SsdSmpRefIdeal.nD Cert.SsdSmpRefIdeal.τ).loc Cert.SsdSmpRefIdeal.main_arg9) = m ((c.tc : Thread Cert.SsdSmpRefIdeal.nD Cert.SsdSmpRefIdeal.τ).loc Cert.SsdSmpRefIdeal.main_arg9)
      ∧ r.2.mem ((c.tc : Thread Cert.SsdSmpRefIdeal.nD Cert.SsdSmpRefIdeal.τ).loc Cert.SsdSmpRefIdeal.main_arg10) = m ((c.tc : Thread Cert.SsdSmpRefIdeal.nD Cert.SsdSmpRefIdeal.τ).loc Cert.SsdSmpRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v36_0)) (v1 : (c : Dev Cert.InprojIdeal.nD) → Buf (Elt Ideal) ((c.tc : Thread Cert.InprojIdeal.nD Cert.InprojIdeal.τ).loc Cert.InprojIdeal.main_v37)) (v2 : (c : Dev Cert.InprojIdeal.nD) → Buf (Elt Ideal) ((c.tc : Thread Cert.InprojIdeal.nD Cert.InprojIdeal.τ).loc Cert.InprojIdeal.main_v38)) (v3 : (c : Dev Cert.InprojIdeal.nD) → Buf (Elt Ideal) ((c.tc : Thread Cert.InprojIdeal.nD Cert.InprojIdeal.τ).loc Cert.InprojIdeal.main_v36_3)) (v4 : (c : Dev Cert.InprojIdeal.nD) → Buf (Elt Ideal) ((c.tc : Thread Cert.InprojIdeal.nD Cert.InprojIdeal.τ).loc Cert.InprojIdeal.main_v39)) (v5 : (c : Dev Cert.InprojIdeal.nD) → Buf (Elt Ideal) ((c.tc : Thread Cert.InprojIdeal.nD Cert.InprojIdeal.τ).loc Cert.InprojIdeal.main_v40)) (v6 : (c : Dev Cert.InprojIdeal.nD) → Buf (Elt Ideal) ((c.tc : Thread Cert.InprojIdeal.nD Cert.InprojIdeal.τ).loc Cert.InprojIdeal.main_v41)) (v7 : (c : Dev Cert.InprojIdeal.nD) → Buf (Elt Ideal) ((c.tc : Thread Cert.InprojIdeal.nD Cert.InprojIdeal.τ).loc Cert.InprojIdeal.main_v36_6)) (v8 : (c : Dev Cert.InprojIdeal.nD) → Buf (Elt Ideal) ((c.tc : Thread Cert.InprojIdeal.nD Cert.InprojIdeal.τ).loc Cert.InprojIdeal.main_v36_7)) (v9 : (c : Dev Cert.InprojIdeal.nD) → Buf (Elt Ideal) ((c.tc : Thread Cert.InprojIdeal.nD Cert.InprojIdeal.τ).loc Cert.InprojIdeal.main_v36_8)) (v10 : (c : Dev Cert.InprojIdeal.nD) → Buf (Elt Ideal) ((c.tc : Thread Cert.InprojIdeal.nD Cert.InprojIdeal.τ).loc Cert.InprojIdeal.main_v43)) (v11 : (c : Dev Cert.InprojIdeal.nD) → Buf (Elt Ideal) ((c.tc : Thread Cert.InprojIdeal.nD Cert.InprojIdeal.τ).loc Cert.InprojIdeal.main_v45)) (v12 : (c : Dev Cert.InprojIdeal.nD) → Buf (Elt Ideal) ((c.tc : Thread Cert.InprojIdeal.nD Cert.InprojIdeal.τ).loc Cert.InprojIdeal.main_v36_9)) (v13 : (c : Dev Cert.InprojIdeal.nD) → Buf (Elt Ideal) ((c.tc : Thread Cert.InprojIdeal.nD Cert.InprojIdeal.τ).loc Cert.InprojIdeal.main_v36_10)) (v14 : (c : Dev Cert.InprojIdeal.nD) → Buf (Elt Ideal) ((c.tc : Thread Cert.InprojIdeal.nD Cert.InprojIdeal.τ).loc Cert.InprojIdeal.main_v36_11)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v36_0) = v0 c
          ∧ r.2.mem ((c.tc : Thread Cert.InprojIdeal.nD Cert.InprojIdeal.τ).loc Cert.InprojIdeal.main_v37) = v1 c
          ∧ r.2.mem ((c.tc : Thread Cert.InprojIdeal.nD Cert.InprojIdeal.τ).loc Cert.InprojIdeal.main_v38) = v2 c
          ∧ r.2.mem ((c.tc : Thread Cert.InprojIdeal.nD Cert.InprojIdeal.τ).loc Cert.InprojIdeal.main_v36_3) = v3 c
          ∧ r.2.mem ((c.tc : Thread Cert.InprojIdeal.nD Cert.InprojIdeal.τ).loc Cert.InprojIdeal.main_v39) = v4 c
          ∧ r.2.mem ((c.tc : Thread Cert.InprojIdeal.nD Cert.InprojIdeal.τ).loc Cert.InprojIdeal.main_v40) = v5 c
          ∧ r.2.mem ((c.tc : Thread Cert.InprojIdeal.nD Cert.InprojIdeal.τ).loc Cert.InprojIdeal.main_v41) = v6 c
          ∧ r.2.mem ((c.tc : Thread Cert.InprojIdeal.nD Cert.InprojIdeal.τ).loc Cert.InprojIdeal.main_v36_6) = v7 c
          ∧ r.2.mem ((c.tc : Thread Cert.InprojIdeal.nD Cert.InprojIdeal.τ).loc Cert.InprojIdeal.main_v36_7) = v8 c
          ∧ r.2.mem ((c.tc : Thread Cert.InprojIdeal.nD Cert.InprojIdeal.τ).loc Cert.InprojIdeal.main_v36_8) = v9 c
          ∧ r.2.mem ((c.tc : Thread Cert.InprojIdeal.nD Cert.InprojIdeal.τ).loc Cert.InprojIdeal.main_v43) = v10 c
          ∧ r.2.mem ((c.tc : Thread Cert.InprojIdeal.nD Cert.InprojIdeal.τ).loc Cert.InprojIdeal.main_v45) = v11 c
          ∧ r.2.mem ((c.tc : Thread Cert.InprojIdeal.nD Cert.InprojIdeal.τ).loc Cert.InprojIdeal.main_v36_9) = v12 c
          ∧ r.2.mem ((c.tc : Thread Cert.InprojIdeal.nD Cert.InprojIdeal.τ).loc Cert.InprojIdeal.main_v36_10) = v13 c
          ∧ r.2.mem ((c.tc : Thread Cert.InprojIdeal.nD Cert.InprojIdeal.τ).loc Cert.InprojIdeal.main_v36_11) = v14 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v158) = v0 c
          ∧ r.2.mem ((c.tc : Thread Cert.InprojRefIdeal.nD Cert.InprojRefIdeal.τ).loc Cert.InprojRefIdeal.main_v92) = v1 c
          ∧ r.2.mem ((c.tc : Thread Cert.InprojRefIdeal.nD Cert.InprojRefIdeal.τ).loc Cert.InprojRefIdeal.main_v93) = v2 c
          ∧ r.2.mem ((c.tc : Thread Cert.InprojRefIdeal.nD Cert.InprojRefIdeal.τ).loc Cert.InprojRefIdeal.main_v162) = v3 c
          ∧ r.2.mem ((c.tc : Thread Cert.InprojRefIdeal.nD Cert.InprojRefIdeal.τ).loc Cert.InprojRefIdeal.main_v154) = v4 c
          ∧ r.2.mem ((c.tc : Thread Cert.InprojRefIdeal.nD Cert.InprojRefIdeal.τ).loc Cert.InprojRefIdeal.main_v163) = v5 c
          ∧ r.2.mem ((c.tc : Thread Cert.InprojRefIdeal.nD Cert.InprojRefIdeal.τ).loc Cert.InprojRefIdeal.main_v164) = v6 c
          ∧ r.2.mem ((c.tc : Thread Cert.InprojRefIdeal.nD Cert.InprojRefIdeal.τ).loc Cert.InprojRefIdeal.main_v165) = v7 c
          ∧ r.2.mem ((c.tc : Thread Cert.InprojRefIdeal.nD Cert.InprojRefIdeal.τ).loc Cert.InprojRefIdeal.main_v166) = v8 c
          ∧ r.2.mem ((c.tc : Thread Cert.InprojRefIdeal.nD Cert.InprojRefIdeal.τ).loc Cert.InprojRefIdeal.main_v167) = v9 c
          ∧ r.2.mem ((c.tc : Thread Cert.InprojRefIdeal.nD Cert.InprojRefIdeal.τ).loc Cert.InprojRefIdeal.main_v168) = v10 c
          ∧ r.2.mem ((c.tc : Thread Cert.InprojRefIdeal.nD Cert.InprojRefIdeal.τ).loc Cert.InprojRefIdeal.main_v169) = v11 c
          ∧ r.2.mem ((c.tc : Thread Cert.InprojRefIdeal.nD Cert.InprojRefIdeal.τ).loc Cert.InprojRefIdeal.main_v171) = v12 c
          ∧ r.2.mem ((c.tc : Thread Cert.InprojRefIdeal.nD Cert.InprojRefIdeal.τ).loc Cert.InprojRefIdeal.main_v173) = v13 c
          ∧ r.2.mem ((c.tc : Thread Cert.InprojRefIdeal.nD Cert.InprojRefIdeal.τ).loc Cert.InprojRefIdeal.main_v175) = v14 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Ssd_SsdIdeal : Prop :=
  True

def algebraic_SsdIdeal_SsdRefIdeal_pre_finite_steps [hSsdIdeal : Cert.SsdIdeal.Facts] [hSsdRefIdeal : Cert.SsdRefIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_steps m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v17_0)) (v1 : (c : Dev Cert.SsdIdeal.nD) → Buf (Elt Ideal) ((c.tc : Thread Cert.SsdIdeal.nD Cert.SsdIdeal.τ).loc Cert.SsdIdeal.main_v18)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v17_0) = v0 c
          ∧ r.2.mem ((c.tc : Thread Cert.SsdIdeal.nD Cert.SsdIdeal.τ).loc Cert.SsdIdeal.main_v18) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v135) = v0 c
          ∧ r.2.mem ((c.tc : Thread Cert.SsdRefIdeal.nD Cert.SsdRefIdeal.τ).loc Cert.SsdRefIdeal.main_v112) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def preserves_InprojSmp_InprojSmpIdeal : Prop :=
  True

def algebraic_InprojSmpIdeal_InprojSmpRefIdeal [hInprojSmpIdeal : Cert.InprojSmpIdeal.Facts] [hInprojSmpRefIdeal : Cert.InprojSmpRefIdeal.Facts] : Prop :=
  ∀ (m : (ℓ : Loc Cert.InprojSmpIdeal.nD Cert.InprojSmpIdeal.τ Cert.InprojSmpIdeal.sig) → Buf (Elt Ideal) ℓ) (g : Dev Cert.InprojSmpIdeal.nD → PrngReg)
    (m' : (ℓ : Loc Cert.InprojSmpRefIdeal.nD Cert.InprojSmpRefIdeal.τ Cert.InprojSmpRefIdeal.sig) → Buf (Elt Ideal) ℓ) (g' : Dev Cert.InprojSmpRefIdeal.nD → PrngReg), Pre_InprojSmpIdeal m →
    (∀ c : Dev Cert.InprojSmpIdeal.nD,
      m' ((c.tc : Thread Cert.InprojSmpRefIdeal.nD Cert.InprojSmpRefIdeal.τ).loc Cert.InprojSmpRefIdeal.main_arg0) = m ((c.tc : Thread Cert.InprojSmpIdeal.nD Cert.InprojSmpIdeal.τ).loc Cert.InprojSmpIdeal.main_arg0)
      ∧ m' ((c.tc : Thread Cert.InprojSmpRefIdeal.nD Cert.InprojSmpRefIdeal.τ).loc Cert.InprojSmpRefIdeal.main_arg1) = m ((c.tc : Thread Cert.InprojSmpIdeal.nD Cert.InprojSmpIdeal.τ).loc Cert.InprojSmpIdeal.main_arg1)
      ∧ m' ((c.tc : Thread Cert.InprojSmpRefIdeal.nD Cert.InprojSmpRefIdeal.τ).loc Cert.InprojSmpRefIdeal.main_arg2) = m ((c.tc : Thread Cert.InprojSmpIdeal.nD Cert.InprojSmpIdeal.τ).loc Cert.InprojSmpIdeal.main_arg2)
      ∧ m' ((c.tc : Thread Cert.InprojSmpRefIdeal.nD Cert.InprojSmpRefIdeal.τ).loc Cert.InprojSmpRefIdeal.main_arg3) = m ((c.tc : Thread Cert.InprojSmpIdeal.nD Cert.InprojSmpIdeal.τ).loc Cert.InprojSmpIdeal.main_arg3)
      ∧ m' ((c.tc : Thread Cert.InprojSmpRefIdeal.nD Cert.InprojSmpRefIdeal.τ).loc Cert.InprojSmpRefIdeal.main_arg4) = m ((c.tc : Thread Cert.InprojSmpIdeal.nD Cert.InprojSmpIdeal.τ).loc Cert.InprojSmpIdeal.main_arg4)
      ∧ m' ((c.tc : Thread Cert.InprojSmpRefIdeal.nD Cert.InprojSmpRefIdeal.τ).loc Cert.InprojSmpRefIdeal.main_arg5) = m ((c.tc : Thread Cert.InprojSmpIdeal.nD Cert.InprojSmpIdeal.τ).loc Cert.InprojSmpIdeal.main_arg5)) →
    ∃ (v0 : (c : Dev Cert.InprojSmpIdeal.nD) → Buf (Elt Ideal) ((c.tc : Thread Cert.InprojSmpIdeal.nD Cert.InprojSmpIdeal.τ).loc Cert.InprojSmpIdeal.main_v48_0)) (v1 : (c : Dev Cert.InprojSmpIdeal.nD) → Buf (Elt Ideal) ((c.tc : Thread Cert.InprojSmpIdeal.nD Cert.InprojSmpIdeal.τ).loc Cert.InprojSmpIdeal.main_v48_1)) (v2 : (c : Dev Cert.InprojSmpIdeal.nD) → Buf (Elt Ideal) ((c.tc : Thread Cert.InprojSmpIdeal.nD Cert.InprojSmpIdeal.τ).loc Cert.InprojSmpIdeal.main_v48_2)) (v3 : (c : Dev Cert.InprojSmpIdeal.nD) → Buf (Elt Ideal) ((c.tc : Thread Cert.InprojSmpIdeal.nD Cert.InprojSmpIdeal.τ).loc Cert.InprojSmpIdeal.main_v48_3)) (v4 : (c : Dev Cert.InprojSmpIdeal.nD) → Buf (Elt Ideal) ((c.tc : Thread Cert.InprojSmpIdeal.nD Cert.InprojSmpIdeal.τ).loc Cert.InprojSmpIdeal.main_v48_4)) (v5 : (c : Dev Cert.InprojSmpIdeal.nD) → Buf (Elt Ideal) ((c.tc : Thread Cert.InprojSmpIdeal.nD Cert.InprojSmpIdeal.τ).loc Cert.InprojSmpIdeal.main_v48_6)) (v6 : (c : Dev Cert.InprojSmpIdeal.nD) → Buf (Elt Ideal) ((c.tc : Thread Cert.InprojSmpIdeal.nD Cert.InprojSmpIdeal.τ).loc Cert.InprojSmpIdeal.main_v48_7)) (v7 : (c : Dev Cert.InprojSmpIdeal.nD) → Buf (Elt Ideal) ((c.tc : Thread Cert.InprojSmpIdeal.nD Cert.InprojSmpIdeal.τ).loc Cert.InprojSmpIdeal.main_v48_8)) (v8 : (c : Dev Cert.InprojSmpIdeal.nD) → Buf (Elt Ideal) ((c.tc : Thread Cert.InprojSmpIdeal.nD Cert.InprojSmpIdeal.τ).loc Cert.InprojSmpIdeal.main_v52)) (v9 : (c : Dev Cert.InprojSmpIdeal.nD) → Buf (Elt Ideal) ((c.tc : Thread Cert.InprojSmpIdeal.nD Cert.InprojSmpIdeal.τ).loc Cert.InprojSmpIdeal.main_v53)) (v10 : (c : Dev Cert.InprojSmpIdeal.nD) → Buf (Elt Ideal) ((c.tc : Thread Cert.InprojSmpIdeal.nD Cert.InprojSmpIdeal.τ).loc Cert.InprojSmpIdeal.main_v48_9)) (v11 : (c : Dev Cert.InprojSmpIdeal.nD) → Buf (Elt Ideal) ((c.tc : Thread Cert.InprojSmpIdeal.nD Cert.InprojSmpIdeal.τ).loc Cert.InprojSmpIdeal.main_v48_10)) (v12 : (c : Dev Cert.InprojSmpIdeal.nD) → Buf (Elt Ideal) ((c.tc : Thread Cert.InprojSmpIdeal.nD Cert.InprojSmpIdeal.τ).loc Cert.InprojSmpIdeal.main_v48_11)),
      θ_run (Cert.InprojSmpIdeal.defs (F := Ideal)) (onTc (τ := Cert.InprojSmpIdeal.τ) (Cert.InprojSmpIdeal.main (F := Ideal))) ⟨m, fun _ => 0, g⟩ (fun r => ∀ c : Dev Cert.InprojSmpIdeal.nD,
          r.2.mem ((c.tc : Thread Cert.InprojSmpIdeal.nD Cert.InprojSmpIdeal.τ).loc Cert.InprojSmpIdeal.main_v48_0) = v0 c
          ∧ r.2.mem ((c.tc : Thread Cert.InprojSmpIdeal.nD Cert.InprojSmpIdeal.τ).loc Cert.InprojSmpIdeal.main_v48_1) = v1 c
          ∧ r.2.mem ((c.tc : Thread Cert.InprojSmpIdeal.nD Cert.InprojSmpIdeal.τ).loc Cert.InprojSmpIdeal.main_v48_2) = v2 c
          ∧ r.2.mem ((c.tc : Thread Cert.InprojSmpIdeal.nD Cert.InprojSmpIdeal.τ).loc Cert.InprojSmpIdeal.main_v48_3) = v3 c
          ∧ r.2.mem ((c.tc : Thread Cert.InprojSmpIdeal.nD Cert.InprojSmpIdeal.τ).loc Cert.InprojSmpIdeal.main_v48_4) = v4 c
          ∧ r.2.mem ((c.tc : Thread Cert.InprojSmpIdeal.nD Cert.InprojSmpIdeal.τ).loc Cert.InprojSmpIdeal.main_v48_6) = v5 c
          ∧ r.2.mem ((c.tc : Thread Cert.InprojSmpIdeal.nD Cert.InprojSmpIdeal.τ).loc Cert.InprojSmpIdeal.main_v48_7) = v6 c
          ∧ r.2.mem ((c.tc : Thread Cert.InprojSmpIdeal.nD Cert.InprojSmpIdeal.τ).loc Cert.InprojSmpIdeal.main_v48_8) = v7 c
          ∧ r.2.mem ((c.tc : Thread Cert.InprojSmpIdeal.nD Cert.InprojSmpIdeal.τ).loc Cert.InprojSmpIdeal.main_v52) = v8 c
          ∧ r.2.mem ((c.tc : Thread Cert.InprojSmpIdeal.nD Cert.InprojSmpIdeal.τ).loc Cert.InprojSmpIdeal.main_v53) = v9 c
          ∧ r.2.mem ((c.tc : Thread Cert.InprojSmpIdeal.nD Cert.InprojSmpIdeal.τ).loc Cert.InprojSmpIdeal.main_v48_9) = v10 c
          ∧ r.2.mem ((c.tc : Thread Cert.InprojSmpIdeal.nD Cert.InprojSmpIdeal.τ).loc Cert.InprojSmpIdeal.main_v48_10) = v11 c
          ∧ r.2.mem ((c.tc : Thread Cert.InprojSmpIdeal.nD Cert.InprojSmpIdeal.τ).loc Cert.InprojSmpIdeal.main_v48_11) = v12 c
          ∧ r.2.mem ((c.tc : Thread Cert.InprojSmpIdeal.nD Cert.InprojSmpIdeal.τ).loc Cert.InprojSmpIdeal.main_arg0) = m ((c.tc : Thread Cert.InprojSmpIdeal.nD Cert.InprojSmpIdeal.τ).loc Cert.InprojSmpIdeal.main_arg0)
          ∧ r.2.mem ((c.tc : Thread Cert.InprojSmpIdeal.nD Cert.InprojSmpIdeal.τ).loc Cert.InprojSmpIdeal.main_arg1) = m ((c.tc : Thread Cert.InprojSmpIdeal.nD Cert.InprojSmpIdeal.τ).loc Cert.InprojSmpIdeal.main_arg1)
          ∧ r.2.mem ((c.tc : Thread Cert.InprojSmpIdeal.nD Cert.InprojSmpIdeal.τ).loc Cert.InprojSmpIdeal.main_arg2) = m ((c.tc : Thread Cert.InprojSmpIdeal.nD Cert.InprojSmpIdeal.τ).loc Cert.InprojSmpIdeal.main_arg2)
          ∧ r.2.mem ((c.tc : Thread Cert.InprojSmpIdeal.nD Cert.InprojSmpIdeal.τ).loc Cert.InprojSmpIdeal.main_arg3) = m ((c.tc : Thread Cert.InprojSmpIdeal.nD Cert.InprojSmpIdeal.τ).loc Cert.InprojSmpIdeal.main_arg3)
          ∧ r.2.mem ((c.tc : Thread Cert.InprojSmpIdeal.nD Cert.InprojSmpIdeal.τ).loc Cert.InprojSmpIdeal.main_arg4) = m ((c.tc : Thread Cert.InprojSmpIdeal.nD Cert.InprojSmpIdeal.τ).loc Cert.InprojSmpIdeal.main_arg4)
          ∧ r.2.mem ((c.tc : Thread Cert.InprojSmpIdeal.nD Cert.InprojSmpIdeal.τ).loc Cert.InprojSmpIdeal.main_arg5) = m ((c.tc : Thread Cert.InprojSmpIdeal.nD Cert.InprojSmpIdeal.τ).loc Cert.InprojSmpIdeal.main_arg5))
      ∧ θ_run (Cert.InprojSmpRefIdeal.defs (F := Ideal)) (onTc (τ := Cert.InprojSmpRefIdeal.τ) (Cert.InprojSmpRefIdeal.main (F := Ideal))) ⟨m', fun _ => 0, g'⟩ (fun r => ∀ c : Dev Cert.InprojSmpRefIdeal.nD,
          r.2.mem ((c.tc : Thread Cert.InprojSmpRefIdeal.nD Cert.InprojSmpRefIdeal.τ).loc Cert.InprojSmpRefIdeal.main_v161) = v0 c
          ∧ r.2.mem ((c.tc : Thread Cert.InprojSmpRefIdeal.nD Cert.InprojSmpRefIdeal.τ).loc Cert.InprojSmpRefIdeal.main_v162) = v1 c
          ∧ r.2.mem ((c.tc : Thread Cert.InprojSmpRefIdeal.nD Cert.InprojSmpRefIdeal.τ).loc Cert.InprojSmpRefIdeal.main_v163) = v2 c
          ∧ r.2.mem ((c.tc : Thread Cert.InprojSmpRefIdeal.nD Cert.InprojSmpRefIdeal.τ).loc Cert.InprojSmpRefIdeal.main_v167) = v3 c
          ∧ r.2.mem ((c.tc : Thread Cert.InprojSmpRefIdeal.nD Cert.InprojSmpRefIdeal.τ).loc Cert.InprojSmpRefIdeal.main_v168) = v4 c
          ∧ r.2.mem ((c.tc : Thread Cert.InprojSmpRefIdeal.nD Cert.InprojSmpRefIdeal.τ).loc Cert.InprojSmpRefIdeal.main_v169) = v5 c
          ∧ r.2.mem ((c.tc : Thread Cert.InprojSmpRefIdeal.nD Cert.InprojSmpRefIdeal.τ).loc Cert.InprojSmpRefIdeal.main_v170) = v6 c
          ∧ r.2.mem ((c.tc : Thread Cert.InprojSmpRefIdeal.nD Cert.InprojSmpRefIdeal.τ).loc Cert.InprojSmpRefIdeal.main_v171) = v7 c
          ∧ r.2.mem ((c.tc : Thread Cert.InprojSmpRefIdeal.nD Cert.InprojSmpRefIdeal.τ).loc Cert.InprojSmpRefIdeal.main_v172) = v8 c
          ∧ r.2.mem ((c.tc : Thread Cert.InprojSmpRefIdeal.nD Cert.InprojSmpRefIdeal.τ).loc Cert.InprojSmpRefIdeal.main_v173) = v9 c
          ∧ r.2.mem ((c.tc : Thread Cert.InprojSmpRefIdeal.nD Cert.InprojSmpRefIdeal.τ).loc Cert.InprojSmpRefIdeal.main_v175) = v10 c
          ∧ r.2.mem ((c.tc : Thread Cert.InprojSmpRefIdeal.nD Cert.InprojSmpRefIdeal.τ).loc Cert.InprojSmpRefIdeal.main_v177) = v11 c
          ∧ r.2.mem ((c.tc : Thread Cert.InprojSmpRefIdeal.nD Cert.InprojSmpRefIdeal.τ).loc Cert.InprojSmpRefIdeal.main_v179) = v12 c
          ∧ r.2.mem ((c.tc : Thread Cert.InprojSmpRefIdeal.nD Cert.InprojSmpRefIdeal.τ).loc Cert.InprojSmpRefIdeal.main_arg0) = m' ((c.tc : Thread Cert.InprojSmpRefIdeal.nD Cert.InprojSmpRefIdeal.τ).loc Cert.InprojSmpRefIdeal.main_arg0)
          ∧ r.2.mem ((c.tc : Thread Cert.InprojSmpRefIdeal.nD Cert.InprojSmpRefIdeal.τ).loc Cert.InprojSmpRefIdeal.main_arg1) = m' ((c.tc : Thread Cert.InprojSmpRefIdeal.nD Cert.InprojSmpRefIdeal.τ).loc Cert.InprojSmpRefIdeal.main_arg1)
          ∧ r.2.mem ((c.tc : Thread Cert.InprojSmpRefIdeal.nD Cert.InprojSmpRefIdeal.τ).loc Cert.InprojSmpRefIdeal.main_arg2) = m' ((c.tc : Thread Cert.InprojSmpRefIdeal.nD Cert.InprojSmpRefIdeal.τ).loc Cert.InprojSmpRefIdeal.main_arg2)
          ∧ r.2.mem ((c.tc : Thread Cert.InprojSmpRefIdeal.nD Cert.InprojSmpRefIdeal.τ).loc Cert.InprojSmpRefIdeal.main_arg3) = m' ((c.tc : Thread Cert.InprojSmpRefIdeal.nD Cert.InprojSmpRefIdeal.τ).loc Cert.InprojSmpRefIdeal.main_arg3)
          ∧ r.2.mem ((c.tc : Thread Cert.InprojSmpRefIdeal.nD Cert.InprojSmpRefIdeal.τ).loc Cert.InprojSmpRefIdeal.main_arg4) = m' ((c.tc : Thread Cert.InprojSmpRefIdeal.nD Cert.InprojSmpRefIdeal.τ).loc Cert.InprojSmpRefIdeal.main_arg4)
          ∧ r.2.mem ((c.tc : Thread Cert.InprojSmpRefIdeal.nD Cert.InprojSmpRefIdeal.τ).loc Cert.InprojSmpRefIdeal.main_arg5) = m' ((c.tc : Thread Cert.InprojSmpRefIdeal.nD Cert.InprojSmpRefIdeal.τ).loc Cert.InprojSmpRefIdeal.main_arg5))

def preserves_FfnSmp_FfnSmpIdeal : Prop :=
  True

def algebraic_FfnSmpIdeal_FfnSmpRefIdeal [hFfnSmpIdeal : Cert.FfnSmpIdeal.Facts] [hFfnSmpRefIdeal : Cert.FfnSmpRefIdeal.Facts] : Prop :=
  ∀ (m : (ℓ : Loc Cert.FfnSmpIdeal.nD Cert.FfnSmpIdeal.τ Cert.FfnSmpIdeal.sig) → Buf (Elt Ideal) ℓ) (g : Dev Cert.FfnSmpIdeal.nD → PrngReg)
    (m' : (ℓ : Loc Cert.FfnSmpRefIdeal.nD Cert.FfnSmpRefIdeal.τ Cert.FfnSmpRefIdeal.sig) → Buf (Elt Ideal) ℓ) (g' : Dev Cert.FfnSmpRefIdeal.nD → PrngReg), Pre_FfnSmpIdeal m →
    (∀ c : Dev Cert.FfnSmpIdeal.nD,
      m' ((c.tc : Thread Cert.FfnSmpRefIdeal.nD Cert.FfnSmpRefIdeal.τ).loc Cert.FfnSmpRefIdeal.main_arg0) = m ((c.tc : Thread Cert.FfnSmpIdeal.nD Cert.FfnSmpIdeal.τ).loc Cert.FfnSmpIdeal.main_arg0)
      ∧ m' ((c.tc : Thread Cert.FfnSmpRefIdeal.nD Cert.FfnSmpRefIdeal.τ).loc Cert.FfnSmpRefIdeal.main_arg1) = m ((c.tc : Thread Cert.FfnSmpIdeal.nD Cert.FfnSmpIdeal.τ).loc Cert.FfnSmpIdeal.main_arg1)
      ∧ m' ((c.tc : Thread Cert.FfnSmpRefIdeal.nD Cert.FfnSmpRefIdeal.τ).loc Cert.FfnSmpRefIdeal.main_arg2) = m ((c.tc : Thread Cert.FfnSmpIdeal.nD Cert.FfnSmpIdeal.τ).loc Cert.FfnSmpIdeal.main_arg2)
      ∧ m' ((c.tc : Thread Cert.FfnSmpRefIdeal.nD Cert.FfnSmpRefIdeal.τ).loc Cert.FfnSmpRefIdeal.main_arg3) = m ((c.tc : Thread Cert.FfnSmpIdeal.nD Cert.FfnSmpIdeal.τ).loc Cert.FfnSmpIdeal.main_arg3)
      ∧ m' ((c.tc : Thread Cert.FfnSmpRefIdeal.nD Cert.FfnSmpRefIdeal.τ).loc Cert.FfnSmpRefIdeal.main_arg4) = m ((c.tc : Thread Cert.FfnSmpIdeal.nD Cert.FfnSmpIdeal.τ).loc Cert.FfnSmpIdeal.main_arg4)
      ∧ m' ((c.tc : Thread Cert.FfnSmpRefIdeal.nD Cert.FfnSmpRefIdeal.τ).loc Cert.FfnSmpRefIdeal.main_arg5) = m ((c.tc : Thread Cert.FfnSmpIdeal.nD Cert.FfnSmpIdeal.τ).loc Cert.FfnSmpIdeal.main_arg5)
      ∧ m' ((c.tc : Thread Cert.FfnSmpRefIdeal.nD Cert.FfnSmpRefIdeal.τ).loc Cert.FfnSmpRefIdeal.main_arg6) = m ((c.tc : Thread Cert.FfnSmpIdeal.nD Cert.FfnSmpIdeal.τ).loc Cert.FfnSmpIdeal.main_arg6)
      ∧ m' ((c.tc : Thread Cert.FfnSmpRefIdeal.nD Cert.FfnSmpRefIdeal.τ).loc Cert.FfnSmpRefIdeal.main_arg7) = m ((c.tc : Thread Cert.FfnSmpIdeal.nD Cert.FfnSmpIdeal.τ).loc Cert.FfnSmpIdeal.main_arg7)
      ∧ m' ((c.tc : Thread Cert.FfnSmpRefIdeal.nD Cert.FfnSmpRefIdeal.τ).loc Cert.FfnSmpRefIdeal.main_arg8) = m ((c.tc : Thread Cert.FfnSmpIdeal.nD Cert.FfnSmpIdeal.τ).loc Cert.FfnSmpIdeal.main_arg8)
      ∧ m' ((c.tc : Thread Cert.FfnSmpRefIdeal.nD Cert.FfnSmpRefIdeal.τ).loc Cert.FfnSmpRefIdeal.main_arg9) = m ((c.tc : Thread Cert.FfnSmpIdeal.nD Cert.FfnSmpIdeal.τ).loc Cert.FfnSmpIdeal.main_arg9)
      ∧ m' ((c.tc : Thread Cert.FfnSmpRefIdeal.nD Cert.FfnSmpRefIdeal.τ).loc Cert.FfnSmpRefIdeal.main_arg10) = m ((c.tc : Thread Cert.FfnSmpIdeal.nD Cert.FfnSmpIdeal.τ).loc Cert.FfnSmpIdeal.main_arg10)
      ∧ m' ((c.tc : Thread Cert.FfnSmpRefIdeal.nD Cert.FfnSmpRefIdeal.τ).loc Cert.FfnSmpRefIdeal.main_arg11) = m ((c.tc : Thread Cert.FfnSmpIdeal.nD Cert.FfnSmpIdeal.τ).loc Cert.FfnSmpIdeal.main_arg11)
      ∧ m' ((c.tc : Thread Cert.FfnSmpRefIdeal.nD Cert.FfnSmpRefIdeal.τ).loc Cert.FfnSmpRefIdeal.main_arg12) = m ((c.tc : Thread Cert.FfnSmpIdeal.nD Cert.FfnSmpIdeal.τ).loc Cert.FfnSmpIdeal.main_arg12)
      ∧ m' ((c.tc : Thread Cert.FfnSmpRefIdeal.nD Cert.FfnSmpRefIdeal.τ).loc Cert.FfnSmpRefIdeal.main_arg13) = m ((c.tc : Thread Cert.FfnSmpIdeal.nD Cert.FfnSmpIdeal.τ).loc Cert.FfnSmpIdeal.main_arg13)) →
    ∃ (v0 : (c : Dev Cert.FfnSmpIdeal.nD) → Buf (Elt Ideal) ((c.tc : Thread Cert.FfnSmpIdeal.nD Cert.FfnSmpIdeal.τ).loc Cert.FfnSmpIdeal.main_v19)),
      θ_run (Cert.FfnSmpIdeal.defs (F := Ideal)) (onTc (τ := Cert.FfnSmpIdeal.τ) (Cert.FfnSmpIdeal.main (F := Ideal))) ⟨m, fun _ => 0, g⟩ (fun r => ∀ c : Dev Cert.FfnSmpIdeal.nD,
          r.2.mem ((c.tc : Thread Cert.FfnSmpIdeal.nD Cert.FfnSmpIdeal.τ).loc Cert.FfnSmpIdeal.main_v19) = v0 c
          ∧ r.2.mem ((c.tc : Thread Cert.FfnSmpIdeal.nD Cert.FfnSmpIdeal.τ).loc Cert.FfnSmpIdeal.main_arg0) = m ((c.tc : Thread Cert.FfnSmpIdeal.nD Cert.FfnSmpIdeal.τ).loc Cert.FfnSmpIdeal.main_arg0)
          ∧ r.2.mem ((c.tc : Thread Cert.FfnSmpIdeal.nD Cert.FfnSmpIdeal.τ).loc Cert.FfnSmpIdeal.main_arg1) = m ((c.tc : Thread Cert.FfnSmpIdeal.nD Cert.FfnSmpIdeal.τ).loc Cert.FfnSmpIdeal.main_arg1)
          ∧ r.2.mem ((c.tc : Thread Cert.FfnSmpIdeal.nD Cert.FfnSmpIdeal.τ).loc Cert.FfnSmpIdeal.main_arg2) = m ((c.tc : Thread Cert.FfnSmpIdeal.nD Cert.FfnSmpIdeal.τ).loc Cert.FfnSmpIdeal.main_arg2)
          ∧ r.2.mem ((c.tc : Thread Cert.FfnSmpIdeal.nD Cert.FfnSmpIdeal.τ).loc Cert.FfnSmpIdeal.main_arg3) = m ((c.tc : Thread Cert.FfnSmpIdeal.nD Cert.FfnSmpIdeal.τ).loc Cert.FfnSmpIdeal.main_arg3)
          ∧ r.2.mem ((c.tc : Thread Cert.FfnSmpIdeal.nD Cert.FfnSmpIdeal.τ).loc Cert.FfnSmpIdeal.main_arg4) = m ((c.tc : Thread Cert.FfnSmpIdeal.nD Cert.FfnSmpIdeal.τ).loc Cert.FfnSmpIdeal.main_arg4)
          ∧ r.2.mem ((c.tc : Thread Cert.FfnSmpIdeal.nD Cert.FfnSmpIdeal.τ).loc Cert.FfnSmpIdeal.main_arg5) = m ((c.tc : Thread Cert.FfnSmpIdeal.nD Cert.FfnSmpIdeal.τ).loc Cert.FfnSmpIdeal.main_arg5)
          ∧ r.2.mem ((c.tc : Thread Cert.FfnSmpIdeal.nD Cert.FfnSmpIdeal.τ).loc Cert.FfnSmpIdeal.main_arg6) = m ((c.tc : Thread Cert.FfnSmpIdeal.nD Cert.FfnSmpIdeal.τ).loc Cert.FfnSmpIdeal.main_arg6)
          ∧ r.2.mem ((c.tc : Thread Cert.FfnSmpIdeal.nD Cert.FfnSmpIdeal.τ).loc Cert.FfnSmpIdeal.main_arg7) = m ((c.tc : Thread Cert.FfnSmpIdeal.nD Cert.FfnSmpIdeal.τ).loc Cert.FfnSmpIdeal.main_arg7)
          ∧ r.2.mem ((c.tc : Thread Cert.FfnSmpIdeal.nD Cert.FfnSmpIdeal.τ).loc Cert.FfnSmpIdeal.main_arg8) = m ((c.tc : Thread Cert.FfnSmpIdeal.nD Cert.FfnSmpIdeal.τ).loc Cert.FfnSmpIdeal.main_arg8)
          ∧ r.2.mem ((c.tc : Thread Cert.FfnSmpIdeal.nD Cert.FfnSmpIdeal.τ).loc Cert.FfnSmpIdeal.main_arg9) = m ((c.tc : Thread Cert.FfnSmpIdeal.nD Cert.FfnSmpIdeal.τ).loc Cert.FfnSmpIdeal.main_arg9)
          ∧ r.2.mem ((c.tc : Thread Cert.FfnSmpIdeal.nD Cert.FfnSmpIdeal.τ).loc Cert.FfnSmpIdeal.main_arg10) = m ((c.tc : Thread Cert.FfnSmpIdeal.nD Cert.FfnSmpIdeal.τ).loc Cert.FfnSmpIdeal.main_arg10)
          ∧ r.2.mem ((c.tc : Thread Cert.FfnSmpIdeal.nD Cert.FfnSmpIdeal.τ).loc Cert.FfnSmpIdeal.main_arg11) = m ((c.tc : Thread Cert.FfnSmpIdeal.nD Cert.FfnSmpIdeal.τ).loc Cert.FfnSmpIdeal.main_arg11)
          ∧ r.2.mem ((c.tc : Thread Cert.FfnSmpIdeal.nD Cert.FfnSmpIdeal.τ).loc Cert.FfnSmpIdeal.main_arg12) = m ((c.tc : Thread Cert.FfnSmpIdeal.nD Cert.FfnSmpIdeal.τ).loc Cert.FfnSmpIdeal.main_arg12)
          ∧ r.2.mem ((c.tc : Thread Cert.FfnSmpIdeal.nD Cert.FfnSmpIdeal.τ).loc Cert.FfnSmpIdeal.main_arg13) = m ((c.tc : Thread Cert.FfnSmpIdeal.nD Cert.FfnSmpIdeal.τ).loc Cert.FfnSmpIdeal.main_arg13))
      ∧ θ_run (Cert.FfnSmpRefIdeal.defs (F := Ideal)) (onTc (τ := Cert.FfnSmpRefIdeal.τ) (Cert.FfnSmpRefIdeal.main (F := Ideal))) ⟨m', fun _ => 0, g'⟩ (fun r => ∀ c : Dev Cert.FfnSmpRefIdeal.nD,
          r.2.mem ((c.tc : Thread Cert.FfnSmpRefIdeal.nD Cert.FfnSmpRefIdeal.τ).loc Cert.FfnSmpRefIdeal.main_v55) = v0 c
          ∧ r.2.mem ((c.tc : Thread Cert.FfnSmpRefIdeal.nD Cert.FfnSmpRefIdeal.τ).loc Cert.FfnSmpRefIdeal.main_arg0) = m' ((c.tc : Thread Cert.FfnSmpRefIdeal.nD Cert.FfnSmpRefIdeal.τ).loc Cert.FfnSmpRefIdeal.main_arg0)
          ∧ r.2.mem ((c.tc : Thread Cert.FfnSmpRefIdeal.nD Cert.FfnSmpRefIdeal.τ).loc Cert.FfnSmpRefIdeal.main_arg1) = m' ((c.tc : Thread Cert.FfnSmpRefIdeal.nD Cert.FfnSmpRefIdeal.τ).loc Cert.FfnSmpRefIdeal.main_arg1)
          ∧ r.2.mem ((c.tc : Thread Cert.FfnSmpRefIdeal.nD Cert.FfnSmpRefIdeal.τ).loc Cert.FfnSmpRefIdeal.main_arg2) = m' ((c.tc : Thread Cert.FfnSmpRefIdeal.nD Cert.FfnSmpRefIdeal.τ).loc Cert.FfnSmpRefIdeal.main_arg2)
          ∧ r.2.mem ((c.tc : Thread Cert.FfnSmpRefIdeal.nD Cert.FfnSmpRefIdeal.τ).loc Cert.FfnSmpRefIdeal.main_arg3) = m' ((c.tc : Thread Cert.FfnSmpRefIdeal.nD Cert.FfnSmpRefIdeal.τ).loc Cert.FfnSmpRefIdeal.main_arg3)
          ∧ r.2.mem ((c.tc : Thread Cert.FfnSmpRefIdeal.nD Cert.FfnSmpRefIdeal.τ).loc Cert.FfnSmpRefIdeal.main_arg4) = m' ((c.tc : Thread Cert.FfnSmpRefIdeal.nD Cert.FfnSmpRefIdeal.τ).loc Cert.FfnSmpRefIdeal.main_arg4)
          ∧ r.2.mem ((c.tc : Thread Cert.FfnSmpRefIdeal.nD Cert.FfnSmpRefIdeal.τ).loc Cert.FfnSmpRefIdeal.main_arg5) = m' ((c.tc : Thread Cert.FfnSmpRefIdeal.nD Cert.FfnSmpRefIdeal.τ).loc Cert.FfnSmpRefIdeal.main_arg5)
          ∧ r.2.mem ((c.tc : Thread Cert.FfnSmpRefIdeal.nD Cert.FfnSmpRefIdeal.τ).loc Cert.FfnSmpRefIdeal.main_arg6) = m' ((c.tc : Thread Cert.FfnSmpRefIdeal.nD Cert.FfnSmpRefIdeal.τ).loc Cert.FfnSmpRefIdeal.main_arg6)
          ∧ r.2.mem ((c.tc : Thread Cert.FfnSmpRefIdeal.nD Cert.FfnSmpRefIdeal.τ).loc Cert.FfnSmpRefIdeal.main_arg7) = m' ((c.tc : Thread Cert.FfnSmpRefIdeal.nD Cert.FfnSmpRefIdeal.τ).loc Cert.FfnSmpRefIdeal.main_arg7)
          ∧ r.2.mem ((c.tc : Thread Cert.FfnSmpRefIdeal.nD Cert.FfnSmpRefIdeal.τ).loc Cert.FfnSmpRefIdeal.main_arg8) = m' ((c.tc : Thread Cert.FfnSmpRefIdeal.nD Cert.FfnSmpRefIdeal.τ).loc Cert.FfnSmpRefIdeal.main_arg8)
          ∧ r.2.mem ((c.tc : Thread Cert.FfnSmpRefIdeal.nD Cert.FfnSmpRefIdeal.τ).loc Cert.FfnSmpRefIdeal.main_arg9) = m' ((c.tc : Thread Cert.FfnSmpRefIdeal.nD Cert.FfnSmpRefIdeal.τ).loc Cert.FfnSmpRefIdeal.main_arg9)
          ∧ r.2.mem ((c.tc : Thread Cert.FfnSmpRefIdeal.nD Cert.FfnSmpRefIdeal.τ).loc Cert.FfnSmpRefIdeal.main_arg10) = m' ((c.tc : Thread Cert.FfnSmpRefIdeal.nD Cert.FfnSmpRefIdeal.τ).loc Cert.FfnSmpRefIdeal.main_arg10)
          ∧ r.2.mem ((c.tc : Thread Cert.FfnSmpRefIdeal.nD Cert.FfnSmpRefIdeal.τ).loc Cert.FfnSmpRefIdeal.main_arg11) = m' ((c.tc : Thread Cert.FfnSmpRefIdeal.nD Cert.FfnSmpRefIdeal.τ).loc Cert.FfnSmpRefIdeal.main_arg11)
          ∧ r.2.mem ((c.tc : Thread Cert.FfnSmpRefIdeal.nD Cert.FfnSmpRefIdeal.τ).loc Cert.FfnSmpRefIdeal.main_arg12) = m' ((c.tc : Thread Cert.FfnSmpRefIdeal.nD Cert.FfnSmpRefIdeal.τ).loc Cert.FfnSmpRefIdeal.main_arg12)
          ∧ r.2.mem ((c.tc : Thread Cert.FfnSmpRefIdeal.nD Cert.FfnSmpRefIdeal.τ).loc Cert.FfnSmpRefIdeal.main_arg13) = m' ((c.tc : Thread Cert.FfnSmpRefIdeal.nD Cert.FfnSmpRefIdeal.τ).loc Cert.FfnSmpRefIdeal.main_arg13))

def preserves_SsdSmp_SsdSmpIdeal : Prop :=
  True

def algebraic_SsdSmpIdeal_SsdSmpRefIdeal [hSsdSmpIdeal : Cert.SsdSmpIdeal.Facts] [hSsdSmpRefIdeal : Cert.SsdSmpRefIdeal.Facts] : Prop :=
  ∀ (m : (ℓ : Loc Cert.SsdSmpIdeal.nD Cert.SsdSmpIdeal.τ Cert.SsdSmpIdeal.sig) → Buf (Elt Ideal) ℓ) (g : Dev Cert.SsdSmpIdeal.nD → PrngReg)
    (m' : (ℓ : Loc Cert.SsdSmpRefIdeal.nD Cert.SsdSmpRefIdeal.τ Cert.SsdSmpRefIdeal.sig) → Buf (Elt Ideal) ℓ) (g' : Dev Cert.SsdSmpRefIdeal.nD → PrngReg), Pre_SsdSmpIdeal m →
    (∀ c : Dev Cert.SsdSmpIdeal.nD,
      m' ((c.tc : Thread Cert.SsdSmpRefIdeal.nD Cert.SsdSmpRefIdeal.τ).loc Cert.SsdSmpRefIdeal.main_arg0) = m ((c.tc : Thread Cert.SsdSmpIdeal.nD Cert.SsdSmpIdeal.τ).loc Cert.SsdSmpIdeal.main_arg0)
      ∧ m' ((c.tc : Thread Cert.SsdSmpRefIdeal.nD Cert.SsdSmpRefIdeal.τ).loc Cert.SsdSmpRefIdeal.main_arg1) = m ((c.tc : Thread Cert.SsdSmpIdeal.nD Cert.SsdSmpIdeal.τ).loc Cert.SsdSmpIdeal.main_arg1)
      ∧ m' ((c.tc : Thread Cert.SsdSmpRefIdeal.nD Cert.SsdSmpRefIdeal.τ).loc Cert.SsdSmpRefIdeal.main_arg2) = m ((c.tc : Thread Cert.SsdSmpIdeal.nD Cert.SsdSmpIdeal.τ).loc Cert.SsdSmpIdeal.main_arg2)
      ∧ m' ((c.tc : Thread Cert.SsdSmpRefIdeal.nD Cert.SsdSmpRefIdeal.τ).loc Cert.SsdSmpRefIdeal.main_arg3) = m ((c.tc : Thread Cert.SsdSmpIdeal.nD Cert.SsdSmpIdeal.τ).loc Cert.SsdSmpIdeal.main_arg3)
      ∧ m' ((c.tc : Thread Cert.SsdSmpRefIdeal.nD Cert.SsdSmpRefIdeal.τ).loc Cert.SsdSmpRefIdeal.main_arg4) = m ((c.tc : Thread Cert.SsdSmpIdeal.nD Cert.SsdSmpIdeal.τ).loc Cert.SsdSmpIdeal.main_arg4)
      ∧ m' ((c.tc : Thread Cert.SsdSmpRefIdeal.nD Cert.SsdSmpRefIdeal.τ).loc Cert.SsdSmpRefIdeal.main_arg5) = m ((c.tc : Thread Cert.SsdSmpIdeal.nD Cert.SsdSmpIdeal.τ).loc Cert.SsdSmpIdeal.main_arg5)
      ∧ m' ((c.tc : Thread Cert.SsdSmpRefIdeal.nD Cert.SsdSmpRefIdeal.τ).loc Cert.SsdSmpRefIdeal.main_arg6) = m ((c.tc : Thread Cert.SsdSmpIdeal.nD Cert.SsdSmpIdeal.τ).loc Cert.SsdSmpIdeal.main_arg6)
      ∧ m' ((c.tc : Thread Cert.SsdSmpRefIdeal.nD Cert.SsdSmpRefIdeal.τ).loc Cert.SsdSmpRefIdeal.main_arg7) = m ((c.tc : Thread Cert.SsdSmpIdeal.nD Cert.SsdSmpIdeal.τ).loc Cert.SsdSmpIdeal.main_arg7)
      ∧ m' ((c.tc : Thread Cert.SsdSmpRefIdeal.nD Cert.SsdSmpRefIdeal.τ).loc Cert.SsdSmpRefIdeal.main_arg8) = m ((c.tc : Thread Cert.SsdSmpIdeal.nD Cert.SsdSmpIdeal.τ).loc Cert.SsdSmpIdeal.main_arg8)
      ∧ m' ((c.tc : Thread Cert.SsdSmpRefIdeal.nD Cert.SsdSmpRefIdeal.τ).loc Cert.SsdSmpRefIdeal.main_arg9) = m ((c.tc : Thread Cert.SsdSmpIdeal.nD Cert.SsdSmpIdeal.τ).loc Cert.SsdSmpIdeal.main_arg9)
      ∧ m' ((c.tc : Thread Cert.SsdSmpRefIdeal.nD Cert.SsdSmpRefIdeal.τ).loc Cert.SsdSmpRefIdeal.main_arg10) = m ((c.tc : Thread Cert.SsdSmpIdeal.nD Cert.SsdSmpIdeal.τ).loc Cert.SsdSmpIdeal.main_arg10)) →
    ∃ (v0 : (c : Dev Cert.SsdSmpIdeal.nD) → Buf (Elt Ideal) ((c.tc : Thread Cert.SsdSmpIdeal.nD Cert.SsdSmpIdeal.τ).loc Cert.SsdSmpIdeal.main_v29)) (v1 : (c : Dev Cert.SsdSmpIdeal.nD) → Buf (Elt Ideal) ((c.tc : Thread Cert.SsdSmpIdeal.nD Cert.SsdSmpIdeal.τ).loc Cert.SsdSmpIdeal.main_v30)),
      θ_run (Cert.SsdSmpIdeal.defs (F := Ideal)) (onTc (τ := Cert.SsdSmpIdeal.τ) (Cert.SsdSmpIdeal.main (F := Ideal))) ⟨m, fun _ => 0, g⟩ (fun r => ∀ c : Dev Cert.SsdSmpIdeal.nD,
          r.2.mem ((c.tc : Thread Cert.SsdSmpIdeal.nD Cert.SsdSmpIdeal.τ).loc Cert.SsdSmpIdeal.main_v29) = v0 c
          ∧ r.2.mem ((c.tc : Thread Cert.SsdSmpIdeal.nD Cert.SsdSmpIdeal.τ).loc Cert.SsdSmpIdeal.main_v30) = v1 c
          ∧ r.2.mem ((c.tc : Thread Cert.SsdSmpIdeal.nD Cert.SsdSmpIdeal.τ).loc Cert.SsdSmpIdeal.main_arg0) = m ((c.tc : Thread Cert.SsdSmpIdeal.nD Cert.SsdSmpIdeal.τ).loc Cert.SsdSmpIdeal.main_arg0)
          ∧ r.2.mem ((c.tc : Thread Cert.SsdSmpIdeal.nD Cert.SsdSmpIdeal.τ).loc Cert.SsdSmpIdeal.main_arg1) = m ((c.tc : Thread Cert.SsdSmpIdeal.nD Cert.SsdSmpIdeal.τ).loc Cert.SsdSmpIdeal.main_arg1)
          ∧ r.2.mem ((c.tc : Thread Cert.SsdSmpIdeal.nD Cert.SsdSmpIdeal.τ).loc Cert.SsdSmpIdeal.main_arg2) = m ((c.tc : Thread Cert.SsdSmpIdeal.nD Cert.SsdSmpIdeal.τ).loc Cert.SsdSmpIdeal.main_arg2)
          ∧ r.2.mem ((c.tc : Thread Cert.SsdSmpIdeal.nD Cert.SsdSmpIdeal.τ).loc Cert.SsdSmpIdeal.main_arg3) = m ((c.tc : Thread Cert.SsdSmpIdeal.nD Cert.SsdSmpIdeal.τ).loc Cert.SsdSmpIdeal.main_arg3)
          ∧ r.2.mem ((c.tc : Thread Cert.SsdSmpIdeal.nD Cert.SsdSmpIdeal.τ).loc Cert.SsdSmpIdeal.main_arg4) = m ((c.tc : Thread Cert.SsdSmpIdeal.nD Cert.SsdSmpIdeal.τ).loc Cert.SsdSmpIdeal.main_arg4)
          ∧ r.2.mem ((c.tc : Thread Cert.SsdSmpIdeal.nD Cert.SsdSmpIdeal.τ).loc Cert.SsdSmpIdeal.main_arg5) = m ((c.tc : Thread Cert.SsdSmpIdeal.nD Cert.SsdSmpIdeal.τ).loc Cert.SsdSmpIdeal.main_arg5)
          ∧ r.2.mem ((c.tc : Thread Cert.SsdSmpIdeal.nD Cert.SsdSmpIdeal.τ).loc Cert.SsdSmpIdeal.main_arg6) = m ((c.tc : Thread Cert.SsdSmpIdeal.nD Cert.SsdSmpIdeal.τ).loc Cert.SsdSmpIdeal.main_arg6)
          ∧ r.2.mem ((c.tc : Thread Cert.SsdSmpIdeal.nD Cert.SsdSmpIdeal.τ).loc Cert.SsdSmpIdeal.main_arg7) = m ((c.tc : Thread Cert.SsdSmpIdeal.nD Cert.SsdSmpIdeal.τ).loc Cert.SsdSmpIdeal.main_arg7)
          ∧ r.2.mem ((c.tc : Thread Cert.SsdSmpIdeal.nD Cert.SsdSmpIdeal.τ).loc Cert.SsdSmpIdeal.main_arg8) = m ((c.tc : Thread Cert.SsdSmpIdeal.nD Cert.SsdSmpIdeal.τ).loc Cert.SsdSmpIdeal.main_arg8)
          ∧ r.2.mem ((c.tc : Thread Cert.SsdSmpIdeal.nD Cert.SsdSmpIdeal.τ).loc Cert.SsdSmpIdeal.main_arg9) = m ((c.tc : Thread Cert.SsdSmpIdeal.nD Cert.SsdSmpIdeal.τ).loc Cert.SsdSmpIdeal.main_arg9)
          ∧ r.2.mem ((c.tc : Thread Cert.SsdSmpIdeal.nD Cert.SsdSmpIdeal.τ).loc Cert.SsdSmpIdeal.main_arg10) = m ((c.tc : Thread Cert.SsdSmpIdeal.nD Cert.SsdSmpIdeal.τ).loc Cert.SsdSmpIdeal.main_arg10))
      ∧ θ_run (Cert.SsdSmpRefIdeal.defs (F := Ideal)) (onTc (τ := Cert.SsdSmpRefIdeal.τ) (Cert.SsdSmpRefIdeal.main (F := Ideal))) ⟨m', fun _ => 0, g'⟩ (fun r => ∀ c : Dev Cert.SsdSmpRefIdeal.nD,
          r.2.mem ((c.tc : Thread Cert.SsdSmpRefIdeal.nD Cert.SsdSmpRefIdeal.τ).loc Cert.SsdSmpRefIdeal.main_v133) = v0 c
          ∧ r.2.mem ((c.tc : Thread Cert.SsdSmpRefIdeal.nD Cert.SsdSmpRefIdeal.τ).loc Cert.SsdSmpRefIdeal.main_v110) = v1 c
          ∧ r.2.mem ((c.tc : Thread Cert.SsdSmpRefIdeal.nD Cert.SsdSmpRefIdeal.τ).loc Cert.SsdSmpRefIdeal.main_arg0) = m' ((c.tc : Thread Cert.SsdSmpRefIdeal.nD Cert.SsdSmpRefIdeal.τ).loc Cert.SsdSmpRefIdeal.main_arg0)
          ∧ r.2.mem ((c.tc : Thread Cert.SsdSmpRefIdeal.nD Cert.SsdSmpRefIdeal.τ).loc Cert.SsdSmpRefIdeal.main_arg1) = m' ((c.tc : Thread Cert.SsdSmpRefIdeal.nD Cert.SsdSmpRefIdeal.τ).loc Cert.SsdSmpRefIdeal.main_arg1)
          ∧ r.2.mem ((c.tc : Thread Cert.SsdSmpRefIdeal.nD Cert.SsdSmpRefIdeal.τ).loc Cert.SsdSmpRefIdeal.main_arg2) = m' ((c.tc : Thread Cert.SsdSmpRefIdeal.nD Cert.SsdSmpRefIdeal.τ).loc Cert.SsdSmpRefIdeal.main_arg2)
          ∧ r.2.mem ((c.tc : Thread Cert.SsdSmpRefIdeal.nD Cert.SsdSmpRefIdeal.τ).loc Cert.SsdSmpRefIdeal.main_arg3) = m' ((c.tc : Thread Cert.SsdSmpRefIdeal.nD Cert.SsdSmpRefIdeal.τ).loc Cert.SsdSmpRefIdeal.main_arg3)
          ∧ r.2.mem ((c.tc : Thread Cert.SsdSmpRefIdeal.nD Cert.SsdSmpRefIdeal.τ).loc Cert.SsdSmpRefIdeal.main_arg4) = m' ((c.tc : Thread Cert.SsdSmpRefIdeal.nD Cert.SsdSmpRefIdeal.τ).loc Cert.SsdSmpRefIdeal.main_arg4)
          ∧ r.2.mem ((c.tc : Thread Cert.SsdSmpRefIdeal.nD Cert.SsdSmpRefIdeal.τ).loc Cert.SsdSmpRefIdeal.main_arg5) = m' ((c.tc : Thread Cert.SsdSmpRefIdeal.nD Cert.SsdSmpRefIdeal.τ).loc Cert.SsdSmpRefIdeal.main_arg5)
          ∧ r.2.mem ((c.tc : Thread Cert.SsdSmpRefIdeal.nD Cert.SsdSmpRefIdeal.τ).loc Cert.SsdSmpRefIdeal.main_arg6) = m' ((c.tc : Thread Cert.SsdSmpRefIdeal.nD Cert.SsdSmpRefIdeal.τ).loc Cert.SsdSmpRefIdeal.main_arg6)
          ∧ r.2.mem ((c.tc : Thread Cert.SsdSmpRefIdeal.nD Cert.SsdSmpRefIdeal.τ).loc Cert.SsdSmpRefIdeal.main_arg7) = m' ((c.tc : Thread Cert.SsdSmpRefIdeal.nD Cert.SsdSmpRefIdeal.τ).loc Cert.SsdSmpRefIdeal.main_arg7)
          ∧ r.2.mem ((c.tc : Thread Cert.SsdSmpRefIdeal.nD Cert.SsdSmpRefIdeal.τ).loc Cert.SsdSmpRefIdeal.main_arg8) = m' ((c.tc : Thread Cert.SsdSmpRefIdeal.nD Cert.SsdSmpRefIdeal.τ).loc Cert.SsdSmpRefIdeal.main_arg8)
          ∧ r.2.mem ((c.tc : Thread Cert.SsdSmpRefIdeal.nD Cert.SsdSmpRefIdeal.τ).loc Cert.SsdSmpRefIdeal.main_arg9) = m' ((c.tc : Thread Cert.SsdSmpRefIdeal.nD Cert.SsdSmpRefIdeal.τ).loc Cert.SsdSmpRefIdeal.main_arg9)
          ∧ r.2.mem ((c.tc : Thread Cert.SsdSmpRefIdeal.nD Cert.SsdSmpRefIdeal.τ).loc Cert.SsdSmpRefIdeal.main_arg10) = m' ((c.tc : Thread Cert.SsdSmpRefIdeal.nD Cert.SsdSmpRefIdeal.τ).loc Cert.SsdSmpRefIdeal.main_arg10))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hSsd : Cert.Ssd.Facts) (hSsdIdeal : Cert.SsdIdeal.Facts) (hSsdRefIdeal : Cert.SsdRefIdeal.Facts) (hInprojSmp : Cert.InprojSmp.Facts) (hInprojSmpIdeal : Cert.InprojSmpIdeal.Facts) (hInprojSmpRefIdeal : Cert.InprojSmpRefIdeal.Facts) (hFfnSmp : Cert.FfnSmp.Facts) (hFfnSmpIdeal : Cert.FfnSmpIdeal.Facts) (hFfnSmpRefIdeal : Cert.FfnSmpRefIdeal.Facts) (hSsdSmp : Cert.SsdSmp.Facts) (hSsdSmpIdeal : Cert.SsdSmpIdeal.Facts) (hSsdSmpRefIdeal : Cert.SsdSmpRefIdeal.Facts) (hPre_finite_steps : Cert.Pre_finite_steps.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdRefIdeal (hSsdRefIdeal := hSsdRefIdeal)
    ∧ quiescent_SsdRefIdeal_pre_finite_steps (hSsdRefIdeal := hSsdRefIdeal) (hPre_finite_steps := hPre_finite_steps)
    ∧ quiescent_InprojSmp (hInprojSmp := hInprojSmp)
    ∧ quiescent_InprojSmpIdeal (hInprojSmpIdeal := hInprojSmpIdeal)
    ∧ quiescent_InprojSmpRefIdeal (hInprojSmpRefIdeal := hInprojSmpRefIdeal)
    ∧ quiescent_FfnSmp (hFfnSmp := hFfnSmp)
    ∧ quiescent_FfnSmpIdeal (hFfnSmpIdeal := hFfnSmpIdeal)
    ∧ quiescent_FfnSmpRefIdeal (hFfnSmpRefIdeal := hFfnSmpRefIdeal)
    ∧ quiescent_SsdSmp (hSsdSmp := hSsdSmp)
    ∧ quiescent_SsdSmpIdeal (hSsdSmpIdeal := hSsdSmpIdeal)
    ∧ quiescent_SsdSmpRefIdeal (hSsdSmpRefIdeal := hSsdSmpRefIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojRefIdeal (hInprojIdeal := hInprojIdeal) (hInprojRefIdeal := hInprojRefIdeal)
    ∧ preserves_Ssd_SsdIdeal
    ∧ algebraic_SsdIdeal_SsdRefIdeal_pre_finite_steps (hSsdIdeal := hSsdIdeal) (hSsdRefIdeal := hSsdRefIdeal) (hPre_finite_steps := hPre_finite_steps)
    ∧ preserves_InprojSmp_InprojSmpIdeal
    ∧ algebraic_InprojSmpIdeal_InprojSmpRefIdeal (hInprojSmpIdeal := hInprojSmpIdeal) (hInprojSmpRefIdeal := hInprojSmpRefIdeal)
    ∧ preserves_FfnSmp_FfnSmpIdeal
    ∧ algebraic_FfnSmpIdeal_FfnSmpRefIdeal (hFfnSmpIdeal := hFfnSmpIdeal) (hFfnSmpRefIdeal := hFfnSmpRefIdeal)
    ∧ preserves_SsdSmp_SsdSmpIdeal
    ∧ algebraic_SsdSmpIdeal_SsdSmpRefIdeal (hSsdSmpIdeal := hSsdSmpIdeal) (hSsdSmpRefIdeal := hSsdSmpRefIdeal)
-- ==== Pre_finite_steps.lean ====
abbrev S16384x512 : Shape := ⟨2, ![16384, 512]⟩
abbrev S16384x256 : Shape := ⟨2, ![16384, 256]⟩
abbrev S16384x128 : Shape := ⟨2, ![16384, 128]⟩
abbrev S4x512 : Shape := ⟨2, ![4, 512]⟩
abbrev S512 : Shape := ⟨1, ![512]⟩
abbrev S4 : Shape := ⟨1, ![4]⟩
abbrev S256 : Shape := ⟨1, ![256]⟩
abbrev S16384x4 : Shape := ⟨2, ![16384, 4]⟩
abbrev S_ : Shape := ⟨0, ![]⟩

class Facts : Prop where
  slices_S16384x128_S16384x4_0_68 : S16384x128.Slices ![0, 68] S16384x4
  bcast_S_S16384x4 : S_.BroadcastsInDim S16384x4 (![] : Fin 0 → Fin S16384x4.rank)
  reducesTo_S16384x4_S_d0_1 : S16384x4.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S16384x512 .f32) (main_arg1 : FVec F S16384x256 .f32) (main_arg2 : FVec F S16384x128 .f32) (main_arg3 : FVec F S4x512 .f32) (main_arg4 : FVec F S512 .f32) (main_arg5 : FVec F S4 .f32) (main_arg6 : FVec F S4 .f32) (main_arg7 : FVec F S4 .f32) (main_arg8 : FVec F S256 .f32) : IVec S_ 1 :=
  let main_v0 : FVec F S16384x4 .f32 := (extractStridedSlice S16384x4 ![0, 68] · slices_S16384x128_S16384x4_0_68) main_arg2
  let main_v1 : FVec F S16384x4 .f32 := Host.absf main_v0
  let main_cst : FVec F S_ .f32 := constant S_ .f32 0x7F800000#32
  let main_v2 : FVec F S16384x4 .f32 := broadcastInDim S16384x4 ![] bcast_S_S16384x4 main_cst
  let main_v3 : IVec S16384x4 1 := cmpf .olt main_v1 main_v2
  let main_c : IVec S_ 1 := constantI S_ 1 1#1
  let main_v4 : IVec S_ 1 := (fun x v => Host.reduce IntOp.andi x v reducesTo_S16384x4_S_d0_1 h_S_) main_v3 main_c
  let main_v5 : FVec F S4 .f32 := Host.absf main_arg5
  let main_cst_0 : FVec F S_ .f32 := constant S_ .f32 0x7F800000#32
  let main_v6 : FVec F S4 .f32 := broadcastInDim S4 ![] bcast_S_S4 main_cst_0
  let main_v7 : IVec S4 1 := cmpf .olt main_v5 main_v6
  let main_c_1 : IVec S_ 1 := constantI S_ 1 1#1
  let main_v8 : IVec S_ 1 := (fun x v => Host.reduce IntOp.andi x v reducesTo_S4_S_d0 h_S_) main_v7 main_c_1
  let main_v9 : IVec S_ 1 := andi main_v4 main_v8
  let main_v10 : FVec F S4 .f32 := Host.absf main_arg6
  let main_cst_2 : FVec F S_ .f32 := constant S_ .f32 0x7F800000#32
  let main_v11 : FVec F S4 .f32 := broadcastInDim S4 ![] bcast_S_S4 main_cst_2
  let main_v12 : IVec S4 1 := cmpf .olt main_v10 main_v11
  let main_c_3 : IVec S_ 1 := constantI S_ 1 1#1
  let main_v13 : IVec S_ 1 := (fun x v => Host.reduce IntOp.andi x v reducesTo_S4_S_d0 h_S_) main_v12 main_c_3
  let main_v14 : IVec S_ 1 := andi main_v9 main_v13
  main_v14
-- ==== Kernel.lean ====
abbrev S8x2048x1024 : Shape := ⟨3, ![8, 2048, 1024]⟩
abbrev S16384x512 : Shape := ⟨2, ![16384, 512]⟩
abbrev S16384x256 : Shape := ⟨2, ![16384, 256]⟩
abbrev S1024x1024 : Shape := ⟨2, ![1024, 1024]⟩
abbrev S8x1024 : Shape := ⟨2, ![8, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S8x1x1024 : Shape := ⟨3, ![8, 1, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x1x1024 : Shape := ⟨3, ![1, 1, 1024]⟩
abbrev S1024x1408 : Shape := ⟨2, ![1024, 1408]⟩
abbrev S1408x1024 : Shape := ⟨2, ![1408, 1024]⟩
abbrev S256x1024 : Shape := ⟨2, ![256, 1024]⟩
abbrev S512 : Shape := ⟨1, ![512]⟩
abbrev S512x1 : Shape := ⟨2, ![512, 1]⟩
abbrev S512x1408 : Shape := ⟨2, ![512, 1408]⟩

abbrev nBuf : Space → Nat
  | .hbm => 26
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S8x1024, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S16384x1024, .f32⟩
  | .hbm, ⟨15, _⟩ => ⟨S1024x1024, .bf16⟩
  | .hbm, ⟨16, _⟩ => ⟨S8x1x1024, .f32⟩
  | .hbm, ⟨17, _⟩ => ⟨S1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1408x1024, .bf16⟩
  | .local _ .vmem, ⟨23, _⟩ => ⟨S1408x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1408x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8x2048x1024 : Shape := ⟨3, ![8, 2048, 1024]⟩
abbrev S16384x512 : Shape := ⟨2, ![16384, 512]⟩
abbrev S16384x256 : Shape := ⟨2, ![16384, 256]⟩
abbrev S1024x1024 : Shape := ⟨2, ![1024, 1024]⟩
abbrev S8x1024 : Shape := ⟨2, ![8, 1024]⟩
abbrev S1024 : Shape := ⟨1, ![1024]⟩
abbrev S1024x2816 : Shape := ⟨2, ![1024, 2816]⟩
abbrev S2816x1024 : Shape := ⟨2, ![2816, 1024]⟩
abbrev S8x1x1024 : Shape := ⟨3, ![8, 1, 1024]⟩
abbrev S8x2048x512 : Shape := ⟨3, ![8, 2048, 512]⟩
abbrev S8x2048x256 : Shape := ⟨3, ![8, 2048, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S8x1024, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S16384x512, .f32⟩
  | .hbm, ⟨19, _⟩ => ⟨S8x2048x512, .f32⟩
  | .hbm, ⟨20, _⟩ => ⟨S16384x256, .f32⟩
  | .hbm, ⟨21, _⟩ => ⟨S8x2048x256, .f32⟩
  | .hbm, ⟨22, _⟩ => ⟨S16384x256, .f32⟩
  | .hbm, ⟨23, _⟩ => ⟨S8x2048x256, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S_, .f32⟩
  | .hbm, ⟨56, _⟩ => ⟨S8x2048x2816, .f32⟩
  | .hbm, ⟨57, _⟩ => ⟨S8x2048x2816, .f32⟩
  | .hbm, ⟨58, _⟩ => ⟨S_, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x2048x1, .f32⟩
  | .hbm, ⟨79, _⟩ => ⟨S8x2048x1024, .f32⟩
  | .hbm, ⟨80, _⟩ => ⟨S8x2048x1024, .f32⟩
  | .hbm, ⟨81, _⟩ => ⟨S1x1x1024, .f32⟩
  | .hbm, ⟨82, _⟩ => ⟨S8x2048x1024, .f32⟩
  | .hbm, ⟨83, _⟩ => ⟨S8x2048x1024, .f32⟩
  | .hbm, ⟨84, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Inproj.lean ====
abbrev S8x2048x1024 : Shape := ⟨3, ![8, 2048, 1024]⟩
abbrev S1024 : Shape := ⟨1, ![1024]⟩
abbrev S8x1024 : Shape := ⟨2, ![8, 1024]⟩
abbrev S1024x2120 : Shape := ⟨2, ![1024, 2120]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x1024 : Shape := ⟨2, ![16384, 1024]⟩
abbrev S1x1024 : Shape := ⟨2, ![1, 1024]⟩
abbrev S8x1x1024 : Shape := ⟨3, ![8, 1, 1024]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x56 : Shape := ⟨2, ![1024, 56]⟩
abbrev S1024x2176 : Shape := ⟨2, ![1024, 2176]⟩
abbrev S16384x512 : Shape := ⟨2, ![16384, 512]⟩
abbrev S16384x128 : Shape := ⟨2, ![16384, 128]⟩
abbrev S16384x256 : Shape := ⟨2, ![16384, 256]⟩
abbrev S16384x64 : Shape := ⟨2, ![16384, 64]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S1x128 : Shape := ⟨2, ![1, 128]⟩
abbrev S8x2048x2x64 : Shape := ⟨4, ![8, 2048, 2, 64]⟩
abbrev S8x2048x64 : Shape := ⟨3, ![8, 2048, 64]⟩
abbrev S16384x4 : Shape := ⟨2, ![16384, 4]⟩
abbrev S8x2048x512 : Shape := ⟨3, ![8, 2048, 512]⟩
abbrev S8x3x512 : Shape := ⟨3, ![8, 3, 512]⟩
abbrev S8x2048x256 : Shape := ⟨3, ![8, 2048, 256]⟩
abbrev S8x15x256 : Shape := ⟨3, ![8, 15, 256]⟩

abbrev nBuf : Space → Nat
  | .hbm => 65
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2120, .f32⟩
  | .hbm, ⟨5, _⟩ => ⟨S2048, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x128, .f32⟩
  | .hbm, ⟨23, _⟩ => ⟨S2048x32, .f32⟩
  | .hbm, ⟨24, _⟩ => ⟨S2048x32, .f32⟩
  | .hbm, ⟨25, _⟩ => ⟨S2048x128, .f32⟩
  | .hbm, ⟨26, _⟩ => ⟨S16384x1024, .f32⟩
  | .hbm, ⟨27, _⟩ => ⟨S1x1024, .f32⟩
  | .hbm, ⟨28, _⟩ => ⟨S8x1x1024, .f32⟩
  | .hbm, ⟨29, _⟩ => ⟨S8x1x1024, .f32⟩
  | .hbm, ⟨30, _⟩ => ⟨S1024x512, .f32⟩
  | .hbm, ⟨31, _⟩ => ⟨S1024x128, .f32⟩
  | .hbm, ⟨32, _⟩ => ⟨S1024x128, .f32⟩
  | .hbm, ⟨33, _⟩ => ⟨S1024x256, .f32⟩
  | .hbm, ⟨34, _⟩ => ⟨S1024x64, .f32⟩
  | .hbm, ⟨35, _⟩ => ⟨S1024x4, .f32⟩
  | .hbm, ⟨36, _⟩ => ⟨S1024x256, .f32⟩
  | .hbm, ⟨37, _⟩ => ⟨S1024x512, .f32⟩
  | .hbm, ⟨38, _⟩ => ⟨S1024x4, .f32⟩
  | .hbm, ⟨39, _⟩ => ⟨S1024x256, .f32⟩
  | .hbm, ⟨40, _⟩ => ⟨S_, .f32⟩
  | .hbm, ⟨41, _⟩ => ⟨S1024x56, .f32⟩
  | .hbm, ⟨42, _⟩ => ⟨S1024x2176, .f32⟩
  | .hbm, ⟨43, _⟩ => ⟨S1024x2176, .bf16⟩
  | .hbm, ⟨44, _⟩ => ⟨S16384x512, .bf16⟩
  | .hbm, ⟨45, _⟩ => ⟨S16384x128, .f32⟩
  | .hbm, ⟨46, _⟩ => ⟨S16384x128, .f32⟩
  | .hbm, ⟨47, _⟩ => ⟨S16384x256, .bf16⟩
  | .hbm, ⟨48, _⟩ => ⟨S16384x64, .f32⟩
  | .hbm, ⟨49, _⟩ => ⟨S16384x128, .f32⟩
  | .hbm, ⟨50, _⟩ => ⟨S16384x256, .f32⟩
  | .hbm, ⟨51, _⟩ => ⟨S16384x512, .f32⟩
  | .hbm, ⟨52, _⟩ => ⟨S16384x256, .f32⟩
  | .hbm, ⟨53, _⟩ => ⟨S16384x128, .bf16⟩
  | .hbm, ⟨54, _⟩ => ⟨S16384x128, .bf16⟩
  | .hbm, ⟨55, _⟩ => ⟨S16384x64, .bf16⟩
  | .hbm, ⟨56, _⟩ => ⟨S8x2048x2x64, .f32⟩
  | .hbm, ⟨57, _⟩ => ⟨S8x2048x2x64, .f32⟩
  | .hbm, ⟨58, _⟩ => ⟨S8x2048x64, .f32⟩
  | .hbm, ⟨59, _⟩ => ⟨S16384x4, .f32⟩
  | .hbm, ⟨60, _⟩ => ⟨S16384x4, .f32⟩
  | .hbm, ⟨61, _⟩ => ⟨S8x2048x512, .f32⟩
  | .hbm, ⟨62, _⟩ => ⟨S8x3x512, .f32⟩
  | .hbm, ⟨63, _⟩ => ⟨S8x2048x256, .f32⟩
  | .hbm, ⟨64, _⟩ => ⟨S8x15x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S512x64, .f32⟩
  | .local _ .vmem, ⟨21, _⟩ => ⟨S512x64, .f32⟩
  | .local _ .vmem, ⟨22, _⟩ => ⟨S512x128, .f32⟩
  | .local _ .vmem, ⟨23, _⟩ => ⟨S512x128, .f32⟩
  | .local _ .vmem, ⟨24, _⟩ => ⟨S512x256, .f32⟩
  | .local _ .vmem, ⟨25, _⟩ => ⟨S512x256, .f32⟩
  | .local _ .vmem, ⟨26, _⟩ => ⟨S512x512, .f32⟩
  | .local _ .vmem, ⟨27, _⟩ => ⟨S512x512, .f32⟩
  | .local _ .vmem, ⟨28, _⟩ => ⟨S512x256, .f32⟩
  | .local _ .vmem, ⟨29, _⟩ => ⟨S512x256, .f32⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | .local _ .vmem, ⟨34, _⟩ => ⟨S512x64, .bf16⟩
  | .local _ .vmem, ⟨35, _⟩ => ⟨S512x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev main_v36_5 : Ref sig .tc := ⟨.hbm, 49, rfl⟩
abbrev main_v36_6 : Ref sig .tc := ⟨.hbm, 50, rfl⟩
abbrev main_v36_7 : Ref sig .tc := ⟨.hbm, 51, rfl⟩
abbrev main_v36_8 : Ref sig .tc := ⟨.hbm, 52, rfl⟩
abbrev main_v36_9 : Ref sig .tc := ⟨.hbm, 53, rfl⟩
abbrev main_v36_10 : Ref sig .tc := ⟨.hbm, 54, rfl⟩
abbrev main_v36_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojRefIdeal.lean ====
abbrev S8x2048x1024 : Shape := ⟨3, ![8, 2048, 1024]⟩
abbrev S1024 : Shape := ⟨1, ![1024]⟩
abbrev S8x1024 : Shape := ⟨2, ![8, 1024]⟩
abbrev S1024x2120 : Shape := ⟨2, ![1024, 2120]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2120 : Shape := ⟨3, ![8, 2048, 2120]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x64 : Shape := ⟨3, ![8, 2048, 64]⟩
abbrev S8x2048x4 : Shape := ⟨3, ![8, 2048, 4]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x2x64 : Shape := ⟨4, ![8, 2048, 2, 64]⟩
abbrev S8x2048x2x32 : Shape := ⟨4, ![8, 2048, 2, 32]⟩
abbrev S8x2048x4x64 : Shape := ⟨4, ![8, 2048, 4, 64]⟩
abbrev S8x2048x4x32 : Shape := ⟨4, ![8, 2048, 4, 32]⟩
abbrev S8x2048x1x64 : Shape := ⟨4, ![8, 2048, 1, 64]⟩
abbrev S8x2048x1x32 : Shape := ⟨4, ![8, 2048, 1, 32]⟩
abbrev S16384x512 : Shape := ⟨2, ![16384, 512]⟩
abbrev S16384x256 : Shape := ⟨2, ![16384, 256]⟩
abbrev S16384x4 : Shape := ⟨2, ![16384, 4]⟩
abbrev S8x3x512 : Shape := ⟨3, ![8, 3, 512]⟩
abbrev S8x15x256 : Shape := ⟨3, ![8, 15, 256]⟩
abbrev S16384x128 : Shape := ⟨2, ![16384, 128]⟩
abbrev S16384x64 : Shape := ⟨2, ![16384, 64]⟩

abbrev nBuf : Space → Nat
  | .hbm => 195
  | .vmem => 0
  | .smem => 0
  | _ => 0

abbrev hbmTy0_0 (i : Nat) : BufTy := match i % 128 with
  | 0 => ⟨S8x2048x1024, .f32⟩
  | 1 => ⟨S1024, .f32⟩
  | 2 => ⟨S8x1024, .f32⟩
  | 3 => ⟨S8x1024, .f32⟩
  | 4 => ⟨S1024x2120, .f32⟩
  | 5 => ⟨S2048, .i32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x1x1024, .f32⟩
  | 23 => ⟨S_, .f32⟩
  | 24 => ⟨S8x1x1024, .f32⟩
  | 25 => ⟨S8x1x1024, .f32⟩
  | 26 => ⟨S8x2048x1024, .f32⟩
  | 27 => ⟨S8x2048x1024, .f32⟩
  | 28 => ⟨S8x1x1024, .f32⟩
  | 29 => ⟨S8x2048x1024, .f32⟩
  | 30 => ⟨S8x2048x1024, .f32⟩
  | 31 => ⟨S8x2048x2120, .f32⟩
  | 32 => ⟨S8x2048x512, .f32⟩
  | 33 => ⟨S8x2048x128, .f32⟩
  | 34 => ⟨S8x2048x128, .f32⟩
  | 35 => ⟨S8x2048x256, .f32⟩
  | 36 => ⟨S8x2048x64, .f32⟩
  | 37 => ⟨S8x2048x4, .f32⟩
  | 38 => ⟨S8x2048x256, .f32⟩
  | 39 => ⟨S8x2048x512, .f32⟩
  | 40 => ⟨S8x2048x4, .f32⟩
  | 41 => ⟨S8x2048x256, .f32⟩
  | 42 => ⟨S8x2048x8x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x32, .f32⟩
  | 59 => ⟨S2048x32, .f32⟩
  | 60 => ⟨S1x2048x1x32, .f32⟩
  | 61 => ⟨S8x2048x8x32, .f32⟩
  | 62 => ⟨S8x2048x8x32, .f32⟩
  | 63 => ⟨S8x2048x8x32, .f32⟩
  | 64 => ⟨S8x2048x8x32, .f32⟩
  | 65 => ⟨S8x2048x8x32, .f32⟩
  | 66 => ⟨S8x2048x8x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x32, .f32⟩
  | 72 => ⟨S8x2048x8x32, .f32⟩
  | 73 => ⟨S8x2048x8x64, .f32⟩
  | 74 => ⟨S8x2048x2x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S2048, .f32⟩
  | 84 => ⟨S2048x1, .f32⟩
  | 85 => ⟨S1x32, .f32⟩
  | 86 => ⟨S2048x32, .f32⟩
  | 87 => ⟨S2048x32, .f32⟩
  | 88 => ⟨S2048x32, .f32⟩
  | 89 => ⟨S2048x32, .f32⟩
  | 90 => ⟨S1x2048x1x32, .f32⟩
  | 91 => ⟨S2048x32, .f32⟩
  | 92 => ⟨S1x2048x1x32, .f32⟩
  | 93 => ⟨S8x2048x2x32, .f32⟩
  | 94 => ⟨S8x2048x2x32, .f32⟩
  | 95 => ⟨S8x2048x2x32, .f32⟩
  | 96 => ⟨S8x2048x2x32, .f32⟩
  | 97 => ⟨S8x2048x2x32, .f32⟩
  | 98 => ⟨S8x2048x2x32, .f32⟩
  | 99 => ⟨S8x2048x2x32, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32, .f32⟩
  | 105 => ⟨S8x2048x2x64, .f32⟩
  | 106 => ⟨S8x2048x2x64, .f32⟩
  | 107 => ⟨S8x2048x4x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S2048, .f32⟩
  | 117 => ⟨S2048x1, .f32⟩
  | 118 => ⟨S1x32, .f32⟩
  | 119 => ⟨S2048x32, .f32⟩
  | 120 => ⟨S2048x32, .f32⟩
  | 121 => ⟨S2048x32, .f32⟩
  | 122 => ⟨S2048x32, .f32⟩
  | 123 => ⟨S1x2048x1x32, .f32⟩
  | 124 => ⟨S2048x32, .f32⟩
  | 125 => ⟨S1x2048x1x32, .f32⟩
  | 126 => ⟨S8x2048x4x32, .f32⟩
  | 127 => ⟨S8x2048x4x32, .f32⟩
  | _ => ⟨S8x2048x1024, .f32⟩

abbrev hbmTy0_1 (i : Nat) : BufTy := match i % 128 with
  | 0 => ⟨S8x2048x4x32, .f32⟩
  | 1 => ⟨S8x2048x4x32, .f32⟩
  | 2 => ⟨S8x2048x4x32, .f32⟩
  | 3 => ⟨S8x2048x4x32, .f32⟩
  | 4 => ⟨S8x2048x4x32, .f32⟩
  | 5 => ⟨S8x2048x4x32, .f32⟩
  | 6 => ⟨S8x2048x4x32, .f32⟩
  | 7 => ⟨S8x2048x4x32, .f32⟩
  | 8 => ⟨S8x2048x4x32, .f32⟩
  | 9 => ⟨S8x2048x4x32, .f32⟩
  | 10 => ⟨S8x2048x4x64, .f32⟩
  | 11 => ⟨S8x2048x1x64, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S1x2048x1x32, .f32⟩
  | 28 => ⟨S2048x32, .f32⟩
  | 29 => ⟨S1x2048x1x32, .f32⟩
  | 30 => ⟨S8x2048x1x32, .f32⟩
  | 31 => ⟨S8x2048x1x32, .f32⟩
  | 32 => ⟨S8x2048x1x32, .f32⟩
  | 33 => ⟨S8x2048x1x32, .f32⟩
  | 34 => ⟨S8x2048x1x32, .f32⟩
  | 35 => ⟨S8x2048x1x32, .f32⟩
  | 36 => ⟨S8x2048x1x32, .f32⟩
  | 37 => ⟨S8x2048x1x32, .f32⟩
  | 38 => ⟨S8x2048x1x32, .f32⟩
  | 39 => ⟨S8x2048x1x32, .f32⟩
  | 40 => ⟨S8x2048x1x32, .f32⟩
  | 41 => ⟨S8x2048x1x32, .f32⟩
  | 42 => ⟨S8x2048x1x64, .f32⟩
  | 43 => ⟨S8x2048x64, .f32⟩
  | 44 => ⟨S_, .f32⟩
  | 45 => ⟨S8x2048x8x64, .f32⟩
  | 46 => ⟨S8x2048x8x64, .f32⟩
  | 47 => ⟨S8x2048x8x64, .bf16⟩
  | 48 => ⟨S16384x512, .bf16⟩
  | 49 => ⟨S_, .f32⟩
  | 50 => ⟨S8x2048x4x64, .f32⟩
  | 51 => ⟨S8x2048x4x64, .f32⟩
  | 52 => ⟨S8x2048x4x64, .bf16⟩
  | 53 => ⟨S16384x256, .bf16⟩
  | 54 => ⟨S16384x4, .f32⟩
  | 55 => ⟨S16384x4, .f32⟩
  | 56 => ⟨S16384x256, .f32⟩
  | 57 => ⟨S16384x512, .f32⟩
  | 58 => ⟨S16384x256, .f32⟩
  | 59 => ⟨S8x3x512, .f32⟩
  | 60 => ⟨S8x15x256, .f32⟩
  | 61 => ⟨S8x2048x2x64, .bf16⟩
  | 62 => ⟨S16384x128, .bf16⟩
  | 63 => ⟨S8x2048x2x64, .bf16⟩
  | 64 => ⟨S16384x128, .bf16⟩
  | 65 => ⟨S8x2048x64, .bf16⟩
  | 66 => ⟨S16384x64, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_7 : Ref sig .tc := ⟨.hbm, 110, rfl⟩
abbrev main_v97 : Ref sig .tc := ⟨.hbm, 111, rfl⟩
abbrev main_v98 : Ref sig .tc := ⟨.hbm, 112, rfl⟩
abbrev main_cst_8 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_9 : Ref sig .tc := ⟨.hbm, 142, rfl⟩
abbrev main_v127 : Ref sig .tc := ⟨.hbm, 143, rfl⟩
abbrev main_v128 : Ref sig .tc := ⟨.hbm, 144, rfl⟩
abbrev main_cst_10 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_cst_11 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_cst_12 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩

abbrev nD : Nat := 1
abbrev τ : Topo := Topo.v7x

variable {F : FTy → Type} [FloatOps F]
-- ==== Ssd.lean ====
abbrev S16384x512 : Shape := ⟨2, ![16384, 512]⟩
abbrev S16384x256 : Shape := ⟨2, ![16384, 256]⟩
abbrev S16384x128 : Shape := ⟨2, ![16384, 128]⟩
abbrev S4x512 : Shape := ⟨2, ![4, 512]⟩
abbrev S512 : Shape := ⟨1, ![512]⟩
abbrev S4 : Shape := ⟨1, ![4]⟩
abbrev S256 : Shape := ⟨1, ![256]⟩
abbrev S1x512 : Shape := ⟨2, ![1, 512]⟩
abbrev S_ : Shape := ⟨0, ![]⟩
abbrev S1x128 : Shape := ⟨2, ![1, 128]⟩
abbrev S1 : Shape := ⟨1, ![1]⟩
abbrev S2 : Shape := ⟨1, ![2]⟩
abbrev S4x64 : Shape := ⟨2, ![4, 64]⟩
abbrev S1x256 : Shape := ⟨2, ![1, 256]⟩
abbrev S8x8x512 : Shape := ⟨3, ![8, 8, 512]⟩
abbrev S8x256x128 : Shape := ⟨3, ![8, 256, 128]⟩
abbrev S128x512 : Shape := ⟨2, ![128, 512]⟩
abbrev S128x256 : Shape := ⟨2, ![128, 256]⟩
abbrev S128x128 : Shape := ⟨2, ![128, 128]⟩
abbrev S1x8x512 : Shape := ⟨3, ![1, 8, 512]⟩
abbrev S1x256x128 : Shape := ⟨3, ![1, 256, 128]⟩
abbrev S136x512 : Shape := ⟨2, ![136, 512]⟩
abbrev S256x128 : Shape := ⟨2, ![256, 128]⟩
abbrev S8x512 : Shape := ⟨2, ![8, 512]⟩
abbrev S128x1 : Shape := ⟨2, ![128, 1]⟩
abbrev S256x1 : Shape := ⟨2, ![256, 1]⟩
abbrev S1x1 : Shape := ⟨2, ![1, 1]⟩
abbrev S128 : Shape := ⟨1, ![128]⟩
abbrev S8x4x64x128 : Shape := ⟨4, ![8, 4, 64, 128]⟩

abbrev nBuf : Space → Nat
  | .hbm => 37
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x128, .f32⟩
  | .hbm, ⟨3, _⟩ => ⟨S4x512, .f32⟩
  | .hbm, ⟨4, _⟩ => ⟨S512, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S256, .f32⟩
  | .hbm, ⟨9, _⟩ => ⟨S1x512, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S4x64, .f32⟩
  | .hbm, ⟨27, _⟩ => ⟨S256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S8x8x512, .f32⟩
  | .hbm, ⟨32, _⟩ => ⟨S_, .f32⟩
  | .hbm, ⟨33, _⟩ => ⟨S8x256x128, .f32⟩
  | .hbm, ⟨34, _⟩ => ⟨S16384x256, .bf16⟩
  | .hbm, ⟨35, _⟩ => ⟨S8x256x128, .f32⟩
  | .hbm, ⟨36, _⟩ => ⟨S8x4x64x128, .f32⟩
  | .local _ .vmem, ⟨0, _⟩ => ⟨S128x512, .f32⟩
  | .local _ .vmem, ⟨1, _⟩ => ⟨S128x512, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S1x8x512, .f32⟩
  | .local _ .vmem, ⟨7, _⟩ => ⟨S1x8x512, .f32⟩
  | .local _ .vmem, ⟨8, _⟩ => ⟨S1x256x128, .f32⟩
  | .local _ .vmem, ⟨9, _⟩ => ⟨S1x256x128, .f32⟩
  | .local _ .vmem, ⟨10, _⟩ => ⟨S4x512, .f32⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x256, .f32⟩
  | .local _ .vmem, ⟨16, _⟩ => ⟨S128x256, .bf16⟩
  | .local _ .vmem, ⟨17, _⟩ => ⟨S128x256, .bf16⟩
  | .local _ .vmem, ⟨18, _⟩ => ⟨S1x256x128, .f32⟩
  | .local _ .vmem, ⟨19, _⟩ => ⟨S1x256x128, .f32⟩
  | .local _ .vmem, ⟨20, _⟩ => ⟨S136x512, .f32⟩
  | .local _ .vmem, ⟨21, _⟩ => ⟨S256x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v354 : BitVec 1 := Scalar.cmpi .eq arg1 c15_i32
  let v355 : BitVec 32 := Scalar.extui v354
  let c0_i32_83 : BitVec 32 := 0#32
  let v356 : BitVec 1 := Scalar.cmpi .ne v355 c0_i32_83
  v356

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdRefIdeal.lean ====
abbrev S16384x512 : Shape := ⟨2, ![16384, 512]⟩
abbrev S16384x256 : Shape := ⟨2, ![16384, 256]⟩
abbrev S16384x128 : Shape := ⟨2, ![16384, 128]⟩
abbrev S4x512 : Shape := ⟨2, ![4, 512]⟩
abbrev S512 : Shape := ⟨1, ![512]⟩
abbrev S4 : Shape := ⟨1, ![4]⟩
abbrev S256 : Shape := ⟨1, ![256]⟩
abbrev S8x2048x512 : Shape := ⟨3, ![8, 2048, 512]⟩
abbrev S8x2048x256 : Shape := ⟨3, ![8, 2048, 256]⟩
abbrev S16384x4 : Shape := ⟨2, ![16384, 4]⟩
abbrev S8x2048x4 : Shape := ⟨3, ![8, 2048, 4]⟩
abbrev S_ : Shape := ⟨0, ![]⟩
abbrev S8x3x512 : Shape := ⟨3, ![8, 3, 512]⟩
abbrev S8x4x64x128 : Shape := ⟨4, ![8, 4, 64, 128]⟩
abbrev S8x2051x512 : Shape := ⟨3, ![8, 2051, 512]⟩
abbrev S1x512 : Shape := ⟨2, ![1, 512]⟩
abbrev S1x1x512 : Shape := ⟨3, ![1, 1, 512]⟩
abbrev S8x2048x128 : Shape := ⟨3, ![8, 2048, 128]⟩
abbrev S1x1x4 : Shape := ⟨3, ![1, 1, 4]⟩
abbrev S8x2048x4x64 : Shape := ⟨4, ![8, 2048, 4, 64]⟩
abbrev S8x2048x4x1 : Shape := ⟨4, ![8, 2048, 4, 1]⟩
abbrev S8x16x128x4x64 : Shape := ⟨5, ![8, 16, 128, 4, 64]⟩
abbrev S8x16x128x4 : Shape := ⟨4, ![8, 16, 128, 4]⟩
abbrev S8x4x16x128 : Shape := ⟨4, ![8, 4, 16, 128]⟩
abbrev S8x16x128x128 : Shape := ⟨4, ![8, 16, 128, 128]⟩
abbrev S8x4x16x128x1 : Shape := ⟨5, ![8, 4, 16, 128, 1]⟩
abbrev S8x4x16x1x128 : Shape := ⟨5, ![8, 4, 16, 1, 128]⟩
abbrev S8x4x16x128x128 : Shape := ⟨5, ![8, 4, 16, 128, 128]⟩
abbrev S128x128 : Shape := ⟨2, ![128, 128]⟩
abbrev S8x1x16x128x128 : Shape := ⟨5, ![8, 1, 16, 128, 128]⟩
abbrev S8x16x4x64x128 : Shape := ⟨5, ![8, 16, 4, 64, 128]⟩
abbrev S8x4x16x1 : Shape := ⟨4, ![8, 4, 16, 1]⟩
abbrev S8x16x128x4x1 : Shape := ⟨5, ![8, 16, 128, 4, 1]⟩
abbrev S8x1x4x64x128 : Shape := ⟨5, ![8, 1, 4, 64, 128]⟩
abbrev S8x17x4x64x128 : Shape := ⟨5, ![8, 17, 4, 64, 128]⟩
abbrev S8x4x16 : Shape := ⟨3, ![8, 4, 16]⟩
abbrev S8x4x17 : Shape := ⟨3, ![8, 4, 17]⟩
abbrev S8x4x17x1 : Shape := ⟨4, ![8, 4, 17, 1]⟩
abbrev S8x4x1x17 : Shape := ⟨4, ![8, 4, 1, 17]⟩
abbrev S8x4x17x17 : Shape := ⟨4, ![8, 4, 17, 17]⟩
abbrev S17x17 : Shape := ⟨2, ![17, 17]⟩
abbrev S8x4x64x128x17 : Shape := ⟨5, ![8, 4, 64, 128, 17]⟩
abbrev S4x1 : Shape := ⟨2, ![4, 1]⟩
abbrev S1x1x4x1 : Shape := ⟨4, ![1, 1, 4, 1]⟩
abbrev S8x2048 : Shape := ⟨2, ![8, 2048]⟩
abbrev S8x2048x1 : Shape := ⟨3, ![8, 2048, 1]⟩
abbrev S1x1x256 : Shape := ⟨3, ![1, 1, 256]⟩

abbrev nBuf : Space → Nat
  | .hbm => 213
  | .vmem => 0
  | .smem => 0
  | _ => 0

abbrev hbmTy0_0 (i : Nat) : BufTy := match i % 128 with
  | 0 => ⟨S16384x512, .f32⟩
  | 1 => ⟨S16384x256, .f32⟩
  | 2 => ⟨S16384x128, .f32⟩
  | 3 => ⟨S4x512, .f32⟩
  | 4 => ⟨S512, .f32⟩
  | 5 => ⟨S4, .f32⟩
  | 6 => ⟨S4, .f32⟩
  | 7 => ⟨S4, .f32⟩
  | 8 => ⟨S256, .f32⟩
  | 9 => ⟨S8x2048x512, .f32⟩
  | 10 => ⟨S8x2048x256, .f32⟩
  | 11 => ⟨S16384x4, .f32⟩
  | 12 => ⟨S8x2048x4, .f32⟩
  | 13 => ⟨S_, .f32⟩
  | 14 => ⟨S8x3x512, .f32⟩
  | 15 => ⟨S_, .f32⟩
  | 16 => ⟨S8x4x64x128, .f32⟩
  | 17 => ⟨S8x2051x512, .f32⟩
  | 18 => ⟨S8x2048x512, .f32⟩
  | 19 => ⟨S1x512, .f32⟩
  | 20 => ⟨S512, .f32⟩
  | 21 => ⟨S1x1x512, .f32⟩
  | 22 => ⟨S8x2048x512, .f32⟩
  | 23 => ⟨S8x2048x512, .f32⟩
  | 24 => ⟨S1x1x512, .f32⟩
  | 25 => ⟨S8x2048x512, .f32⟩
  | 26 => ⟨S8x2048x512, .f32⟩
  | 27 => ⟨S8x2048x512, .f32⟩
  | 28 => ⟨S1x512, .f32⟩
  | 29 => ⟨S512, .f32⟩
  | 30 => ⟨S1x1x512, .f32⟩
  | 31 => ⟨S8x2048x512, .f32⟩
  | 32 => ⟨S8x2048x512, .f32⟩
  | 33 => ⟨S8x2048x512, .f32⟩
  | 34 => ⟨S8x2048x512, .f32⟩
  | 35 => ⟨S1x512, .f32⟩
  | 36 => ⟨S512, .f32⟩
  | 37 => ⟨S1x1x512, .f32⟩
  | 38 => ⟨S8x2048x512, .f32⟩
  | 39 => ⟨S8x2048x512, .f32⟩
  | 40 => ⟨S8x2048x512, .f32⟩
  | 41 => ⟨S8x2048x512, .f32⟩
  | 42 => ⟨S1x512, .f32⟩
  | 43 => ⟨S512, .f32⟩
  | 44 => ⟨S1x1x512, .f32⟩
  | 45 => ⟨S8x2048x512, .f32⟩
  | 46 => ⟨S8x2048x512, .f32⟩
  | 47 => ⟨S8x2048x512, .f32⟩
  | 48 => ⟨S8x2048x512, .f32⟩
  | 49 => ⟨S8x2048x512, .f32⟩
  | 50 => ⟨S_, .f32⟩
  | 51 => ⟨S8x2048x512, .f32⟩
  | 52 => ⟨S8x2048x512, .f32⟩
  | 53 => ⟨S_, .f32⟩
  | 54 => ⟨S8x2048x512, .f32⟩
  | 55 => ⟨S8x2048x512, .f32⟩
  | 56 => ⟨S8x2048x512, .f32⟩
  | 57 => ⟨S8x2048x256, .f32⟩
  | 58 => ⟨S8x2048x128, .f32⟩
  | 59 => ⟨S8x2048x128, .f32⟩
  | 60 => ⟨S1x1x4, .f32⟩
  | 61 => ⟨S8x2048x4, .f32⟩
  | 62 => ⟨S8x2048x4, .f32⟩
  | 63 => ⟨S_, .f32⟩
  | 64 => ⟨S8x2048x4, .f32⟩
  | 65 => ⟨S8x2048x4, .f32⟩
  | 66 => ⟨S8x2048x4, .f32⟩
  | 67 => ⟨S8x2048x4, .f32⟩
  | 68 => ⟨S8x2048x4, .i1⟩
  | 69 => ⟨S8x2048x4, .f32⟩
  | 70 => ⟨S8x2048x4, .f32⟩
  | 71 => ⟨S8x2048x4, .f32⟩
  | 72 => ⟨S8x2048x4, .f32⟩
  | 73 => ⟨S8x2048x4, .f32⟩
  | 74 => ⟨S8x2048x4, .f32⟩
  | 75 => ⟨S8x2048x4, .f32⟩
  | 76 => ⟨S8x2048x4, .f32⟩
  | 77 => ⟨S4, .f32⟩
  | 78 => ⟨S4, .f32⟩
  | 79 => ⟨S8x2048x4x64, .f32⟩
  | 80 => ⟨S8x2048x4x1, .f32⟩
  | 81 => ⟨S8x2048x4x64, .f32⟩
  | 82 => ⟨S8x2048x4x64, .f32⟩
  | 83 => ⟨S8x16x128x4x64, .f32⟩
  | 84 => ⟨S1x1x4, .f32⟩
  | 85 => ⟨S8x2048x4, .f32⟩
  | 86 => ⟨S8x2048x4, .f32⟩
  | 87 => ⟨S8x16x128x4, .f32⟩
  | 88 => ⟨S8x4x16x128, .f32⟩
  | 89 => ⟨S8x16x128x128, .f32⟩
  | 90 => ⟨S8x16x128x128, .f32⟩
  | 91 => ⟨S_, .f32⟩
  | 92 => ⟨S_, .f32⟩
  | 93 => ⟨S8x4x16x128, .f32⟩
  | 94 => ⟨S_, .f32⟩
  | 95 => ⟨S_, .f32⟩
  | 96 => ⟨S8x4x16x128, .f32⟩
  | 97 => ⟨S8x4x16x128x1, .f32⟩
  | 98 => ⟨S8x4x16x1x128, .f32⟩
  | 99 => ⟨S8x4x16x128x128, .f32⟩
  | 100 => ⟨S8x4x16x128x128, .f32⟩
  | 101 => ⟨S8x4x16x128x128, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S_, .f32⟩
  | 114 => ⟨S_, .f32⟩
  | 115 => ⟨S8x4x16x128x128, .i1⟩
  | 116 => ⟨S8x4x16x128x128, .f32⟩
  | 117 => ⟨S8x4x16x128x128, .f32⟩
  | 118 => ⟨S8x4x16x128x128, .f32⟩
  | 119 => ⟨S8x16x128x128, .f32⟩
  | 120 => ⟨S8x1x16x128x128, .f32⟩
  | 121 => ⟨S8x4x16x128x128, .f32⟩
  | 122 => ⟨S8x4x16x128x128, .f32⟩
  | 123 => ⟨S8x16x4x64x128, .f32⟩
  | 124 => ⟨S8x16x128x4x64, .f32⟩
  | 125 => ⟨S8x4x16x1, .f32⟩
  | 126 => ⟨S8x4x16x128, .f32⟩
  | 127 => ⟨S8x4x16x128, .f32⟩
  | _ => ⟨S16384x512, .f32⟩

abbrev hbmTy0_1 (i : Nat) : BufTy := match i % 128 with
  | 0 => ⟨S8x4x16x128, .f32⟩
  | 1 => ⟨S8x16x128x4, .f32⟩
  | 2 => ⟨S8x16x128x4x1, .f32⟩
  | 3 => ⟨S8x16x128x4x64, .f32⟩
  | 4 => ⟨S8x16x128x4x64, .f32⟩
  | 5 => ⟨S8x16x4x64x128, .f32⟩
  | 6 => ⟨S8x1x4x64x128, .f32⟩
  | 7 => ⟨S8x17x4x64x128, .f32⟩
  | 8 => ⟨S8x4x16x1, .f32⟩
  | 9 => ⟨S8x4x16, .f32⟩
  | 10 => ⟨S_, .i32⟩
  | 11 => ⟨S_, .f32⟩
  | 12 => ⟨S8x4x17, .f32⟩
  | 13 => ⟨S_, .f32⟩
  | 14 => ⟨S_, .f32⟩
  | 15 => ⟨S8x4x17, .f32⟩
  | 16 => ⟨S8x4x17x1, .f32⟩
  | 17 => ⟨S8x4x1x17, .f32⟩
  | 18 => ⟨S8x4x17x17, .f32⟩
  | 19 => ⟨S8x4x17x17, .f32⟩
  | 20 => ⟨S8x4x17x17, .f32⟩
  | 21 => ⟨S_, .i1⟩
  | 22 => ⟨S17x17, .i1⟩
  | 23 => ⟨S17x17, .i32⟩
  | 24 => ⟨S_, .i32⟩
  | 25 => ⟨S17x17, .i32⟩
  | 26 => ⟨S17x17, .i32⟩
  | 27 => ⟨S17x17, .i32⟩
  | 28 => ⟨S17x17, .i1⟩
  | 29 => ⟨S_, .i1⟩
  | 30 => ⟨S17x17, .i1⟩
  | 31 => ⟨S17x17, .i1⟩
  | 32 => ⟨S_, .f32⟩
  | 33 => ⟨S_, .f32⟩
  | 34 => ⟨S8x4x17x17, .i1⟩
  | 35 => ⟨S8x4x17x17, .f32⟩
  | 36 => ⟨S8x4x17x17, .f32⟩
  | 37 => ⟨S8x4x17x17, .f32⟩
  | 38 => ⟨S8x4x64x128x17, .f32⟩
  | 39 => ⟨S8x17x4x64x128, .f32⟩
  | 40 => ⟨S8x16x4x64x128, .f32⟩
  | 41 => ⟨S8x16x128x4x64, .f32⟩
  | 42 => ⟨S8x4x16x128, .f32⟩
  | 43 => ⟨S8x16x128x4, .f32⟩
  | 44 => ⟨S8x16x128x4x1, .f32⟩
  | 45 => ⟨S8x16x128x4x64, .f32⟩
  | 46 => ⟨S8x16x128x4x64, .f32⟩
  | 47 => ⟨S8x16x128x4x64, .f32⟩
  | 48 => ⟨S8x2048x4x64, .f32⟩
  | 49 => ⟨S8x1x4x64x128, .f32⟩
  | 50 => ⟨S8x4x64x128, .f32⟩
  | 51 => ⟨S4x1, .f32⟩
  | 52 => ⟨S1x1x4x1, .f32⟩
  | 53 => ⟨S8x2048x4x64, .f32⟩
  | 54 => ⟨S8x2048x4x64, .f32⟩
  | 55 => ⟨S8x2048x4x64, .f32⟩
  | 56 => ⟨S8x2048x256, .f32⟩
  | 57 => ⟨S8x2048x256, .f32⟩
  | 58 => ⟨S8x2048x256, .f32⟩
  | 59 => ⟨S_, .f32⟩
  | 60 => ⟨S8x2048x256, .f32⟩
  | 61 => ⟨S8x2048x256, .f32⟩
  | 62 => ⟨S_, .f32⟩
  | 63 => ⟨S8x2048x256, .f32⟩
  | 64 => ⟨S8x2048x256, .f32⟩
  | 65 => ⟨S8x2048x256, .f32⟩
  | 66 => ⟨S8x2048x256, .f32⟩
  | 67 => ⟨S8x2048x256, .f32⟩
  | 68 => ⟨S_, .f32⟩
  | 69 => ⟨S8x2048, .f32⟩
  | 70 => ⟨S8x2048x1, .f32⟩
  | 71 => ⟨S_, .f32⟩
  | 72 => ⟨S8x2048x1, .f32⟩
  | 73 => ⟨S8x2048x1, .f32⟩
  | 74 => ⟨S_, .f32⟩
  | 75 => ⟨S8x2048x1, .f32⟩
  | 76 => ⟨S8x2048x1, .f32⟩
  | 77 => ⟨S8x2048x1, .f32⟩
  | 78 => ⟨S8x2048x256, .f32⟩
  | 79 => ⟨S8x2048x256, .f32⟩
  | 80 => ⟨S1x1x256, .f32⟩
  | 81 => ⟨S8x2048x256, .f32⟩
  | 82 => ⟨S8x2048x256, .f32⟩
  | 83 => ⟨S16384x256, .f32⟩
  | 84 => ⟨S16384x256, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call2_call0_cst : Ref sig .tc := ⟨.hbm, 91, rfl⟩
abbrev main_call2_call0_v0 : Ref sig .tc := ⟨.hbm, 92, rfl⟩
abbrev main_v59 : Ref sig .tc := ⟨.hbm, 93, rfl⟩
abbrev main_call3_call0_cst : Ref sig .tc := ⟨.hbm, 94, rfl⟩
abbrev main_call3_call0_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c : Ref sig .tc := ⟨.hbm, 102, rfl⟩
abbrev main_v66 : Ref sig .tc := ⟨.hbm, 103, rfl⟩
abbrev main_call4_v0 : Ref sig .tc := ⟨.hbm, 104, rfl⟩
abbrev main_call4_c : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_c_0 : Ref sig .tc := ⟨.hbm, 110, rfl⟩
abbrev main_call4_v5 : Ref sig .tc := ⟨.hbm, 111, rfl⟩
abbrev main_v67 : Ref sig .tc := ⟨.hbm, 112, rfl⟩
abbrev main_cst_1 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_2 : Ref sig .tc := ⟨.hbm, 138, rfl⟩
abbrev main_call6_v0 : Ref sig .tc := ⟨.hbm, 139, rfl⟩
abbrev main_v89 : Ref sig .tc := ⟨.hbm, 140, rfl⟩
abbrev main_call7_call0_cst : Ref sig .tc := ⟨.hbm, 141, rfl⟩
abbrev main_call7_call0_v0 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_3 : Ref sig .tc := ⟨.hbm, 149, rfl⟩
abbrev main_v96 : Ref sig .tc := ⟨.hbm, 150, rfl⟩
abbrev main_call8_v0 : Ref sig .tc := ⟨.hbm, 151, rfl⟩
abbrev main_call8_c : Ref sig .tc := ⟨.hbm, 152, rfl⟩
abbrev main_call8_v1 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_0 : Ref sig .tc := ⟨.hbm, 157, rfl⟩
abbrev main_call8_v5 : Ref sig .tc := ⟨.hbm, 158, rfl⟩
abbrev main_v97 : Ref sig .tc := ⟨.hbm, 159, rfl⟩
abbrev main_cst_4 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_call10_v0 : Ref sig .tc := ⟨.hbm, 185, rfl⟩
abbrev main_call10_v1 : Ref sig .tc := ⟨.hbm, 186, rfl⟩
abbrev main_call10_cst : Ref sig .tc := ⟨.hbm, 187, rfl⟩
abbrev main_call10_v2 : Ref sig .tc := ⟨.hbm, 188, rfl⟩
abbrev main_call10_v3 : Ref sig .tc := ⟨.hbm, 189, rfl⟩
abbrev main_call10_cst_0 : Ref sig .tc := ⟨.hbm, 190, rfl⟩
abbrev main_call10_v4 : Ref sig .tc := ⟨.hbm, 191, rfl⟩
abbrev main_call10_v5 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_5 : Ref sig .tc := ⟨.hbm, 196, rfl⟩
abbrev main_v122 : Ref sig .tc := ⟨.hbm, 197, rfl⟩
abbrev main_v123 : Ref sig .tc := ⟨.hbm, 198, rfl⟩
abbrev main_cst_6 : Ref sig .tc := ⟨.hbm, 199, rfl⟩
abbrev main_v124 : Ref sig .tc := ⟨.hbm, 200, rfl⟩
abbrev main_v125 : Ref sig .tc := ⟨.hbm, 201, rfl⟩
abbrev main_cst_7 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩

abbrev nD : Nat := 1
abbrev τ : Topo := Topo.v7x

variable {F : FTy → Type} [FloatOps F]
-- ==== InprojSmp.lean ====
abbrev S32x4x1024 : Shape := ⟨3, ![32, 4, 1024]⟩
abbrev S1024 : Shape := ⟨1, ![1024]⟩
abbrev S32x1024 : Shape := ⟨2, ![32, 1024]⟩
abbrev S1024x2120 : Shape := ⟨2, ![1024, 2120]⟩
abbrev S32x15x256 : Shape := ⟨3, ![32, 15, 256]⟩
abbrev S4 : Shape := ⟨1, ![4]⟩
abbrev S_ : Shape := ⟨0, ![]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x128 : Shape := ⟨2, ![4, 128]⟩
abbrev S1x4x1x128 : Shape := ⟨4, ![1, 4, 1, 128]⟩
abbrev S32x4x1x128 : Shape := ⟨4, ![32, 4, 1, 128]⟩
abbrev S128x128 : Shape := ⟨2, ![128, 128]⟩
abbrev S128x1024 : Shape := ⟨2, ![128, 1024]⟩
abbrev S1x1024 : Shape := ⟨2, ![1, 1024]⟩
abbrev S1x128x1024 : Shape := ⟨3, ![1, 128, 1024]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x56 : Shape := ⟨2, ![1024, 56]⟩
abbrev S1024x2176 : Shape := ⟨2, ![1024, 2176]⟩
abbrev S128x512 : Shape := ⟨2, ![128, 512]⟩
abbrev S128x256 : Shape := ⟨2, ![128, 256]⟩
abbrev S128x64 : Shape := ⟨2, ![128, 64]⟩
abbrev S128 : Shape := ⟨1, ![128]⟩
abbrev S128x1 : Shape := ⟨2, ![128, 1]⟩
abbrev S1x128 : Shape := ⟨2, ![1, 128]⟩
abbrev S32x4x256 : Shape := ⟨3, ![32, 4, 256]⟩
abbrev S32x19x256 : Shape := ⟨3, ![32, 19, 256]⟩
abbrev S32x4x512 : Shape := ⟨3, ![32, 4, 512]⟩
abbrev S32x3x512 : Shape := ⟨3, ![32, 3, 512]⟩

abbrev nBuf : Space → Nat
  | .hbm => 75
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x2120, .f32⟩
  | .hbm, ⟨5, _⟩ => ⟨S32x15x256, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4, .f32⟩
  | .hbm, ⟨19, _⟩ => ⟨S4x1, .f32⟩
  | .hbm, ⟨20, _⟩ => ⟨S1x32, .f32⟩
  | .hbm, ⟨21, _⟩ => ⟨S4x32, .f32⟩
  | .hbm, ⟨22, _⟩ => ⟨S4x32, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S4x128, .f32⟩
  | .hbm, ⟨27, _⟩ => ⟨S4x32, .f32⟩
  | .hbm, ⟨28, _⟩ => ⟨S4x32, .f32⟩
  | .hbm, ⟨29, _⟩ => ⟨S4x128, .f32⟩
  | .hbm, ⟨30, _⟩ => ⟨S1x4x1x128, .f32⟩
  | .hbm, ⟨31, _⟩ => ⟨S32x4x1x128, .f32⟩
  | .hbm, ⟨32, _⟩ => ⟨S128x128, .f32⟩
  | .hbm, ⟨33, _⟩ => ⟨S1x4x1x128, .f32⟩
  | .hbm, ⟨34, _⟩ => ⟨S32x4x1x128, .f32⟩
  | .hbm, ⟨35, _⟩ => ⟨S128x128, .f32⟩
  | .hbm, ⟨36, _⟩ => ⟨S128x1024, .f32⟩
  | .hbm, ⟨37, _⟩ => ⟨S1x1024, .f32⟩
  | .hbm, ⟨38, _⟩ => ⟨S32x4x1024, .f32⟩
  | .hbm, ⟨39, _⟩ => ⟨S128x1024, .f32⟩
  | .hbm, ⟨40, _⟩ => ⟨S1x128x1024, .f32⟩
  | .hbm, ⟨41, _⟩ => ⟨S32x4x1024, .f32⟩
  | .hbm, ⟨42, _⟩ => ⟨S128x1024, .f32⟩
  | .hbm, ⟨43, _⟩ => ⟨S1x128x1024, .f32⟩
  | .hbm, ⟨44, _⟩ => ⟨S1024x512, .f32⟩
  | .hbm, ⟨45, _⟩ => ⟨S1024x128, .f32⟩
  | .hbm, ⟨46, _⟩ => ⟨S1024x128, .f32⟩
  | .hbm, ⟨47, _⟩ => ⟨S1024x256, .f32⟩
  | .hbm, ⟨48, _⟩ => ⟨S1024x64, .f32⟩
  | .hbm, ⟨49, _⟩ => ⟨S1024x4, .f32⟩
  | .hbm, ⟨50, _⟩ => ⟨S1024x256, .f32⟩
  | .hbm, ⟨51, _⟩ => ⟨S1024x512, .f32⟩
  | .hbm, ⟨52, _⟩ => ⟨S1024x4, .f32⟩
  | .hbm, ⟨53, _⟩ => ⟨S1024x256, .f32⟩
  | .hbm, ⟨54, _⟩ => ⟨S_, .f32⟩
  | .hbm, ⟨55, _⟩ => ⟨S1024x56, .f32⟩
  | .hbm, ⟨56, _⟩ => ⟨S1024x2176, .f32⟩
  | .hbm, ⟨57, _⟩ => ⟨S1024x2176, .bf16⟩
  | .hbm, ⟨58, _⟩ => ⟨S128x512, .bf16⟩
  | .hbm, ⟨59, _⟩ => ⟨S128x128, .f32⟩
  | .hbm, ⟨60, _⟩ => ⟨S128x128, .f32⟩
  | .hbm, ⟨61, _⟩ => ⟨S128x256, .bf16⟩
  | .hbm, ⟨62, _⟩ => ⟨S128x64, .f32⟩
  | .hbm, ⟨63, _⟩ => ⟨S128x128, .f32⟩
  | .hbm, ⟨64, _⟩ => ⟨S128x256, .f32⟩
  | .hbm, ⟨65, _⟩ => ⟨S128x512, .f32⟩
  | .hbm, ⟨66, _⟩ => ⟨S128x256, .f32⟩
  | .hbm, ⟨67, _⟩ => ⟨S128x128, .bf16⟩
  | .hbm, ⟨68, _⟩ => ⟨S128x128, .bf16⟩
  | .hbm, ⟨69, _⟩ => ⟨S128x64, .bf16⟩
  | .hbm, ⟨70, _⟩ => ⟨S32x4x256, .f32⟩
  | .hbm, ⟨71, _⟩ => ⟨S32x19x256, .f32⟩
  | .hbm, ⟨72, _⟩ => ⟨S32x4x512, .f32⟩
  | .hbm, ⟨73, _⟩ => ⟨S32x3x512, .f32⟩
  | .hbm, ⟨74, _⟩ => ⟨S32x15x256, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x2176, .bf16⟩
  | .local _ .vmem, ⟨5, _⟩ => ⟨S128x128, .f32⟩
  | .local _ .vmem, ⟨6, _⟩ => ⟨S128x128, .f32⟩
  | .local _ .vmem, ⟨7, _⟩ => ⟨S128x512, .bf16⟩
  | .local _ .vmem, ⟨8, _⟩ => ⟨S128x128, .f32⟩
  | .local _ .vmem, ⟨9, _⟩ => ⟨S128x128, .f32⟩
  | .local _ .vmem, ⟨10, _⟩ => ⟨S128x256, .bf16⟩
  | .local _ .vmem, ⟨11, _⟩ => ⟨S128x64, .f32⟩
  | .local _ .vmem, ⟨12, _⟩ => ⟨S128x128, .f32⟩
  | .local _ .vmem, ⟨13, _⟩ => ⟨S128x256, .f32⟩
  | .local _ .vmem, ⟨14, _⟩ => ⟨S128x512, .f32⟩
  | .local _ .vmem, ⟨15, _⟩ => ⟨S128x256, .f32⟩
  | .local _ .vmem, ⟨16, _⟩ => ⟨S128x128, .bf16⟩
  | .local _ .vmem, ⟨17, _⟩ => ⟨S128x128, .bf16⟩
  | .local _ .vmem, ⟨18, _⟩ => ⟨S128x64, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v48_4 : Ref sig .tc := ⟨.hbm, 62, rfl⟩
abbrev main_v48_5 : Ref sig .tc := ⟨.hbm, 63, rfl⟩
abbrev main_v48_6 : Ref sig .tc := ⟨.hbm, 64, rfl⟩
abbrev main_v48_7 : Ref sig .tc := ⟨.hbm, 65, rfl⟩
abbrev main_v48_8 : Ref sig .tc := ⟨.hbm, 66, rfl⟩
abbrev main_v48_9 : Ref sig .tc := ⟨.hbm, 67, rfl⟩
abbrev main_v48_10 : Ref sig .tc := ⟨.hbm, 68, rfl⟩
abbrev main_v48_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== InprojSmpRefIdeal.lean ====
abbrev S32x4x1024 : Shape := ⟨3, ![32, 4, 1024]⟩
abbrev S1024 : Shape := ⟨1, ![1024]⟩
abbrev S32x1024 : Shape := ⟨2, ![32, 1024]⟩
abbrev S1024x2120 : Shape := ⟨2, ![1024, 2120]⟩
abbrev S32x15x256 : Shape := ⟨3, ![32, 15, 256]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x2120 : Shape := ⟨3, ![32, 4, 2120]⟩
abbrev S32x4x512 : Shape := ⟨3, ![32, 4, 512]⟩
abbrev S32x4x128 : Shape := ⟨3, ![32, 4, 128]⟩
abbrev S32x4x256 : Shape := ⟨3, ![32, 4, 256]⟩
abbrev S32x4x64 : Shape := ⟨3, ![32, 4, 64]⟩
abbrev S32x4x4 : Shape := ⟨3, ![32, 4, 4]⟩
abbrev S32x4x8x64 : Shape := ⟨4, ![32, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S32x4x8x32 : Shape := ⟨4, ![32, 4, 8, 32]⟩
abbrev S32x4x2x64 : Shape := ⟨4, ![32, 4, 2, 64]⟩
abbrev S32x4x2x32 : Shape := ⟨4, ![32, 4, 2, 32]⟩
abbrev S32x4x4x64 : Shape := ⟨4, ![32, 4, 4, 64]⟩
abbrev S32x4x4x32 : Shape := ⟨4, ![32, 4, 4, 32]⟩
abbrev S32x4x1x64 : Shape := ⟨4, ![32, 4, 1, 64]⟩
abbrev S32x4x1x32 : Shape := ⟨4, ![32, 4, 1, 32]⟩
abbrev S32x19x256 : Shape := ⟨3, ![32, 19, 256]⟩
abbrev S128x512 : Shape := ⟨2, ![128, 512]⟩
abbrev S128x128 : Shape := ⟨2, ![128, 128]⟩
abbrev S128x256 : Shape := ⟨2, ![128, 256]⟩
abbrev S128x64 : Shape := ⟨2, ![128, 64]⟩
abbrev S32x3x512 : Shape := ⟨3, ![32, 3, 512]⟩

abbrev nBuf : Space → Nat
  | .hbm => 201
  | .vmem => 0
  | .smem => 0
  | _ => 0

abbrev hbmTy0_0 (i : Nat) : BufTy := match i % 128 with
  | 0 => ⟨S32x4x1024, .f32⟩
  | 1 => ⟨S1024, .f32⟩
  | 2 => ⟨S32x1024, .f32⟩
  | 3 => ⟨S32x1024, .f32⟩
  | 4 => ⟨S1024x2120, .f32⟩
  | 5 => ⟨S32x15x256, .f32⟩
  | 6 => ⟨S4, .i32⟩
  | 7 => ⟨S_, .i32⟩
  | 8 => ⟨S4, .i32⟩
  | 9 => ⟨S4, .i32⟩
  | 10 => ⟨S32x4x1024, .f32⟩
  | 11 => ⟨S_, .f32⟩
  | 12 => ⟨S32x4, .f32⟩
  | 13 => ⟨S32x4x1, .f32⟩
  | 14 => ⟨S_, .f32⟩
  | 15 => ⟨S32x4x1, .f32⟩
  | 16 => ⟨S32x4x1, .f32⟩
  | 17 => ⟨S_, .f32⟩
  | 18 => ⟨S32x4x1, .f32⟩
  | 19 => ⟨S32x4x1, .f32⟩
  | 20 => ⟨S32x4x1, .f32⟩
  | 21 => ⟨S32x4x1024, .f32⟩
  | 22 => ⟨S32x4x1024, .f32⟩
  | 23 => ⟨S1x1x1024, .f32⟩
  | 24 => ⟨S32x4x1024, .f32⟩
  | 25 => ⟨S32x4x1024, .f32⟩
  | 26 => ⟨S32x1x1024, .f32⟩
  | 27 => ⟨S_, .f32⟩
  | 28 => ⟨S32x1x1024, .f32⟩
  | 29 => ⟨S32x1x1024, .f32⟩
  | 30 => ⟨S32x4x1024, .f32⟩
  | 31 => ⟨S32x4x1024, .f32⟩
  | 32 => ⟨S32x1x1024, .f32⟩
  | 33 => ⟨S32x4x1024, .f32⟩
  | 34 => ⟨S32x4x1024, .f32⟩
  | 35 => ⟨S32x4x2120, .f32⟩
  | 36 => ⟨S32x4x512, .f32⟩
  | 37 => ⟨S32x4x128, .f32⟩
  | 38 => ⟨S32x4x128, .f32⟩
  | 39 => ⟨S32x4x256, .f32⟩
  | 40 => ⟨S32x4x64, .f32⟩
  | 41 => ⟨S32x4x4, .f32⟩
  | 42 => ⟨S32x4x256, .f32⟩
  | 43 => ⟨S32x4x512, .f32⟩
  | 44 => ⟨S32x4x4, .f32⟩
  | 45 => ⟨S32x4x256, .f32⟩
  | 46 => ⟨S32x4x8x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S4, .f32⟩
  | 56 => ⟨S4x1, .f32⟩
  | 57 => ⟨S1x32, .f32⟩
  | 58 => ⟨S4x32, .f32⟩
  | 59 => ⟨S4x32, .f32⟩
  | 60 => ⟨S4x32, .f32⟩
  | 61 => ⟨S4x32, .f32⟩
  | 62 => ⟨S1x4x1x32, .f32⟩
  | 63 => ⟨S4x32, .f32⟩
  | 64 => ⟨S1x4x1x32, .f32⟩
  | 65 => ⟨S32x4x8x32, .f32⟩
  | 66 => ⟨S32x4x8x32, .f32⟩
  | 67 => ⟨S32x4x8x32, .f32⟩
  | 68 => ⟨S32x4x8x32, .f32⟩
  | 69 => ⟨S32x4x8x32, .f32⟩
  | 70 => ⟨S32x4x8x32, .f32⟩
  | 71 => ⟨S32x4x8x32, .f32⟩
  | 72 => ⟨S32x4x8x32, .f32⟩
  | 73 => ⟨S32x4x8x32, .f32⟩
  | 74 => ⟨S32x4x8x32, .f32⟩
  | 75 => ⟨S32x4x8x32, .f32⟩
  | 76 => ⟨S32x4x8x32, .f32⟩
  | 77 => ⟨S32x4x8x64, .f32⟩
  | 78 => ⟨S32x4x2x64, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S4, .f32⟩
  | 88 => ⟨S4x1, .f32⟩
  | 89 => ⟨S1x32, .f32⟩
  | 90 => ⟨S4x32, .f32⟩
  | 91 => ⟨S4x32, .f32⟩
  | 92 => ⟨S4x32, .f32⟩
  | 93 => ⟨S4x32, .f32⟩
  | 94 => ⟨S1x4x1x32, .f32⟩
  | 95 => ⟨S4x32, .f32⟩
  | 96 => ⟨S1x4x1x32, .f32⟩
  | 97 => ⟨S32x4x2x32, .f32⟩
  | 98 => ⟨S32x4x2x32, .f32⟩
  | 99 => ⟨S32x4x2x32, .f32⟩
  | 100 => ⟨S32x4x2x32, .f32⟩
  | 101 => ⟨S32x4x2x32, .f32⟩
  | 102 => ⟨S32x4x2x32, .f32⟩
  | 103 => ⟨S32x4x2x32, .f32⟩
  | 104 => ⟨S32x4x2x32, .f32⟩
  | 105 => ⟨S32x4x2x32, .f32⟩
  | 106 => ⟨S32x4x2x32, .f32⟩
  | 107 => ⟨S32x4x2x32, .f32⟩
  | 108 => ⟨S32x4x2x32, .f32⟩
  | 109 => ⟨S32x4x2x64, .f32⟩
  | 110 => ⟨S32x4x2x64, .f32⟩
  | 111 => ⟨S32x4x4x64, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S4, .f32⟩
  | 121 => ⟨S4x1, .f32⟩
  | 122 => ⟨S1x32, .f32⟩
  | 123 => ⟨S4x32, .f32⟩
  | 124 => ⟨S4x32, .f32⟩
  | 125 => ⟨S4x32, .f32⟩
  | 126 => ⟨S4x32, .f32⟩
  | 127 => ⟨S1x4x1x32, .f32⟩
  | _ => ⟨S32x4x1024, .f32⟩

abbrev hbmTy0_1 (i : Nat) : BufTy := match i % 128 with
  | 0 => ⟨S4x32, .f32⟩
  | 1 => ⟨S1x4x1x32, .f32⟩
  | 2 => ⟨S32x4x4x32, .f32⟩
  | 3 => ⟨S32x4x4x32, .f32⟩
  | 4 => ⟨S32x4x4x32, .f32⟩
  | 5 => ⟨S32x4x4x32, .f32⟩
  | 6 => ⟨S32x4x4x32, .f32⟩
  | 7 => ⟨S32x4x4x32, .f32⟩
  | 8 => ⟨S32x4x4x32, .f32⟩
  | 9 => ⟨S32x4x4x32, .f32⟩
  | 10 => ⟨S32x4x4x32, .f32⟩
  | 11 => ⟨S32x4x4x32, .f32⟩
  | 12 => ⟨S32x4x4x32, .f32⟩
  | 13 => ⟨S32x4x4x32, .f32⟩
  | 14 => ⟨S32x4x4x64, .f32⟩
  | 15 => ⟨S32x4x1x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4, .f32⟩
  | 25 => ⟨S4x1, .f32⟩
  | 26 => ⟨S1x32, .f32⟩
  | 27 => ⟨S4x32, .f32⟩
  | 28 => ⟨S4x32, .f32⟩
  | 29 => ⟨S4x32, .f32⟩
  | 30 => ⟨S4x32, .f32⟩
  | 31 => ⟨S1x4x1x32, .f32⟩
  | 32 => ⟨S4x32, .f32⟩
  | 33 => ⟨S1x4x1x32, .f32⟩
  | 34 => ⟨S32x4x1x32, .f32⟩
  | 35 => ⟨S32x4x1x32, .f32⟩
  | 36 => ⟨S32x4x1x32, .f32⟩
  | 37 => ⟨S32x4x1x32, .f32⟩
  | 38 => ⟨S32x4x1x32, .f32⟩
  | 39 => ⟨S32x4x1x32, .f32⟩
  | 40 => ⟨S32x4x1x32, .f32⟩
  | 41 => ⟨S32x4x1x32, .f32⟩
  | 42 => ⟨S32x4x1x32, .f32⟩
  | 43 => ⟨S32x4x1x32, .f32⟩
  | 44 => ⟨S32x4x1x32, .f32⟩
  | 45 => ⟨S32x4x1x32, .f32⟩
  | 46 => ⟨S32x4x1x64, .f32⟩
  | 47 => ⟨S32x4x64, .f32⟩
  | 48 => ⟨S32x19x256, .f32⟩
  | 49 => ⟨S_, .f32⟩
  | 50 => ⟨S32x4x8x64, .f32⟩
  | 51 => ⟨S32x4x8x64, .f32⟩
  | 52 => ⟨S32x4x8x64, .bf16⟩
  | 53 => ⟨S128x512, .bf16⟩
  | 54 => ⟨S128x128, .f32⟩
  | 55 => ⟨S128x128, .f32⟩
  | 56 => ⟨S_, .f32⟩
  | 57 => ⟨S32x4x4x64, .f32⟩
  | 58 => ⟨S32x4x4x64, .f32⟩
  | 59 => ⟨S32x4x4x64, .bf16⟩
  | 60 => ⟨S128x256, .bf16⟩
  | 61 => ⟨S128x64, .f32⟩
  | 62 => ⟨S128x256, .f32⟩
  | 63 => ⟨S128x512, .f32⟩
  | 64 => ⟨S128x256, .f32⟩
  | 65 => ⟨S32x3x512, .f32⟩
  | 66 => ⟨S32x15x256, .f32⟩
  | 67 => ⟨S32x4x2x64, .bf16⟩
  | 68 => ⟨S128x128, .bf16⟩
  | 69 => ⟨S32x4x2x64, .bf16⟩
  | 70 => ⟨S128x128, .bf16⟩
  | 71 => ⟨S32x4x64, .bf16⟩
  | 72 => ⟨S128x64, .bf16⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_5 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_7 : Ref sig .tc := ⟨.hbm, 114, rfl⟩
abbrev main_v99 : Ref sig .tc := ⟨.hbm, 115, rfl⟩
abbrev main_v100 : Ref sig .tc := ⟨.hbm, 116, rfl⟩
abbrev main_cst_8 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_9 : Ref sig .tc := ⟨.hbm, 146, rfl⟩
abbrev main_v129 : Ref sig .tc := ⟨.hbm, 147, rfl⟩
abbrev main_v130 : Ref sig .tc := ⟨.hbm, 148, rfl⟩
abbrev main_cst_10 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_cst_11 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_cst_12 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩

abbrev nD : Nat := 1
abbrev τ : Topo := Topo.v7x

variable {F : FTy → Type} [FloatOps F]
-- ==== FfnSmp.lean ====
abbrev S32x4x1024 : Shape := ⟨3, ![32, 4, 1024]⟩
abbrev S128x512 : Shape := ⟨2, ![128, 512]⟩
abbrev S128x256 : Shape := ⟨2, ![128, 256]⟩
abbrev S1024x1024 : Shape := ⟨2, ![1024, 1024]⟩
abbrev S32x1024 : Shape := ⟨2, ![32, 1024]⟩
abbrev S1024 : Shape := ⟨1, ![1024]⟩
abbrev S1024x2816 : Shape := ⟨2, ![1024, 2816]⟩
abbrev S2816x1024 : Shape := ⟨2, ![2816, 1024]⟩
abbrev S128x1024 : Shape := ⟨2, ![128, 1024]⟩
abbrev S1x128x1024 : Shape := ⟨3, ![1, 128, 1024]⟩
abbrev S1x1024 : Shape := ⟨2, ![1, 1024]⟩
abbrev S1024x1408 : Shape := ⟨2, ![1024, 1408]⟩
abbrev S1408x1024 : Shape := ⟨2, ![1408, 1024]⟩
abbrev S512x1024 : Shape := ⟨2, ![512, 1024]⟩
abbrev S256x1024 : Shape := ⟨2, ![256, 1024]⟩
abbrev S128 : Shape := ⟨1, ![128]⟩
abbrev S128x1 : Shape := ⟨2, ![128, 1]⟩
abbrev S128x1408 : Shape := ⟨2, ![128, 1408]⟩

abbrev nBuf : Space → Nat
  | .hbm => 34
  | .vmem => 21
  | .smem => 0
  | _ => 0

abbrev bufTy : (tb : Table) → Fin (tcTables nBuf tb) → BufTy
  | .hbm, ⟨0, _⟩ => ⟨S32x4x1024, .f32⟩
  | .hbm, ⟨1, _⟩ => ⟨S128x512, .bf16⟩
  | .hbm, ⟨2, _⟩ => ⟨S128x256, .bf16⟩
  | .hbm, ⟨3, _⟩ => ⟨S128x256, .bf16⟩
  | .hbm, ⟨4, _⟩ => ⟨S1024x1024, .f32⟩
  | .hbm, ⟨5, _⟩ => ⟨S32x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S128x1024, .f32⟩
  | .hbm, ⟨15, _⟩ => ⟨S1024x1024, .bf16⟩
  | .hbm, ⟨16, _⟩ => ⟨S32x4x1024, .f32⟩
  | .hbm, ⟨17, _⟩ => ⟨S128x1024, .f32⟩
  | .hbm, ⟨18, _⟩ => ⟨S1x128x1024, .f32⟩
  | .hbm, ⟨19, _⟩ => ⟨S1x1024, .f32⟩
  | .hbm, ⟨20, _⟩ => ⟨S32x4x1024, .f32⟩
  | .hbm, ⟨21, _⟩ => ⟨S128x1024, .f32⟩
  | .hbm, ⟨22, _⟩ => ⟨S1x128x1024, .f32⟩
  | .hbm, ⟨23, _⟩ => ⟨S32x4x1024, .f32⟩
  | .hbm, ⟨24, _⟩ => ⟨S128x1024, .f32⟩
  | .hbm, ⟨25, _⟩ => ⟨S1x128x1024, .f32⟩
  | .hbm, ⟨26, _⟩ => ⟨S32x4x1024, .f32⟩
  | .hbm, ⟨27, _⟩ => ⟨S128x1024, .f32⟩
  | .hbm, ⟨28, _⟩ => ⟨S1x128x1024, .f32⟩
  | .hbm, ⟨29, _⟩ => ⟨S1024x2816, .bf16⟩
  | .hbm, ⟨30, _⟩ => ⟨S1024x2816, .bf16⟩
  | .hbm, ⟨31, _⟩ => ⟨S2816x1024, .bf16⟩
  | .hbm, ⟨32, _⟩ => ⟨S1x1024, .f32⟩
  | .hbm, ⟨33, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x256, .bf16⟩
  | .local _ .vmem, ⟨3, _⟩ => ⟨S128x256, .bf16⟩
  | .local _ .vmem, ⟨4, _⟩ => ⟨S1024x1024, .bf16⟩
  | .local _ .vmem, ⟨5, _⟩ => ⟨S1x128x1024, .f32⟩
  | .local _ .vmem, ⟨6, _⟩ => ⟨S1x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1408x1024, .bf16⟩
  | .local _ .vmem, ⟨15, _⟩ => ⟨S1408x1024, .bf16⟩
  | .local _ .vmem, ⟨16, _⟩ => ⟨S1x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .bf16⟩
  | .local _ .vmem, ⟨20, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1024x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1408x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== FfnSmpRefIdeal.lean ====
abbrev S32x4x1024 : Shape := ⟨3, ![32, 4, 1024]⟩
abbrev S128x512 : Shape := ⟨2, ![128, 512]⟩
abbrev S128x256 : Shape := ⟨2, ![128, 256]⟩
abbrev S1024x1024 : Shape := ⟨2, ![1024, 1024]⟩
abbrev S32x1024 : Shape := ⟨2, ![32, 1024]⟩
abbrev S1024 : Shape := ⟨1, ![1024]⟩
abbrev S1024x2816 : Shape := ⟨2, ![1024, 2816]⟩
abbrev S2816x1024 : Shape := ⟨2, ![2816, 1024]⟩
abbrev S32x1x1024 : Shape := ⟨3, ![32, 1, 1024]⟩
abbrev S32x4x512 : Shape := ⟨3, ![32, 4, 512]⟩
abbrev S32x4x256 : Shape := ⟨3, ![32, 4, 256]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2816 : Shape := ⟨3, ![32, 4, 2816]⟩
abbrev S128x1024 : Shape := ⟨2, ![128, 1024]⟩

abbrev nBuf : Space → Nat
  | .hbm => 85
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S128x512, .bf16⟩
  | .hbm, ⟨2, _⟩ => ⟨S128x256, .bf16⟩
  | .hbm, ⟨3, _⟩ => ⟨S128x256, .bf16⟩
  | .hbm, ⟨4, _⟩ => ⟨S1024x1024, .f32⟩
  | .hbm, ⟨5, _⟩ => ⟨S32x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S128x512, .f32⟩
  | .hbm, ⟨19, _⟩ => ⟨S32x4x512, .f32⟩
  | .hbm, ⟨20, _⟩ => ⟨S128x256, .f32⟩
  | .hbm, ⟨21, _⟩ => ⟨S32x4x256, .f32⟩
  | .hbm, ⟨22, _⟩ => ⟨S128x256, .f32⟩
  | .hbm, ⟨23, _⟩ => ⟨S32x4x256, .f32⟩
  | .hbm, ⟨24, _⟩ => ⟨S32x4x1024, .f32⟩
  | .hbm, ⟨25, _⟩ => ⟨S32x4x1024, .f32⟩
  | .hbm, ⟨26, _⟩ => ⟨S32x4x1024, .f32⟩
  | .hbm, ⟨27, _⟩ => ⟨S32x4x1024, .f32⟩
  | .hbm, ⟨28, _⟩ => ⟨S32x4x1024, .f32⟩
  | .hbm, ⟨29, _⟩ => ⟨S32x4x1024, .f32⟩
  | .hbm, ⟨30, _⟩ => ⟨S_, .f32⟩
  | .hbm, ⟨31, _⟩ => ⟨S32x4, .f32⟩
  | .hbm, ⟨32, _⟩ => ⟨S32x4x1, .f32⟩
  | .hbm, ⟨33, _⟩ => ⟨S_, .f32⟩
  | .hbm, ⟨34, _⟩ => ⟨S32x4x1, .f32⟩
  | .hbm, ⟨35, _⟩ => ⟨S32x4x1, .f32⟩
  | .hbm, ⟨36, _⟩ => ⟨S_, .f32⟩
  | .hbm, ⟨37, _⟩ => ⟨S32x4x1, .f32⟩
  | .hbm, ⟨38, _⟩ => ⟨S32x4x1, .f32⟩
  | .hbm, ⟨39, _⟩ => ⟨S32x4x1, .f32⟩
  | .hbm, ⟨40, _⟩ => ⟨S32x4x1024, .f32⟩
  | .hbm, ⟨41, _⟩ => ⟨S32x4x1024, .f32⟩
  | .hbm, ⟨42, _⟩ => ⟨S1x1x1024, .f32⟩
  | .hbm, ⟨43, _⟩ => ⟨S32x4x1024, .f32⟩
  | .hbm, ⟨44, _⟩ => ⟨S32x4x1024, .f32⟩
  | .hbm, ⟨45, _⟩ => ⟨S_, .f32⟩
  | .hbm, ⟨46, _⟩ => ⟨S32x1x1024, .f32⟩
  | .hbm, ⟨47, _⟩ => ⟨S32x1x1024, .f32⟩
  | .hbm, ⟨48, _⟩ => ⟨S32x4x1024, .f32⟩
  | .hbm, ⟨49, _⟩ => ⟨S32x4x1024, .f32⟩
  | .hbm, ⟨50, _⟩ => ⟨S32x4x1024, .f32⟩
  | .hbm, ⟨51, _⟩ => ⟨S32x4x1024, .f32⟩
  | .hbm, ⟨52, _⟩ => ⟨S32x4x2816, .f32⟩
  | .hbm, ⟨53, _⟩ => ⟨S32x4x2816, .f32⟩
  | .hbm, ⟨54, _⟩ => ⟨S32x4x2816, .f32⟩
  | .hbm, ⟨55, _⟩ => ⟨S_, .f32⟩
  | .hbm, ⟨56, _⟩ => ⟨S32x4x2816, .f32⟩
  | .hbm, ⟨57, _⟩ => ⟨S32x4x2816, .f32⟩
  | .hbm, ⟨58, _⟩ => ⟨S_, .f32⟩
  | .hbm, ⟨59, _⟩ => ⟨S32x4x2816, .f32⟩
  | .hbm, ⟨60, _⟩ => ⟨S32x4x2816, .f32⟩
  | .hbm, ⟨61, _⟩ => ⟨S32x4x2816, .f32⟩
  | .hbm, ⟨62, _⟩ => ⟨S32x4x2816, .f32⟩
  | .hbm, ⟨63, _⟩ => ⟨S32x4x2816, .f32⟩
  | .hbm, ⟨64, _⟩ => ⟨S32x4x1024, .f32⟩
  | .hbm, ⟨65, _⟩ => ⟨S32x4x1024, .f32⟩
  | .hbm, ⟨66, _⟩ => ⟨S32x4x1024, .f32⟩
  | .hbm, ⟨67, _⟩ => ⟨S32x4x1024, .f32⟩
  | .hbm, ⟨68, _⟩ => ⟨S32x4x1024, .f32⟩
  | .hbm, ⟨69, _⟩ => ⟨S_, .f32⟩
  | .hbm, ⟨70, _⟩ => ⟨S32x4, .f32⟩
  | .hbm, ⟨71, _⟩ => ⟨S32x4x1, .f32⟩
  | .hbm, ⟨72, _⟩ => ⟨S_, .f32⟩
  | .hbm, ⟨73, _⟩ => ⟨S32x4x1, .f32⟩
  | .hbm, ⟨74, _⟩ => ⟨S32x4x1, .f32⟩
  | .hbm, ⟨75, _⟩ => ⟨S_, .f32⟩
  | .hbm, ⟨76, _⟩ => ⟨S32x4x1, .f32⟩
  | .hbm, ⟨77, _⟩ => ⟨S32x4x1, .f32⟩
  | .hbm, ⟨78, _⟩ => ⟨S32x4x1, .f32⟩
  | .hbm, ⟨79, _⟩ => ⟨S32x4x1024, .f32⟩
  | .hbm, ⟨80, _⟩ => ⟨S32x4x1024, .f32⟩
  | .hbm, ⟨81, _⟩ => ⟨S1x1x1024, .f32⟩
  | .hbm, ⟨82, _⟩ => ⟨S32x4x1024, .f32⟩
  | .hbm, ⟨83, _⟩ => ⟨S32x4x1024, .f32⟩
  | .hbm, ⟨84, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== SsdSmp.lean ====
abbrev S128x512 : Shape := ⟨2, ![128, 512]⟩
abbrev S128x256 : Shape := ⟨2, ![128, 256]⟩
abbrev S128x128 : Shape := ⟨2, ![128, 128]⟩
abbrev S32x3x512 : Shape := ⟨3, ![32, 3, 512]⟩
abbrev S32x4x64x128 : Shape := ⟨4, ![32, 4, 64, 128]⟩
abbrev S4x512 : Shape := ⟨2, ![4, 512]⟩
abbrev S512 : Shape := ⟨1, ![512]⟩
abbrev S4 : Shape := ⟨1, ![4]⟩
abbrev S256 : Shape := ⟨1, ![256]⟩
abbrev S1x512 : Shape := ⟨2, ![1, 512]⟩
abbrev S_ : Shape := ⟨0, ![]⟩
abbrev S1x128 : Shape := ⟨2, ![1, 128]⟩
abbrev S1 : Shape := ⟨1, ![1]⟩
abbrev S2 : Shape := ⟨1, ![2]⟩
abbrev S4x64 : Shape := ⟨2, ![4, 64]⟩
abbrev S1x256 : Shape := ⟨2, ![1, 256]⟩
abbrev S32x4x512 : Shape := ⟨3, ![32, 4, 512]⟩
abbrev S32x128x512 : Shape := ⟨3, ![32, 128, 512]⟩
abbrev S4096x512 : Shape := ⟨2, ![4096, 512]⟩
abbrev S32x4x256 : Shape := ⟨3, ![32, 4, 256]⟩
abbrev S32x128x256 : Shape := ⟨3, ![32, 128, 256]⟩
abbrev S4096x256 : Shape := ⟨2, ![4096, 256]⟩
abbrev S32x4x128 : Shape := ⟨3, ![32, 4, 128]⟩
abbrev S32x128x128 : Shape := ⟨3, ![32, 128, 128]⟩
abbrev S4096x128 : Shape := ⟨2, ![4096, 128]⟩
abbrev S32x8x512 : Shape := ⟨3, ![32, 8, 512]⟩
abbrev S32x256x128 : Shape := ⟨3, ![32, 256, 128]⟩
abbrev S1x8x512 : Shape := ⟨3, ![1, 8, 512]⟩
abbrev S1x256x128 : Shape := ⟨3, ![1, 256, 128]⟩
abbrev S136x512 : Shape := ⟨2, ![136, 512]⟩
abbrev S256x128 : Shape := ⟨2, ![256, 128]⟩
abbrev S8x512 : Shape := ⟨2, ![8, 512]⟩
abbrev S128x1 : Shape := ⟨2, ![128, 1]⟩
abbrev S256x1 : Shape := ⟨2, ![256, 1]⟩
abbrev S1x1 : Shape := ⟨2, ![1, 1]⟩
abbrev S128 : Shape := ⟨1, ![128]⟩

abbrev nBuf : Space → Nat
  | .hbm => 57
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S128x256, .f32⟩
  | .hbm, ⟨2, _⟩ => ⟨S128x128, .f32⟩
  | .hbm, ⟨3, _⟩ => ⟨S32x3x512, .f32⟩
  | .hbm, ⟨4, _⟩ => ⟨S32x4x64x128, .f32⟩
  | .hbm, ⟨5, _⟩ => ⟨S4x512, .f32⟩
  | .hbm, ⟨6, _⟩ => ⟨S512, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S256, .f32⟩
  | .hbm, ⟨11, _⟩ => ⟨S1x512, .f32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S1x256, .f32⟩
  | .hbm, ⟨32, _⟩ => ⟨S32x4x512, .f32⟩
  | .hbm, ⟨33, _⟩ => ⟨S_, .i32⟩
  | .hbm, ⟨34, _⟩ => ⟨S_, .f32⟩
  | .hbm, ⟨35, _⟩ => ⟨S32x128x512, .f32⟩
  | .hbm, ⟨36, _⟩ => ⟨S4096x512, .f32⟩
  | .hbm, ⟨37, _⟩ => ⟨S32x4x256, .f32⟩
  | .hbm, ⟨38, _⟩ => ⟨S_, .i32⟩
  | .hbm, ⟨39, _⟩ => ⟨S_, .f32⟩
  | .hbm, ⟨40, _⟩ => ⟨S32x128x256, .f32⟩
  | .hbm, ⟨41, _⟩ => ⟨S4096x256, .f32⟩
  | .hbm, ⟨42, _⟩ => ⟨S32x4x128, .f32⟩
  | .hbm, ⟨43, _⟩ => ⟨S_, .i32⟩
  | .hbm, ⟨44, _⟩ => ⟨S_, .f32⟩
  | .hbm, ⟨45, _⟩ => ⟨S32x128x128, .f32⟩
  | .hbm, ⟨46, _⟩ => ⟨S4096x128, .f32⟩
  | .hbm, ⟨47, _⟩ => ⟨S_, .i32⟩
  | .hbm, ⟨48, _⟩ => ⟨S_, .f32⟩
  | .hbm, ⟨49, _⟩ => ⟨S32x8x512, .f32⟩
  | .hbm, ⟨50, _⟩ => ⟨S32x256x128, .f32⟩
  | .hbm, ⟨51, _⟩ => ⟨S4096x256, .bf16⟩
  | .hbm, ⟨52, _⟩ => ⟨S32x256x128, .f32⟩
  | .hbm, ⟨53, _⟩ => ⟨S32x128x256, .bf16⟩
  | .hbm, ⟨54, _⟩ => ⟨S32x4x256, .bf16⟩
  | .hbm, ⟨55, _⟩ => ⟨S128x256, .bf16⟩
  | .hbm, ⟨56, _⟩ => ⟨S32x4x64x128, .f32⟩
  | .local _ .vmem, ⟨0, _⟩ => ⟨S128x512, .f32⟩
  | .local _ .vmem, ⟨1, _⟩ => ⟨S128x512, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S1x8x512, .f32⟩
  | .local _ .vmem, ⟨7, _⟩ => ⟨S1x8x512, .f32⟩
  | .local _ .vmem, ⟨8, _⟩ => ⟨S1x256x128, .f32⟩
  | .local _ .vmem, ⟨9, _⟩ => ⟨S1x256x128, .f32⟩
  | .local _ .vmem, ⟨10, _⟩ => ⟨S4x512, .f32⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x256, .f32⟩
  | .local _ .vmem, ⟨16, _⟩ => ⟨S128x256, .bf16⟩
  | .local _ .vmem, ⟨17, _⟩ => ⟨S128x256, .bf16⟩
  | .local _ .vmem, ⟨18, _⟩ => ⟨S1x256x128, .f32⟩
  | .local _ .vmem, ⟨19, _⟩ => ⟨S1x256x128, .f32⟩
  | .local _ .vmem, ⟨20, _⟩ => ⟨S136x512, .f32⟩
  | .local _ .vmem, ⟨21, _⟩ => ⟨S256x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_call1_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_call3_v0 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_84 : BitVec 32 := 0#32
  let v364 : BitVec 1 := Scalar.cmpi .eq arg1 c0_i32_84
  let v365 : BitVec 32 := Scalar.extui v364
  let c0_i32_85 : BitVec 32 := 0#32
  let v366 : BitVec 1 := Scalar.cmpi .ne v365 c0_i32_85
  v366

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdSmpRefIdeal.lean ====
abbrev S128x512 : Shape := ⟨2, ![128, 512]⟩
abbrev S128x256 : Shape := ⟨2, ![128, 256]⟩
abbrev S128x128 : Shape := ⟨2, ![128, 128]⟩
abbrev S32x3x512 : Shape := ⟨3, ![32, 3, 512]⟩
abbrev S32x4x64x128 : Shape := ⟨4, ![32, 4, 64, 128]⟩
abbrev S4x512 : Shape := ⟨2, ![4, 512]⟩
abbrev S512 : Shape := ⟨1, ![512]⟩
abbrev S4 : Shape := ⟨1, ![4]⟩
abbrev S256 : Shape := ⟨1, ![256]⟩
abbrev S32x4x512 : Shape := ⟨3, ![32, 4, 512]⟩
abbrev S32x4x256 : Shape := ⟨3, ![32, 4, 256]⟩
abbrev S128x4 : Shape := ⟨2, ![128, 4]⟩
abbrev S32x4x4 : Shape := ⟨3, ![32, 4, 4]⟩
abbrev S32x7x512 : Shape := ⟨3, ![32, 7, 512]⟩
abbrev S1x512 : Shape := ⟨2, ![1, 512]⟩
abbrev S1x1x512 : Shape := ⟨3, ![1, 1, 512]⟩
abbrev S_ : Shape := ⟨0, ![]⟩
abbrev S32x4x128 : Shape := ⟨3, ![32, 4, 128]⟩
abbrev S1x1x4 : Shape := ⟨3, ![1, 1, 4]⟩
abbrev S32x4x4x64 : Shape := ⟨4, ![32, 4, 4, 64]⟩
abbrev S32x4x4x1 : Shape := ⟨4, ![32, 4, 4, 1]⟩
abbrev S32x1x4x4x64 : Shape := ⟨5, ![32, 1, 4, 4, 64]⟩
abbrev S32x1x4x4 : Shape := ⟨4, ![32, 1, 4, 4]⟩
abbrev S32x4x1x4 : Shape := ⟨4, ![32, 4, 1, 4]⟩
abbrev S32x1x4x128 : Shape := ⟨4, ![32, 1, 4, 128]⟩
abbrev S32x4x1x4x1 : Shape := ⟨5, ![32, 4, 1, 4, 1]⟩
abbrev S32x4x1x1x4 : Shape := ⟨5, ![32, 4, 1, 1, 4]⟩
abbrev S32x4x1x4x4 : Shape := ⟨5, ![32, 4, 1, 4, 4]⟩
abbrev S4x4 : Shape := ⟨2, ![4, 4]⟩
abbrev S32x1x1x4x4 : Shape := ⟨5, ![32, 1, 1, 4, 4]⟩
abbrev S32x1x4x64x4 : Shape := ⟨5, ![32, 1, 4, 64, 4]⟩
abbrev S32x4x1x1 : Shape := ⟨4, ![32, 4, 1, 1]⟩
abbrev S32x1x4x4x1 : Shape := ⟨5, ![32, 1, 4, 4, 1]⟩
abbrev S32x1x4x64x128 : Shape := ⟨5, ![32, 1, 4, 64, 128]⟩
abbrev S32x2x4x64x128 : Shape := ⟨5, ![32, 2, 4, 64, 128]⟩
abbrev S32x4x1 : Shape := ⟨3, ![32, 4, 1]⟩
abbrev S32x4x2 : Shape := ⟨3, ![32, 4, 2]⟩
abbrev S32x4x2x1 : Shape := ⟨4, ![32, 4, 2, 1]⟩
abbrev S32x4x1x2 : Shape := ⟨4, ![32, 4, 1, 2]⟩
abbrev S32x4x2x2 : Shape := ⟨4, ![32, 4, 2, 2]⟩
abbrev S2x2 : Shape := ⟨2, ![2, 2]⟩
abbrev S32x4x64x128x2 : Shape := ⟨5, ![32, 4, 64, 128, 2]⟩
abbrev S4x1 : Shape := ⟨2, ![4, 1]⟩
abbrev S1x1x4x1 : Shape := ⟨4, ![1, 1, 4, 1]⟩
abbrev S32x4 : Shape := ⟨2, ![32, 4]⟩
abbrev S1x1x256 : Shape := ⟨3, ![1, 1, 256]⟩

abbrev nBuf : Space → Nat
  | .hbm => 211
  | .vmem => 0
  | .smem => 0
  | _ => 0

abbrev hbmTy0_0 (i : Nat) : BufTy := match i % 128 with
  | 0 => ⟨S128x512, .f32⟩
  | 1 => ⟨S128x256, .f32⟩
  | 2 => ⟨S128x128, .f32⟩
  | 3 => ⟨S32x3x512, .f32⟩
  | 4 => ⟨S32x4x64x128, .f32⟩
  | 5 => ⟨S4x512, .f32⟩
  | 6 => ⟨S512, .f32⟩
  | 7 => ⟨S4, .f32⟩
  | 8 => ⟨S4, .f32⟩
  | 9 => ⟨S4, .f32⟩
  | 10 => ⟨S256, .f32⟩
  | 11 => ⟨S32x4x512, .f32⟩
  | 12 => ⟨S32x4x256, .f32⟩
  | 13 => ⟨S128x4, .f32⟩
  | 14 => ⟨S32x4x4, .f32⟩
  | 15 => ⟨S32x7x512, .f32⟩
  | 16 => ⟨S32x4x512, .f32⟩
  | 17 => ⟨S1x512, .f32⟩
  | 18 => ⟨S512, .f32⟩
  | 19 => ⟨S1x1x512, .f32⟩
  | 20 => ⟨S32x4x512, .f32⟩
  | 21 => ⟨S32x4x512, .f32⟩
  | 22 => ⟨S1x1x512, .f32⟩
  | 23 => ⟨S32x4x512, .f32⟩
  | 24 => ⟨S32x4x512, .f32⟩
  | 25 => ⟨S32x4x512, .f32⟩
  | 26 => ⟨S1x512, .f32⟩
  | 27 => ⟨S512, .f32⟩
  | 28 => ⟨S1x1x512, .f32⟩
  | 29 => ⟨S32x4x512, .f32⟩
  | 30 => ⟨S32x4x512, .f32⟩
  | 31 => ⟨S32x4x512, .f32⟩
  | 32 => ⟨S32x4x512, .f32⟩
  | 33 => ⟨S1x512, .f32⟩
  | 34 => ⟨S512, .f32⟩
  | 35 => ⟨S1x1x512, .f32⟩
  | 36 => ⟨S32x4x512, .f32⟩
  | 37 => ⟨S32x4x512, .f32⟩
  | 38 => ⟨S32x4x512, .f32⟩
  | 39 => ⟨S32x4x512, .f32⟩
  | 40 => ⟨S1x512, .f32⟩
  | 41 => ⟨S512, .f32⟩
  | 42 => ⟨S1x1x512, .f32⟩
  | 43 => ⟨S32x4x512, .f32⟩
  | 44 => ⟨S32x4x512, .f32⟩
  | 45 => ⟨S32x4x512, .f32⟩
  | 46 => ⟨S32x4x512, .f32⟩
  | 47 => ⟨S32x4x512, .f32⟩
  | 48 => ⟨S_, .f32⟩
  | 49 => ⟨S32x4x512, .f32⟩
  | 50 => ⟨S32x4x512, .f32⟩
  | 51 => ⟨S_, .f32⟩
  | 52 => ⟨S32x4x512, .f32⟩
  | 53 => ⟨S32x4x512, .f32⟩
  | 54 => ⟨S32x4x512, .f32⟩
  | 55 => ⟨S32x4x256, .f32⟩
  | 56 => ⟨S32x4x128, .f32⟩
  | 57 => ⟨S32x4x128, .f32⟩
  | 58 => ⟨S1x1x4, .f32⟩
  | 59 => ⟨S32x4x4, .f32⟩
  | 60 => ⟨S32x4x4, .f32⟩
  | 61 => ⟨S_, .f32⟩
  | 62 => ⟨S32x4x4, .f32⟩
  | 63 => ⟨S32x4x4, .f32⟩
  | 64 => ⟨S32x4x4, .f32⟩
  | 65 => ⟨S32x4x4, .f32⟩
  | 66 => ⟨S32x4x4, .i1⟩
  | 67 => ⟨S32x4x4, .f32⟩
  | 68 => ⟨S32x4x4, .f32⟩
  | 69 => ⟨S32x4x4, .f32⟩
  | 70 => ⟨S32x4x4, .f32⟩
  | 71 => ⟨S32x4x4, .f32⟩
  | 72 => ⟨S32x4x4, .f32⟩
  | 73 => ⟨S32x4x4, .f32⟩
  | 74 => ⟨S32x4x4, .f32⟩
  | 75 => ⟨S4, .f32⟩
  | 76 => ⟨S4, .f32⟩
  | 77 => ⟨S32x4x4x64, .f32⟩
  | 78 => ⟨S32x4x4x1, .f32⟩
  | 79 => ⟨S32x4x4x64, .f32⟩
  | 80 => ⟨S32x4x4x64, .f32⟩
  | 81 => ⟨S32x1x4x4x64, .f32⟩
  | 82 => ⟨S1x1x4, .f32⟩
  | 83 => ⟨S32x4x4, .f32⟩
  | 84 => ⟨S32x4x4, .f32⟩
  | 85 => ⟨S32x1x4x4, .f32⟩
  | 86 => ⟨S32x4x1x4, .f32⟩
  | 87 => ⟨S32x1x4x128, .f32⟩
  | 88 => ⟨S32x1x4x128, .f32⟩
  | 89 => ⟨S_, .f32⟩
  | 90 => ⟨S_, .f32⟩
  | 91 => ⟨S32x4x1x4, .f32⟩
  | 92 => ⟨S_, .f32⟩
  | 93 => ⟨S_, .f32⟩
  | 94 => ⟨S32x4x1x4, .f32⟩
  | 95 => ⟨S32x4x1x4x1, .f32⟩
  | 96 => ⟨S32x4x1x1x4, .f32⟩
  | 97 => ⟨S32x4x1x4x4, .f32⟩
  | 98 => ⟨S32x4x1x4x4, .f32⟩
  | 99 => ⟨S32x4x1x4x4, .f32⟩
  | 100 => ⟨S_, .i1⟩
  | 101 => ⟨S4x4, .i1⟩
  | 102 => ⟨S4x4, .i32⟩
  | 103 => ⟨S_, .i32⟩
  | 104 => ⟨S4x4, .i32⟩
  | 105 => ⟨S4x4, .i32⟩
  | 106 => ⟨S4x4, .i32⟩
  | 107 => ⟨S4x4, .i1⟩
  | 108 => ⟨S_, .i1⟩
  | 109 => ⟨S4x4, .i1⟩
  | 110 => ⟨S4x4, .i1⟩
  | 111 => ⟨S_, .f32⟩
  | 112 => ⟨S_, .f32⟩
  | 113 => ⟨S32x4x1x4x4, .i1⟩
  | 114 => ⟨S32x4x1x4x4, .f32⟩
  | 115 => ⟨S32x4x1x4x4, .f32⟩
  | 116 => ⟨S32x4x1x4x4, .f32⟩
  | 117 => ⟨S32x1x4x4, .f32⟩
  | 118 => ⟨S32x1x1x4x4, .f32⟩
  | 119 => ⟨S32x4x1x4x4, .f32⟩
  | 120 => ⟨S32x4x1x4x4, .f32⟩
  | 121 => ⟨S32x1x4x64x4, .f32⟩
  | 122 => ⟨S32x1x4x4x64, .f32⟩
  | 123 => ⟨S32x4x1x1, .f32⟩
  | 124 => ⟨S32x4x1x4, .f32⟩
  | 125 => ⟨S32x4x1x4, .f32⟩
  | 126 => ⟨S32x4x1x4, .f32⟩
  | 127 => ⟨S32x1x4x4, .f32⟩
  | _ => ⟨S128x512, .f32⟩

abbrev hbmTy0_1 (i : Nat) : BufTy := match i % 128 with
  | 0 => ⟨S32x1x4x4x1, .f32⟩
  | 1 => ⟨S32x1x4x4x64, .f32⟩
  | 2 => ⟨S32x1x4x4x64, .f32⟩
  | 3 => ⟨S32x1x4x64x128, .f32⟩
  | 4 => ⟨S32x1x4x64x128, .f32⟩
  | 5 => ⟨S32x2x4x64x128, .f32⟩
  | 6 => ⟨S32x4x1x1, .f32⟩
  | 7 => ⟨S32x4x1, .f32⟩
  | 8 => ⟨S_, .i32⟩
  | 9 => ⟨S_, .f32⟩
  | 10 => ⟨S32x4x2, .f32⟩
  | 11 => ⟨S_, .f32⟩
  | 12 => ⟨S_, .f32⟩
  | 13 => ⟨S32x4x2, .f32⟩
  | 14 => ⟨S32x4x2x1, .f32⟩
  | 15 => ⟨S32x4x1x2, .f32⟩
  | 16 => ⟨S32x4x2x2, .f32⟩
  | 17 => ⟨S32x4x2x2, .f32⟩
  | 18 => ⟨S32x4x2x2, .f32⟩
  | 19 => ⟨S_, .i1⟩
  | 20 => ⟨S2x2, .i1⟩
  | 21 => ⟨S2x2, .i32⟩
  | 22 => ⟨S_, .i32⟩
  | 23 => ⟨S2x2, .i32⟩
  | 24 => ⟨S2x2, .i32⟩
  | 25 => ⟨S2x2, .i32⟩
  | 26 => ⟨S2x2, .i1⟩
  | 27 => ⟨S_, .i1⟩
  | 28 => ⟨S2x2, .i1⟩
  | 29 => ⟨S2x2, .i1⟩
  | 30 => ⟨S_, .f32⟩
  | 31 => ⟨S_, .f32⟩
  | 32 => ⟨S32x4x2x2, .i1⟩
  | 33 => ⟨S32x4x2x2, .f32⟩
  | 34 => ⟨S32x4x2x2, .f32⟩
  | 35 => ⟨S32x4x2x2, .f32⟩
  | 36 => ⟨S32x4x64x128x2, .f32⟩
  | 37 => ⟨S32x2x4x64x128, .f32⟩
  | 38 => ⟨S32x1x4x64x128, .f32⟩
  | 39 => ⟨S32x1x4x4x64, .f32⟩
  | 40 => ⟨S32x4x1x4, .f32⟩
  | 41 => ⟨S32x1x4x4, .f32⟩
  | 42 => ⟨S32x1x4x4x1, .f32⟩
  | 43 => ⟨S32x1x4x4x64, .f32⟩
  | 44 => ⟨S32x1x4x4x64, .f32⟩
  | 45 => ⟨S32x1x4x4x64, .f32⟩
  | 46 => ⟨S32x4x4x64, .f32⟩
  | 47 => ⟨S32x1x4x64x128, .f32⟩
  | 48 => ⟨S32x4x64x128, .f32⟩
  | 49 => ⟨S4x1, .f32⟩
  | 50 => ⟨S1x1x4x1, .f32⟩
  | 51 => ⟨S32x4x4x64, .f32⟩
  | 52 => ⟨S32x4x4x64, .f32⟩
  | 53 => ⟨S32x4x4x64, .f32⟩
  | 54 => ⟨S32x4x256, .f32⟩
  | 55 => ⟨S32x4x256, .f32⟩
  | 56 => ⟨S32x4x256, .f32⟩
  | 57 => ⟨S_, .f32⟩
  | 58 => ⟨S32x4x256, .f32⟩
  | 59 => ⟨S32x4x256, .f32⟩
  | 60 => ⟨S_, .f32⟩
  | 61 => ⟨S32x4x256, .f32⟩
  | 62 => ⟨S32x4x256, .f32⟩
  | 63 => ⟨S32x4x256, .f32⟩
  | 64 => ⟨S32x4x256, .f32⟩
  | 65 => ⟨S32x4x256, .f32⟩
  | 66 => ⟨S_, .f32⟩
  | 67 => ⟨S32x4, .f32⟩
  | 68 => ⟨S32x4x1, .f32⟩
  | 69 => ⟨S_, .f32⟩
  | 70 => ⟨S32x4x1, .f32⟩
  | 71 => ⟨S32x4x1, .f32⟩
  | 72 => ⟨S_, .f32⟩
  | 73 => ⟨S32x4x1, .f32⟩
  | 74 => ⟨S32x4x1, .f32⟩
  | 75 => ⟨S32x4x1, .f32⟩
  | 76 => ⟨S32x4x256, .f32⟩
  | 77 => ⟨S32x4x256, .f32⟩
  | 78 => ⟨S1x1x256, .f32⟩
  | 79 => ⟨S32x4x256, .f32⟩
  | 80 => ⟨S32x4x256, .f32⟩
  | 81 => ⟨S128x256, .f32⟩
  | 82 => ⟨S128x256, .bf16⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call2_call0_cst : Ref sig .tc := ⟨.hbm, 89, rfl⟩
abbrev main_call2_call0_v0 : Ref sig .tc := ⟨.hbm, 90, rfl⟩
abbrev main_v57 : Ref sig .tc := ⟨.hbm, 91, rfl⟩
abbrev main_call3_call0_cst : Ref sig .tc := ⟨.hbm, 92, rfl⟩
abbrev main_call3_call0_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c : Ref sig .tc := ⟨.hbm, 100, rfl⟩
abbrev main_v64 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_0 : Ref sig .tc := ⟨.hbm, 108, rfl⟩
abbrev main_call4_v5 : Ref sig .tc := ⟨.hbm, 109, rfl⟩
abbrev main_v65 : Ref sig .tc := ⟨.hbm, 110, rfl⟩
abbrev main_cst : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_0 : Ref sig .tc := ⟨.hbm, 136, rfl⟩
abbrev main_call6_v0 : Ref sig .tc := ⟨.hbm, 137, rfl⟩
abbrev main_v87 : Ref sig .tc := ⟨.hbm, 138, rfl⟩
abbrev main_call7_call0_cst : Ref sig .tc := ⟨.hbm, 139, rfl⟩
abbrev main_call7_call0_v0 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_1 : Ref sig .tc := ⟨.hbm, 147, rfl⟩
abbrev main_v94 : Ref sig .tc := ⟨.hbm, 148, rfl⟩
abbrev main_call8_v0 : Ref sig .tc := ⟨.hbm, 149, rfl⟩
abbrev main_call8_c : Ref sig .tc := ⟨.hbm, 150, rfl⟩
abbrev main_call8_v1 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_call8_c_0 : Ref sig .tc := ⟨.hbm, 155, rfl⟩
abbrev main_call8_v5 : Ref sig .tc := ⟨.hbm, 156, rfl⟩
abbrev main_v95 : Ref sig .tc := ⟨.hbm, 157, rfl⟩
abbrev main_cst_2 : Ref sig .tc := ⟨.hbm, 158, rfl⟩
abbrev main_call9_v0 : Ref sig .tc := ⟨.hbm, 159, rfl⟩
abbrev main_call9_v1 : Ref sig .tc := ⟨.hbm, 160, rfl⟩
abbrev main_call9_v2 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_call10_v0 : Ref sig .tc := ⟨.hbm, 183, rfl⟩
abbrev main_call10_v1 : Ref sig .tc := ⟨.hbm, 184, rfl⟩
abbrev main_call10_cst : Ref sig .tc := ⟨.hbm, 185, rfl⟩
abbrev main_call10_v2 : Ref sig .tc := ⟨.hbm, 186, rfl⟩
abbrev main_call10_v3 : Ref sig .tc := ⟨.hbm, 187, rfl⟩
abbrev main_call10_cst_0 : Ref sig .tc := ⟨.hbm, 188, rfl⟩
abbrev main_call10_v4 : Ref sig .tc := ⟨.hbm, 189, rfl⟩
abbrev main_call10_v5 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_3 : Ref sig .tc := ⟨.hbm, 194, rfl⟩
abbrev main_v120 : Ref sig .tc := ⟨.hbm, 195, rfl⟩
abbrev main_v121 : Ref sig .tc := ⟨.hbm, 196, rfl⟩
abbrev main_cst_4 : Ref sig .tc := ⟨.hbm, 197, rfl⟩
abbrev main_v122 : Ref sig .tc := ⟨.hbm, 198, rfl⟩
abbrev main_v123 : Ref sig .tc := ⟨.hbm, 199, rfl⟩
abbrev main_cst_5 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩

abbrev nD : Nat := 1
abbrev τ : Topo := Topo.v7x

variable {F : FTy → Type} [FloatOps F]
-- ==== Proof.Ffn.Ref.lean ====
/- What the reference of the mixing and feed-forward call computes, element by element: the residual stream after mixing,
   its normalized and modulated copy, the gated hidden layer, the down projection, and the final normalization. -/
module

public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Ffn

open Cert.ReferenceIdeal Cert.ReferenceIdeal.Read

/-- A sum over 1024 positions, cut where the three concatenated parts meet. -/
theorem sum_parts (f : Fin 1024 → EReal) : ∑ k, f k =
    (∑ k : Fin 512, f ⟨k, by omega⟩ + ∑ k : Fin 256, f ⟨512 + k, by omega⟩) + ∑ k : Fin 256, f ⟨512 + (256 + k), by omega⟩ := by
  rw [Fin.sum_univ_two_halves 512 512 rfl, Fin.sum_univ_two_halves 256 256 rfl (fun k : Fin 512 => f ⟨512 + k, _⟩), add_assoc]

/-- The row of the flattened arrays that holds position `l` of sequence `b`. -/
def row (b : Fin 8) (l : Fin 2048) : Fin 16384 := ⟨b * 2048 + l, by omega⟩

variable (x0 : FVec Ideal S8x2048x1024 .f32) (x1 : FVec Ideal S16384x512 .bf16) (x2 x3 : FVec Ideal S16384x256 .bf16)
  (x4 : FVec Ideal S1024x1024 .f32) (x5 : FVec Ideal S8x1024 .f32) (x6 : FVec Ideal S1024 .f32) (x7 x8 x9 : FVec Ideal S8x1024 .f32)
  (x10 x11 : FVec Ideal S1024x2816 .f32) (x12 : FVec Ideal S2816x1024 .f32) (x13 : FVec Ideal S1024 .f32)

/-- The stream after the gated mix: the contraction with the output weight is cut into its three parts. -/
theorem stream_apply (b : Fin 8) (l : Fin 2048) (j : Fin 1024) :
    val_main_v14 (F := Ideal) x0 x1 x2 x3 x4 x5 (ix3 b l j) = x0 (ix3 b l j) + x5 (ix2 b j) *
      ((∑ k : Fin 512, x1 (ix2 (row b l) k) * x4 (ix2 ⟨k, by omega⟩ j)
        + ∑ k : Fin 256, x2 (ix2 (row b l) k) * x4 (ix2 ⟨512 + k, by omega⟩ j))
        + ∑ k : Fin 256, x3 (ix2 (row b l) k) * x4 (ix2 ⟨512 + (256 + k), by omega⟩ j)) := by
  pointwise [val_main_v14, val_main_v13, val_main_v12, val_main_v11, val_main_v10, val_main_v9, val_main_v8, val_main_v7,
    val_main_v6, val_main_v5, val_main_v4, val_main_v0]
  rw [sum_parts]
  pointwise [row]

/-- The normalized and modulated stream. -/
theorem hidden_apply (b : Fin 8) (l : Fin 2048) (j : Fin 1024) :
    val_main_v33 (F := Ideal) x0 x1 x2 x3 x4 x5 x6 x7 x8 (ix3 b l j) =
      val_main_v14 (F := Ideal) x0 x1 x2 x3 x4 x5 (ix3 b l j) *
            Ideal.rsqrt (Ideal.div (∑ x, val_main_v14 (F := Ideal) x0 x1 x2 x3 x4 x5 (ix3 b l x) *
              val_main_v14 (F := Ideal) x0 x1 x2 x3 x4 x5 (ix3 b l x)) (Ideal.ofBits FTy.f32 1149239296#32)
              + Ideal.ofBits FTy.f32 897988541#32) * x6 (ix1 j) * (1 + x7 (ix2 b j)) + x8 (ix2 b j) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v2, val_main_v1,
    val_main_cst, val_main_cst_0, val_main_cst_1, val_main_cst_2]

/-- The gated hidden layer. -/
theorem gated_apply (b : Fin 8) (l : Fin 2048) (k : Fin 2816) :
    val_main_v37 (F := Ideal) x0 x1 x2 x3 x4 x5 x6 x7 x8 x10 x11 (ix3 b l k) =
      ((∑ i, val_main_v33 (F := Ideal) x0 x1 x2 x3 x4 x5 x6 x7 x8 (ix3 b l i) * x10 (ix2 i k)) *
        Ideal.logistic (∑ i, val_main_v33 (F := Ideal) x0 x1 x2 x3 x4 x5 x6 x7 x8 (ix3 b l i) * x10 (ix2 i k))) *
      ∑ i, val_main_v33 (F := Ideal) x0 x1 x2 x3 x4 x5 x6 x7 x8 (ix3 b l i) * x11 (ix2 i k) := by
  pointwise [val_main_v37, val_main_v36, val_main_v35, val_main_v34, val_main_call0_v5, val_main_call0_v4, val_main_call0_v3,
    val_main_call0_v2, val_main_call0_v1, val_main_call0_v0, val_main_call0_cst, val_main_call0_cst_0, Ideal.logistic]

/-- The down projection, its contraction cut into the two halves of the hidden layer. -/
theorem down_apply (b : Fin 8) (l : Fin 2048) (j : Fin 1024) :
    val_main_v38 (F := Ideal) x0 x1 x2 x3 x4 x5 x6 x7 x8 x10 x11 x12 (ix3 b l j) =
      ∑ k : Fin 1408, val_main_v37 (F := Ideal) x0 x1 x2 x3 x4 x5 x6 x7 x8 x10 x11 (ix3 b l ⟨k, by omega⟩) * x12 (ix2 ⟨k, by omega⟩ j)
      + ∑ k : Fin 1408, val_main_v37 (F := Ideal) x0 x1 x2 x3 x4 x5 x6 x7 x8 x10 x11 (ix3 b l ⟨1408 + k, by omega⟩) *
          x12 (ix2 ⟨1408 + k, by omega⟩ j) := by
  pointwise [val_main_v38]
  exact Fin.sum_univ_two_halves 1408 1408 rfl _

/-- The result at the row of position `l` of sequence `b`. -/
theorem out_apply (b : Fin 8) (l : Fin 2048) (j : Fin 1024) :
    val_main_v55 (F := Ideal) x0 x1 x2 x3 x4 x5 x6 x7 x8 x9 x10 x11 x12 x13 (ix2 (row b l) j) =
      (val_main_v14 (F := Ideal) x0 x1 x2 x3 x4 x5 (ix3 b l j)
        + x9 (ix2 b j) * val_main_v38 (F := Ideal) x0 x1 x2 x3 x4 x5 x6 x7 x8 x10 x11 x12 (ix3 b l j)) *
      Ideal.rsqrt (Ideal.div (∑ x, (val_main_v14 (F := Ideal) x0 x1 x2 x3 x4 x5 (ix3 b l x)
            + x9 (ix2 b x) * val_main_v38 (F := Ideal) x0 x1 x2 x3 x4 x5 x6 x7 x8 x10 x11 x12 (ix3 b l x)) *
          (val_main_v14 (F := Ideal) x0 x1 x2 x3 x4 x5 (ix3 b l x)
            + x9 (ix2 b x) * val_main_v38 (F := Ideal) x0 x1 x2 x3 x4 x5 x6 x7 x8 x10 x11 x12 (ix3 b l x)))
          (Ideal.ofBits FTy.f32 1149239296#32) + Ideal.ofBits FTy.f32 897988541#32) * x13 (ix1 j) := by
  have hb : (⟨(row b l).val / 2048, by omega⟩ : Fin 8) = b := Fin.ext (by simp only [row]; omega)
  have hl : (⟨(row b l).val % 2048, by omega⟩ : Fin 2048) = l := Fin.ext (by simp only [row]; omega)
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v3, val_main_cst_3,
    val_main_cst_4, val_main_cst_5]
  simp only [hb, hl]

end Cert.ReferenceIdeal.Ffn

end
-- ==== Proof.Ffn.Block.lean ====
/- What one grid point of the mixing and feed-forward call computes, over blocks that hold the reference's operands. -/
module

public import proofs.«01_k».proof.Proof.Gen.KernelIdeal.Skeleton
public import proofs.«01_k».proof.Proof.Ffn.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Ffn

open Cert.KernelIdeal Cert.KernelIdeal.Gen Cert.ReferenceIdeal.Read Cert.ReferenceIdeal.Ffn

variable (x0 : FVec Ideal S8x2048x1024 .f32) (x1 : FVec Ideal S16384x512 .bf16) (x2 x3 : FVec Ideal S16384x256 .bf16)
  (x4 : FVec Ideal S1024x1024 .f32) (x5 : FVec Ideal S8x1024 .f32) (x6 : FVec Ideal S1024 .f32) (x7 x8 x9 : FVec Ideal S8x1024 .f32)
  (x10 x11 : FVec Ideal S1024x2816 .f32) (x12 : FVec Ideal S2816x1024 .f32) (x13 : FVec Ideal S1024 .f32)
  (b : Fin 8) (l : Fin 512 → Fin 2048)

/-- The first scratch after the first point of a row block: the stream after the gated mix. -/
theorem stream_block (xb : FVec Ideal S512x1024 .f32) (ab : FVec Ideal S512x512 .bf16) (sb pb : FVec Ideal S512x256 .bf16)
    (w0 : FVec Ideal S512x1024 .bf16) (w1 w2 : FVec Ideal S256x1024 .bf16) (gb : FVec Ideal S1x1x1024 .f32)
    (hx : ∀ p j, xb (ix2 p j) = x0 (ix3 b (l p) j)) (ha : ∀ p k, ab (ix2 p k) = x1 (ix2 (row b (l p)) k))
    (hs : ∀ p k, sb (ix2 p k) = x2 (ix2 (row b (l p)) k)) (hp : ∀ p k, pb (ix2 p k) = x3 (ix2 (row b (l p)) k))
    (h0 : ∀ (k : Fin 512) j, w0 (ix2 k j) = x4 (ix2 ⟨k, by omega⟩ j))
    (h1 : ∀ (k : Fin 256) j, w1 (ix2 k j) = x4 (ix2 ⟨512 + k, by omega⟩ j))
    (h2 : ∀ (k : Fin 256) j, w2 (ix2 k j) = x4 (ix2 ⟨512 + (256 + k), by omega⟩ j))
    (hg : ∀ j, gb (ix3 0 0 j) = x5 (ix2 b j)) (p : Fin 512) (j : Fin 1024) :
    k0_pay5 (F := Ideal) ab w0 sb w1 pb w2 xb gb (ix2 p j) = val_main_v14 (F := Ideal) x0 x1 x2 x3 x4 x5 (ix3 b (l p) j) := by
  rw [stream_apply]
  pointwise [k0_pay5]
  simp only [hx, ha, hs, hp, h0, h1, h2, hg]

/-- The second scratch: the normalized and modulated stream. -/
theorem hidden_block (xb : FVec Ideal S512x1024 .f32) (lnb scb : FVec Ideal S1x1024 .f32) (shb : FVec Ideal S1x1x1024 .f32)
    (hx : ∀ p j, xb (ix2 p j) = val_main_v14 (F := Ideal) x0 x1 x2 x3 x4 x5 (ix3 b (l p) j))
    (hln : ∀ j, lnb (ix2 0 j) = x6 (ix1 j)) (hsc : ∀ j, scb (ix2 0 j) = x7 (ix2 b j))
    (hsh : ∀ j, shb (ix3 0 0 j) = x8 (ix2 b j)) (p : Fin 512) (j : Fin 1024) :
    k0_pay1 (F := Ideal) xb lnb scb shb (ix2 p j) =
      val_main_v33 (F := Ideal) x0 x1 x2 x3 x4 x5 x6 x7 x8 (ix3 b (l p) j) := by
  rw [hidden_apply]
  pointwise [k0_pay1]
  simp only [hx, hln, hsc, hsh]

/-- The accumulator of the third scratch after a point: what it held plus one half of the down projection. -/
theorem half_block (hb : FVec Ideal S512x1024 .bf16) (gb ub : FVec Ideal S1024x1408 .bf16) (db : FVec Ideal S1408x1024 .bf16)
    (acc : FVec Ideal S512x1024 .f32) (c : Fin 1408 → Fin 2816)
    (hh : ∀ p j, hb (ix2 p j) = val_main_v33 (F := Ideal) x0 x1 x2 x3 x4 x5 x6 x7 x8 (ix3 b (l p) j))
    (hg : ∀ i k, gb (ix2 i k) = x10 (ix2 i (c k))) (hu : ∀ i k, ub (ix2 i k) = x11 (ix2 i (c k)))
    (hd : ∀ k j, db (ix2 k j) = x12 (ix2 (c k) j)) (p : Fin 512) (j : Fin 1024) :
    k0_pay3 (F := Ideal) hb gb ub acc db (ix2 p j) = acc (ix2 p j) + ∑ k : Fin 1408,
      val_main_v37 (F := Ideal) x0 x1 x2 x3 x4 x5 x6 x7 x8 x10 x11 (ix3 b (l p) (c k)) * x12 (ix2 (c k) j) := by
  simp only [gated_apply]
  pointwise [k0_pay3]
  simp only [hh, hg, hu, hd]

/-- The accumulator starts at zero. -/
theorem zero_block (y : S512x1024.Idx) : k0_pay2 (F := Ideal) y = 0 := by
  pointwise [k0_pay2]

/-- The block that a row block's second point writes. -/
theorem out_block (xb acc : FVec Ideal S512x1024 .f32) (gb : FVec Ideal S1x1x1024 .f32) (lnb : FVec Ideal S1x1024 .f32)
    (hx : ∀ p j, xb (ix2 p j) = val_main_v14 (F := Ideal) x0 x1 x2 x3 x4 x5 (ix3 b (l p) j))
    (ha : ∀ p j, acc (ix2 p j) = val_main_v38 (F := Ideal) x0 x1 x2 x3 x4 x5 x6 x7 x8 x10 x11 x12 (ix3 b (l p) j))
    (hg : ∀ j, gb (ix3 0 0 j) = x9 (ix2 b j)) (hln : ∀ j, lnb (ix2 0 j) = x13 (ix1 j)) (p : Fin 512) (j : Fin 1024) :
    k0_pay4 (F := Ideal) xb gb acc lnb (ix2 p j) =
      val_main_v55 (F := Ideal) x0 x1 x2 x3 x4 x5 x6 x7 x8 x9 x10 x11 x12 x13 (ix2 (row b (l p)) j) := by
  rw [out_apply]
  pointwise [k0_pay4]
  simp only [hx, ha, hg, hln]

end Cert.KernelIdeal.Ffn

end
-- ==== Proof.Ffn.Blocks.lean ====
/- What each input block of the mixing and feed-forward call holds: its part of the argument it is cut from. -/
module

public import proofs.«01_k».proof.Proof.Gen.KernelIdeal.Value
public import proofs.«01_k».proof.Proof.Ffn.Block
public import Idealize.ShloMosaic.Lib.Claim

@[expose] public section

set_option maxRecDepth 16384

noncomputable section

open Idealize.ShloMosaic Idealize.ShloMosaic.TcCoe Idealize.SL.Sem

namespace Cert.KernelIdeal.Ffn

open Cert.KernelIdeal Cert.KernelIdeal.Gen Cert.ReferenceIdeal.Read Cert.ReferenceIdeal.Ffn

variable (m : (ℓ : Loc nD τ sig) → Buf (Elt Ideal) ℓ) (c : Dev nD)

/-- The block index of every window at a point: row block `t / 2`, batch row `t / 8`, half `t % 2`. -/
theorem idx_val : ∀ t : Fin cfg0.N, win0_0.index t = ![t.val / 2, 0] ∧ win0_1.index t = ![t.val / 2, 0] ∧
    win0_2.index t = ![t.val / 2, 0] ∧ win0_3.index t = ![t.val / 2, 0] ∧ win0_4.index t = ![0, 0] ∧
    win0_5.index t = ![t.val / 8, 0, 0] ∧ win0_6.index t = ![0, 0] ∧ win0_7.index t = ![t.val / 8, 0, 0] ∧
    win0_8.index t = ![t.val / 8, 0, 0] ∧ win0_9.index t = ![t.val / 8, 0, 0] ∧ win0_10.index t = ![0, t.val % 2] ∧
    win0_11.index t = ![0, t.val % 2] ∧ win0_12.index t = ![t.val % 2, 0] ∧ win0_13.index t = ![0, 0] ∧
    win0_14.index t = ![t.val / 2, 0] := (by decide +kernel : ∀ t : Fin grid0.N, _)

/-- The sequence a point works on. -/
def seq (t : Fin cfg0.N) : Fin 8 := ⟨t.val / 8, by have := lt_of_lt_of_eq t.isLt N_0; omega⟩

/-- The position in that sequence of a row of the point's block. -/
def pos (t : Fin cfg0.N) (p : Fin 512) : Fin 2048 := ⟨t.val / 2 % 4 * 512 + p.val, by omega⟩

/-- The hidden unit behind a column of the point's half. -/
def unit (t : Fin cfg0.N) (k : Fin 1408) : Fin 2816 := ⟨t.val % 2 * 1408 + k.val, by omega⟩

/-- Attention outputs: the rows of the block. -/
theorem read_a (t : Fin cfg0.N) (p : Fin 512) (k : Fin 512) : iblk m c 1 t (ix2 p k) = m ((c : Thread nD τ).loc main_arg1) (ix2 (row (seq t) (pos t p)) k) := by
  have ht := lt_of_lt_of_eq t.isLt N_0
  unfold iblk
  blk_simp [idx_val t]
  entry_read
  pointwise [seq, pos, unit, row]
  blk_ext [idx_val t]

/-- Recurrence outputs. -/
theorem read_s (t : Fin cfg0.N) (p : Fin 512) (k : Fin 256) : iblk m c 2 t (ix2 p k) = m ((c : Thread nD τ).loc main_arg2) (ix2 (row (seq t) (pos t p)) k) := by
  have ht := lt_of_lt_of_eq t.isLt N_0
  unfold iblk
  blk_simp [idx_val t]
  entry_read
  pointwise [seq, pos, unit, row]
  blk_ext [idx_val t]

/-- Pooled outputs. -/
theorem read_p (t : Fin cfg0.N) (p : Fin 512) (k : Fin 256) : iblk m c 3 t (ix2 p k) = m ((c : Thread nD τ).loc main_arg3) (ix2 (row (seq t) (pos t p)) k) := by
  have ht := lt_of_lt_of_eq t.isLt N_0
  unfold iblk
  blk_simp [idx_val t]
  entry_read
  pointwise [seq, pos, unit, row]
  blk_ext [idx_val t]

/-- The residual stream, flattened on the host. -/
theorem read_x (t : Fin cfg0.N) (p : Fin 512) (j : Fin 1024) : iblk m c 0 t (ix2 p j) = m ((c : Thread nD τ).loc main_arg0) (ix3 (seq t) (pos t p) j) := by
  have ht := lt_of_lt_of_eq t.isLt N_0
  unfold iblk
  blk_simp [idx_val t]
  entry_read
  pointwise [seq, pos, unit, row]
  blk_ext [idx_val t]

/-- The output weight, whole. -/
theorem read_wo (t : Fin cfg0.N) (k j : Fin 1024) : iblk m c 4 t (ix2 k j) = m ((c : Thread nD τ).loc main_arg4) (ix2 k j) := by
  have ht := lt_of_lt_of_eq t.isLt N_0
  unfold iblk
  blk_simp [idx_val t]
  entry_read
  pointwise [seq, pos, unit, row]
  blk_ext [idx_val t]

/-- A modulation row of the sequence. -/
theorem read_g1 (t : Fin cfg0.N) (j : Fin 1024) : iblk m c 5 t (ix3 0 0 j) = m ((c : Thread nD τ).loc main_arg5) (ix2 (seq t) j) := by
  have ht := lt_of_lt_of_eq t.isLt N_0
  unfold iblk
  blk_simp [idx_val t]
  entry_read
  pointwise [seq, pos, unit, row]
  blk_ext [idx_val t]

/-- A modulation row of the sequence. -/
theorem read_sc (t : Fin cfg0.N) (j : Fin 1024) : iblk m c 7 t (ix3 0 0 j) = m ((c : Thread nD τ).loc main_arg7) (ix2 (seq t) j) := by
  have ht := lt_of_lt_of_eq t.isLt N_0
  unfold iblk
  blk_simp [idx_val t]
  entry_read
  pointwise [seq, pos, unit, row]
  blk_ext [idx_val t]

/-- A modulation row of the sequence. -/
theorem read_sh (t : Fin cfg0.N) (j : Fin 1024) : iblk m c 8 t (ix3 0 0 j) = m ((c : Thread nD τ).loc main_arg8) (ix2 (seq t) j) := by
  have ht := lt_of_lt_of_eq t.isLt N_0
  unfold iblk
  blk_simp [idx_val t]
  entry_read
  pointwise [seq, pos, unit, row]
  blk_ext [idx_val t]

/-- A modulation row of the sequence. -/
theorem read_g2 (t : Fin cfg0.N) (j : Fin 1024) : iblk m c 9 t (ix3 0 0 j) = m ((c : Thread nD τ).loc main_arg9) (ix2 (seq t) j) := by
  have ht := lt_of_lt_of_eq t.isLt N_0
  unfold iblk
  blk_simp [idx_val t]
  entry_read
  pointwise [seq, pos, unit, row]
  blk_ext [idx_val t]

/-- A normalization weight. -/
theorem read_ln (t : Fin cfg0.N) (j : Fin 1024) : iblk m c 6 t (ix2 0 j) = m ((c : Thread nD τ).loc main_arg6) (ix1 j) := by
  have ht := lt_of_lt_of_eq t.isLt N_0
  unfold iblk
  blk_simp [idx_val t]
  entry_read
  pointwise [seq, pos, unit, row]
  blk_ext [idx_val t]

/-- A normalization weight. -/
theorem read_lnf (t : Fin cfg0.N) (j : Fin 1024) : iblk m c 13 t (ix2 0 j) = m ((c : Thread nD τ).loc main_arg13) (ix1 j) := by
  have ht := lt_of_lt_of_eq t.isLt N_0
  unfold iblk
  blk_simp [idx_val t]
  entry_read
  pointwise [seq, pos, unit, row]
  blk_ext [idx_val t]

/-- The point's half of an up projection. -/
theorem read_wg (t : Fin cfg0.N) (i : Fin 1024) (k : Fin 1408) : iblk m c 10 t (ix2 i k) = m ((c : Thread nD τ).loc main_arg10) (ix2 i (unit t k)) := by
  have ht := lt_of_lt_of_eq t.isLt N_0
  unfold iblk
  blk_simp [idx_val t]
  entry_read
  pointwise [seq, pos, unit, row]
  blk_ext [idx_val t]

/-- The point's half of an up projection. -/
theorem read_wu (t : Fin cfg0.N) (i : Fin 1024) (k : Fin 1408) : iblk m c 11 t (ix2 i k) = m ((c : Thread nD τ).loc main_arg11) (ix2 i (unit t k)) := by
  have ht := lt_of_lt_of_eq t.isLt N_0
  unfold iblk
  blk_simp [idx_val t]
  entry_read
  pointwise [seq, pos, unit, row]
  blk_ext [idx_val t]

/-- The point's half of the down projection. -/
theorem read_wd (t : Fin cfg0.N) (k : Fin 1408) (j : Fin 1024) : iblk m c 12 t (ix2 k j) = m ((c : Thread nD τ).loc main_arg12) (ix2 (unit t k) j) := by
  have ht := lt_of_lt_of_eq t.isLt N_0
  unfold iblk
  blk_simp [idx_val t]
  entry_read
  pointwise [seq, pos, unit, row]
  blk_ext [idx_val t]

end Cert.KernelIdeal.Ffn

end
-- ==== Proof.Ffn.Bridge.lean ====
/- What the result array of the mixing and feed-forward call holds after the run. -/
module

public import proofs.«01_k».proof.Proof.Gen.KernelIdeal.Value
public import proofs.«01_k».proof.Proof.Ffn.Block
public import proofs.«01_k».proof.Proof.Ffn.Blocks
public import Idealize.ShloMosaic.Lib.Pipeline.ReadBack

@[expose] public section

set_option maxRecDepth 16384

noncomputable section

open Idealize.ShloMosaic Idealize.ShloMosaic.TcCoe Idealize.SL.Sem

namespace Cert.KernelIdeal.Ffn

open Cert.KernelIdeal Cert.KernelIdeal.Gen Cert.ReferenceIdeal.Read Cert.ReferenceIdeal.Ffn

variable (m : (ℓ : Loc nD τ sig) → Buf (Elt Ideal) ℓ) (c : Dev nD)

/-- The stream block that a row block's first point computes. -/
theorem stream_point (t : Fin cfg0.N) (p : Fin 512) (j : Fin 1024) :
    k0_pay5 (F := Ideal) (iblk m c 1 t) (View.ld (iblk m c 4 t) (Rect.unit ![0, 0] ![512, 1024] inb_S1024x1024_S512x1024_0_0))
      (iblk m c 2 t) (View.ld (iblk m c 4 t) (Rect.unit ![512, 0] ![256, 1024] inb_S1024x1024_S256x1024_512_0))
      (iblk m c 3 t) (View.ld (iblk m c 4 t) (Rect.unit ![768, 0] ![256, 1024] inb_S1024x1024_S256x1024_768_0))
      (iblk m c 0 t) (iblk m c 5 t) (ix2 p j) =
    val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (seq t) (pos t p) j) := by
  refine stream_block _ _ _ _ _ _ (seq t) (pos t) _ _ _ _ _ _ _ _ (read_x m c t) (read_a m c t) (read_s m c t) (read_p m c t)
    (fun k j => ?_) (fun k j => ?_) (fun k j => ?_) (read_g1 m c t) p j
  all_goals pointwise
  all_goals exact (read_wo m c t _ _).trans (congrArg _ (by blk_ext))

/-- The hidden block that a row block's first point computes. -/
theorem hidden_point (t : Fin cfg0.N) (X : FVec Ideal S512x1024 .f32)
    (hX : ∀ p j, X (ix2 p j) = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (seq t) (pos t p) j)) (p : Fin 512) (j : Fin 1024) :
    k0_pay1 (F := Ideal) X (k0_pay7 (iblk m c 6 t)) (k0_pay8 (iblk m c 7 t)) (iblk m c 8 t) (ix2 p j) =
    val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (seq t) (pos t p) j) := by
  refine hidden_block _ _ _ _ _ _ _ _ _ (seq t) (pos t) _ _ _ _ hX (fun j => ?_) (fun j => ?_) (read_sh m c t) p j
  · pointwise [k0_pay7]
    exact read_ln m c t j
  · pointwise [k0_pay8]
    exact read_sc m c t j

/-- After a row block's first point: the stream, the hidden block, and half of the down projection. -/
theorem first_point (t : Fin cfg0.N) (h : t.val % 2 = 0) (p : Fin 512) (j : Fin 1024) :
    (outsAt0 m c t.val t.isLt).2.1 (ix2 p j) = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (seq t) (pos t p) j) ∧
    (outsAt0 m c t.val t.isLt).2.2.1 (ix2 p j) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (seq t) (pos t p) j) ∧
    (outsAt0 m c t.val t.isLt).2.2.2 (ix2 p j) = ∑ k : Fin 1408,
      val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (ix3 (seq t) (pos t p) (unit t k)) * (m ((c : Thread nD τ).loc main_arg12)) (ix2 (unit t k) j) := by
  rw [outsAt0_A m c t h (by omega)]
  refine ⟨?_, ?_, ?_⟩ <;> frame_out
  · pointwise [k0_pay6]
    exact stream_point m c t p j
  · exact hidden_point m c t _ (stream_point m c t) p j
  · refine (half_block _ _ _ _ _ _ _ _ _ _ _ _ (seq t) (pos t) _ _ _ _ _ (unit t) (hidden_point m c t _ (stream_point m c t))
      (read_wg m c t) (read_wu m c t) (read_wd m c t) p j).trans ?_
    rw [zero_block, zero_add]

/-- After a row block's second point the output block holds the reference's rows. -/
theorem second_point (t : Fin cfg0.N) (h : t.val % 2 = 1) (p : Fin 512) (j : Fin 1024) :
    (outsAt0 m c t.val t.isLt).1 (ix2 p j) =
      val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (row (seq t) (pos t p)) j) := by
  have ht := lt_of_lt_of_eq t.isLt N_0
  obtain ⟨u, hu⟩ : ∃ u : Fin cfg0.N, u.val = t.val - 1 := ⟨⟨t.val - 1, by omega⟩, rfl⟩
  have hs : seq u = seq t := Fin.ext (by simp only [seq]; omega)
  have hp : pos u = pos t := funext fun p => Fin.ext (by simp only [pos]; omega)
  have hf := fun p j => first_point m c u (by omega) p j
  rw [hs, hp] at hf
  simp only [hu] at hf
  rw [outsAt0_B m c t (by omega) h]
  frame_out
  simp only [read_unread_whole]
  refine out_block _ _ _ _ _ _ _ _ _ _ _ _ _ _ (seq t) (pos t) _ _ _ _ (fun p j => (hf p j).1) (fun p j => ?_)
    (read_g2 m c t) (read_lnf m c t) p j
  refine (half_block _ _ _ _ _ _ _ _ _ _ _ _ (seq t) (pos t) _ _ _ _ _ (unit t) (fun p j => (hf p j).2.1)
      (read_wg m c t) (read_wu m c t) (read_wd m c t) p j).trans ?_
  rw [(hf p j).2.2, down_apply]
  have h0 : ∀ k : Fin 1408, unit u k = ⟨k, by omega⟩ := fun k => Fin.ext (by simp only [unit]; omega)
  have h1 : ∀ k : Fin 1408, unit t k = ⟨1408 + k, by omega⟩ := fun k => Fin.ext (by simp only [unit]; omega)
  simp only [h0, h1]

/-- The result array after the run is the reference's result of the arguments. -/
theorem final : (dats m 0 c).arrAt 14 cfg0.N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  have ht := lt_of_lt_of_eq t.isLt N_0
  have h1 : t.val % 2 = 1 := (flush0_14 t).mp hf
  blk_simp
  rw [after0_14]
  have e : ((cfg0.win 14).blk t).view.emb y = ix2 (row (seq t) (pos t (y 0))) (y 1) := by
    blk_ext [idx_val t, row, seq, pos]
  rw [e]
  exact (congrArg (outsAt0 m c t.val t.isLt).1 (ix2_eta y).symm).trans (second_point m c t h1 (y 0) (y 1))

end Cert.KernelIdeal.Ffn

end
-- ==== Proof.Inproj.Ref.lean ====
/- What the reference of the input projection computes, element by element: the normalized and modulated stream, its
   projection to 2120 columns, and the results cut from it, four of them turned by the rotary position embedding. -/
module

public import proofs.«01_k».proof.Proof.Gen.InprojRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojRefIdeal.Inproj

open Cert.InprojRefIdeal Cert.InprojRefIdeal.Read

/-- The row of the flattened arrays that holds position `l` of sequence `b`. -/
def row (b : Fin 8) (l : Fin 2048) : Fin 16384 := ⟨b * 2048 + l, by omega⟩

/-- A head of 64 lanes turned by the angles whose cosines are `co` and whose sines are `si`: lane `e` of the first half
    is paired with lane `32 + e`. -/
def turned (q : Fin 64 → EReal) (co si : Fin 32 → EReal) (e : Fin 64) : EReal :=
  if h : e.val < 32 then q e * co ⟨e, h⟩ - q ⟨32 + e, by omega⟩ * si ⟨e, h⟩
  else q e * co ⟨e - 32, by omega⟩ + q ⟨e - 32, by omega⟩ * si ⟨e - 32, by omega⟩

/-- The cosines of position `l`. -/
def cosRow (l : Fin 2048) (i : Fin 32) : EReal := val_main_v46 (F := Ideal) (ix2 l i)

/-- The sines of position `l`. -/
def sinRow (l : Fin 2048) (i : Fin 32) : EReal := val_main_v48 (F := Ideal) (ix2 l i)

variable (x0 : FVec Ideal S8x2048x1024 .f32) (x1 : FVec Ideal S1024 .f32) (x2 x3 : FVec Ideal S8x1024 .f32)
  (x4 : FVec Ideal S1024x2120 .f32)

/-- Column `c` of the projection of position `l` of sequence `b`. -/
def col (b : Fin 8) (l : Fin 2048) (c : Fin 2120) : EReal := val_main_v22 (F := Ideal) x0 x1 x2 x3 x4 (ix3 b l c)

/-- The normalized and modulated stream. -/
theorem hidden_apply (b : Fin 8) (l : Fin 2048) (j : Fin 1024) :
    val_main_v21 (F := Ideal) x0 x1 x2 x3 (ix3 b l j) =
      x0 (ix3 b l j) * Ideal.rsqrt (Ideal.div (∑ i, x0 (ix3 b l i) * x0 (ix3 b l i)) (Ideal.ofBits FTy.f32 1149239296#32)
          + Ideal.ofBits FTy.f32 897988541#32) * x1 (ix1 j) * (1 + x2 (ix2 b j)) + x3 (ix2 b j) := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_cst, val_main_cst_0, val_main_cst_1, val_main_cst_2]

/-- A column of the projection is a contraction with the stream. -/
theorem col_apply (b : Fin 8) (l : Fin 2048) (c : Fin 2120) : col x0 x1 x2 x3 x4 b l c =
    ∑ i, val_main_v21 (F := Ideal) x0 x1 x2 x3 (ix3 b l i) * x4 (ix2 i c) := by
  unfold col
  pointwise [val_main_v22]

/-- The turned queries. -/
theorem turned_q (b : Fin 8) (l : Fin 2048) (h : Fin 8) (e : Fin 64) : val_main_v62 (F := Ideal) x0 x1 x2 x3 x4 (ix4 b l h e) =
    turned (fun e => col x0 x1 x2 x3 x4 b l ⟨h * 64 + e, by omega⟩) (cosRow l) (sinRow l) e := by
  pointwise [val_main_v62, val_main_v61, val_main_v60, val_main_v59, val_main_v58, val_main_v57, val_main_v56, val_main_v55,
    val_main_v54, val_main_v53, val_main_v52, val_main_v51, val_main_v50, val_main_v49, val_main_v47, val_main_v33, val_main_v23]
  unfold turned col cosRow sinRow
  split
  · rfl
  · rename_i hn
    simp only [Nat.add_sub_of_le (Nat.le_of_not_lt hn)]

/-- The turned keys. -/
theorem turned_k (b : Fin 8) (l : Fin 2048) (h : Fin 2) (e : Fin 64) : val_main_v92 (F := Ideal) x0 x1 x2 x3 x4 (ix4 b l h e) =
    turned (fun e => col x0 x1 x2 x3 x4 b l ⟨512 + (h * 64 + e), by omega⟩) (cosRow l) (sinRow l) e := by
  pointwise [val_main_v92, val_main_v91, val_main_v90, val_main_v89, val_main_v88, val_main_v87, val_main_v86, val_main_v85,
    val_main_v84, val_main_v83, val_main_v82, val_main_v81, val_main_v80, val_main_v79, val_main_v77, val_main_v63, val_main_v24]
  unfold turned col cosRow sinRow
  split
  · rfl
  · rename_i hn
    simp only [Nat.add_sub_of_le (Nat.le_of_not_lt hn)]
    rfl

/-- The turned indexer queries. -/
theorem turned_qi (b : Fin 8) (l : Fin 2048) (h : Fin 4) (e : Fin 64) :
    val_main_v123 (F := Ideal) x0 x1 x2 x3 x4 (ix4 b l h e) =
    turned (fun e => col x0 x1 x2 x3 x4 b l ⟨768 + (h * 64 + e), by omega⟩) (cosRow l) (sinRow l) e := by
  pointwise [val_main_v123, val_main_v122, val_main_v121, val_main_v120, val_main_v119, val_main_v118, val_main_v117,
    val_main_v116, val_main_v115, val_main_v114, val_main_v113, val_main_v112, val_main_v111, val_main_v110, val_main_v108,
    val_main_v94, val_main_v26]
  unfold turned col cosRow sinRow
  split
  · rfl
  · rename_i hn
    simp only [Nat.add_sub_of_le (Nat.le_of_not_lt hn)]
    rfl

/-- The turned indexer keys. -/
theorem turned_ki (b : Fin 8) (l : Fin 2048) (e : Fin 64) : val_main_v154 (F := Ideal) x0 x1 x2 x3 x4 (ix3 b l e) =
    turned (fun e => col x0 x1 x2 x3 x4 b l ⟨1024 + e, by omega⟩) (cosRow l) (sinRow l) e := by
  pointwise [val_main_v154, val_main_v153, val_main_v152, val_main_v151, val_main_v150, val_main_v149, val_main_v148,
    val_main_v147, val_main_v146, val_main_v145, val_main_v144, val_main_v143, val_main_v142, val_main_v141, val_main_v140,
    val_main_v138, val_main_v124, val_main_v27]
  unfold turned col cosRow sinRow
  split
  · rfl
  · rename_i hn
    simp only [Nat.add_sub_of_le (Nat.le_of_not_lt hn)]
    rfl

/-- Result 1: the scaled queries, flattened. -/
theorem q_apply (b : Fin 8) (l : Fin 2048) (j : Fin 512) : val_main_v158 (F := Ideal) x0 x1 x2 x3 x4 (ix2 (row b l) j) =
    turned (fun e => col x0 x1 x2 x3 x4 b l ⟨j / 64 * 64 + e, by omega⟩) (cosRow l) (sinRow l) ⟨j % 64, by omega⟩
      * Ideal.ofBits FTy.f32 1040187392#32 := by
  pointwise [val_main_v158, val_main_v157, val_main_v156, val_main_v155, val_main_cst_11, row, turned_q]

/-- Result 4: the scaled indexer queries, flattened. -/
theorem qi_apply (b : Fin 8) (l : Fin 2048) (j : Fin 256) : val_main_v162 (F := Ideal) x0 x1 x2 x3 x4 (ix2 (row b l) j) =
    turned (fun e => col x0 x1 x2 x3 x4 b l ⟨768 + (j / 64 * 64 + e), by omega⟩) (cosRow l) (sinRow l) ⟨j % 64, by omega⟩
      * Ideal.ofBits FTy.f32 1040187392#32 := by
  pointwise [val_main_v162, val_main_v161, val_main_v160, val_main_v159, val_main_cst_12, row, turned_qi]

/-- Result 13: the keys, flattened. -/
theorem kb_apply (b : Fin 8) (l : Fin 2048) (j : Fin 128) : val_main_v171 (F := Ideal) x0 x1 x2 x3 x4 (ix2 (row b l) j) =
    turned (fun e => col x0 x1 x2 x3 x4 b l ⟨512 + (j / 64 * 64 + e), by omega⟩) (cosRow l) (sinRow l) ⟨j % 64, by omega⟩ := by
  pointwise [val_main_v171, val_main_v170, row, turned_k]

/-- Result 15: the indexer keys, flattened. -/
theorem kib_apply (b : Fin 8) (l : Fin 2048) (j : Fin 64) : val_main_v175 (F := Ideal) x0 x1 x2 x3 x4 (ix2 (row b l) j) =
    turned (fun e => col x0 x1 x2 x3 x4 b l ⟨1024 + e, by omega⟩) (cosRow l) (sinRow l) j := by
  pointwise [val_main_v175, val_main_v174, row, turned_ki]

/-- Result 3: the values. -/
theorem v_apply (b : Fin 8) (l : Fin 2048) (h : Fin 2) (e : Fin 64) : val_main_v93 (F := Ideal) x0 x1 x2 x3 x4 (ix4 b l h e) =
    col x0 x1 x2 x3 x4 b l ⟨640 + (h * 64 + e), by omega⟩ := by
  pointwise [val_main_v93, val_main_v25, col]

/-- Result 14: the values, flattened. -/
theorem vb_apply (b : Fin 8) (l : Fin 2048) (j : Fin 128) : val_main_v173 (F := Ideal) x0 x1 x2 x3 x4 (ix2 (row b l) j) =
    col x0 x1 x2 x3 x4 b l ⟨640 + j, by omega⟩ := by
  pointwise [val_main_v173, val_main_v172, val_main_v93, val_main_v25, row, col]

/-- Result 6: the indexer's head weights. -/
theorem wi_apply (b : Fin 8) (l : Fin 2048) (j : Fin 4) : val_main_v163 (F := Ideal) x0 x1 x2 x3 x4 (ix2 (row b l) j) =
    col x0 x1 x2 x3 x4 b l ⟨1088 + j, by omega⟩ := by
  pointwise [val_main_v163, val_main_v28, row, col]

/-- Result 7: the recurrence's step sizes before their bias. -/
theorem dt_apply (b : Fin 8) (l : Fin 2048) (j : Fin 4) : val_main_v164 (F := Ideal) x0 x1 x2 x3 x4 (ix2 (row b l) j) =
    col x0 x1 x2 x3 x4 b l ⟨1860 + j, by omega⟩ := by
  pointwise [val_main_v164, val_main_v31, row, col]

/-- Result 8: the gate of the recurrence. -/
theorem z_apply (b : Fin 8) (l : Fin 2048) (j : Fin 256) : val_main_v165 (F := Ideal) x0 x1 x2 x3 x4 (ix2 (row b l) j) =
    col x0 x1 x2 x3 x4 b l ⟨1092 + j, by omega⟩ := by
  pointwise [val_main_v165, val_main_v29, row, col]

/-- Result 9: the convolution's input, flattened. -/
theorem xbc_apply (b : Fin 8) (l : Fin 2048) (j : Fin 512) : val_main_v166 (F := Ideal) x0 x1 x2 x3 x4 (ix2 (row b l) j) =
    col x0 x1 x2 x3 x4 b l ⟨1348 + j, by omega⟩ := by
  pointwise [val_main_v166, val_main_v30, row, col]

/-- Result 10: the pooling's input, flattened. -/
theorem xp_apply (b : Fin 8) (l : Fin 2048) (j : Fin 256) : val_main_v167 (F := Ideal) x0 x1 x2 x3 x4 (ix2 (row b l) j) =
    col x0 x1 x2 x3 x4 b l ⟨1864 + j, by omega⟩ := by
  pointwise [val_main_v167, val_main_v32, row, col]

/-- Result 11: the last three positions of the convolution's input. -/
theorem conv_apply (b : Fin 8) (i : Fin 3) (j : Fin 512) : val_main_v168 (F := Ideal) x0 x1 x2 x3 x4 (ix3 b i j) =
    col x0 x1 x2 x3 x4 b ⟨2045 + i, by omega⟩ ⟨1348 + j, by omega⟩ := by
  pointwise [val_main_v168, val_main_v30, col]

/-- Result 12: the last fifteen positions of the pooling's input. -/
theorem pool_apply (b : Fin 8) (i : Fin 15) (j : Fin 256) : val_main_v169 (F := Ideal) x0 x1 x2 x3 x4 (ix3 b i j) =
    col x0 x1 x2 x3 x4 b ⟨2033 + i, by omega⟩ ⟨1864 + j, by omega⟩ := by
  pointwise [val_main_v169, val_main_v32, col]

end Cert.InprojRefIdeal.Inproj

end
-- ==== Proof.Inproj.Block.lean ====
/- What one grid point of the input projection computes, over blocks that hold the reference's operands. -/
module

public import proofs.«01_k».proof.Proof.Gen.InprojIdeal.Skeleton
public import proofs.«01_k».proof.Proof.Inproj.Ref

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojRefIdeal.Read Cert.InprojRefIdeal.Inproj

/-- The lane mask: set in the first half of every head of 64 lanes. -/
theorem mask (j : Fin 128) : k0_pay8 (Scalar.select (Scalar.cmpi .eq 64#32 0#32) 1#32 64#32) k0_pay6 k0_pay7 (ix2 0 j) =
    if j.val % 64 < 32 then 1#1 else 0#1 := by
  pointwise [k0_pay8, k0_pay6, k0_pay7]
  revert j
  decide +kernel

/-- The two lane rotations, picked by the mask and combined with the tables of cosines and signed sines, turn every head. -/
theorem turn_lane (s : Fin 128 → EReal) (co si : Fin 32 → EReal) (cb sb : EReal) (m : BitVec 1) (j : Fin 128)
    (hc : cb = co ⟨j % 32, by omega⟩) (hs : sb = if j.val % 64 < 32 then -si ⟨j % 32, by omega⟩ else si ⟨j % 32, by omega⟩)
    (hm : m = if j.val % 64 < 32 then 1#1 else 0#1) :
    s j * cb + Scalar.select m (s ⟨(j + 128 - 96) % 128, by omega⟩) (s ⟨(j + 128 - 32) % 128, by omega⟩) * sb =
      turned (fun e => s ⟨j / 64 * 64 + e, by omega⟩) co si ⟨j % 64, by omega⟩ := by
  subst hc hs hm
  unfold turned
  have e0 : (⟨j / 64 * 64 + j % 64, by omega⟩ : Fin 128) = j := Fin.ext (by simp only; omega)
  by_cases h : j.val % 64 < 32
  · have e1 : (⟨j % 32, by omega⟩ : Fin 32) = ⟨j % 64, h⟩ := Fin.ext (by simp only; omega)
    have e2 : (⟨(j + 128 - 96) % 128, by omega⟩ : Fin 128) = ⟨j / 64 * 64 + (32 + j % 64), by omega⟩ :=
      Fin.ext (by simp only; omega)
    simp only [h, if_true, dif_pos, e0, e1, e2]
    rw [show ∀ x y : EReal, Scalar.select (1#1) x y = x from fun _ _ => rfl, mul_neg, ← sub_eq_add_neg]
  · have e1 : (⟨j % 32, by omega⟩ : Fin 32) = ⟨j % 64 - 32, by omega⟩ := Fin.ext (by simp only; omega)
    have e2 : (⟨(j + 128 - 32) % 128, by omega⟩ : Fin 128) = ⟨j / 64 * 64 + (j % 64 - 32), by omega⟩ :=
      Fin.ext (by simp only; omega)
    simp only [h, if_false, dif_neg, not_false_eq_true, e0, e1, e2]
    rfl

variable (x0 : FVec Ideal S8x2048x1024 .f32) (x1 : FVec Ideal S1024 .f32) (x2 x3 : FVec Ideal S8x1024 .f32)
  (x4 : FVec Ideal S1024x2120 .f32) (b : Fin 8) (l : Fin 512 → Fin 2048)

/-- The normalized and modulated rows of a block. -/
theorem hidden_block (xb : FVec Ideal S512x1024 .f32) (lnb : FVec Ideal S1x1024 .f32) (scb shb : FVec Ideal S1x1x1024 .f32)
    (hx : ∀ p j, xb (ix2 p j) = x0 (ix3 b (l p) j)) (hln : ∀ j, lnb (ix2 0 j) = x1 (ix1 j))
    (hsc : ∀ j, scb (ix3 0 0 j) = x2 (ix2 b j)) (hsh : ∀ j, shb (ix3 0 0 j) = x3 (ix2 b j)) (p : Fin 512) (j : Fin 1024) :
    k0_pay3 (F := Ideal) xb lnb scb shb (ix2 p j) = val_main_v21 (F := Ideal) x0 x1 x2 x3 (ix3 b (l p) j) := by
  rw [hidden_apply]
  pointwise [k0_pay3]
  simp only [hx, hln, hsc, hsh]

/-- The rows of a block contracted with one column of the weights. -/
theorem col_block (hb : FVec Ideal S512x1024 .bf16) (w : Fin 1024 → EReal) (c : Fin 2120)
    (hh : ∀ p j, hb (ix2 p j) = val_main_v21 (F := Ideal) x0 x1 x2 x3 (ix3 b (l p) j)) (hw : ∀ k, w k = x4 (ix2 k c)) (p : Fin 512) :
    ∑ k, hb (ix2 p k) * w k = col x0 x1 x2 x3 x4 b (l p) c := by
  rw [col_apply]
  simp only [hh, hw]

/-- A turned head of the block's projections is a turned head of the reference's columns. -/
theorem head_block (hb : FVec Ideal S512x1024 .bf16) (w : Fin 64 → Fin 1024 → EReal) (c : Fin 64 → Fin 2120) (co si : Fin 32 → EReal)
    (hh : ∀ p j, hb (ix2 p j) = val_main_v21 (F := Ideal) x0 x1 x2 x3 (ix3 b (l p) j))
    (hw : ∀ e k, w e k = x4 (ix2 k (c e))) (p : Fin 512) (e e' : Fin 64) (he : e.val = e'.val) :
    turned (fun e => ∑ k, hb (ix2 p k) * w e k) co si e = turned (fun e => col x0 x1 x2 x3 x4 b (l p) (c e)) co si e' := by
  rw [Fin.ext he]
  exact congrArg (fun q => turned q co si e') (funext fun e => col_block x0 x1 x2 x3 x4 b l hb (w e) (c e) hh (hw e) p)

variable (hb : FVec Ideal S512x1024 .bf16) (cb sb : FVec Ideal S512x128 .f32) (mb : IVec S1x128 1) (wb : FVec Ideal S1024x128 .bf16)
  (hh : ∀ p j, hb (ix2 p j) = val_main_v21 (F := Ideal) x0 x1 x2 x3 (ix3 b (l p) j))
  (hc : ∀ p (j : Fin 128), cb (ix2 p j) = cosRow (l p) ⟨j % 32, by omega⟩)
  (hs : ∀ p (j : Fin 128), sb (ix2 p j) = if j.val % 64 < 32 then -sinRow (l p) ⟨j % 32, by omega⟩ else sinRow (l p) ⟨j % 32, by omega⟩)
  (hm : ∀ j : Fin 128, mb (ix2 0 j) = if j.val % 64 < 32 then 1#1 else 0#1)

include hh hc hs

/-- Queries, lanes 0 to 127. -/
theorem q_block0 (hw : ∀ k (j : Fin 128), wb (ix2 k j) = x4 (ix2 k ⟨j, by omega⟩)) (p : Fin 512) (j : Fin 128) :
    k0_pay9 (F := Ideal) hb cb sb (Scalar.select (Scalar.cmpi .eq 64#32 0#32) 1#32 64#32) k0_pay6 k0_pay7 wb (ix2 p j) =
      val_main_v158 (F := Ideal) x0 x1 x2 x3 x4 (ix2 (row b (l p)) ⟨j, by omega⟩) := by
  rw [q_apply]
  pointwise [k0_pay9]
  rw [turn_lane (fun j => ∑ k, hb (ix2 p k) * wb (ix2 k j)) (cosRow (l p)) (sinRow (l p)) _ _ _ j (hc p j) (hs p j) (mask j)]
  exact congrArg (· * Ideal.ofBits FTy.f32 1040187392#32) (head_block x0 x1 x2 x3 x4 b l hb _ _ _ _ hh (fun e k =>
    (hw k _).trans (congrArg (fun c => x4 (ix2 k c)) (Fin.ext (by simp only)))) p _ _ (by simp only))

/-- Queries, lanes 128 to 255. -/
theorem q_block1 (hw : ∀ k (j : Fin 128), wb (ix2 k j) = x4 (ix2 k ⟨128 + j, by omega⟩)) (p : Fin 512) (j : Fin 128) :
    k0_pay10 (F := Ideal) hb cb sb (Scalar.select (Scalar.cmpi .eq 64#32 0#32) 1#32 64#32) k0_pay6 k0_pay7 wb (ix2 p j) =
      val_main_v158 (F := Ideal) x0 x1 x2 x3 x4 (ix2 (row b (l p)) ⟨128 + j, by omega⟩) := by
  rw [q_apply]
  pointwise [k0_pay10]
  rw [turn_lane (fun j => ∑ k, hb (ix2 p k) * wb (ix2 k j)) (cosRow (l p)) (sinRow (l p)) _ _ _ j (hc p j) (hs p j) (mask j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

include hm

/-- Queries, lanes 256 to 383. -/
theorem q_block2 (hw : ∀ k (j : Fin 128), wb (ix2 k j) = x4 (ix2 k ⟨256 + j, by omega⟩)) (p : Fin 512) (j : Fin 128) :
    k0_pay11 (F := Ideal) hb cb sb mb wb (ix2 p j) =
      val_main_v158 (F := Ideal) x0 x1 x2 x3 x4 (ix2 (row b (l p)) ⟨256 + j, by omega⟩) := by
  rw [q_apply]
  pointwise [k0_pay11]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

/-- Queries, lanes 384 to 511. -/
theorem q_block3 (hw : ∀ k (j : Fin 128), wb (ix2 k j) = x4 (ix2 k ⟨384 + j, by omega⟩)) (p : Fin 512) (j : Fin 128) :
    k0_pay12 (F := Ideal) hb cb sb mb wb (ix2 p j) =
      val_main_v158 (F := Ideal) x0 x1 x2 x3 x4 (ix2 (row b (l p)) ⟨384 + j, by omega⟩) := by
  rw [q_apply]
  pointwise [k0_pay12]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

/-- Indexer queries, lanes 0 to 127. -/
theorem qi_block0 (hw : ∀ k (j : Fin 128), wb (ix2 k j) = x4 (ix2 k ⟨768 + j, by omega⟩)) (p : Fin 512) (j : Fin 128) :
    k0_pay19 (F := Ideal) hb cb sb mb wb (ix2 p j) =
      val_main_v162 (F := Ideal) x0 x1 x2 x3 x4 (ix2 (row b (l p)) ⟨j, by omega⟩) := by
  rw [qi_apply]
  pointwise [k0_pay19]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only)))) p _ _ (by simp only))

/-- Indexer queries, lanes 128 to 255. -/
theorem qi_block1 (hw : ∀ k (j : Fin 128), wb (ix2 k j) = x4 (ix2 k ⟨896 + j, by omega⟩)) (p : Fin 512) (j : Fin 128) :
    k0_pay21 (F := Ideal) hb cb sb mb (k0_pay20 wb) (ix2 p j) =
      val_main_v162 (F := Ideal) x0 x1 x2 x3 x4 (ix2 (row b (l p)) ⟨128 + j, by omega⟩) := by
  rw [qi_apply]
  pointwise [k0_pay21, k0_pay20]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

/-- Keys. -/
theorem k_block (hw : ∀ k (j : Fin 128), wb (ix2 k j) = x4 (ix2 k ⟨512 + j, by omega⟩)) (p : Fin 512) (j : Fin 128) :
    k0_pay15 (F := Ideal) cb sb mb (k0_pay13 hb wb) (k0_pay14 hb wb) (ix2 p j) =
      val_main_v171 (F := Ideal) x0 x1 x2 x3 x4 (ix2 (row b (l p)) ⟨j, by omega⟩) := by
  rw [kb_apply]
  pointwise [k0_pay15, k0_pay14, k0_pay13]
  rw [turn_lane (fun j => ∑ k, hb (ix2 p k) * wb (ix2 k j)) (cosRow (l p)) (sinRow (l p)) _ _ _ j (hc p j) (hs p j) (hm j)]
  exact (head_block x0 x1 x2 x3 x4 b l hb _ _ _ _ hh (fun e k =>
    (hw k _).trans (congrArg (fun c => x4 (ix2 k c)) (Fin.ext (by simp only)))) p _ _ (by simp only))

/-- Keys, rounded. -/
theorem kb_block (hw : ∀ k (j : Fin 128), wb (ix2 k j) = x4 (ix2 k ⟨512 + j, by omega⟩)) (p : Fin 512) (j : Fin 128) :
    k0_pay16 (F := Ideal) cb sb mb (k0_pay13 hb wb) (k0_pay14 hb wb) (ix2 p j) =
      val_main_v171 (F := Ideal) x0 x1 x2 x3 x4 (ix2 (row b (l p)) ⟨j, by omega⟩) := by
  rw [kb_apply]
  pointwise [k0_pay16, k0_pay15, k0_pay14, k0_pay13]
  rw [turn_lane (fun j => ∑ k, hb (ix2 p k) * wb (ix2 k j)) (cosRow (l p)) (sinRow (l p)) _ _ _ j (hc p j) (hs p j) (hm j)]
  exact (head_block x0 x1 x2 x3 x4 b l hb _ _ _ _ hh (fun e k =>
    (hw k _).trans (congrArg (fun c => x4 (ix2 k c)) (Fin.ext (by simp only)))) p _ _ (by simp only))

/-- Indexer keys. -/
theorem ki_block (hw : ∀ k (e : Fin 64), wb (ix2 k ⟨e, by omega⟩) = x4 (ix2 k ⟨1024 + e, by omega⟩)) (p : Fin 512) (e : Fin 64) :
    k0_pay1 (F := Ideal) cb sb mb (k0_pay25 hb wb) (ix2 p e) = val_main_v175 (F := Ideal) x0 x1 x2 x3 x4 (ix2 (row b (l p)) e) := by
  rw [kib_apply]
  pointwise [k0_pay1, k0_pay25]
  refine (turn_lane (fun j => ∑ k, hb (ix2 p k) * wb (ix2 k j)) (cosRow (l p)) (sinRow (l p)) _ _ _ ⟨e, by omega⟩
    (hc p _) (hs p _) (hm _)).trans ?_
  exact head_block x0 x1 x2 x3 x4 b l hb _ _ _ _ hh (fun e' k =>
    (congrArg (fun c => wb (ix2 k c)) (Fin.ext (by simp only; omega))).trans (hw k e')) p _ _ (by simp only; omega)

/-- Indexer keys, rounded. -/
theorem kib_block (hw : ∀ k (e : Fin 64), wb (ix2 k ⟨e, by omega⟩) = x4 (ix2 k ⟨1024 + e, by omega⟩)) (p : Fin 512) (e : Fin 64) :
    k0_pay2 (F := Ideal) cb sb mb (k0_pay25 hb wb) (ix2 p e) = val_main_v175 (F := Ideal) x0 x1 x2 x3 x4 (ix2 (row b (l p)) e) := by
  rw [kib_apply]
  pointwise [k0_pay2, k0_pay1, k0_pay25]
  refine (turn_lane (fun j => ∑ k, hb (ix2 p k) * wb (ix2 k j)) (cosRow (l p)) (sinRow (l p)) _ _ _ ⟨e, by omega⟩
    (hc p _) (hs p _) (hm _)).trans ?_
  exact head_block x0 x1 x2 x3 x4 b l hb _ _ _ _ hh (fun e' k =>
    (congrArg (fun c => wb (ix2 k c)) (Fin.ext (by simp only; omega))).trans (hw k e')) p _ _ (by simp only; omega)

omit hc hs hm

/-- Values. -/
theorem v_block (wb : FVec Ideal S1024x128 .bf16) (hw : ∀ k (j : Fin 128), wb (ix2 k j) = x4 (ix2 k ⟨640 + j, by omega⟩)) (p : Fin 512) (j : Fin 128) :
    k0_pay17 (F := Ideal) hb wb (ix2 p j) = val_main_v173 (F := Ideal) x0 x1 x2 x3 x4 (ix2 (row b (l p)) j) := by
  rw [vb_apply]
  pointwise [k0_pay17]
  exact col_block x0 x1 x2 x3 x4 b l hb _ _ hh (fun k => hw k j) p

/-- Values, rounded. -/
theorem vb_block (wb : FVec Ideal S1024x128 .bf16) (hw : ∀ k (j : Fin 128), wb (ix2 k j) = x4 (ix2 k ⟨640 + j, by omega⟩)) (p : Fin 512) (j : Fin 128) :
    k0_pay18 (F := Ideal) hb wb (ix2 p j) = val_main_v173 (F := Ideal) x0 x1 x2 x3 x4 (ix2 (row b (l p)) j) := by
  rw [vb_apply]
  pointwise [k0_pay18, k0_pay17]
  exact col_block x0 x1 x2 x3 x4 b l hb _ _ hh (fun k => hw k j) p

/-- The gate of the recurrence. -/
theorem z_block (wb : FVec Ideal S1024x256 .bf16) (hw : ∀ k (j : Fin 256), wb (ix2 k j) = x4 (ix2 k ⟨1092 + j, by omega⟩)) (p : Fin 512) (j : Fin 256) :
    k0_pay22 (F := Ideal) hb wb (ix2 p j) = val_main_v165 (F := Ideal) x0 x1 x2 x3 x4 (ix2 (row b (l p)) j) := by
  rw [z_apply]
  pointwise [k0_pay22]
  exact col_block x0 x1 x2 x3 x4 b l hb _ _ hh (fun k => hw k j) p

/-- The convolution's input. -/
theorem xbc_block (wb : FVec Ideal S1024x512 .bf16) (hw : ∀ k (j : Fin 512), wb (ix2 k j) = x4 (ix2 k ⟨1348 + j, by omega⟩)) (p : Fin 512) (j : Fin 512) :
    k0_pay23 (F := Ideal) hb wb (ix2 p j) = val_main_v166 (F := Ideal) x0 x1 x2 x3 x4 (ix2 (row b (l p)) j) := by
  rw [xbc_apply]
  pointwise [k0_pay23]
  exact col_block x0 x1 x2 x3 x4 b l hb _ _ hh (fun k => hw k j) p

/-- The pooling's input. -/
theorem xp_block (wb : FVec Ideal S1024x256 .bf16) (hw : ∀ k (j : Fin 256), wb (ix2 k j) = x4 (ix2 k ⟨1864 + j, by omega⟩)) (p : Fin 512) (j : Fin 256) :
    k0_pay24 (F := Ideal) hb wb (ix2 p j) = val_main_v167 (F := Ideal) x0 x1 x2 x3 x4 (ix2 (row b (l p)) j) := by
  rw [xp_apply]
  pointwise [k0_pay24]
  exact col_block x0 x1 x2 x3 x4 b l hb _ _ hh (fun k => hw k j) p

/-- The indexer's head weights, lanes 64 to 67 of the narrow part. -/
theorem wi_block (hw : ∀ k (j : Fin 4), wb (ix2 k ⟨64 + j, by omega⟩) = x4 (ix2 k ⟨1088 + j, by omega⟩)) (p : Fin 512) (j : Fin 4) :
    k0_pay25 (F := Ideal) hb wb (ix2 p ⟨64 + j, by omega⟩) = val_main_v163 (F := Ideal) x0 x1 x2 x3 x4 (ix2 (row b (l p)) j) := by
  rw [wi_apply]
  pointwise [k0_pay25]
  exact col_block x0 x1 x2 x3 x4 b l hb _ _ hh (fun k => hw k j) p

/-- The step sizes, lanes 68 to 71 of the narrow part. -/
theorem dt_block (hw : ∀ k (j : Fin 4), wb (ix2 k ⟨68 + j, by omega⟩) = x4 (ix2 k ⟨1860 + j, by omega⟩)) (p : Fin 512) (j : Fin 4) :
    k0_pay25 (F := Ideal) hb wb (ix2 p ⟨68 + j, by omega⟩) = val_main_v164 (F := Ideal) x0 x1 x2 x3 x4 (ix2 (row b (l p)) j) := by
  rw [dt_apply]
  pointwise [k0_pay25]
  exact col_block x0 x1 x2 x3 x4 b l hb _ _ hh (fun k => hw k j) p

end Cert.InprojIdeal.Inproj

end
-- ==== Proof.Inproj.Blocks.lean ====
/- What the blocks of the input projection's operands hold at a grid point, read off the host's preparation of them. -/
module

public import proofs.«01_k».proof.Proof.Gen.InprojIdeal.Frame
public import proofs.«01_k».proof.Proof.Inproj.Ref

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojRefIdeal.Read Cert.InprojRefIdeal.Inproj

variable (m : (ℓ : Loc nD τ sig) → Buf (Elt Ideal) ℓ) (c : Dev nD)

/-- The block index of every window at a point: row block `t`, sequence `t / 4`, block of positions `t % 4`. -/
theorem idx_val : ∀ t : Fin cfg0.N, win0_0.index t = ![t.val, 0] ∧ win0_1.index t = ![0, 0] ∧
    win0_2.index t = ![t.val / 4, 0, 0] ∧ win0_3.index t = ![t.val / 4, 0, 0] ∧ win0_4.index t = ![0, 0] ∧
    win0_5.index t = ![t.val % 4, 0] ∧ win0_6.index t = ![t.val % 4, 0] ∧ win0_7.index t = ![t.val, 0] ∧
    win0_8.index t = ![t.val, 0] ∧ win0_9.index t = ![t.val, 0] ∧ win0_10.index t = ![t.val, 0] ∧
    win0_11.index t = ![t.val, 0] ∧ win0_12.index t = ![t.val, 0] ∧ win0_13.index t = ![t.val, 0] ∧
    win0_14.index t = ![t.val, 0] ∧ win0_15.index t = ![t.val, 0] ∧ win0_16.index t = ![t.val, 0] ∧
    win0_17.index t = ![t.val, 0] ∧ win0_18.index t = ![t.val, 0] := (by decide +kernel : ∀ t : Fin grid0.N, _)

/-- The sequence a point works on. -/
def seq (t : Fin cfg0.N) : Fin 8 := ⟨t.val / 4, by have := lt_of_lt_of_eq t.isLt N_0; omega⟩

/-- The position in that sequence of a row of the point's block. -/
def pos (t : Fin cfg0.N) (p : Fin 512) : Fin 2048 := ⟨t.val % 4 * 512 + p.val, by omega⟩

/-- The stream, flattened on the host. -/
theorem read_x (t : Fin cfg0.N) (p : Fin 512) (j : Fin 1024) : iblk m c 0 t (ix2 p j) = m ((c : Thread nD τ).loc main_arg0) (ix3 (seq t) (pos t p) j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

/-- The normalization's weight. -/
theorem read_ln (t : Fin cfg0.N) (j : Fin 1024) : iblk m c 1 t (ix2 0 j) = m ((c : Thread nD τ).loc main_arg1) (ix1 j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

/-- The modulation's scale. -/
theorem read_sc (t : Fin cfg0.N) (j : Fin 1024) : iblk m c 2 t (ix3 0 0 j) = m ((c : Thread nD τ).loc main_arg2) (ix2 (seq t) j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

/-- The modulation's shift. -/
theorem read_sh (t : Fin cfg0.N) (j : Fin 1024) : iblk m c 3 t (ix3 0 0 j) = m ((c : Thread nD τ).loc main_arg3) (ix2 (seq t) j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

end Cert.InprojIdeal.Inproj

end
-- ==== Proof.Inproj.Host.lean ====
/- What the host prepares for the input projection: the permuted weights and the two tables of the rotary embedding, read
   element by element, and the blocks of them that a grid point holds. -/
module

public import proofs.«01_k».proof.Proof.Inproj.Blocks

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojRefIdeal.Read Cert.InprojRefIdeal.Inproj

variable (m : (ℓ : Loc nD τ sig) → Buf (Elt Ideal) ℓ) (c : Dev nD)

/-- The weights' block is the whole prepared array. -/
theorem block_w (t : Fin cfg0.N) (k : Fin 1024) (j : Fin 2176) : iblk m c 4 t (ix2 k j) = V m c main_v35 (ix2 k j) := by
  unfold iblk
  blk_simp [idx_val t]
  exact congrArg _ (by blk_ext [idx_val t])

/-- The permuted weights, the columns of `q`. -/
theorem read_w_q (t : Fin cfg0.N) (k : Fin 1024) (j : Fin 512) : iblk m c 4 t (ix2 k ⟨j, by omega⟩) = m ((c : Thread nD τ).loc main_arg4) (ix2 k ⟨j, by omega⟩) := by
  rw [block_w]
  unfold V V0
  simp only [List.flatten_cons, List.flatten_nil, List.append_nil]
  after_results_simp
  pointwise
  after_results_simp
  pointwise

/-- The permuted weights, the columns of `k`. -/
theorem read_w_k (t : Fin cfg0.N) (k : Fin 1024) (j : Fin 128) : iblk m c 4 t (ix2 k ⟨512 + j, by omega⟩) = m ((c : Thread nD τ).loc main_arg4) (ix2 k ⟨512 + j, by omega⟩) := by
  rw [block_w]
  unfold V V0
  simp only [List.flatten_cons, List.flatten_nil, List.append_nil]
  after_results_simp
  pointwise
  after_results_simp
  pointwise

/-- The permuted weights, the columns of `v`. -/
theorem read_w_v (t : Fin cfg0.N) (k : Fin 1024) (j : Fin 128) : iblk m c 4 t (ix2 k ⟨640 + j, by omega⟩) = m ((c : Thread nD τ).loc main_arg4) (ix2 k ⟨640 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `qi`. -/
theorem read_w_qi (t : Fin cfg0.N) (k : Fin 1024) (j : Fin 256) : iblk m c 4 t (ix2 k ⟨768 + j, by omega⟩) = m ((c : Thread nD τ).loc main_arg4) (ix2 k ⟨768 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `z`. -/
theorem read_w_z (t : Fin cfg0.N) (k : Fin 1024) (j : Fin 256) : iblk m c 4 t (ix2 k ⟨1024 + j, by omega⟩) = m ((c : Thread nD τ).loc main_arg4) (ix2 k ⟨1092 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `xbc`. -/
theorem read_w_xbc (t : Fin cfg0.N) (k : Fin 1024) (j : Fin 512) : iblk m c 4 t (ix2 k ⟨1280 + j, by omega⟩) = m ((c : Thread nD τ).loc main_arg4) (ix2 k ⟨1348 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `xp`. -/
theorem read_w_xp (t : Fin cfg0.N) (k : Fin 1024) (j : Fin 256) : iblk m c 4 t (ix2 k ⟨1792 + j, by omega⟩) = m ((c : Thread nD τ).loc main_arg4) (ix2 k ⟨1864 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `ki`. -/
theorem read_w_ki (t : Fin cfg0.N) (k : Fin 1024) (j : Fin 64) : iblk m c 4 t (ix2 k ⟨2048 + j, by omega⟩) = m ((c : Thread nD τ).loc main_arg4) (ix2 k ⟨1024 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `wi`. -/
theorem read_w_wi (t : Fin cfg0.N) (k : Fin 1024) (j : Fin 4) : iblk m c 4 t (ix2 k ⟨2112 + j, by omega⟩) = m ((c : Thread nD τ).loc main_arg4) (ix2 k ⟨1088 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `dt`. -/
theorem read_w_dt (t : Fin cfg0.N) (k : Fin 1024) (j : Fin 4) : iblk m c 4 t (ix2 k ⟨2116 + j, by omega⟩) = m ((c : Thread nD τ).loc main_arg4) (ix2 k ⟨1860 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The table of cosines repeats the 32 cosines of a position four times. -/
theorem table_cos (l : Fin 2048) (j : Fin 128) : V m c main_v15 (ix2 l j) = cosRow l ⟨j % 32, by omega⟩ := by
  unfold V V0 cosRow
  simp only [List.flatten_cons, List.flatten_nil, List.append_nil]
  after_results_simp
  pointwise
  after_results_simp
  pointwise [val_main_v46, val_main_v45, val_main_v44, val_main_v43, val_main_v42, val_main_v41, val_main_v40, val_main_v39, val_main_v38, val_main_v37, val_main_v36, val_main_v35, val_main_v34, val_main_v0, val_main_cst_3, val_main_cst_4]
  split_ifs <;> first
    | (exfalso; omega)
    | rw [show j.val % 32 = j.val by omega]
    | rw [show j.val % 32 = j.val - 32 by omega]
    | rw [show j.val % 32 = j.val - 32 - 32 by omega]
    | rw [show j.val % 32 = j.val - 32 - 32 - 32 by omega]

/-- The table of sines repeats the 32 sines of a position four times, negated in the first half of each head. -/
theorem table_sin (l : Fin 2048) (j : Fin 128) : V m c main_v18 (ix2 l j) =
    if j.val % 64 < 32 then -sinRow l ⟨j % 32, by omega⟩ else sinRow l ⟨j % 32, by omega⟩ := by
  unfold V V0 sinRow
  simp only [List.flatten_cons, List.flatten_nil, List.append_nil]
  after_results_simp
  pointwise
  after_results_simp
  pointwise [val_main_v48, val_main_v45, val_main_v44, val_main_v43, val_main_v42, val_main_v41, val_main_v40, val_main_v39, val_main_v38, val_main_v37, val_main_v36, val_main_v35, val_main_v34, val_main_v0, val_main_cst_3, val_main_cst_4]
  split_ifs <;> first
    | (exfalso; omega)
    | rw [show j.val % 32 = j.val by omega]
    | rw [show j.val % 32 = j.val - 32 by omega]
    | rw [show j.val % 32 = j.val - 32 - 32 by omega]
    | rw [show j.val % 32 = j.val - 32 - 32 - 32 by omega]

/-- The block of the table holds the point's positions. -/
theorem read_cos (t : Fin cfg0.N) (p : Fin 512) (j : Fin 128) : iblk m c 5 t (ix2 p j) = cosRow (pos t p) ⟨j % 32, by omega⟩ := by
  rw [← table_cos m c]
  unfold iblk
  blk_simp [idx_val t]
  exact congrArg _ (by blk_ext [idx_val t, pos])

/-- The block of the table holds the point's positions. -/
theorem read_sin (t : Fin cfg0.N) (p : Fin 512) (j : Fin 128) : iblk m c 6 t (ix2 p j) = if j.val % 64 < 32 then -sinRow (pos t p) ⟨j % 32, by omega⟩ else sinRow (pos t p) ⟨j % 32, by omega⟩ := by
  rw [← table_sin m c]
  unfold iblk
  blk_simp [idx_val t]
  exact congrArg _ (by blk_ext [idx_val t, pos])

end Cert.InprojIdeal.Inproj

end
-- ==== Proof.Inproj.Bridge.lean ====
/- What every grid point of the input projection writes, and the result arrays after the run. -/
module

public import proofs.«01_k».proof.Proof.Gen.InprojIdeal.Frame
public import proofs.«01_k».proof.Proof.Inproj.Block
public import proofs.«01_k».proof.Proof.Inproj.Blocks
public import proofs.«01_k».proof.Proof.Inproj.Host

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojRefIdeal.Read Cert.InprojRefIdeal.Inproj

variable (m : (ℓ : Loc nD τ sig) → Buf (Elt Ideal) ℓ) (c : Dev nD)

/-- The point's normalized rows. -/
theorem hid (t : Fin cfg0.N) (p : Fin 512) (j : Fin 1024) :
    k0_pay3 (F := Ideal) (iblk m c 0 t) (iblk m c 1 t) (iblk m c 2 t) (iblk m c 3 t) (ix2 p j) = val_main_v21 (F := Ideal) (m ((c : Thread nD τ).loc main_arg0)) (m ((c : Thread nD τ).loc main_arg1)) (m ((c : Thread nD τ).loc main_arg2)) (m ((c : Thread nD τ).loc main_arg3)) (ix3 (seq t) (pos t p) j) :=
  hidden_block _ _ _ _ (seq t) (pos t) _ _ _ _ (read_x m c t) (read_ln m c t) (read_sc m c t) (read_sh m c t) p j

/-- The point's cosines. -/
theorem cosines (t : Fin cfg0.N) (p : Fin 512) (j : Fin 128) : k0_pay4 (F := Ideal) (iblk m c 5 t) (ix2 p j) = cosRow (pos t p) ⟨j % 32, by omega⟩ := by
  pointwise [k0_pay4]
  exact read_cos m c t p j

/-- The point's sines, negated in the first half of each head. -/
theorem sines (t : Fin cfg0.N) (p : Fin 512) (j : Fin 128) : k0_pay5 (F := Ideal) (iblk m c 6 t) (ix2 p j) =
    if j.val % 64 < 32 then -sinRow (pos t p) ⟨j % 32, by omega⟩ else sinRow (pos t p) ⟨j % 32, by omega⟩ := by
  pointwise [k0_pay5]
  exact read_sin m c t p j

/-- The queries a point writes. -/
theorem point_7 (t : Fin cfg0.N) (p : Fin 512) (j : Fin 512) : out0_7 (F := Ideal) (iblk m c 0 t) (iblk m c 1 t) (iblk m c 2 t) (iblk m c 3 t) (iblk m c 4 t) (iblk m c 5 t) (iblk m c 6 t) (ix2 p j) =
    val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_7
  canon_tiles x h
  · frame_out
    refine (congrArg _ (ix2_eta x).symm).trans ?_
    refine (q_block3 _ _ _ _ _ (seq t) (pos t) _ _ _ _ _ (hid m c t) (cosines m c t) (sines m c t) mask (fun k j => by pointwise; exact read_w_q m c t k ⟨384 + j, by omega⟩) (x 0) (x 1)).trans ?_
    refine congrArg _ ?_
    exact congrArg₂ ix2 (congrArg (fun p => row (seq t) (pos t p)) (Fin.ext h0.symm)) (Fin.ext h1.symm)
  · frame_out
    refine (congrArg _ (ix2_eta x).symm).trans ?_
    refine (q_block2 _ _ _ _ _ (seq t) (pos t) _ _ _ _ _ (hid m c t) (cosines m c t) (sines m c t) mask (fun k j => by pointwise; exact read_w_q m c t k ⟨256 + j, by omega⟩) (x 0) (x 1)).trans ?_
    refine congrArg _ ?_
    exact congrArg₂ ix2 (congrArg (fun p => row (seq t) (pos t p)) (Fin.ext h0.symm)) (Fin.ext h1.symm)
  · frame_out
    refine (congrArg _ (ix2_eta x).symm).trans ?_
    refine (q_block1 _ _ _ _ _ (seq t) (pos t) _ _ _ _ (hid m c t) (cosines m c t) (sines m c t) (fun k j => by pointwise; exact read_w_q m c t k ⟨128 + j, by omega⟩) (x 0) (x 1)).trans ?_
    refine congrArg _ ?_
    exact congrArg₂ ix2 (congrArg (fun p => row (seq t) (pos t p)) (Fin.ext h0.symm)) (Fin.ext h1.symm)
  · frame_out
    refine (congrArg _ (ix2_eta x).symm).trans ?_
    refine (q_block0 _ _ _ _ _ (seq t) (pos t) _ _ _ _ (hid m c t) (cosines m c t) (sines m c t) (fun k j => by pointwise; exact read_w_q m c t k ⟨j, by omega⟩) (x 0) (x 1)).trans ?_
    refine congrArg _ ?_
    exact congrArg₂ ix2 (congrArg (fun p => row (seq t) (pos t p)) (Fin.ext h0.symm)) (Fin.ext h1.symm)

/-- The keys a point writes. -/
theorem point_8 (t : Fin cfg0.N) (p : Fin 512) (j : Fin 128) : out0_8 (F := Ideal) (iblk m c 0 t) (iblk m c 1 t) (iblk m c 2 t) (iblk m c 3 t) (iblk m c 4 t) (iblk m c 5 t) (iblk m c 6 t) (ix2 p j) =
    val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_8
  frame_out
  exact k_block _ _ _ _ _ (seq t) (pos t) _ _ _ _ _ (hid m c t) (cosines m c t) (sines m c t) (mask) (fun k j => by pointwise; exact read_w_k m c t k j) p j

/-- The values a point writes. -/
theorem point_9 (t : Fin cfg0.N) (p : Fin 512) (j : Fin 128) : out0_9 (F := Ideal) (iblk m c 0 t) (iblk m c 1 t) (iblk m c 2 t) (iblk m c 3 t) (iblk m c 4 t) (iblk m c 5 t) (iblk m c 6 t) (ix2 p j) =
    val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_9
  frame_out
  exact v_block _ _ _ _ _ (seq t) (pos t) _ (hid m c t) _ (fun k j => by pointwise; exact read_w_v m c t k j) p j

/-- The indexer queries a point writes. -/
theorem point_10 (t : Fin cfg0.N) (p : Fin 512) (j : Fin 256) : out0_10 (F := Ideal) (iblk m c 0 t) (iblk m c 1 t) (iblk m c 2 t) (iblk m c 3 t) (iblk m c 4 t) (iblk m c 5 t) (iblk m c 6 t) (ix2 p j) =
    val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_10
  canon_tiles x h
  · frame_out
    refine (congrArg _ (ix2_eta x).symm).trans ?_
    refine (qi_block1 _ _ _ _ _ (seq t) (pos t) _ _ _ _ _ (hid m c t) (cosines m c t) (sines m c t) mask (fun k j => by pointwise; exact (congrArg (fun i => iblk m c 4 t (ix2 k i)) (Fin.ext (by simp only; omega))).trans ((read_w_qi m c t k ⟨128 + j, by omega⟩).trans (congrArg (fun i => (m ((c : Thread nD τ).loc main_arg4)) (ix2 k i)) (Fin.ext (by simp only; omega))))) (x 0) (x 1)).trans ?_
    refine congrArg _ ?_
    exact congrArg₂ ix2 (congrArg (fun p => row (seq t) (pos t p)) (Fin.ext h0.symm)) (Fin.ext h1.symm)
  · frame_out
    refine (congrArg _ (ix2_eta x).symm).trans ?_
    refine (qi_block0 _ _ _ _ _ (seq t) (pos t) _ _ _ _ _ (hid m c t) (cosines m c t) (sines m c t) mask (fun k j => by pointwise; exact read_w_qi m c t k ⟨j, by omega⟩) (x 0) (x 1)).trans ?_
    refine congrArg _ ?_
    exact congrArg₂ ix2 (congrArg (fun p => row (seq t) (pos t p)) (Fin.ext h0.symm)) (Fin.ext h1.symm)

/-- The indexer keys a point writes. -/
theorem point_11 (t : Fin cfg0.N) (p : Fin 512) (j : Fin 64) : out0_11 (F := Ideal) (iblk m c 0 t) (iblk m c 1 t) (iblk m c 2 t) (iblk m c 3 t) (iblk m c 4 t) (iblk m c 5 t) (iblk m c 6 t) (ix2 p j) =
    val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_11
  frame_out
  exact ki_block _ _ _ _ _ (seq t) (pos t) _ _ _ _ _ (hid m c t) (cosines m c t) (sines m c t) (mask) (fun k j => by pointwise; exact read_w_ki m c t k j) p j

/-- The gate of the recurrence a point writes. -/
theorem point_13 (t : Fin cfg0.N) (p : Fin 512) (j : Fin 256) : out0_13 (F := Ideal) (iblk m c 0 t) (iblk m c 1 t) (iblk m c 2 t) (iblk m c 3 t) (iblk m c 4 t) (iblk m c 5 t) (iblk m c 6 t) (ix2 p j) =
    val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_13
  frame_out
  exact z_block _ _ _ _ _ (seq t) (pos t) _ (hid m c t) _ (fun k j => by pointwise; exact read_w_z m c t k j) p j

/-- The convolution's input a point writes. -/
theorem point_14 (t : Fin cfg0.N) (p : Fin 512) (j : Fin 512) : out0_14 (F := Ideal) (iblk m c 0 t) (iblk m c 1 t) (iblk m c 2 t) (iblk m c 3 t) (iblk m c 4 t) (iblk m c 5 t) (iblk m c 6 t) (ix2 p j) =
    val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_14
  frame_out
  exact xbc_block _ _ _ _ _ (seq t) (pos t) _ (hid m c t) _ (fun k j => by pointwise; exact read_w_xbc m c t k j) p j

/-- The pooling's input a point writes. -/
theorem point_15 (t : Fin cfg0.N) (p : Fin 512) (j : Fin 256) : out0_15 (F := Ideal) (iblk m c 0 t) (iblk m c 1 t) (iblk m c 2 t) (iblk m c 3 t) (iblk m c 4 t) (iblk m c 5 t) (iblk m c 6 t) (ix2 p j) =
    val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_15
  frame_out
  exact xp_block _ _ _ _ _ (seq t) (pos t) _ (hid m c t) _ (fun k j => by pointwise; exact read_w_xp m c t k j) p j

/-- The rounded keys a point writes. -/
theorem point_16 (t : Fin cfg0.N) (p : Fin 512) (j : Fin 128) : out0_16 (F := Ideal) (iblk m c 0 t) (iblk m c 1 t) (iblk m c 2 t) (iblk m c 3 t) (iblk m c 4 t) (iblk m c 5 t) (iblk m c 6 t) (ix2 p j) =
    val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_16
  frame_out
  exact kb_block _ _ _ _ _ (seq t) (pos t) _ _ _ _ _ (hid m c t) (cosines m c t) (sines m c t) (mask) (fun k j => by pointwise; exact read_w_k m c t k j) p j

/-- The rounded values a point writes. -/
theorem point_17 (t : Fin cfg0.N) (p : Fin 512) (j : Fin 128) : out0_17 (F := Ideal) (iblk m c 0 t) (iblk m c 1 t) (iblk m c 2 t) (iblk m c 3 t) (iblk m c 4 t) (iblk m c 5 t) (iblk m c 6 t) (ix2 p j) =
    val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_17
  frame_out
  exact vb_block _ _ _ _ _ (seq t) (pos t) _ (hid m c t) _ (fun k j => by pointwise; exact read_w_v m c t k j) p j

/-- The rounded indexer keys a point writes. -/
theorem point_18 (t : Fin cfg0.N) (p : Fin 512) (j : Fin 64) : out0_18 (F := Ideal) (iblk m c 0 t) (iblk m c 1 t) (iblk m c 2 t) (iblk m c 3 t) (iblk m c 4 t) (iblk m c 5 t) (iblk m c 6 t) (ix2 p j) =
    val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t) (pos t p)) j) := by
  unfold_out out0_18
  frame_out
  exact kib_block _ _ _ _ _ (seq t) (pos t) _ _ _ _ _ (hid m c t) (cosines m c t) (sines m c t) (mask) (fun k j => by pointwise; exact read_w_ki m c t k j) p j

/-- The narrow part of the projection, against the permuted weights. -/
def narrow (i : S16384x128.Idx) : EReal := ∑ k, val_main_v21 (F := Ideal) (m ((c : Thread nD τ).loc main_arg0)) (m ((c : Thread nD τ).loc main_arg1)) (m ((c : Thread nD τ).loc main_arg2)) (m ((c : Thread nD τ).loc main_arg3)) (ix3 ⟨(i 0).val / 2048, by have := (i 0).isLt; change (i 0).val < 16384 at this; omega⟩ ⟨(i 0).val % 2048, by omega⟩ k)
  * V m c main_v35 (ix2 k ⟨2048 + (i 1).val, by have := (i 1).isLt; change (i 1).val < 128 at this; omega⟩)

/-- The narrow part a point writes. -/
theorem point_12 (t : Fin cfg0.N) (p : Fin 512) (j : Fin 128) : out0_12 (F := Ideal) (iblk m c 0 t) (iblk m c 1 t) (iblk m c 2 t) (iblk m c 3 t) (iblk m c 4 t) (iblk m c 5 t) (iblk m c 6 t) (ix2 p j) =
    narrow m c (ix2 (row (seq t) (pos t p)) j) := by
  unfold_out out0_12
  frame_out
  pointwise [k0_pay25]
  unfold narrow
  refine Finset.sum_congr rfl fun k _ => ?_
  rw [hid, block_w]
  have e0 : ∀ h, (⟨(row (seq t) (pos t p)).val / 2048, h⟩ : Fin 8) = seq t := fun h => Fin.ext (by simp only [row, pos]; omega)
  have e1 : ∀ h, (⟨(row (seq t) (pos t p)).val % 2048, h⟩ : Fin 2048) = pos t p := fun h => Fin.ext (by simp only [row, pos]; omega)
  simp only [ix2_0, ix2_1, e0, e1]

/-- The array of the queries after the run. -/
theorem array_7 : (dats m 0 c).arrAt 7 cfg0.N = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht := lt_of_lt_of_eq t.isLt N_0
  blk_simp
  rw [after0_7]
  have e : ((cfg0.win 7).blk t).view.emb y = ix2 (row (seq t) (pos t (y 0))) (y 1) := by
    blk_ext [idx_val t, row, seq, pos]
  rw [e]
  exact (congrArg _ (ix2_eta y).symm).trans (point_7 m c t (y 0) (y 1))

/-- The array of the keys after the run. -/
theorem array_8 : (dats m 0 c).arrAt 8 cfg0.N = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht := lt_of_lt_of_eq t.isLt N_0
  blk_simp
  rw [after0_8]
  have e : ((cfg0.win 8).blk t).view.emb y = ix2 (row (seq t) (pos t (y 0))) (y 1) := by
    blk_ext [idx_val t, row, seq, pos]
  rw [e]
  exact (congrArg _ (ix2_eta y).symm).trans (point_8 m c t (y 0) (y 1))

/-- The array of the values after the run. -/
theorem array_9 : (dats m 0 c).arrAt 9 cfg0.N = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht := lt_of_lt_of_eq t.isLt N_0
  blk_simp
  rw [after0_9]
  have e : ((cfg0.win 9).blk t).view.emb y = ix2 (row (seq t) (pos t (y 0))) (y 1) := by
    blk_ext [idx_val t, row, seq, pos]
  rw [e]
  exact (congrArg _ (ix2_eta y).symm).trans (point_9 m c t (y 0) (y 1))

/-- The array of the indexer queries after the run. -/
theorem array_10 : (dats m 0 c).arrAt 10 cfg0.N = val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  have ht := lt_of_lt_of_eq t.isLt N_0
  blk_simp
  rw [after0_10]
  have e : ((cfg0.win 10).blk t).view.emb y = ix2 (row (seq t) (pos t (y 0))) (y 1) := by
    blk_ext [idx_val t, row, seq, pos]
  rw [e]
  exact (congrArg _ (ix2_eta y).symm).trans (point_10 m c t (y 0) (y 1))

/-- The array of the indexer keys after the run. -/
theorem array_11 : (dats m 0 c).arrAt 11 cfg0.N = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  have ht := lt_of_lt_of_eq t.isLt N_0
  blk_simp
  rw [after0_11]
  have e : ((cfg0.win 11).blk t).view.emb y = ix2 (row (seq t) (pos t (y 0))) (y 1) := by
    blk_ext [idx_val t, row, seq, pos]
  rw [e]
  exact (congrArg _ (ix2_eta y).symm).trans (point_11 m c t (y 0) (y 1))

/-- The array of the recurrence's gate after the run. -/
theorem array_13 : (dats m 0 c).arrAt 13 cfg0.N = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  have ht := lt_of_lt_of_eq t.isLt N_0
  blk_simp
  rw [after0_13]
  have e : ((cfg0.win 13).blk t).view.emb y = ix2 (row (seq t) (pos t (y 0))) (y 1) := by
    blk_ext [idx_val t, row, seq, pos]
  rw [e]
  exact (congrArg _ (ix2_eta y).symm).trans (point_13 m c t (y 0) (y 1))

/-- The array of the convolution's input after the run. -/
theorem array_14 : (dats m 0 c).arrAt 14 cfg0.N = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  have ht := lt_of_lt_of_eq t.isLt N_0
  blk_simp
  rw [after0_14]
  have e : ((cfg0.win 14).blk t).view.emb y = ix2 (row (seq t) (pos t (y 0))) (y 1) := by
    blk_ext [idx_val t, row, seq, pos]
  rw [e]
  exact (congrArg _ (ix2_eta y).symm).trans (point_14 m c t (y 0) (y 1))

/-- The array of the pooling's input after the run. -/
theorem array_15 : (dats m 0 c).arrAt 15 cfg0.N = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  have ht := lt_of_lt_of_eq t.isLt N_0
  blk_simp
  rw [after0_15]
  have e : ((cfg0.win 15).blk t).view.emb y = ix2 (row (seq t) (pos t (y 0))) (y 1) := by
    blk_ext [idx_val t, row, seq, pos]
  rw [e]
  exact (congrArg _ (ix2_eta y).symm).trans (point_15 m c t (y 0) (y 1))

/-- The array of the rounded keys after the run. -/
theorem array_16 : (dats m 0 c).arrAt 16 cfg0.N = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  have ht := lt_of_lt_of_eq t.isLt N_0
  blk_simp
  rw [after0_16]
  have e : ((cfg0.win 16).blk t).view.emb y = ix2 (row (seq t) (pos t (y 0))) (y 1) := by
    blk_ext [idx_val t, row, seq, pos]
  rw [e]
  exact (congrArg _ (ix2_eta y).symm).trans (point_16 m c t (y 0) (y 1))

/-- The array of the rounded values after the run. -/
theorem array_17 : (dats m 0 c).arrAt 17 cfg0.N = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 17 _ (by decide +kernel) fun t hf y => ?_
  have ht := lt_of_lt_of_eq t.isLt N_0
  blk_simp
  rw [after0_17]
  have e : ((cfg0.win 17).blk t).view.emb y = ix2 (row (seq t) (pos t (y 0))) (y 1) := by
    blk_ext [idx_val t, row, seq, pos]
  rw [e]
  exact (congrArg _ (ix2_eta y).symm).trans (point_17 m c t (y 0) (y 1))

/-- The array of the rounded indexer keys after the run. -/
theorem array_18 : (dats m 0 c).arrAt 18 cfg0.N = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 18 _ (by decide +kernel) fun t hf y => ?_
  have ht := lt_of_lt_of_eq t.isLt N_0
  blk_simp
  rw [after0_18]
  have e : ((cfg0.win 18).blk t).view.emb y = ix2 (row (seq t) (pos t (y 0))) (y 1) := by
    blk_ext [idx_val t, row, seq, pos]
  rw [e]
  exact (congrArg _ (ix2_eta y).symm).trans (point_18 m c t (y 0) (y 1))

/-- The array of the narrow part after the run. -/
theorem array_12 : (dats m 0 c).arrAt 12 cfg0.N = narrow m c := by
  refine (dats m 0 c).arrAt_eq_of_covers 12 _ (by decide +kernel) fun t hf y => ?_
  have ht := lt_of_lt_of_eq t.isLt N_0
  blk_simp
  rw [after0_12]
  have e : ((cfg0.win 12).blk t).view.emb y = ix2 (row (seq t) (pos t (y 0))) (y 1) := by
    blk_ext [idx_val t, row, seq, pos]
  rw [e]
  exact (congrArg _ (ix2_eta y).symm).trans (point_12 m c t (y 0) (y 1))

/-- The indexer's head weights in the narrow part. -/
theorem narrow_wi (b : Fin 8) (l : Fin 2048) (j : Fin 4) : narrow m c (ix2 (row b l) ⟨64 + j, by omega⟩) =
    val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row b l) j) := by
  rw [wi_apply, col_apply]
  unfold narrow
  refine Finset.sum_congr rfl fun k _ => ?_
  rw [← read_w_wi m c ⟨0, lt_of_lt_of_eq (by omega) N_0.symm⟩ k j, block_w]
  have e0 : ∀ h, (⟨(row b l).val / 2048, h⟩ : Fin 8) = b := fun h => Fin.ext (by simp only [row]; omega)
  have e1 : ∀ h, (⟨(row b l).val % 2048, h⟩ : Fin 2048) = l := fun h => Fin.ext (by simp only [row]; omega)
  simp only [ix2_0, ix2_1, e0, e1]
  exact congrArg (fun i => _ * V m c main_v35 (ix2 k i)) (Fin.ext (by simp only; omega))

/-- The step sizes in the narrow part. -/
theorem narrow_dt (b : Fin 8) (l : Fin 2048) (j : Fin 4) : narrow m c (ix2 (row b l) ⟨68 + j, by omega⟩) =
    val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row b l) j) := by
  rw [dt_apply, col_apply]
  unfold narrow
  refine Finset.sum_congr rfl fun k _ => ?_
  rw [← read_w_dt m c ⟨0, lt_of_lt_of_eq (by omega) N_0.symm⟩ k j, block_w]
  have e0 : ∀ h, (⟨(row b l).val / 2048, h⟩ : Fin 8) = b := fun h => Fin.ext (by simp only [row]; omega)
  have e1 : ∀ h, (⟨(row b l).val % 2048, h⟩ : Fin 2048) = l := fun h => Fin.ext (by simp only [row]; omega)
  simp only [ix2_0, ix2_1, e0, e1]
  exact congrArg (fun i => _ * V m c main_v35 (ix2 k i)) (Fin.ext (by simp only; omega))

end Cert.InprojIdeal.Inproj

end
-- ==== Proof.Inproj.Tail.lean ====
/- The results the host forms from the arrays of the input projection after the run. -/
module

public import proofs.«01_k».proof.Proof.Inproj.Bridge

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojRefIdeal.Read Cert.InprojRefIdeal.Inproj

variable (m : (ℓ : Loc nD τ sig) → Buf (Elt Ideal) ℓ) (c : Dev nD)

/-- The windows' arrays are distinct. -/
theorem arrays_inj : Function.Injective (Pipeline.arrRef (cfgs 0).spec) := by decide +kernel

/-- Every row of a flattened array is a position of a sequence. -/
theorem row_eta (i : S16384x4.Idx) : i = ix2 (row ⟨(i 0).val / 2048, by have := (i 0).isLt; change (i 0).val < 16384 at this; omega⟩
    ⟨(i 0).val % 2048, by omega⟩) (i 1) := by
  refine (ix2_eta i).symm.trans (congrArg (fun r => ix2 r (i 1)) (Fin.ext ?_))
  simp only [row]
  omega

/-- The keys by head. -/
theorem tail_37 : Pipeline.afterTail₀ cfgs (dats m) 0 (V0 m) [hostOps1] c main_v37 = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_1) =
      val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Pipeline.withArrays_arr (cfgs 0).spec arrays_inj c (V0 m c) (fun w => (dats m 0 c).arrAt w (cfgs 0).N) 8).trans (array_8 m c)
  refine funext fun (i : S8x2048x2x64.Idx) => ?_
  obtain ⟨b, l, h, e, rfl⟩ : ∃ b l h e, i = ix4 b l h e := ⟨_, _, _, _, (ix4_eta i).symm⟩
  unfold Pipeline.afterTail₀
  simp only [List.flatten_cons, List.flatten_nil, List.append_nil]
  after_results_simp
  rw [a]
  pointwise [val_main_v171, val_main_v170]

/-- The values by head. -/
theorem tail_38 : Pipeline.afterTail₀ cfgs (dats m) 0 (V0 m) [hostOps1] c main_v38 = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_2) =
      val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Pipeline.withArrays_arr (cfgs 0).spec arrays_inj c (V0 m c) (fun w => (dats m 0 c).arrAt w (cfgs 0).N) 9).trans (array_9 m c)
  refine funext fun (i : S8x2048x2x64.Idx) => ?_
  obtain ⟨b, l, h, e, rfl⟩ : ∃ b l h e, i = ix4 b l h e := ⟨_, _, _, _, (ix4_eta i).symm⟩
  unfold Pipeline.afterTail₀
  simp only [List.flatten_cons, List.flatten_nil, List.append_nil]
  after_results_simp
  rw [a]
  pointwise [val_main_v173, val_main_v172]

/-- The indexer keys by sequence. -/
theorem tail_39 : Pipeline.afterTail₀ cfgs (dats m) 0 (V0 m) [hostOps1] c main_v39 = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_4) =
      val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Pipeline.withArrays_arr (cfgs 0).spec arrays_inj c (V0 m c) (fun w => (dats m 0 c).arrAt w (cfgs 0).N) 11).trans (array_11 m c)
  refine funext fun (i : S8x2048x64.Idx) => ?_
  obtain ⟨b, l, e, rfl⟩ : ∃ b l e, i = ix3 b l e := ⟨_, _, _, (ix3_eta i).symm⟩
  unfold Pipeline.afterTail₀
  simp only [List.flatten_cons, List.flatten_nil, List.append_nil]
  after_results_simp
  rw [a]
  pointwise [val_main_v175, val_main_v174]

/-- The indexer's head weights. -/
theorem tail_40 : Pipeline.afterTail₀ cfgs (dats m) 0 (V0 m) [hostOps1] c main_v40 = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_5) =
      narrow m c := (Pipeline.withArrays_arr (cfgs 0).spec arrays_inj c (V0 m c) (fun w => (dats m 0 c).arrAt w (cfgs 0).N) 12).trans (array_12 m c)
  refine funext fun (i : S16384x4.Idx) => ?_
  obtain ⟨b, l, j, rfl⟩ : ∃ b l j, i = ix2 (row b l) j := ⟨_, _, i 1, row_eta i⟩
  unfold Pipeline.afterTail₀
  simp only [List.flatten_cons, List.flatten_nil, List.append_nil]
  after_results_simp
  rw [a]
  pointwise
  exact narrow_wi m c b l j

/-- The step sizes before their bias. -/
theorem tail_41 : Pipeline.afterTail₀ cfgs (dats m) 0 (V0 m) [hostOps1] c main_v41 = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_5) =
      narrow m c := (Pipeline.withArrays_arr (cfgs 0).spec arrays_inj c (V0 m c) (fun w => (dats m 0 c).arrAt w (cfgs 0).N) 12).trans (array_12 m c)
  refine funext fun (i : S16384x4.Idx) => ?_
  obtain ⟨b, l, j, rfl⟩ : ∃ b l j, i = ix2 (row b l) j := ⟨_, _, i 1, row_eta i⟩
  unfold Pipeline.afterTail₀
  simp only [List.flatten_cons, List.flatten_nil, List.append_nil]
  after_results_simp
  rw [a]
  pointwise
  exact narrow_dt m c b l j

/-- The last three positions of the convolution's input. -/
theorem tail_43 : Pipeline.afterTail₀ cfgs (dats m) 0 (V0 m) [hostOps1] c main_v43 = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_7) =
      val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Pipeline.withArrays_arr (cfgs 0).spec arrays_inj c (V0 m c) (fun w => (dats m 0 c).arrAt w (cfgs 0).N) 14).trans (array_14 m c)
  refine funext fun (i : S8x3x512.Idx) => ?_
  obtain ⟨b, l, j, rfl⟩ : ∃ b l j, i = ix3 b l j := ⟨_, _, _, (ix3_eta i).symm⟩
  unfold Pipeline.afterTail₀
  simp only [List.flatten_cons, List.flatten_nil, List.append_nil]
  after_results_simp
  rw [a]
  pointwise [val_main_v166, val_main_v168]

/-- The last fifteen positions of the pooling's input. -/
theorem tail_45 : Pipeline.afterTail₀ cfgs (dats m) 0 (V0 m) [hostOps1] c main_v45 = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v36_8) =
      val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Pipeline.withArrays_arr (cfgs 0).spec arrays_inj c (V0 m c) (fun w => (dats m 0 c).arrAt w (cfgs 0).N) 15).trans (array_15 m c)
  refine funext fun (i : S8x15x256.Idx) => ?_
  obtain ⟨b, l, j, rfl⟩ : ∃ b l j, i = ix3 b l j := ⟨_, _, _, (ix3_eta i).symm⟩
  unfold Pipeline.afterTail₀
  simp only [List.flatten_cons, List.flatten_nil, List.append_nil]
  after_results_simp
  rw [a]
  pointwise [val_main_v167, val_main_v169]

end Cert.InprojIdeal.Inproj

end
-- ==== Proof.Inproj.Run.lean ====
/- The run of the input projection: its fifteen results are the reference's stages of the arguments. -/
module

public import proofs.«01_k».proof.Proof.Inproj.Tail

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojRefIdeal.Read Cert.InprojRefIdeal.Inproj

variable (m : (ℓ : Loc nD τ sig) → Buf (Elt Ideal) ℓ)

set_option maxHeartbeats 4000000 in
/-- Every execution ends with the results at the reference's stages of the arguments, and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v36_0) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v37) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v38) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_3) = val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v39) = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v40) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v41) = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_6) = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_7) = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_8) = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v43) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v45) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_9) = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_10) = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v36_11) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4)) :=
  (θ_run defs _ _).mono (fun _ h c => ⟨((h c).1 7).trans (array_7 m c),
    ((h c).2 main_v37 (Pipeline.mem_restRefs_of main_v37 (by decide) (by decide))).trans (tail_37 m c),
    ((h c).2 main_v38 (Pipeline.mem_restRefs_of main_v38 (by decide) (by decide))).trans (tail_38 m c),
    ((h c).1 10).trans (array_10 m c),
    ((h c).2 main_v39 (Pipeline.mem_restRefs_of main_v39 (by decide) (by decide))).trans (tail_39 m c),
    ((h c).2 main_v40 (Pipeline.mem_restRefs_of main_v40 (by decide) (by decide))).trans (tail_40 m c),
    ((h c).2 main_v41 (Pipeline.mem_restRefs_of main_v41 (by decide) (by decide))).trans (tail_41 m c),
    ((h c).1 13).trans (array_13 m c),
    ((h c).1 14).trans (array_14 m c),
    ((h c).1 15).trans (array_15 m c),
    ((h c).2 main_v43 (Pipeline.mem_restRefs_of main_v43 (by decide) (by decide))).trans (tail_43 m c),
    ((h c).2 main_v45 (Pipeline.mem_restRefs_of main_v45 (by decide) (by decide))).trans (tail_45 m c),
    ((h c).1 16).trans (array_16 m c),
    ((h c).1 17).trans (array_17 m c),
    ((h c).1 18).trans (array_18 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.InprojIdeal.Inproj

end
-- ==== Proof.Ssd.Math.lean ====
/- Facts about sums and exponentials over the extended reals that the recurrence's proof uses: running sums written as window
   reductions, the distribution of a real nonnegative factor, and the step from one chunk's carried state to the next. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Recurrence

/-- A left fold that adds one term at a time is the sum of the terms. -/
theorem foldl_add {α : Type} (f : α → EReal) (l : List α) (v : EReal) : l.foldl (fun r n => r + f n) v = v + (l.map f).sum := by
  induction l generalizing v with
  | nil => simp
  | cons a l ih => simp only [List.foldl_cons, List.map_cons, List.sum_cons, ih, add_assoc]

/-- A window reduction by addition from zero, read at one result index: the sum over the window of what lies inside the operand. -/
theorem window_sum {s t u : Shape} (window strides lo hi : Fin s.rank → Nat) (x : FVec Ideal s .f32) (init : u.Idx → EReal)
    (h : s.ReduceWindows window strides lo hi t) (hu : 0 < u.numel) (hz : init (Shape.Idx.first hu) = 0) (j : t.Idx) :
    Host.reduceWindowAdd (F := Ideal) (φ := .f32) window strides lo hi x init h hu j =
      ∑ i : (⟨s.rank, window⟩ : Shape).Idx,
        (if hin : ∀ a, lo a ≤ (j (a.cast h.1.symm)).val * strides a + (i a).val ∧
            (j (a.cast h.1.symm)).val * strides a + (i a).val - lo a < s.size a then
          x (fun a => ⟨(j (a.cast h.1.symm)).val * strides a + (i a).val - lo a, (hin a).2⟩) else 0) := by
  rw [← (⟨s.rank, window⟩ : Shape).rowMajor.symm.sum_comp, Fin.sum_univ_def, ← zero_add (List.sum _), ← foldl_add]
  unfold Host.reduceWindowAdd
  rw [hz, Ideal.hostReduceWindowAdd_def]
  unfold Ideal.hostReduceWindowAdd Host.reduceWindow
  refine congrArg (fun f => List.foldl f (0 : EReal) (List.finRange (⟨s.rank, window⟩ : Shape).numel)) (funext fun r => funext fun n => ?_)
  refine congrArg (r + ·) ?_
  split_ifs <;> rfl

/-- The window of a running sum, reindexed by the operand's positions. -/
theorem running_sum (N : Nat) (g : Fin N → EReal) (l : Fin N) (F : Fin N → EReal)
    (hF : ∀ n : Fin N, F n = if h : N - 1 ≤ l.val + n.val then g ⟨l.val + n.val - (N - 1), by omega⟩ else 0) :
    ∑ n, F n = ∑ k : Fin N, if k ≤ l then g k else 0 := by
  simp only [hF]
  refine Finset.sum_bij_ne_zero (fun n _ _ => (⟨l.val + n.val - (N - 1), by omega⟩ : Fin N)) (fun _ _ _ => Finset.mem_univ _)
    (fun a _ ha b _ hb e => ?_) (fun k _ hk => ?_) (fun n _ hn => ?_)
  · have h1 : N - 1 ≤ l.val + a.val := by by_contra h; exact ha (dif_neg h)
    have h2 : N - 1 ≤ l.val + b.val := by by_contra h; exact hb (dif_neg h)
    have := congrArg Fin.val e
    exact Fin.ext (by simp only at this; omega)
  · have h1 : k ≤ l := by by_contra h; exact hk (if_neg h)
    have h2 : k.val ≤ l.val := h1
    have e : (⟨l.val + (k.val + (N - 1) - l.val) - (N - 1), by omega⟩ : Fin N) = k := Fin.ext (by simp only; omega)
    refine ⟨⟨k.val + (N - 1) - l.val, by omega⟩, Finset.mem_univ _, ?_, e⟩
    rw [dif_pos (by simp only; omega)]
    simp only [e]
    rwa [if_pos h1] at hk
  · have h1 : N - 1 ≤ l.val + n.val := by by_contra h; exact hn (dif_neg h)
    rw [dif_pos h1, if_pos]
    exact Fin.mk_le_of_le_val (by omega)

/-- A real nonnegative factor distributes over a finite sum. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals is real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_real (r : ℝ) : Ideal.exp (r : EReal) = ((Real.exp r : ℝ) : EReal) := rfl

/-- The step of a sum of decayed contributions: the sum seen one step later is the earlier one decayed once more, plus the new
    contribution. Entry `x` enters at step `x + 1`; later entries are masked to weight zero. -/
theorem decay_step {N : Nat} (s : Fin N → EReal) (C : Nat → ℝ) (z : Nat) (hz : z < N) :
    ∑ x : Fin N, s x * Ideal.exp (if 1 + x.val ≤ z + 1 then ((C (z + 1) - C (1 + x.val) : ℝ) : EReal) else ⊥) =
      (∑ x : Fin N, s x * Ideal.exp (if 1 + x.val ≤ z then ((C z - C (1 + x.val) : ℝ) : EReal) else ⊥)) *
        Ideal.exp ((C (z + 1) - C z : ℝ) : EReal) + s ⟨z, hz⟩ := by
  have hb : Ideal.exp ⊥ = 0 := rfl
  rw [exp_real, sum_mul_coe _ _ _ (Real.exp_pos _).le]
  have e : s ⟨z, hz⟩ = ∑ x : Fin N, if x = ⟨z, hz⟩ then s x else 0 := by simp
  rw [e, ← Finset.sum_add_distrib]
  refine Finset.sum_congr rfl fun x _ => ?_
  rcases lt_trichotomy x.val z with h | h | h
  · rw [if_pos (by omega), if_pos (by omega), if_neg (fun e => by rw [e] at h; exact absurd h (lt_irrefl _)), add_zero, exp_real, exp_real,
      mul_assoc, ← EReal.coe_mul, ← Real.exp_add]
    congr 4
    ring
  · have hx : x = ⟨z, hz⟩ := Fin.ext h
    rw [if_pos (by omega), if_neg (by omega), if_pos hx, hb, mul_zero, zero_mul, zero_add, h, Nat.add_comm 1 z, sub_self, exp_real, Real.exp_zero,
      EReal.coe_one, mul_one]
  · rw [if_neg (by omega), if_neg (by omega), if_neg (fun e => by rw [e] at h; exact absurd h (lt_irrefl _)), hb, mul_zero, zero_mul, add_zero]

/-- The decay weight that a masked difference of reals denotes at the first step: nothing has entered. -/
theorem decay_start {N : Nat} (s : Fin N → EReal) (f : Fin N → EReal) :
    ∑ x : Fin N, s x * Ideal.exp (if 1 + x.val ≤ 0 then f x else ⊥) = 0 := by
  refine Finset.sum_eq_zero fun x _ => ?_
  rw [if_neg (by omega)]
  exact mul_zero _

/-- The softplus of a real is real. -/
theorem softplus_real (r : ℝ) : ∃ q : ℝ, max (r : EReal) 0 + Ideal.log1p (Ideal.exp (-(max (r : EReal) (-(r : EReal))))) = (q : EReal) := by
  have e : max (r : EReal) (-(r : EReal)) = ((max r (-r) : ℝ) : EReal) := by
    rw [← EReal.coe_neg]; exact (EReal.coe_strictMono.monotone.map_max).symm
  have e0 : max (r : EReal) 0 = ((max r 0 : ℝ) : EReal) := by
    rw [← EReal.coe_zero]; exact (EReal.coe_strictMono.monotone.map_max).symm
  rw [e, e0, ← EReal.coe_neg, exp_real]
  unfold Ideal.log1p
  rw [← EReal.coe_one, ← EReal.coe_add]
  have hp : ¬ (1 + Real.exp (-max r (-r)) ≤ 0) := not_le.mpr (by positivity)
  refine ⟨max r 0 + Real.log (1 + Real.exp (-max r (-r))), ?_⟩
  rw [EReal.coe_add, EReal.coe_add]
  congr 1
  rw [← EReal.coe_add]
  show (if 1 + Real.exp (-max r (-r)) ≤ 0 then (⊥ : EReal) else _) = _
  rw [if_neg hp]

/-- An extended real of finite absolute value is real. -/
theorem real_of_abs_lt (x : EReal) (h : max x (-x) < ⊤) : ∃ r : ℝ, x = (r : EReal) := by
  induction x using EReal.rec with
  | bot => simp at h
  | coe r => exact ⟨r, rfl⟩
  | top => simp at h

end Cert.Recurrence

end
-- ==== Proof.Ssd.Ref.lean ====
/- What the reference of the recurrence computes, element by element: the convolution and its activation, the step sizes, the
   running decays, the contributions of a chunk, the states carried between chunks, and the gated and normalized result. -/
module

public import proofs.«01_k».proof.Proof.Gen.SsdRefIdeal.Read
public import proofs.«01_k».proof.Proof.Ssd.Math
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.SsdRefIdeal.Ssd

open Cert.SsdRefIdeal Cert.SsdRefIdeal.Read Cert.Recurrence

variable (x0 : FVec Ideal S16384x512 .f32) (x1 : FVec Ideal S16384x256 .f32) (x2 : FVec Ideal S16384x128 .f32)
  (x3 : FVec Ideal S4x512 .f32) (x4 : FVec Ideal S512 .f32) (x5 x6 x7 : FVec Ideal S4 .f32) (x8 : FVec Ideal S256 .f32)

/-- The position in a sequence of row `l` of chunk `c`. -/
def pos (c : Fin 16) (l : Fin 128) : Fin 2048 := ⟨c * 128 + l, by omega⟩

/-- The row of the flattened arrays that holds row `l` of chunk `c` of sequence `b`. -/
def row (b : Fin 8) (c : Fin 16) (l : Fin 128) : Fin 16384 := ⟨b * 2048 + (c * 128 + l), by omega⟩

/-- The column of entry `p` of head `h`. -/
def col (h : Fin 4) (p : Fin 64) : Fin 256 := ⟨h * 64 + p, by omega⟩

/-- The lane that holds the step size of head `h`. -/
def lane (h : Fin 4) : Fin 128 := ⟨68 + h, by omega⟩

/-- The pattern of the masked differences is minus infinity. -/
theorem bot_pattern : Ideal.ofBits FTy.f32 4286578688#32 = (⊥ : EReal) := by
  simp [Ideal.ofBits, Ideal.ieee]

/-- The lower-triangular mask, as a comparison of positions. -/
theorem mask_apply (l s : Nat) (hl : l < 256) (hs : s < 256) (A B : EReal) :
    Scalar.select (Scalar.select (IntOp.cmpi CmpIPredicate.sge (IntOp.addi (BitVec.ofNat 32 l) 0#32) (BitVec.ofNat 32 s)) 1#1 0#1) A B =
      if s ≤ l then A else B := by
  have e : IntOp.cmpi CmpIPredicate.sge (BitVec.ofNat 32 l) (BitVec.ofNat 32 s) = BitVec.ofBool (decide (s ≤ l)) :=
    WordCmp.cmpi_sge_ofNat (by omega) (by omega)
  by_cases h : s ≤ l <;> simp [Scalar.select, IntOp.addi, e, h]

/-- The masked differences are filled with minus infinity. -/
theorem constant_bot : constant S_ FTy.f32 4286578688#32 (F := Ideal) ix0 = (⊥ : EReal) := bot_pattern

/-- The convolution at a position, over the input extended by three zero rows. -/
theorem conv_apply (b : Fin 8) (l : Fin 2048) (j : Fin 512) :
    val_main_v36 (F := Ideal) x0 x3 x4 (ix3 b l j) =
      x4 (ix1 j) + val_main_v6 (F := Ideal) x0 (ix3 b ⟨l, by omega⟩ j) * x3 (ix2 0 j)
        + val_main_v6 (F := Ideal) x0 (ix3 b ⟨1 + l, by omega⟩ j) * x3 (ix2 1 j)
        + val_main_v6 (F := Ideal) x0 (ix3 b ⟨2 + l, by omega⟩ j) * x3 (ix2 2 j)
        + val_main_v6 (F := Ideal) x0 (ix3 b ⟨3 + l, by omega⟩ j) * x3 (ix2 3 j) := by
  pointwise [val_main_v36, val_main_v29, val_main_v22, val_main_v15, val_main_v14, val_main_v13, val_main_v12, val_main_v11, val_main_v10, val_main_v9, val_main_v8, val_main_v7, val_main_v16, val_main_v17, val_main_v18, val_main_v19, val_main_v20, val_main_v21, val_main_v23, val_main_v24, val_main_v25, val_main_v26, val_main_v27, val_main_v28, val_main_v30, val_main_v31, val_main_v32, val_main_v33, val_main_v34, val_main_v35]

/-- The extended input: three zero rows, then the sequence. -/
theorem ext_apply (b : Fin 8) (l : Fin 2051) (j : Fin 512) :
    val_main_v6 (F := Ideal) x0 (ix3 b l j) = if h : l.val < 3 then 0 else x0 (ix2 ⟨b * 2048 + (l - 3), by omega⟩ j) := by
  pointwise [val_main_v6, val_main_v4, val_main_v0, val_main_cst]

/-- The activated convolution. -/
theorem act_apply (b : Fin 8) (l : Fin 2048) (j : Fin 512) :
    val_main_v37 (F := Ideal) x0 x3 x4 (ix3 b l j) =
      val_main_v36 (F := Ideal) x0 x3 x4 (ix3 b l j) * Ideal.logistic (val_main_v36 (F := Ideal) x0 x3 x4 (ix3 b l j)) := by
  pointwise [val_main_v37, val_main_call0_v5, val_main_call0_v4, val_main_call0_v3,
    val_main_call0_v2, val_main_call0_v1, val_main_call0_v0, val_main_call0_cst, val_main_call0_cst_0, Ideal.logistic]

/-- The step sizes. -/
theorem dt_apply (b : Fin 8) (c : Fin 16) (l : Fin 128) (h : Fin 4) :
    val_main_v44 (F := Ideal) x2 x5 (ix3 b (pos c l) h) = max (x2 (ix2 (row b c l) (lane h)) + x5 (ix1 h)) 0 +
      Ideal.log1p (Ideal.exp (-(max (x2 (ix2 (row b c l) (lane h)) + x5 (ix1 h)) (-(x2 (ix2 (row b c l) (lane h)) + x5 (ix1 h)))))) := by
  pointwise [pos, row, lane, val_main_v44, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v43, val_main_v42, val_main_v41, val_main_v3, val_main_v2]
  rw [if_neg (fun e => e rfl)]
  rfl

/-- The scaled inputs. -/
theorem xdt_apply (b : Fin 8) (c : Fin 16) (l : Fin 128) (h : Fin 4) (p : Fin 64) :
    val_main_v51 (F := Ideal) x0 x2 x3 x4 x5 (ix5 b c l h p) =
      val_main_v37 (F := Ideal) x0 x3 x4 (ix3 b (pos c l) ⟨col h p, by omega⟩) * val_main_v44 (F := Ideal) x2 x5 (ix3 b (pos c l) h) := by
  pointwise [pos, col, val_main_v51, val_main_v50, val_main_v49, val_main_v48, val_main_v47, val_main_v38]

/-- The logarithm of a step's decay. -/
theorem a_apply (b : Fin 8) (h : Fin 4) (c : Fin 16) (l : Fin 128) :
    val_main_v56 (F := Ideal) x2 x5 x6 (ix4 b h c l) = val_main_v44 (F := Ideal) x2 x5 (ix3 b (pos c l) h) * -Ideal.exp (x6 (ix1 h)) := by
  pointwise [pos, val_main_v56, val_main_v55, val_main_v54, val_main_v53, val_main_v52, val_main_v46, val_main_v45]

/-- The rank-four window of a running sum along the last axis has its positions on that axis. -/
def lastAxis : Fin 128 ≃ (⟨4, ![1, 1, 1, 128]⟩ : Shape).Idx where
  toFun k := ix4 0 0 0 k
  invFun i := i 3
  left_inv _ := rfl
  right_inv i := by
    refine funext fun a => ?_
    match a with
    | 0 => exact Fin.ext (by have := (i 0).isLt; change (i 0).val < 1 at this; show 0 = (i 0).val; omega)
    | 1 => exact Fin.ext (by have := (i 1).isLt; change (i 1).val < 1 at this; show 0 = (i 1).val; omega)
    | 2 => exact Fin.ext (by have := (i 2).isLt; change (i 2).val < 1 at this; show 0 = (i 2).val; omega)
    | 3 => rfl

/-- The running sum of the decays inside a chunk. -/
theorem cs_apply (b : Fin 8) (h : Fin 4) (c : Fin 16) (l : Fin 128) :
    val_main_v59 (F := Ideal) x2 x5 x6 (ix4 b h c l) = ∑ s : Fin 128, if s ≤ l then val_main_v56 (F := Ideal) x2 x5 x6 (ix4 b h c s) else 0 := by
  unfold val_main_v59
  rw [window_sum _ _ _ _ _ _ _ _ (by pointwise [val_main_call2_call0_v0, val_main_call2_call0_cst]), ← lastAxis.sum_comp]
  refine running_sum 128 (fun s => val_main_v56 (F := Ideal) x2 x5 x6 (ix4 b h c s)) l _ fun n => ?_
  by_cases hn : 128 - 1 ≤ l.val + n.val
  · rw [dif_pos hn, dif_pos fun a => ?_]
    · refine congrArg _ (funext fun a => ?_)
      match a with
      | 0 => exact Fin.ext (show b.val * 1 + 0 - 0 = b.val by omega)
      | 1 => exact Fin.ext (show h.val * 1 + 0 - 0 = h.val by omega)
      | 2 => exact Fin.ext (show c.val * 1 + 0 - 0 = c.val by omega)
      | 3 => exact Fin.ext (show l.val * 1 + n.val - 127 = l.val + n.val - (128 - 1) by omega)
    · match a with
      | 0 => exact ⟨Nat.zero_le _, show b.val * 1 + 0 - 0 < 8 by omega⟩
      | 1 => exact ⟨Nat.zero_le _, show h.val * 1 + 0 - 0 < 4 by omega⟩
      | 2 => exact ⟨Nat.zero_le _, show c.val * 1 + 0 - 0 < 16 by omega⟩
      | 3 => exact ⟨show 127 ≤ l.val * 1 + n.val by omega, show l.val * 1 + n.val - 127 < 128 by omega⟩
  · rw [dif_neg hn, dif_neg fun hin => hn ?_]
    have h3 : 127 ≤ l.val * 1 + n.val := (hin 3).1
    omega

/-- The second copy of the running sum is the first. -/
theorem cs_again : val_main_v60 (F := Ideal) x2 x5 x6 = val_main_v59 (F := Ideal) x2 x5 x6 := rfl

/-- The rank-three window of a running sum along the last axis has its positions on that axis. -/
def lastAxis3 : Fin 17 ≃ (⟨3, ![1, 1, 17]⟩ : Shape).Idx where
  toFun k := ix3 0 0 k
  invFun i := i 2
  left_inv _ := rfl
  right_inv i := by
    refine funext fun a => ?_
    match a with
    | 0 => exact Fin.ext (by have := (i 0).isLt; change (i 0).val < 1 at this; show 0 = (i 0).val; omega)
    | 1 => exact Fin.ext (by have := (i 1).isLt; change (i 1).val < 1 at this; show 0 = (i 1).val; omega)
    | 2 => rfl

/-- The running sum of the decays of whole chunks. -/
theorem ccs_apply (b : Fin 8) (h : Fin 4) (z : Fin 17) :
    val_main_v90 (F := Ideal) x2 x5 x6 (ix3 b h z) = ∑ k : Fin 17, if k ≤ z then val_main_v89 (F := Ideal) x2 x5 x6 (ix3 b h k) else 0 := by
  unfold val_main_v90
  rw [window_sum _ _ _ _ _ _ _ _ (by pointwise [val_main_call7_call0_v0, val_main_call7_call0_cst]), ← lastAxis3.sum_comp]
  refine running_sum 17 (fun k => val_main_v89 (F := Ideal) x2 x5 x6 (ix3 b h k)) z _ fun n => ?_
  by_cases hn : 17 - 1 ≤ z.val + n.val
  · rw [dif_pos hn, dif_pos fun a => ?_]
    · refine congrArg _ (funext fun a => ?_)
      match a with
      | 0 => exact Fin.ext (show b.val * 1 + 0 - 0 = b.val by omega)
      | 1 => exact Fin.ext (show h.val * 1 + 0 - 0 = h.val by omega)
      | 2 => exact Fin.ext (show z.val * 1 + n.val - 16 = z.val + n.val - (17 - 1) by omega)
    · match a with
      | 0 => exact ⟨Nat.zero_le _, show b.val * 1 + 0 - 0 < 8 by omega⟩
      | 1 => exact ⟨Nat.zero_le _, show h.val * 1 + 0 - 0 < 4 by omega⟩
      | 2 => exact ⟨show 16 ≤ z.val * 1 + n.val by omega, show z.val * 1 + n.val - 16 < 17 by omega⟩
  · rw [dif_neg hn, dif_neg fun hin => hn ?_]
    have h3 : 16 ≤ z.val * 1 + n.val := (hin 2).1
    omega

/-- A chunk's decay, moved by one place. -/
theorem chunk_apply (b : Fin 8) (h : Fin 4) (z : Fin 17) :
    val_main_v89 (F := Ideal) x2 x5 x6 (ix3 b h z) = if hz : 1 ≤ z.val then val_main_v59 (F := Ideal) x2 x5 x6 (ix4 b h ⟨z - 1, by omega⟩ 127) else 0 := by
  have e : FloatOps.sitofp (F := Ideal) .f32 (0#32 : BitVec 32) = (0 : EReal) := by
    show (((0#32 : BitVec 32).toInt : ℝ) : EReal) = 0
    simp
  by_cases hz : 1 ≤ z.val <;> pointwise [val_main_v89, val_main_v88, val_main_v87, val_main_call6_v0, val_main_c_2]
  · rw [dif_pos (by omega), dif_pos hz]
  · rw [dif_neg (by omega), dif_neg hz, e]

/-- The products of the output and input projections inside a chunk. -/
theorem cb_apply (b : Fin 8) (c : Fin 16) (l s : Fin 128) :
    val_main_v70 (F := Ideal) x0 x3 x4 (ix4 b c l s) = ∑ x : Fin 128, val_main_v37 (F := Ideal) x0 x3 x4 (ix3 b (pos c l) ⟨384 + x, by omega⟩) *
      val_main_v37 (F := Ideal) x0 x3 x4 (ix3 b (pos c s) ⟨256 + x, by omega⟩) := by
  pointwise [pos, val_main_v70, val_main_v58, val_main_v57, val_main_v39, val_main_v40]

/-- The masked decay from one row of a chunk to a later one. -/
theorem lm_apply (b : Fin 8) (h : Fin 4) (c : Fin 16) (l s : Fin 128) :
    val_main_v69 (F := Ideal) x2 x5 x6 (ix5 b h c l s) = Ideal.exp (if s.val ≤ l.val then
      val_main_v59 (F := Ideal) x2 x5 x6 (ix4 b h c l) - val_main_v59 (F := Ideal) x2 x5 x6 (ix4 b h c s) else ⊥) := by
  pointwise [val_main_v69, val_main_v68, val_main_v65, val_main_v64, val_main_v63, val_main_v62, val_main_v61, val_main_call5_v1,  val_main_call5_v2,  val_main_call5_v0, val_main_cst_1, val_main_v67, val_main_call4_v0, val_main_call4_v1, val_main_call4_v2, val_main_call4_v3, val_main_call4_v4, val_main_call4_v5, val_main_call4_c, val_main_call4_c_0, val_main_v66, val_main_c]
  rw [mask_apply _ _ (by omega) (by omega), cs_again, id, constant_bot]

/-- What a chunk's rows give each other. -/
theorem diag_apply (b : Fin 8) (c : Fin 16) (l : Fin 128) (h : Fin 4) (p : Fin 64) :
    val_main_v75 (F := Ideal) x0 x2 x3 x4 x5 x6 (ix5 b c l h p) = ∑ x : Fin 128, val_main_v51 (F := Ideal) x0 x2 x3 x4 x5 (ix5 b c x h p) *
      (val_main_v70 (F := Ideal) x0 x3 x4 (ix4 b c l x) * val_main_v69 (F := Ideal) x2 x5 x6 (ix5 b h c l x)) := by
  pointwise [val_main_v75, val_main_v74, val_main_v73, val_main_v72, val_main_v71]

/-- What a chunk adds to the state. -/
theorem contrib_apply (b : Fin 8) (c : Fin 16) (h : Fin 4) (p : Fin 64) (n : Fin 128) :
    val_main_v84 (F := Ideal) x0 x2 x3 x4 x5 x6 (ix5 b c h p n) = ∑ x : Fin 128,
      Ideal.exp (val_main_v59 (F := Ideal) x2 x5 x6 (ix4 b h c 127) - val_main_v59 (F := Ideal) x2 x5 x6 (ix4 b h c x)) *
        val_main_v51 (F := Ideal) x0 x2 x3 x4 x5 (ix5 b c x h p) * val_main_v37 (F := Ideal) x0 x3 x4 (ix3 b (pos c x) ⟨256 + n, by omega⟩) := by
  pointwise [pos, val_main_v84, val_main_v83, val_main_v82, val_main_v81, val_main_v80, val_main_v79, val_main_v78, val_main_v77, val_main_v76, val_main_v57, val_main_v39]

/-- The state before a chunk: the chunks before it, each decayed. -/
theorem states_apply (b : Fin 8) (z : Fin 17) (h : Fin 4) (p : Fin 64) (n : Fin 128) :
    val_main_v101 (F := Ideal) x0 x2 x3 x4 x5 x6 (ix5 b z h p n) = ∑ x : Fin 16, val_main_v84 (F := Ideal) x0 x2 x3 x4 x5 x6 (ix5 b x h p n) *
      Ideal.exp (if 1 + x.val ≤ z.val then
        val_main_v90 (F := Ideal) x2 x5 x6 (ix3 b h z) - val_main_v90 (F := Ideal) x2 x5 x6 (ix3 b h ⟨1 + x, by omega⟩) else ⊥) := by
  pointwise [val_main_v101, val_main_v100, val_main_v99, val_main_v98, val_main_v95, val_main_v94, val_main_v93, val_main_v92, val_main_v91, val_main_call9_v1,  val_main_call9_v2,  val_main_call9_v0, val_main_cst_4, val_main_v97, val_main_call8_v0, val_main_call8_v1, val_main_call8_v2, val_main_call8_v3, val_main_call8_v4, val_main_call8_v5, val_main_call8_c, val_main_call8_c_0, val_main_v96, val_main_c_3, val_main_v86, val_main_v85, val_main_v5, val_main_cst_0]
  simp only [zero_mul, Finset.sum_const_zero, zero_add]
  refine Finset.sum_congr rfl fun x _ => ?_
  rw [mask_apply _ _ (by omega) (by omega)]
  exact congrArg (fun e => _ * Ideal.exp (if 1 + x.val ≤ z.val then _ else e)) constant_bot

/-- What the state carried into a chunk gives its rows. -/
theorem off_apply (b : Fin 8) (c : Fin 16) (l : Fin 128) (h : Fin 4) (p : Fin 64) :
    val_main_v108 (F := Ideal) x0 x2 x3 x4 x5 x6 (ix5 b c l h p) =
      (∑ x : Fin 128, val_main_v37 (F := Ideal) x0 x3 x4 (ix3 b (pos c l) ⟨384 + x, by omega⟩) *
        val_main_v101 (F := Ideal) x0 x2 x3 x4 x5 x6 (ix5 b ⟨c, by omega⟩ h p x)) * Ideal.exp (val_main_v59 (F := Ideal) x2 x5 x6 (ix4 b h c l)) := by
  pointwise [pos, val_main_v108, val_main_v107, val_main_v106, val_main_v105, val_main_v104, val_main_v103, val_main_v102, val_main_v58, val_main_v40]

/-- The result before the gate, with the skip connection. -/
theorem sum_apply (b : Fin 8) (c : Fin 16) (l : Fin 128) (h : Fin 4) (p : Fin 64) :
    val_main_v118 (F := Ideal) x0 x2 x3 x4 x5 x6 x7 (ix3 b (pos c l) (col h p)) =
      val_main_v75 (F := Ideal) x0 x2 x3 x4 x5 x6 (ix5 b c l h p) + val_main_v108 (F := Ideal) x0 x2 x3 x4 x5 x6 (ix5 b c l h p)
        + x7 (ix1 h) * val_main_v37 (F := Ideal) x0 x3 x4 (ix3 b (pos c l) ⟨col h p, by omega⟩) := by
  pointwise [pos, col, val_main_v118, val_main_v117, val_main_v116, val_main_v115, val_main_v114, val_main_v113, val_main_v110, val_main_v109, val_main_v47, val_main_v38]

/-- The gated result. -/
theorem gated_apply (b : Fin 8) (c : Fin 16) (l : Fin 128) (j : Fin 256) :
    val_main_v120 (F := Ideal) x0 x1 x2 x3 x4 x5 x6 x7 (ix3 b (pos c l) j) = val_main_v118 (F := Ideal) x0 x2 x3 x4 x5 x6 x7 (ix3 b (pos c l) j) *
      (x1 (ix2 (row b c l) j) * Ideal.logistic (x1 (ix2 (row b c l) j))) := by
  pointwise [pos, row, val_main_v120, val_main_v119, val_main_call10_v5, val_main_call10_v4, val_main_call10_v3,
    val_main_call10_v2, val_main_call10_v1, val_main_call10_v0, val_main_call10_cst, val_main_call10_cst_0, val_main_v1, Ideal.logistic]

/-- The normalized result. -/
theorem y_apply (b : Fin 8) (c : Fin 16) (l : Fin 128) (j : Fin 256) :
    val_main_v135 (F := Ideal) x0 x1 x2 x3 x4 x5 x6 x7 x8 (ix2 (row b c l) j) =
      val_main_v120 (F := Ideal) x0 x1 x2 x3 x4 x5 x6 x7 (ix3 b (pos c l) j) *
        Ideal.rsqrt (Ideal.div (∑ x : Fin 256, val_main_v120 (F := Ideal) x0 x1 x2 x3 x4 x5 x6 x7 (ix3 b (pos c l) x) *
          val_main_v120 (F := Ideal) x0 x1 x2 x3 x4 x5 x6 x7 (ix3 b (pos c l) x)) (Ideal.ofBits FTy.f32 1132462080#32) +
            Ideal.ofBits FTy.f32 897988541#32) * x8 (ix1 j) := by
  have e : (⟨(b.val * 2048 + (c.val * 128 + l.val)) % 2048, Nat.mod_lt _ (by omega)⟩ : Fin 2048) = ⟨c.val * 128 + l.val, by omega⟩ :=
    Fin.ext (show (b.val * 2048 + (c.val * 128 + l.val)) % 2048 = c.val * 128 + l.val by omega)
  pointwise [pos, row, val_main_v135, val_main_v134, val_main_v133, val_main_v132, val_main_v131, val_main_v130, val_main_v129, val_main_v128, val_main_v127, val_main_v126, val_main_v125, val_main_v124, val_main_v123, val_main_v122, val_main_v121, val_main_cst_5, val_main_cst_6, val_main_cst_7]
  rw [e]

/-- The last state. -/
theorem last_apply (b : Fin 8) (h : Fin 4) (p : Fin 64) (n : Fin 128) :
    val_main_v112 (F := Ideal) x0 x2 x3 x4 x5 x6 (ix4 b h p n) = val_main_v101 (F := Ideal) x0 x2 x3 x4 x5 x6 (ix5 b 16 h p n) := by
  pointwise [val_main_v112, val_main_v111]

/-- The inputs of the decays are real numbers. -/
structure Finite : Prop where
  step : ∀ (b : Fin 8) (c : Fin 16) (l : Fin 128) (h : Fin 4), ∃ q : ℝ, x2 (ix2 (row b c l) (lane h)) = (q : EReal)
  bias : ∀ h : Fin 4, ∃ q : ℝ, x5 (ix1 h) = (q : EReal)
  rate : ∀ h : Fin 4, ∃ q : ℝ, x6 (ix1 h) = (q : EReal)

variable {x2 x5 x6}

/-- The decays are real numbers. -/
theorem a_real (hf : Finite x2 x5 x6) (b : Fin 8) (h : Fin 4) (c : Fin 16) (l : Fin 128) :
    ∃ q : ℝ, val_main_v56 (F := Ideal) x2 x5 x6 (ix4 b h c l) = (q : EReal) := by
  obtain ⟨u, hu⟩ := hf.step b c l h
  obtain ⟨v, hv⟩ := hf.bias h
  obtain ⟨w, hw⟩ := hf.rate h
  obtain ⟨q, hq⟩ := softplus_real (u + v)
  obtain ⟨r, hr⟩ : ∃ r : ℝ, Ideal.exp (w : EReal) = (r : EReal) := ⟨_, exp_real w⟩
  refine ⟨q * -r, ?_⟩
  rw [a_apply, dt_apply, hu, hv, hw, ← EReal.coe_add, hq, hr, ← EReal.coe_neg, ← EReal.coe_mul]

/-- The running sums of the decays are real numbers. -/
theorem cs_real (hf : Finite x2 x5 x6) (b : Fin 8) (h : Fin 4) (c : Fin 16) (l : Fin 128) :
    ∃ q : ℝ, val_main_v59 (F := Ideal) x2 x5 x6 (ix4 b h c l) = (q : EReal) := by
  choose A hA using fun s => a_real hf b h c s
  refine ⟨∑ s, if s ≤ l then A s else 0, ?_⟩
  rw [cs_apply, ← sum_coe]
  refine Finset.sum_congr rfl fun s _ => ?_
  rw [hA]
  split_ifs <;> rfl

/-- The running sums over the chunks: real, and one chunk apart by its decay. -/
theorem ccs_real (hf : Finite x2 x5 x6) (b : Fin 8) (h : Fin 4) :
    ∃ C : ℕ → ℝ, (∀ z : Fin 17, val_main_v90 (F := Ideal) x2 x5 x6 (ix3 b h z) = (C z : EReal)) ∧
      ∀ z : Fin 16, val_main_v59 (F := Ideal) x2 x5 x6 (ix4 b h z 127) = ((C (z + 1) - C z : ℝ) : EReal) := by
  choose L hL using fun c => cs_real hf b h c 127
  refine ⟨fun n => ∑ k : Fin 17, if k.val ≤ n then (if hk : 1 ≤ k.val then L ⟨k - 1, by omega⟩ else 0) else 0, fun z => ?_, fun z => ?_⟩
  · rw [ccs_apply, ← sum_coe]
    refine Finset.sum_congr rfl fun k _ => ?_
    rw [chunk_apply]
    simp only [hL, Fin.le_def]
    split_ifs <;> rfl
  · rw [hL, ← Finset.sum_sub_distrib, Finset.sum_eq_single (⟨z + 1, by omega⟩ : Fin 17)]
    · simp
    · intro k _ hk
      have hk' : k.val ≠ z.val + 1 := fun e => hk (Fin.ext e)
      by_cases h1 : k.val ≤ z.val
      · rw [if_pos h1, if_pos (by omega), sub_self]
      · rw [if_neg h1, if_neg (by omega), sub_self]
    · intro hk
      exact absurd (Finset.mem_univ _) hk

/-- No state comes into the first chunk. -/
theorem states_zero (b : Fin 8) (h : Fin 4) (p : Fin 64) (n : Fin 128) :
    val_main_v101 (F := Ideal) x0 x2 x3 x4 x5 x6 (ix5 b 0 h p n) = 0 := by
  rw [states_apply]
  exact decay_start (fun x => val_main_v84 (F := Ideal) x0 x2 x3 x4 x5 x6 (ix5 b x h p n)) _

/-- The state after a chunk: the one before it, decayed, and what the chunk adds. -/
theorem states_step (hf : Finite x2 x5 x6) (b : Fin 8) (z : Fin 16) (h : Fin 4) (p : Fin 64) (n : Fin 128) :
    val_main_v101 (F := Ideal) x0 x2 x3 x4 x5 x6 (ix5 b ⟨z + 1, by omega⟩ h p n) =
      val_main_v101 (F := Ideal) x0 x2 x3 x4 x5 x6 (ix5 b ⟨z, by omega⟩ h p n) * Ideal.exp (val_main_v59 (F := Ideal) x2 x5 x6 (ix4 b h z 127))
        + val_main_v84 (F := Ideal) x0 x2 x3 x4 x5 x6 (ix5 b z h p n) := by
  obtain ⟨C, hC, hD⟩ := ccs_real hf b h
  rw [states_apply, states_apply, hD]
  simp only [hC, ← EReal.coe_sub]
  exact decay_step (fun x => val_main_v84 (F := Ideal) x0 x2 x3 x4 x5 x6 (ix5 b x h p n)) C z z.isLt

end Cert.SsdRefIdeal.Ssd

end
-- ==== Proof.Ssd.Block.lean ====
/- What the kernel of the recurrence computes from one chunk's blocks, element by element, against the reference's stages. -/
module

public import proofs.«01_k».proof.Proof.Gen.SsdIdeal.Frame
public import proofs.«01_k».proof.Proof.Ssd.Ref
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Read Cert.SsdRefIdeal.Ssd

/-- The lanes that hold the heads' step sizes. -/
theorem head_lane (h : Fin 4) : (k0_pay13 (ix2 0 (lane h)) : BitVec 1) = 1#1 := by
  fin_cases h <;> decide +kernel

/-- Which columns lie below the second head's, -/
theorem below_64 : ∀ (h : Fin 4) (p : Fin 64), IntOp.cmpi CmpIPredicate.slt (BitVec.ofNat 32 (h.val * 64 + p.val)) 64#32 = if h = 0 then 1#1 else 0#1 := by
  decide +kernel

/-- below the third head's, -/
theorem below_128 : ∀ (h : Fin 4) (p : Fin 64), IntOp.cmpi CmpIPredicate.slt (BitVec.ofNat 32 (h.val * 64 + p.val)) 128#32 = if h = 0 ∨ h = 1 then 1#1 else 0#1 := by
  decide +kernel

/-- and below the fourth head's. -/
theorem below_192 : ∀ (h : Fin 4) (p : Fin 64), IntOp.cmpi CmpIPredicate.slt (BitVec.ofNat 32 (h.val * 64 + p.val)) 192#32 = if h = 3 then 0#1 else 1#1 := by
  decide +kernel

/-- The head of a row of the state: its number divided by the head's size, rounded down. -/
theorem floor_row : ∀ (h : Fin 4) (p : Fin 64), Scalar.select
    (IntOp.andi (IntOp.cmpi CmpIPredicate.ne (IntOp.subi (BitVec.setWidth 32 (IntOp.cmpi CmpIPredicate.sgt (BitVec.ofNat 32 (h.val * 64 + p.val)) 0#32))
        (BitVec.setWidth 32 (IntOp.cmpi CmpIPredicate.slt (BitVec.ofNat 32 (h.val * 64 + p.val)) 0#32)))
      (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 (h.val * 64 + p.val)) 64#32) 0#32))
    (IntOp.subi (IntOp.divsi ArithUnit.vector (BitVec.ofNat 32 (h.val * 64 + p.val)) 64#32) 1#32)
    (IntOp.divsi ArithUnit.vector (BitVec.ofNat 32 (h.val * 64 + p.val)) 64#32) = BitVec.ofNat 32 h.val := by
  decide +kernel

/-- A choice among the heads' values by the column is the head's own value. -/
theorem choose_col (h : Fin 4) (p : Fin 64) (f : Fin 128 → EReal) :
    Scalar.select (IntOp.cmpi CmpIPredicate.slt (BitVec.ofNat 32 (h.val * 64 + p.val)) 64#32) (f 68)
      (Scalar.select (IntOp.cmpi CmpIPredicate.slt (BitVec.ofNat 32 (h.val * 64 + p.val)) 128#32) (f 69)
        (Scalar.select (IntOp.cmpi CmpIPredicate.slt (BitVec.ofNat 32 (h.val * 64 + p.val)) 192#32) (f 70) (f 71))) = f (lane h) := by
  rw [below_64, below_128, below_192]
  fin_cases h <;> rfl

/-- And by the row. -/
theorem choose_row (h : Fin 4) (f : Fin 128 → EReal) :
    Scalar.select (IntOp.cmpi CmpIPredicate.eq (BitVec.ofNat 32 h.val) 0#32) (f 68)
      (Scalar.select (IntOp.cmpi CmpIPredicate.eq (BitVec.ofNat 32 h.val) 1#32) (f 69)
        (Scalar.select (IntOp.cmpi CmpIPredicate.eq (BitVec.ofNat 32 h.val) 2#32) (f 70) (f 71))) = f (lane h) := by
  fin_cases h <;> rfl

/-- The first head's columns, -/
theorem band_0 : ∀ (h : Fin 4) (p : Fin 64), IntOp.andi (IntOp.cmpi CmpIPredicate.sge (BitVec.ofNat 32 (h.val * 64 + p.val)) 0#32)
    (IntOp.cmpi CmpIPredicate.slt (BitVec.ofNat 32 (h.val * 64 + p.val)) 64#32) = if h = 0 then 1#1 else 0#1 := by
  decide +kernel

/-- the second's, -/
theorem band_1 : ∀ (h : Fin 4) (p : Fin 64), IntOp.andi (IntOp.cmpi CmpIPredicate.sge (BitVec.ofNat 32 (h.val * 64 + p.val)) 64#32)
    (IntOp.cmpi CmpIPredicate.slt (BitVec.ofNat 32 (h.val * 64 + p.val)) 128#32) = if h = 1 then 1#1 else 0#1 := by
  decide +kernel

/-- the third's, -/
theorem band_2 : ∀ (h : Fin 4) (p : Fin 64), IntOp.andi (IntOp.cmpi CmpIPredicate.sge (BitVec.ofNat 32 (h.val * 64 + p.val)) 128#32)
    (IntOp.cmpi CmpIPredicate.slt (BitVec.ofNat 32 (h.val * 64 + p.val)) 192#32) = if h = 2 then 1#1 else 0#1 := by
  decide +kernel

/-- and the fourth's. -/
theorem band_3 : ∀ (h : Fin 4) (p : Fin 64), IntOp.andi (IntOp.cmpi CmpIPredicate.sge (BitVec.ofNat 32 (h.val * 64 + p.val)) 192#32)
    (IntOp.cmpi CmpIPredicate.slt (BitVec.ofNat 32 (h.val * 64 + p.val)) 256#32) = if h = 3 then 1#1 else 0#1 := by
  decide +kernel

/-- Of the four heads' sums, each cut to its own columns, a column keeps its head's. -/
theorem choose_band (h : Fin 4) (p : Fin 64) (f : Fin 128 → Fin 128 → EReal) :
    (∑ x, Scalar.select (IntOp.andi (IntOp.cmpi CmpIPredicate.sge (BitVec.ofNat 32 (h.val * 64 + p.val)) 0#32)
        (IntOp.cmpi CmpIPredicate.slt (BitVec.ofNat 32 (h.val * 64 + p.val)) 64#32)) (f 68 x) 0) +
      (∑ x, Scalar.select (IntOp.andi (IntOp.cmpi CmpIPredicate.sge (BitVec.ofNat 32 (h.val * 64 + p.val)) 64#32)
        (IntOp.cmpi CmpIPredicate.slt (BitVec.ofNat 32 (h.val * 64 + p.val)) 128#32)) (f 69 x) 0) +
      (∑ x, Scalar.select (IntOp.andi (IntOp.cmpi CmpIPredicate.sge (BitVec.ofNat 32 (h.val * 64 + p.val)) 128#32)
        (IntOp.cmpi CmpIPredicate.slt (BitVec.ofNat 32 (h.val * 64 + p.val)) 192#32)) (f 70 x) 0) +
      (∑ x, Scalar.select (IntOp.andi (IntOp.cmpi CmpIPredicate.sge (BitVec.ofNat 32 (h.val * 64 + p.val)) 192#32)
        (IntOp.cmpi CmpIPredicate.slt (BitVec.ofNat 32 (h.val * 64 + p.val)) 256#32)) (f 71 x) 0) = ∑ x, f (lane h) x := by
  have s0 : ∀ a b : EReal, Scalar.select 0#1 a b = b := fun _ _ => rfl
  have s1 : ∀ a b : EReal, Scalar.select 1#1 a b = a := fun _ _ => rfl
  rw [band_0, band_1, band_2, band_3]
  match h with
  | 0 => simp [s0, s1]; rfl
  | 1 => simp [s0, s1]; rfl
  | 2 => simp [s0, s1]; rfl
  | 3 => simp [s0, s1]; rfl

/-- The step sizes. -/
theorem step_block (A : FVec Ideal S128x128 .f32) (B : FVec Ideal S1x128 .f32) (l : Fin 128) (h : Fin 4) :
    k0_pay14 (F := Ideal) A B (ix2 l (lane h)) = max (A (ix2 l (lane h)) + B (ix2 0 (lane h))) 0 +
      Ideal.log1p (Ideal.exp (-(max (A (ix2 l (lane h)) + B (ix2 0 (lane h))) (-(A (ix2 l (lane h)) + B (ix2 0 (lane h))))))) := by
  pointwise [k0_pay14]
  rw [head_lane, zero_sub]
  rfl

/-- The decays' logarithms. -/
theorem decay_block (A : FVec Ideal S128x128 .f32) (B C : FVec Ideal S1x128 .f32) (l : Fin 128) (h : Fin 4) :
    k0_pay15 (F := Ideal) A B C (ix2 l (lane h)) = k0_pay14 (F := Ideal) A B (ix2 l (lane h)) * -Ideal.exp (C (ix2 0 (lane h))) := by
  pointwise [k0_pay15]
  rw [head_lane, zero_sub]
  rfl

/-- The mask of the rows up to a row, as a comparison of positions. -/
theorem mask_select (l s : Nat) (hl : l < 256) (hs : s < 256) (A B : EReal) :
    Scalar.select (IntOp.cmpi CmpIPredicate.sge (BitVec.ofNat 32 l) (BitVec.ofNat 32 s)) A B = if s ≤ l then A else B := by
  have e : IntOp.cmpi CmpIPredicate.sge (BitVec.ofNat 32 l) (BitVec.ofNat 32 s) = BitVec.ofBool (decide (s ≤ l)) :=
    WordCmp.cmpi_sge_ofNat (by omega) (by omega)
  by_cases h : s ≤ l <;> simp [Scalar.select, e, h]

/-- The running sum. -/
theorem cs_block (A : FVec Ideal S128x128 .f32) (l j : Fin 128) :
    k0_pay17 (F := Ideal) A (iota Kind.tc S128x128 32 [0] iota_S128x128_d0_w32) (ix2 l j) = ∑ s : Fin 128, if s ≤ l then A (ix2 s j) else 0 := by
  pointwise [k0_pay17, k0_pay16]
  exact Finset.sum_congr rfl fun x _ => mask_select _ _ (by omega) (by omega) _ _

/-- A step size, spread over its head's columns. -/
theorem spread_block (X : FVec Ideal S128x256 .f32) (A : FVec Ideal S128x128 .f32) (l : Fin 128) (h : Fin 4) (p : Fin 64) :
    k0_pay20 (F := Ideal) X A (ix2 l (col h p)) = X (ix2 l (col h p)) * A (ix2 l (lane h)) := by
  pointwise [k0_pay20, col]
  rw [choose_col h p fun j => A (ix2 l j)]

/-- The products of the projections. -/
theorem cb_block (B C : FVec Ideal S128x128 .bf16) (l s : Fin 128) :
    k0_pay21 (F := Ideal) B C (ix2 l s) = ∑ x : Fin 128, C (ix2 l x) * B (ix2 s x) := by
  pointwise [k0_pay21]

/-- What a chunk's rows give each other: at a column only its own head's masked product survives. -/
theorem diag_block (A X' : FVec Ideal S128x128 .f32) (X : FVec Ideal S128x256 .f32) (l : Fin 128) (h : Fin 4) (p : Fin 64) :
    k0_pay28 (F := Ideal) (k0_pay16 (iota Kind.tc S128x128 32 [0] iota_S128x128_d0_w32)) (k0_pay17 A (iota Kind.tc S128x128 32 [0] iota_S128x128_d0_w32))
      (k0_pay18 A (iota Kind.tc S128x128 32 [0] iota_S128x128_d0_w32)) X X' (iota .tc S1x256 32 [1] iota_S1x256_d1_w32)
      (k0_pay25 (k0_pay16 (iota Kind.tc S128x128 32 [0] iota_S128x128_d0_w32)) (k0_pay17 A (iota Kind.tc S128x128 32 [0] iota_S128x128_d0_w32))
        (k0_pay18 A (iota Kind.tc S128x128 32 [0] iota_S128x128_d0_w32)) X X' (iota .tc S1x256 32 [1] iota_S1x256_d1_w32) k0_pay22
        (k0_pay23 A (iota Kind.tc S128x128 32 [0] iota_S128x128_d0_w32)) k0_pay24)
      (k0_pay26 (iota .tc S1x256 32 [1] iota_S1x256_d1_w32))
      (k0_pay27 (k0_pay16 (iota Kind.tc S128x128 32 [0] iota_S128x128_d0_w32)) (k0_pay17 A (iota Kind.tc S128x128 32 [0] iota_S128x128_d0_w32))
        (k0_pay18 A (iota Kind.tc S128x128 32 [0] iota_S128x128_d0_w32)) X')
      (ix2 l (col h p)) = ∑ x : Fin 128, X' (ix2 l x) * Ideal.exp (if x.val ≤ l.val then
        k0_pay17 (F := Ideal) A (iota Kind.tc S128x128 32 [0] iota_S128x128_d0_w32) (ix2 l (lane h)) -
          k0_pay17 (F := Ideal) A (iota Kind.tc S128x128 32 [0] iota_S128x128_d0_w32) (ix2 x (lane h)) else ⊥) * X (ix2 x (col h p)) := by
  pointwise [k0_pay28, k0_pay25, k0_pay26, k0_pay27, k0_pay22, k0_pay23, k0_pay24, k0_pay16, k0_pay18, col]
  refine (choose_band h p fun j x => X' (ix2 l x) * Ideal.exp (Scalar.select (IntOp.cmpi CmpIPredicate.sge (BitVec.ofNat 32 l) (BitVec.ofNat 32 x))
    (k0_pay17 (F := Ideal) A (iota Kind.tc S128x128 32 [0] iota_S128x128_d0_w32) (ix2 l j) -
      k0_pay17 (F := Ideal) A (iota Kind.tc S128x128 32 [0] iota_S128x128_d0_w32) (ix2 x j)) (Ideal.ofBits FTy.f32 4286578688#32)) *
        X (ix2 x (col h p))).trans (Finset.sum_congr rfl fun x _ => ?_)
  dsimp only
  rw [mask_select _ _ (by omega) (by omega), bot_pattern]
  rfl

/-- The state's share of a row. -/
theorem off_block (C : FVec Ideal S128x128 .bf16) (S : FVec Ideal S256x128 .f32) (l : Fin 128) (j : Fin 256) :
    k0_pay29 (F := Ideal) C S (ix2 l j) = ∑ x : Fin 128, C (ix2 l x) * S (ix2 j x) := by
  pointwise [k0_pay29]

/-- The state's share of a row, decayed and added. -/
theorem add_block (D E : FVec Ideal S128x256 .f32) (A : FVec Ideal S128x128 .f32) (l : Fin 128) (h : Fin 4) (p : Fin 64) :
    k0_pay34 (F := Ideal) D E (k0_pay30 A) (iota .tc S1x256 32 [1] iota_S1x256_d1_w32) (k0_pay31 A) k0_pay32 (k0_pay33 A) (ix2 l (col h p)) =
      D (ix2 l (col h p)) + E (ix2 l (col h p)) * Ideal.exp (A (ix2 l (lane h))) := by
  pointwise [k0_pay34, k0_pay30, k0_pay31, k0_pay32, k0_pay33, col]
  rw [choose_col h p fun j => Ideal.exp (A (ix2 l j))]

/-- What a chunk adds to the state. -/
theorem contrib_block (B : FVec Ideal S128x128 .bf16) (A : FVec Ideal S128x128 .f32) (L : FVec Ideal S1x128 .f32) (X : FVec Ideal S128x256 .f32)
    (h : Fin 4) (p : Fin 64) (n : Fin 128) :
    k0_pay35 (F := Ideal) B A L X (ix2 (col h p) n) = ∑ x : Fin 128, X (ix2 x (col h p)) * Ideal.exp (L (ix2 0 (lane h)) - A (ix2 x (lane h))) * B (ix2 x n) := by
  pointwise [k0_pay35, col]
  refine Finset.sum_congr rfl fun x _ => ?_
  rw [choose_col h p fun j => Ideal.exp (L (ix2 0 j) - A (ix2 x j))]

/-- The last row of the running sum. -/
theorem last_block (A : FVec Ideal S128x128 .f32) (j : Fin 128) :
    k0_pay19 (F := Ideal) A (iota Kind.tc S128x128 32 [0] iota_S128x128_d0_w32) (ix2 0 j) =
      k0_pay17 (F := Ideal) A (iota Kind.tc S128x128 32 [0] iota_S128x128_d0_w32) (ix2 127 j) := by
  pointwise [k0_pay19]

/-- The state after a chunk. -/
theorem state_block (S C : FVec Ideal S256x128 .f32) (L : FVec Ideal S1x128 .f32) (h : Fin 4) (p : Fin 64) (n : Fin 128) :
    k0_pay38 (F := Ideal) S C (k0_pay36 L) (iota .tc S256x1 32 [0] iota_S256x1_d0_w32) 64#32 k0_pay37 (ix2 (col h p) n) =
      S (ix2 (col h p) n) * Ideal.exp (L (ix2 0 (lane h))) + C (ix2 (col h p) n) := by
  pointwise [k0_pay38, k0_pay36, k0_pay37, col]
  rw [floor_row, choose_row h fun j => Ideal.exp (L (ix2 0 j))]

/-- The convolution of a chunk's rows. -/
theorem conv_block (B : FVec Ideal S1x512 .f32) (X0 X1 X2 X3 : FVec Ideal S128x512 .f32) (W0 W1 W2 W3 : FVec Ideal S1x512 .f32) (l : Fin 128) (j : Fin 512) :
    k0_pay7 (F := Ideal) B X0 W0 X1 W1 X2 W2 X3 W3 (ix2 l j) = B (ix2 0 j) + X0 (ix2 l j) * W0 (ix2 0 j) + X1 (ix2 l j) * W1 (ix2 0 j)
      + X2 (ix2 l j) * W2 (ix2 0 j) + X3 (ix2 l j) * W3 (ix2 0 j) := by
  pointwise [k0_pay7]

/-- Its activation: the inputs, -/
theorem xs_block (X : FVec Ideal S128x512 .f32) (l : Fin 128) (j : Fin 256) :
    k0_pay10 (F := Ideal) X (ix2 l j) = X (ix2 l ⟨j, by omega⟩) * Ideal.logistic (X (ix2 l ⟨j, by omega⟩)) := by
  pointwise [k0_pay10, k0_pay9]

/-- the input projections, -/
theorem bm_block (X : FVec Ideal S128x512 .f32) (l : Fin 128) (j : Fin 128) :
    k0_pay11 (F := Ideal) X (ix2 l j) = X (ix2 l ⟨256 + j, by omega⟩) * Ideal.logistic (X (ix2 l ⟨256 + j, by omega⟩)) := by
  pointwise [k0_pay11, k0_pay9]

/-- and the output projections. -/
theorem cm_block (X : FVec Ideal S128x512 .f32) (l : Fin 128) (j : Fin 128) :
    k0_pay12 (F := Ideal) X (ix2 l j) = X (ix2 l ⟨384 + j, by omega⟩) * Ideal.logistic (X (ix2 l ⟨384 + j, by omega⟩)) := by
  pointwise [k0_pay12, k0_pay9]

/-- The gated and normalized rows. -/
theorem out_block (X Y : FVec Ideal S128x256 .f32) (D : FVec Ideal S1x256 .f32) (Z : FVec Ideal S128x256 .f32) (W : FVec Ideal S1x256 .f32)
    (l : Fin 128) (j : Fin 256) :
    k0_pay2 (F := Ideal) X Y D Z W (ix2 l j) =
      (Y (ix2 l j) + D (ix2 0 j) * X (ix2 l j)) * (Z (ix2 l j) * Ideal.logistic (Z (ix2 l j))) *
        Ideal.rsqrt (Ideal.div (∑ x : Fin 256, (Y (ix2 l x) + D (ix2 0 x) * X (ix2 l x)) * (Z (ix2 l x) * Ideal.logistic (Z (ix2 l x))) *
          ((Y (ix2 l x) + D (ix2 0 x) * X (ix2 l x)) * (Z (ix2 l x) * Ideal.logistic (Z (ix2 l x))))) (Ideal.ofBits FTy.f32 1132462080#32) +
            Ideal.ofBits FTy.f32 897988541#32) * W (ix2 0 j) := by
  pointwise [k0_pay2]

end Cert.SsdIdeal.Ssd

end
-- ==== Proof.Ssd.Chunk.lean ====
/- What a grid point computes from one chunk's blocks: the state after the chunk, and the chunk's rows of the result. -/
module

public import proofs.«01_k».proof.Proof.Ssd.Block

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Read Cert.SsdRefIdeal.Ssd

/-- Every column is an entry of a head. -/
theorem col_all (j : Fin 256) : ∃ (h : Fin 4) (p : Fin 64), j = col h p :=
  ⟨⟨j / 64, by omega⟩, ⟨j % 64, by omega⟩, Fin.ext (by simp only [col]; omega)⟩

variable (x0 : FVec Ideal S16384x512 .f32) (x1 : FVec Ideal S16384x256 .f32) (x2 : FVec Ideal S16384x128 .f32)
  (x3 : FVec Ideal S4x512 .f32) (x4 : FVec Ideal S512 .f32) (x5 x6 x7 : FVec Ideal S4 .f32) (x8 : FVec Ideal S256 .f32)
  (b : Fin 8) (c : Fin 16)

/-- The blocks of a chunk are the arguments' rows of it, with the convolution done and the state before it in place. -/
structure Holds (V : FVec Ideal S128x512 .f32) (M : FVec Ideal S128x128 .f32) (B R : FVec Ideal S1x128 .f32) (S : FVec Ideal S256x128 .f32) : Prop where
  conv : ∀ l j, V (ix2 l j) = val_main_v36 (F := Ideal) x0 x3 x4 (ix3 b (pos c l) j)
  step : ∀ l h, M (ix2 l (lane h)) = x2 (ix2 (row b c l) (lane h))
  bias : ∀ h, B (ix2 0 (lane h)) = x5 (ix1 h)
  rate : ∀ h, R (ix2 0 (lane h)) = x6 (ix1 h)
  state : ∀ h p n, S (ix2 (col h p) n) = val_main_v101 (F := Ideal) x0 x2 x3 x4 x5 x6 (ix5 b ⟨c, by omega⟩ h p n)

variable {x0 x2 x3 x4 x5 x6 b c} {V : FVec Ideal S128x512 .f32} {M : FVec Ideal S128x128 .f32} {B R : FVec Ideal S1x128 .f32} {S : FVec Ideal S256x128 .f32}
  (H : Holds x0 x2 x3 x4 x5 x6 b c V M B R S)

include H

/-- The step sizes are the reference's. -/
theorem step_eq (l : Fin 128) (h : Fin 4) : k0_pay14 (F := Ideal) M B (ix2 l (lane h)) = val_main_v44 (F := Ideal) x2 x5 (ix3 b (pos c l) h) := by
  rw [step_block, dt_apply, H.step, H.bias]

/-- The running sums are the reference's. -/
theorem cs_eq (l : Fin 128) (h : Fin 4) :
    k0_pay17 (F := Ideal) (k0_pay15 M B R) (iota Kind.tc S128x128 32 [0] iota_S128x128_d0_w32) (ix2 l (lane h)) =
      val_main_v59 (F := Ideal) x2 x5 x6 (ix4 b h c l) := by
  rw [cs_block, cs_apply]
  refine Finset.sum_congr rfl fun s _ => ?_
  rw [decay_block, a_apply, step_eq H, H.rate]

/-- The activated inputs are the reference's, -/
theorem xs_eq (l : Fin 128) (j : Fin 256) : k0_pay10 (F := Ideal) V (ix2 l j) = val_main_v37 (F := Ideal) x0 x3 x4 (ix3 b (pos c l) ⟨j, by omega⟩) := by
  rw [xs_block, H.conv, act_apply]

/-- so are the input projections, -/
theorem bm_eq (l j : Fin 128) : k0_pay11 (F := Ideal) V (ix2 l j) = val_main_v37 (F := Ideal) x0 x3 x4 (ix3 b (pos c l) ⟨256 + j, by omega⟩) := by
  rw [bm_block, H.conv, act_apply]

/-- the output projections, -/
theorem cm_eq (l j : Fin 128) : k0_pay12 (F := Ideal) V (ix2 l j) = val_main_v37 (F := Ideal) x0 x3 x4 (ix3 b (pos c l) ⟨384 + j, by omega⟩) := by
  rw [cm_block, H.conv, act_apply]

/-- and the scaled inputs. -/
theorem xdt_eq (l : Fin 128) (h : Fin 4) (p : Fin 64) :
    k0_pay20 (F := Ideal) (k0_pay10 V) (k0_pay14 M B) (ix2 l (col h p)) = val_main_v51 (F := Ideal) x0 x2 x3 x4 x5 (ix5 b c l h p) := by
  rw [spread_block, xs_eq H, step_eq H, xdt_apply]

/-- The state after the chunk is the reference's. -/
theorem state_eq (hf : Finite x2 x5 x6) (h : Fin 4) (p : Fin 64) (n : Fin 128) :
    k0_pay38 (F := Ideal) S (k0_pay35 (k0_pay11 V) (k0_pay17 (k0_pay15 M B R) (iota Kind.tc S128x128 32 [0] iota_S128x128_d0_w32))
      (k0_pay19 (k0_pay15 M B R) (iota Kind.tc S128x128 32 [0] iota_S128x128_d0_w32)) (k0_pay20 (k0_pay10 V) (k0_pay14 M B)))
      (k0_pay36 (k0_pay19 (k0_pay15 M B R) (iota Kind.tc S128x128 32 [0] iota_S128x128_d0_w32)))
      (iota .tc S256x1 32 [0] iota_S256x1_d0_w32) 64#32 k0_pay37 (ix2 (col h p) n) =
    val_main_v101 (F := Ideal) x0 x2 x3 x4 x5 x6 (ix5 b ⟨c + 1, by omega⟩ h p n) := by
  rw [state_block, H.state, last_block, cs_eq H, states_step x0 x3 x4 hf, contrib_block, contrib_apply]
  refine congrArg _ (Finset.sum_congr rfl fun x _ => ?_)
  rw [last_block, cs_eq H, cs_eq H, xdt_eq H, bm_eq H, mul_comm (Ideal.exp _)]

/-- The rows before the skip connection and the gate are the reference's. -/
theorem rows_eq (l : Fin 128) (h : Fin 4) (p : Fin 64) :
    k0_pay34 (F := Ideal)
      (k0_pay28 (k0_pay16 (iota Kind.tc S128x128 32 [0] iota_S128x128_d0_w32)) (k0_pay17 (k0_pay15 M B R) (iota Kind.tc S128x128 32 [0] iota_S128x128_d0_w32))
        (k0_pay18 (k0_pay15 M B R) (iota Kind.tc S128x128 32 [0] iota_S128x128_d0_w32)) (k0_pay20 (k0_pay10 V) (k0_pay14 M B))
        (k0_pay21 (k0_pay11 V) (k0_pay12 V)) (iota .tc S1x256 32 [1] iota_S1x256_d1_w32)
        (k0_pay25 (k0_pay16 (iota Kind.tc S128x128 32 [0] iota_S128x128_d0_w32)) (k0_pay17 (k0_pay15 M B R) (iota Kind.tc S128x128 32 [0] iota_S128x128_d0_w32))
          (k0_pay18 (k0_pay15 M B R) (iota Kind.tc S128x128 32 [0] iota_S128x128_d0_w32)) (k0_pay20 (k0_pay10 V) (k0_pay14 M B))
          (k0_pay21 (k0_pay11 V) (k0_pay12 V)) (iota .tc S1x256 32 [1] iota_S1x256_d1_w32) k0_pay22
          (k0_pay23 (k0_pay15 M B R) (iota Kind.tc S128x128 32 [0] iota_S128x128_d0_w32)) k0_pay24)
        (k0_pay26 (iota .tc S1x256 32 [1] iota_S1x256_d1_w32))
        (k0_pay27 (k0_pay16 (iota Kind.tc S128x128 32 [0] iota_S128x128_d0_w32)) (k0_pay17 (k0_pay15 M B R) (iota Kind.tc S128x128 32 [0] iota_S128x128_d0_w32))
          (k0_pay18 (k0_pay15 M B R) (iota Kind.tc S128x128 32 [0] iota_S128x128_d0_w32)) (k0_pay21 (k0_pay11 V) (k0_pay12 V))))
      (k0_pay29 (k0_pay12 V) S) (k0_pay30 (k0_pay17 (k0_pay15 M B R) (iota Kind.tc S128x128 32 [0] iota_S128x128_d0_w32)))
      (iota .tc S1x256 32 [1] iota_S1x256_d1_w32) (k0_pay31 (k0_pay17 (k0_pay15 M B R) (iota Kind.tc S128x128 32 [0] iota_S128x128_d0_w32))) k0_pay32
      (k0_pay33 (k0_pay17 (k0_pay15 M B R) (iota Kind.tc S128x128 32 [0] iota_S128x128_d0_w32))) (ix2 l (col h p)) =
    val_main_v75 (F := Ideal) x0 x2 x3 x4 x5 x6 (ix5 b c l h p) + val_main_v108 (F := Ideal) x0 x2 x3 x4 x5 x6 (ix5 b c l h p) := by
  rw [add_block, diag_block, off_block, diag_apply, off_apply, cs_eq H]
  congr 1
  · refine Finset.sum_congr rfl fun x _ => ?_
    rw [cs_eq H, xdt_eq H, lm_apply, cb_block, cb_apply, mul_comm]
    refine congrArg (fun e => _ * (e * _)) (Finset.sum_congr rfl fun y _ => ?_)
    rw [cm_eq H, bm_eq H]
  · refine congrArg (fun e => e * _) (Finset.sum_congr rfl fun x _ => ?_)
    rw [cm_eq H, H.state]

/-- The chunk's rows of the result are the reference's. -/
theorem out_eq (x1 : FVec Ideal S16384x256 .f32) (x7 : FVec Ideal S4 .f32) (x8 : FVec Ideal S256 .f32) (Y : FVec Ideal S128x256 .f32)
    (D : FVec Ideal S1x256 .f32) (Z : FVec Ideal S128x256 .f32) (W : FVec Ideal S1x256 .f32)
    (hY : ∀ l h p, Y (ix2 l (col h p)) = val_main_v75 (F := Ideal) x0 x2 x3 x4 x5 x6 (ix5 b c l h p) + val_main_v108 (F := Ideal) x0 x2 x3 x4 x5 x6 (ix5 b c l h p))
    (hD : ∀ h p, D (ix2 0 (col h p)) = x7 (ix1 h)) (hZ : ∀ l j, Z (ix2 l j) = x1 (ix2 (row b c l) j)) (hW : ∀ j, W (ix2 0 j) = x8 (ix1 j))
    (l : Fin 128) (j : Fin 256) :
    k0_pay2 (F := Ideal) (k0_pay10 V) Y D Z W (ix2 l j) = val_main_v135 (F := Ideal) x0 x1 x2 x3 x4 x5 x6 x7 x8 (ix2 (row b c l) j) := by
  have g : ∀ j : Fin 256, (Y (ix2 l j) + D (ix2 0 j) * k0_pay10 (F := Ideal) V (ix2 l j)) * (Z (ix2 l j) * Ideal.logistic (Z (ix2 l j))) =
      val_main_v120 (F := Ideal) x0 x1 x2 x3 x4 x5 x6 x7 (ix3 b (pos c l) j) := fun j => by
    obtain ⟨h, p, rfl⟩ := col_all j
    rw [gated_apply, sum_apply, hY, hD, hZ, xs_eq H]
  rw [out_block, y_apply, hW]
  simp only [g]

end Cert.SsdIdeal.Ssd

end
-- ==== Proof.Ssd.Lanes.lean ====
/- How the host lays the heads' parameters out: a row written into one place of a wider array. -/
module

public import proofs.«01_k».proof.Proof.Ssd.Chunk
public import Idealize.ShloMosaic.Lib.Routing.OpsOne

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Ssd

/-- Entry `k` of a row written at the place two index words name lands at the first word's row, `k` columns after the second word. -/
theorem lands_row (idx : IVec S2 32) (k : Fin 4) (r : Fin 1) (j : Fin 128) :
    scatter_S1x128_S2_S4_0_0_01_0.resultIdx? (ix1 k) idx = some (ix2 r j) ↔
      (idx (ix1 0)).toInt = r.val ∧ (idx (ix1 1)).toInt + (k.val : Int) = j.val := by
  have w0 : scatter_S1x128_S2_S4_0_0_01_0.window (ix1 k) 0 = 0 := by
    unfold ScatterDims.window
    exact dif_neg (by decide)
  have w1 : scatter_S1x128_S2_S4_0_0_01_0.window (ix1 k) 1 = k.val := by
    unfold ScatterDims.window
    rw [dif_pos (by decide)]
    rfl
  have s0 : scatter_S1x128_S2_S4_0_0_01_0.start (ix1 k) idx 0 = (idx (ix1 0)).toInt := Routing.start_pair (R := 1) (C := 128) _ rfl rfl idx (ix1 k) 0
  have s1 : scatter_S1x128_S2_S4_0_0_01_0.start (ix1 k) idx 1 = (idx (ix1 1)).toInt := Routing.start_pair (R := 1) (C := 128) _ rfl rfl idx (ix1 k) 1
  refine (Routing.resultIdx?_ix2 (R := 1) (C := 128) scatter_S1x128_S2_S4_0_0_01_0 (ix1 k) idx r j).trans ?_
  rw [s0, s1, w0, w1]
  omega

/-- The heads' lanes of the array that a row of four values is written into at lane 68 hold the values. -/
theorem lanes_apply (z : FVec Ideal S1x128 .f32) (idx : IVec S2 32) (v : FVec Ideal S4 .f32) (h0 : idx (ix1 0) = 0#32) (h1 : idx (ix1 1) = 68#32) (h : Fin 4) :
    Host.scatter scatter_S1x128_S2_S4_0_0_01_0 (fun _ b => b) z idx v (ix2 0 (lane h)) = v (ix1 h) := by
  have e0 : (idx (ix1 0)).toInt = 0 := by rw [h0]; rfl
  have e1 : (idx (ix1 1)).toInt = 68 := by rw [h1]; rfl
  refine Routing.scatter_set_hit _ _ _ _ _ _ (fun k hk => ?_) (ix1 h) ((lands_row idx h 0 (lane h)).mpr ⟨e0, ?_⟩)
  · obtain ⟨n, rfl⟩ : ∃ n : Fin 4, k = ix1 n := ⟨k 0, (ix1_eta k).symm⟩
    have h2 := ((lands_row idx n 0 (lane h)).mp hk).2
    rw [e1] at h2
    simp only [lane] at h2
    exact congrArg (fun n => v (ix1 n)) (Fin.ext (by omega))
  · rw [e1]
    simp only [lane]
    omega

end Cert.SsdIdeal.Ssd

end
-- ==== Proof.Ssd.Blocks.lean ====
/- What the blocks of the recurrence's operands hold at a grid point, read off the host's preparation of them. -/
module

public import proofs.«01_k».proof.Proof.Ssd.Lanes

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Read Cert.SsdRefIdeal.Ssd

variable (m : (ℓ : Loc nD τ sig) → Buf (Elt Ideal) ℓ) (c : Dev nD)

/-- The block index of every window at a point: chunk `t % 16` of sequence `t / 16`. -/
theorem idx_val : ∀ t : Fin cfg0.N, win0_0.index t = ![t.val, 0] ∧ win0_1.index t = ![t.val, 0] ∧ win0_2.index t = ![t.val, 0] ∧
    win0_3.index t = ![t.val / 16, 0, 0] ∧ win0_4.index t = ![t.val / 16, 0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![t.val, 0] ∧ win0_12.index t = ![t.val / 16, 0, 0] := (by decide +kernel : ∀ t : Fin grid0.N, _)

/-- The sequence a point works on. -/
def seq (t : Fin cfg0.N) : Fin 8 := ⟨t.val / 16, by have := lt_of_lt_of_eq t.isLt N_0; omega⟩

/-- The chunk of that sequence. -/
def chunk (t : Fin cfg0.N) : Fin 16 := ⟨t.val % 16, by omega⟩

/-- The input of the convolution. -/
theorem read_x (t : Fin cfg0.N) (l : Fin 128) (j : Fin 512) : iblk m c 0 t (ix2 l j) = m ((c : Thread nD τ).loc main_arg0) (ix2 (row (seq t) (chunk t) l) j) := by
  have ht := lt_of_lt_of_eq t.isLt N_0
  unfold iblk
  blk_simp [idx_val t]
  unfold V V0
  simp only [List.flatten_cons, List.flatten_nil, List.append_nil]
  after_results_simp
  pointwise [seq, chunk, row]
  blk_ext [idx_val t]

/-- The gate. -/
theorem read_z (t : Fin cfg0.N) (l : Fin 128) (j : Fin 256) : iblk m c 1 t (ix2 l j) = m ((c : Thread nD τ).loc main_arg1) (ix2 (row (seq t) (chunk t) l) j) := by
  have ht := lt_of_lt_of_eq t.isLt N_0
  unfold iblk
  blk_simp [idx_val t]
  unfold V V0
  simp only [List.flatten_cons, List.flatten_nil, List.append_nil]
  after_results_simp
  pointwise [seq, chunk, row]
  blk_ext [idx_val t]

/-- The step sizes before their bias. -/
theorem read_s (t : Fin cfg0.N) (l : Fin 128) (j : Fin 128) : iblk m c 2 t (ix2 l j) = m ((c : Thread nD τ).loc main_arg2) (ix2 (row (seq t) (chunk t) l) j) := by
  have ht := lt_of_lt_of_eq t.isLt N_0
  unfold iblk
  blk_simp [idx_val t]
  unfold V V0
  simp only [List.flatten_cons, List.flatten_nil, List.append_nil]
  after_results_simp
  pointwise [seq, chunk, row]
  blk_ext [idx_val t]

/-- No rows come before a sequence. -/
theorem read_buf (t : Fin cfg0.N) (l : Fin 8) (j : Fin 512) : iblk m c 3 t (ix3 0 l j) = (0 : EReal) := by
  have ht := lt_of_lt_of_eq t.isLt N_0
  unfold iblk
  blk_simp [idx_val t]
  unfold V V0
  simp only [List.flatten_cons, List.flatten_nil, List.append_nil]
  after_results_simp
  pointwise [seq]

/-- No state comes into a sequence. -/
theorem read_st (t : Fin cfg0.N) (l : Fin 256) (j : Fin 128) : iblk m c 4 t (ix3 0 l j) = (0 : EReal) := by
  have ht := lt_of_lt_of_eq t.isLt N_0
  unfold iblk
  blk_simp [idx_val t]
  unfold V V0
  simp only [List.flatten_cons, List.flatten_nil, List.append_nil]
  after_results_simp
  pointwise [seq]

/-- The convolution's weight. -/
theorem read_cw (t : Fin cfg0.N) (k : Fin 4) (j : Fin 512) : iblk m c 5 t (ix2 k j) = m ((c : Thread nD τ).loc main_arg3) (ix2 k j) := by
  have ht := lt_of_lt_of_eq t.isLt N_0
  unfold iblk
  blk_simp [idx_val t]
  unfold V V0
  simp only [List.flatten_cons, List.flatten_nil, List.append_nil]
  after_results_simp
  pointwise [seq]
  blk_ext [idx_val t]

/-- Its bias. -/
theorem read_cb (t : Fin cfg0.N) (j : Fin 512) : iblk m c 6 t (ix2 0 j) = m ((c : Thread nD τ).loc main_arg4) (ix1 j) := by
  have ht := lt_of_lt_of_eq t.isLt N_0
  unfold iblk
  blk_simp [idx_val t]
  unfold V V0
  simp only [List.flatten_cons, List.flatten_nil, List.append_nil]
  after_results_simp
  pointwise [seq]
  blk_ext [idx_val t]

/-- The step sizes' bias, in the heads' lanes. -/
theorem read_bias (t : Fin cfg0.N) (h : Fin 4) : iblk m c 7 t (ix2 0 (lane h)) = m ((c : Thread nD τ).loc main_arg5) (ix1 h) := by
  have ht := lt_of_lt_of_eq t.isLt N_0
  unfold iblk
  blk_simp [idx_val t]
  unfold V V0
  simp only [List.flatten_cons, List.flatten_nil, List.append_nil]
  after_results_simp
  have e : (win0_7.blk t).view.emb (ix2 0 (lane h)) = ix2 0 (lane h) := by blk_ext [idx_val t, lane]
  rw [e]
  refine lanes_apply _ _ _ ?_ ?_ h
  · after_results_simp
    pointwise
  · after_results_simp
    pointwise

/-- The rates, in the heads' lanes. -/
theorem read_rate (t : Fin cfg0.N) (h : Fin 4) : iblk m c 8 t (ix2 0 (lane h)) = m ((c : Thread nD τ).loc main_arg6) (ix1 h) := by
  have ht := lt_of_lt_of_eq t.isLt N_0
  unfold iblk
  blk_simp [idx_val t]
  unfold V V0
  simp only [List.flatten_cons, List.flatten_nil, List.append_nil]
  after_results_simp
  have e : (win0_8.blk t).view.emb (ix2 0 (lane h)) = ix2 0 (lane h) := by blk_ext [idx_val t, lane]
  rw [e]
  refine lanes_apply _ _ _ ?_ ?_ h
  · after_results_simp
    pointwise
  · after_results_simp
    pointwise

/-- The skip connection's weight, repeated over the head's columns. -/
theorem read_skip (t : Fin cfg0.N) (h : Fin 4) (p : Fin 64) : iblk m c 9 t (ix2 0 (col h p)) = m ((c : Thread nD τ).loc main_arg7) (ix1 h) := by
  have ht := lt_of_lt_of_eq t.isLt N_0
  unfold iblk
  blk_simp [idx_val t]
  unfold V V0
  simp only [List.flatten_cons, List.flatten_nil, List.append_nil]
  after_results_simp
  pointwise [col]
  blk_ext [idx_val t]

/-- The normalization's weight. -/
theorem read_w (t : Fin cfg0.N) (j : Fin 256) : iblk m c 10 t (ix2 0 j) = m ((c : Thread nD τ).loc main_arg8) (ix1 j) := by
  have ht := lt_of_lt_of_eq t.isLt N_0
  unfold iblk
  blk_simp [idx_val t]
  unfold V V0
  simp only [List.flatten_cons, List.flatten_nil, List.append_nil]
  after_results_simp
  pointwise [seq]
  blk_ext [idx_val t]

end Cert.SsdIdeal.Ssd

end
-- ==== Proof.Ssd.Carry.lean ====
/- The rows the convolution looks back to: the last rows of a chunk are kept for the next one. -/
module

public import proofs.«01_k».proof.Proof.Ssd.Blocks
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Read Cert.SsdRefIdeal.Ssd

/-- The eight rows kept before a chunk: the last three of them are what the extended input holds there. -/
def Before (x0 : FVec Ideal S16384x512 .f32) (b : Fin 8) (c : Fin 16) (E : Fin 8 → Fin 512 → EReal) : Prop :=
  ∀ (p : Fin 8) (j : Fin 512) (_ : 5 ≤ p.val), E p j = val_main_v6 (F := Ideal) x0 (ix3 b ⟨c * 128 + (p - 5), by omega⟩ j)

/-- Zero rows are right before the first chunk, -/
theorem before_first (x0 : FVec Ideal S16384x512 .f32) (b : Fin 8) (c : Fin 16) (hc : c.val = 0) (E : Fin 8 → Fin 512 → EReal) (hE : ∀ p j, E p j = 0) : Before x0 b c E := by
  intro p j h
  rw [hE, ext_apply, dif_pos (by simp only []; omega)]

/-- and the previous chunk's last rows are right before any other. -/
theorem before_next (x0 : FVec Ideal S16384x512 .f32) (b : Fin 8) (c u : Fin 16) (hc : c.val = u.val + 1) (E : Fin 8 → Fin 512 → EReal)
    (hE : ∀ p j, E p j = x0 (ix2 (row b u ⟨120 + p, by omega⟩) j)) : Before x0 b c E := by
  intro p j h
  rw [hE, ext_apply, dif_neg (by simp only []; omega)]
  exact congrArg (fun r => x0 (ix2 r j)) (Fin.ext (by simp only [row]; omega))

/-- A chunk's rows moved back by `8 - o`, with the kept rows in front. -/
def Window (E : Fin 8 → Fin 512 → EReal) (x : FVec Ideal S128x512 .f32) (o : ℕ) (ho : o ≤ 8) (X : FVec Ideal S128x512 .f32) : Prop :=
  ∀ (l : Fin 128) (j : Fin 512), X (ix2 l j) = if h : o + l.val < 8 then E ⟨o + l, h⟩ j else x (ix2 ⟨o + l - 8, by omega⟩ j)

section
variable {x0 : FVec Ideal S16384x512 .f32} {b : Fin 8} {c : Fin 16} {E : Fin 8 → Fin 512 → EReal} {x : FVec Ideal S128x512 .f32}

/-- Such a window holds the extended input's rows. -/
theorem window_ext (hE : Before x0 b c E) (hx : ∀ l j, x (ix2 l j) = x0 (ix2 (row b c l) j)) {o : ℕ} {ho : o ≤ 8} (h5 : 5 ≤ o) {X : FVec Ideal S128x512 .f32}
    (hX : Window E x o ho X) (l : Fin 128) (j : Fin 512) :
    X (ix2 l j) = val_main_v6 (F := Ideal) x0 (ix3 b ⟨(o - 5) + pos c l, by omega⟩ j) := by
  rw [hX]
  split
  · rename_i h
    rw [hE _ _ (by simp only []; omega)]
    exact congrArg (fun r => val_main_v6 (F := Ideal) x0 (ix3 b r j)) (Fin.ext (by simp only [pos]; omega))
  · rw [hx, ext_apply, dif_neg (by simp only [pos]; omega)]
    exact congrArg (fun r => x0 (ix2 r j)) (Fin.ext (by simp only [row, pos]; omega))

/-- The convolution of four windows is the reference's. -/
theorem window_conv {x3 : FVec Ideal S4x512 .f32} {x4 : FVec Ideal S512 .f32} (hE : Before x0 b c E) (hx : ∀ l j, x (ix2 l j) = x0 (ix2 (row b c l) j))
    {B W0 W1 W2 W3 : FVec Ideal S1x512 .f32} {X0 X1 X2 X3 : FVec Ideal S128x512 .f32} (hB : ∀ j, B (ix2 0 j) = x4 (ix1 j))
    (h0 : Window E x 5 (by omega) X0) (w0 : ∀ j, W0 (ix2 0 j) = x3 (ix2 0 j)) (h1 : Window E x 6 (by omega) X1) (w1 : ∀ j, W1 (ix2 0 j) = x3 (ix2 1 j))
    (h2 : Window E x 7 (by omega) X2) (w2 : ∀ j, W2 (ix2 0 j) = x3 (ix2 2 j)) (h3 : Window E x 8 (by omega) X3) (w3 : ∀ j, W3 (ix2 0 j) = x3 (ix2 3 j))
    (l : Fin 128) (j : Fin 512) :
    k0_pay7 (F := Ideal) B X0 W0 X1 W1 X2 W2 X3 W3 (ix2 l j) = val_main_v36 (F := Ideal) x0 x3 x4 (ix3 b (pos c l) j) := by
  rw [conv_block, conv_apply, hB, w0, w1, w2, w3, window_ext hE hx (by omega) h0, window_ext hE hx (by omega) h1, window_ext hE hx (by omega) h2,
    window_ext hE hx (by omega) h3]
  have z : (⟨5 - 5 + (pos c l).val, by omega⟩ : Fin 2051) = ⟨(pos c l).val, by omega⟩ := Fin.ext (by simp only []; omega)
  rw [z]

end

/-- Where a window's rows lie in the kept and new rows. -/
theorem window_row (o : ℕ) (inb : ∀ a : Fin 2, (![o, 0] : Fin 2 → ℕ) a + (![128, 512] : Fin 2 → ℕ) a ≤ S136x512.size a) (l : Fin 128) (j : Fin 512) (h : o + l.val < 136) :
    (Rect.unit (s := S136x512) ![o, 0] ![128, 512] inb).toLoadRect.idx (ix2 l j) = ix2 ⟨o + l, h⟩ j := by
  funext a
  apply Fin.ext
  match a with
  | 0 => show o + 1 * l.val = o + l.val; omega
  | 1 => show 0 + 1 * j.val = j.val; omega

/-- The new rows' places, -/
theorem new_row (r : Fin 128) (j : Fin 512) :
    (Rect.unit (s := S136x512) ![8, 0] ![128, 512] inb_S136x512_S128x512_8_0).emb (ix2 r j) = ix2 ⟨8 + r, by omega⟩ j := by
  blk_ext

/-- and the kept rows'. -/
theorem kept_row (r : Fin 8) (j : Fin 512) :
    (Rect.unit (s := S136x512) ![0, 0] ![8, 512] inb_S136x512_S8x512_0_0).emb (ix2 r j) = ix2 ⟨r, by omega⟩ j := by
  blk_ext

/-- Under the new rows' places the earlier rows are seen. -/
theorem under_new (x : FVec Ideal S128x512 .f32) (L : List (View.Piece (Elt Ideal) S136x512 cc0_scratch0.ty.elt)) (p : Fin 136) (j : Fin 512) (h : p.val < 8) :
    View.canon (Val := Elt Ideal) (s := S136x512) (e := cc0_scratch0.ty.elt) (⟨Rect.unit ![8, 0] ![128, 512] inb_S136x512_S128x512_8_0, x⟩ :: L) (ix2 p j) =
      View.canon (Val := Elt Ideal) L (ix2 p j) := by
  refine View.canon_cons_of_not_mem _ _ ?_
  rw [Rect.mem_set_unit]
  intro hall
  have : 8 ≤ p.val := (hall 0).1
  omega

/-- A load back from the rows just written, over kept rows written before them. -/
theorem load_first (x : FVec Ideal S128x512 .f32) (e : FVec Ideal S8x512 .f32) (o : ℕ) (ho : o ≤ 8)
    (inb : ∀ a : Fin 2, (![o, 0] : Fin 2 → ℕ) a + (![128, 512] : Fin 2 → ℕ) a ≤ S136x512.size a) :
    Window (fun p j => e (ix2 p j)) x o ho ((View.whole cc0_scratch0).readCov (Val := Elt Ideal) [⟨Rect.unit ![8, 0] ![128, 512] inb_S136x512_S128x512_8_0, x⟩,
      ⟨Rect.unit ![0, 0] ![8, 512] inb_S136x512_S8x512_0_0, e⟩] (Rect.unit (s := S136x512) ![o, 0] ![128, 512] inb).toLoadRect) := by
  intro l j
  rw [View.readCov_eq_canon']
  refine (congrArg _ (window_row o inb l j (by omega))).trans ?_
  split
  · rename_i h
    refine (under_new x _ ⟨o + l.val, by omega⟩ j h).trans ?_
    have z : (ix2 ⟨o + l.val, by omega⟩ j : S136x512.Idx) =
        (Rect.unit (s := S136x512) ![0, 0] ![8, 512] inb_S136x512_S8x512_0_0).emb (ix2 ⟨o + l.val, h⟩ j) := (kept_row ⟨o + l.val, h⟩ j).symm
    rw [z]
    exact View.canon_cons_emb _ _ _ _
  · have z : (ix2 ⟨o + l.val, by omega⟩ j : S136x512.Idx) =
        (Rect.unit (s := S136x512) ![8, 0] ![128, 512] inb_S136x512_S128x512_8_0).emb (ix2 ⟨o + l.val - 8, by omega⟩ j) := by
      rw [new_row]
      exact congrArg (fun r : Fin 136 => (ix2 r j : S136x512.Idx)) (Fin.ext (by simp only []; omega))
    rw [z]
    exact View.canon_cons_emb _ _ _ _

/-- The same load over rows that an earlier point kept. -/
theorem load_next (x : FVec Ideal S128x512 .f32) (f : FVec Ideal S136x512 .f32) (o : ℕ) (ho : o ≤ 8)
    (inb : ∀ a : Fin 2, (![o, 0] : Fin 2 → ℕ) a + (![128, 512] : Fin 2 → ℕ) a ≤ S136x512.size a) (G : (View.whole cc0_scratch0).ty.Contents (Elt Ideal))
    (hG : (View.whole cc0_scratch0).read (Elt Ideal) G = f) :
    Window (fun p j => f (ix2 ⟨p, by omega⟩ j)) x o ho (View.ld ((View.whole cc0_scratch0).read (Elt Ideal) ((View.whole cc0_scratch0).writes (Elt Ideal) G
      [⟨Rect.unit ![8, 0] ![128, 512] inb_S136x512_S128x512_8_0, x⟩])) (Rect.unit (s := S136x512) ![o, 0] ![128, 512] inb)) := by
  intro l j
  refine (congrArg ((View.whole cc0_scratch0).read (Elt Ideal) _) (window_row o inb l j (by omega))).trans ?_
  split
  · rename_i h
    refine (View.read_writes_cons_rows_of_not_mem _ _ _ _ _ _ rfl rfl (Or.inl h)).trans ?_
    exact congrFun hG _
  · exact View.read_writes_cons_rows_of_mem _ _ _ _ _ _ (ix2 ⟨o + l - 8, by omega⟩ j) rfl (show o + l.val = 8 + (o + l.val - 8) by omega) rfl

/-- The new rows read back are the new rows. -/
theorem load_new (E : Fin 8 → Fin 512 → EReal) (x : FVec Ideal S128x512 .f32) (L) :
    Window E x 8 (by omega) ((View.whole cc0_scratch0).readCov (Val := Elt Ideal) (⟨Rect.unit ![8, 0] ![128, 512] inb_S136x512_S128x512_8_0, x⟩ :: L)
      (Rect.unit (s := S136x512) ![8, 0] ![128, 512] inb_S136x512_S128x512_8_0).toLoadRect) := by
  intro l j
  rw [View.readCov_cons_toLoadRect, dif_neg (by omega)]
  exact congrArg (fun r => x (ix2 r j)) (Fin.ext (by simp only []; omega))

/-- The rows a point keeps: the last eight of its chunk. -/
theorem keep (x : FVec Ideal S128x512 .f32) (L L') (p : Fin 8) (j : Fin 512) :
    View.canon (Val := Elt Ideal) (s := S136x512) (e := cc0_scratch0.ty.elt) (⟨Rect.unit ![0, 0] ![8, 512] inb_S136x512_S8x512_0_0, k0_pay8 (F := Ideal) ((View.whole cc0_scratch0).readCov (Val := Elt Ideal) (⟨Rect.unit ![8, 0] ![128, 512] inb_S136x512_S128x512_8_0, x⟩ :: L)
      (Rect.unit (s := S136x512) ![128, 0] ![8, 512] inb_S136x512_S8x512_128_0).toLoadRect)⟩ :: L') (ix2 ⟨p, by omega⟩ j) = x (ix2 ⟨120 + p, by omega⟩ j) := by
  rw [← kept_row p j]
  refine (View.canon_cons_emb _ _ _ _).trans ?_
  rw [View.readCov_eq_canon']
  pointwise [k0_pay8]
  have e1 : (ix2 ⟨128 + p.val, by omega⟩ j : S136x512.Idx) = (Rect.unit (s := S136x512) ![8, 0] ![128, 512] inb_S136x512_S128x512_8_0).emb (ix2 ⟨120 + p.val, by omega⟩ j) := by
    funext a
    apply Fin.ext
    match a with
    | 0 => show 128 + p.val = 8 + 1 * (120 + p.val); omega
    | 1 => show j.val = 0 + 1 * j.val; omega
  rw [e1]
  exact View.canon_cons_emb _ _ _ _

end Cert.SsdIdeal.Ssd

end
-- ==== Proof.Ssd.Bridge.lean ====
/- What every grid point of the recurrence leaves: its rows of the result, the rows kept for the next chunk, and the state. -/
module

public import proofs.«01_k».proof.Proof.Ssd.Carry

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Read Cert.SsdRefIdeal.Ssd

variable (m : (ℓ : Loc nD τ sig) → Buf (Elt Ideal) ℓ) (c : Dev nD)

/-- The step sizes, their bias and the rates of the run's arguments are real numbers. -/
abbrev Fin3 : Prop := Finite (m ((c : Thread nD τ).loc main_arg2)) (m ((c : Thread nD τ).loc main_arg5)) (m ((c : Thread nD τ).loc main_arg6))

/-- The reference's state before chunk `z` of a sequence. -/
abbrev stateRef (b : Fin 8) (z : Fin 17) (h : Fin 4) (p : Fin 64) (n : Fin 128) : EReal :=
  val_main_v101 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix5 b z h p n)

/-- What a point leaves. -/
structure Point (t : Fin cfg0.N) : Prop where
  rows : ∀ l j, (outsAt0 m c t.val t.isLt).1 (ix2 l j) =
    val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row (seq t) (chunk t) l) j)
  kept : ∀ (p : Fin 8) (j : Fin 512), (outsAt0 m c t.val t.isLt).2.2.1 (ix2 ⟨p, by omega⟩ j) = m ((c : Thread nD τ).loc main_arg0) (ix2 (row (seq t) (chunk t) ⟨120 + p, by omega⟩) j)
  state : ∀ h p n, (outsAt0 m c t.val t.isLt).2.2.2 (ix2 (col h p) n) = stateRef m c (seq t) ⟨chunk t + 1, by omega⟩ h p n

/-- The convolution's input block. -/
theorem new_rows (t : Fin cfg0.N) (l : Fin 128) (j : Fin 512) : k0_pay6 (F := Ideal) (iblk m c 0 t) (ix2 l j) = m ((c : Thread nD τ).loc main_arg0) (ix2 (row (seq t) (chunk t) l) j) := by
  pointwise [k0_pay6]
  exact read_x m c t l j

/-- A row of the convolution's weight, loaded. -/
theorem weight_row (t : Fin cfg0.N) (k : Fin 4) (inb : ∀ a : Fin 2, (![k.val, 0] : Fin 2 → ℕ) a + (![1, 512] : Fin 2 → ℕ) a ≤ S4x512.size a) (j : Fin 512) :
    View.ld (iblk m c 5 t) (Rect.unit (s := S4x512) ![k.val, 0] ![1, 512] inb) (ix2 0 j) = m ((c : Thread nD τ).loc main_arg3) (ix2 k j) := by
  have e : (Rect.unit (s := S4x512) ![k.val, 0] ![1, 512] inb).emb (ix2 0 j) = ix2 k j := by
    blk_ext
  exact (congrArg (iblk m c 5 t) e).trans (read_cw m c t k j)

/-- A point's blocks, given the convolution and the state it starts from. -/
theorem holds (t : Fin cfg0.N) (V : FVec Ideal S128x512 .f32) (S : FVec Ideal S256x128 .f32)
    (hV : ∀ l j, V (ix2 l j) = val_main_v36 (F := Ideal) (m ((c : Thread nD τ).loc main_arg0)) (m ((c : Thread nD τ).loc main_arg3)) (m ((c : Thread nD τ).loc main_arg4)) (ix3 (seq t) (pos (chunk t) l) j))
    (hS : ∀ h p n, S (ix2 (col h p) n) = stateRef m c (seq t) ⟨chunk t, by omega⟩ h p n) :
    Holds (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (seq t) (chunk t) V (iblk m c 2 t) (iblk m c 7 t) (iblk m c 8 t) S :=
  ⟨hV, fun l h => read_s m c t l (lane h), read_bias m c t, read_rate m c t, hS⟩

/-- The first chunk of a sequence. -/
theorem point_first (hf : Fin3 m c) (t : Fin cfg0.N) (h0 : t.val % 16 = 0) : Point m c t := by
  have hc : (chunk t).val = 0 := h0
  have hE := before_first (m ((c : Thread nD τ).loc main_arg0)) (seq t) (chunk t) hc (fun p j => k0_pay4 (F := Ideal) (iblk m c 3 t) (ix2 p j))
    (fun p j => by pointwise [k0_pay4]; exact read_buf m c t p j)
  have hS : ∀ h p n, k0_pay5 (F := Ideal) (iblk m c 4 t) (ix2 (col h p) n) = stateRef m c (seq t) ⟨chunk t, by omega⟩ h p n := by
    intro h p n
    have z : (⟨chunk t, by omega⟩ : Fin 17) = 0 := Fin.ext hc
    rw [stateRef, z, states_zero]
    pointwise [k0_pay5]
    exact read_st m c t (col h p) n
  have hV := window_conv (x4 := m ((c : Thread nD τ).loc main_arg4)) hE (new_rows m c t) (read_cb m c t)
    (load_first _ _ 5 (by omega) inb_S136x512_S128x512_5_0) (weight_row m c t 0 inb_S4x512_S1x512_0_0)
    (load_first _ _ 6 (by omega) inb_S136x512_S128x512_6_0) (weight_row m c t 1 inb_S4x512_S1x512_1_0)
    (load_first _ _ 7 (by omega) inb_S136x512_S128x512_7_0) (weight_row m c t 2 inb_S4x512_S1x512_2_0)
    (load_first _ _ 8 (by omega) inb_S136x512_S128x512_8_0) (weight_row m c t 3 inb_S4x512_S1x512_3_0)
  have H := holds m c t _ _ hV hS
  refine ⟨fun l j => ?_, fun p j => ?_, fun h p n => ?_⟩ <;> rw [outsAt0_A m c t h0 (by omega)]
  · frame_out
    exact out_eq H _ _ _ _ _ _ _ (rows_eq H) (read_skip m c t) (read_z m c t) (read_w m c t) l j
  · frame_out
    exact (keep _ _ _ p j).trans (new_rows m c t _ j)
  · frame_out
    pointwise [k0_pay1]
    exact state_eq H hf h p n

/-- A later chunk of a sequence: the convolution over the rows the point before kept. -/
theorem conv_next (t u : Fin cfg0.N) (hu : u.val + 1 = t.val) (h0 : ¬t.val % 16 = 0) (P : Point m c u) (G : (View.whole cc0_scratch0).ty.Contents (Elt Ideal))
    (hG : (View.whole cc0_scratch0).read (Elt Ideal) G = (outsAt0 m c u.val u.isLt).2.2.1) (l : Fin 128) (j : Fin 512) :
    k0_pay7 (F := Ideal) (iblk m c 6 t)
      (View.ld ((View.whole cc0_scratch0).read (Elt Ideal) ((View.whole cc0_scratch0).writes (Elt Ideal) G [⟨Rect.unit ![8, 0] ![128, 512] inb_S136x512_S128x512_8_0, k0_pay6 (F := Ideal) (iblk m c 0 t)⟩])) (Rect.unit (s := S136x512) ![5, 0] ![128, 512] inb_S136x512_S128x512_5_0))
      (View.ld (iblk m c 5 t) (Rect.unit (s := S4x512) ![0, 0] ![1, 512] inb_S4x512_S1x512_0_0))
      (View.ld ((View.whole cc0_scratch0).read (Elt Ideal) ((View.whole cc0_scratch0).writes (Elt Ideal) G [⟨Rect.unit ![8, 0] ![128, 512] inb_S136x512_S128x512_8_0, k0_pay6 (F := Ideal) (iblk m c 0 t)⟩])) (Rect.unit (s := S136x512) ![6, 0] ![128, 512] inb_S136x512_S128x512_6_0))
      (View.ld (iblk m c 5 t) (Rect.unit (s := S4x512) ![1, 0] ![1, 512] inb_S4x512_S1x512_1_0))
      (View.ld ((View.whole cc0_scratch0).read (Elt Ideal) ((View.whole cc0_scratch0).writes (Elt Ideal) G [⟨Rect.unit ![8, 0] ![128, 512] inb_S136x512_S128x512_8_0, k0_pay6 (F := Ideal) (iblk m c 0 t)⟩])) (Rect.unit (s := S136x512) ![7, 0] ![128, 512] inb_S136x512_S128x512_7_0))
      (View.ld (iblk m c 5 t) (Rect.unit (s := S4x512) ![2, 0] ![1, 512] inb_S4x512_S1x512_2_0))
      ((View.whole cc0_scratch0).readCov (Val := Elt Ideal) [⟨Rect.unit ![8, 0] ![128, 512] inb_S136x512_S128x512_8_0, k0_pay6 (F := Ideal) (iblk m c 0 t)⟩] (Rect.unit (s := S136x512) ![8, 0] ![128, 512] inb_S136x512_S128x512_8_0).toLoadRect)
      (View.ld (iblk m c 5 t) (Rect.unit (s := S4x512) ![3, 0] ![1, 512] inb_S4x512_S1x512_3_0)) (ix2 l j) =
    val_main_v36 (F := Ideal) (m ((c : Thread nD τ).loc main_arg0)) (m ((c : Thread nD τ).loc main_arg3)) (m ((c : Thread nD τ).loc main_arg4)) (ix3 (seq t) (pos (chunk t) l) j) := by
  have hs : seq u = seq t := Fin.ext (by simp only [seq]; omega)
  have hE := before_next (m ((c : Thread nD τ).loc main_arg0)) (seq t) (chunk t) (chunk u) (by simp only [chunk]; omega)
    (fun p j => (outsAt0 m c u.val u.isLt).2.2.1 (ix2 ⟨p, by omega⟩ j)) (fun p j => (P.kept p j).trans (by rw [hs]))
  exact window_conv (x4 := m ((c : Thread nD τ).loc main_arg4)) hE (new_rows m c t) (read_cb m c t)
    (load_next _ _ 5 (by omega) inb_S136x512_S128x512_5_0 G hG) (weight_row m c t 0 inb_S4x512_S1x512_0_0)
    (load_next _ _ 6 (by omega) inb_S136x512_S128x512_6_0 G hG) (weight_row m c t 1 inb_S4x512_S1x512_1_0)
    (load_next _ _ 7 (by omega) inb_S136x512_S128x512_7_0 G hG) (weight_row m c t 2 inb_S4x512_S1x512_2_0)
    (load_new _ _ []) (weight_row m c t 3 inb_S4x512_S1x512_3_0) l j

/-- The state a later chunk starts from. -/
theorem state_next (t u : Fin cfg0.N) (hu : u.val + 1 = t.val) (h0 : ¬t.val % 16 = 0) (P : Point m c u) (h : Fin 4) (p : Fin 64) (n : Fin 128) :
    (outsAt0 m c u.val u.isLt).2.2.2 (ix2 (col h p) n) = stateRef m c (seq t) ⟨chunk t, by omega⟩ h p n := by
  have hs : seq u = seq t := Fin.ext (by simp only [seq]; omega)
  have z : (⟨chunk u + 1, by omega⟩ : Fin 17) = ⟨chunk t, by omega⟩ := Fin.ext (by simp only [chunk]; omega)
  rw [P.state, hs, z]

/-- A chunk that is neither the first nor the last of its sequence. -/
theorem point_middle (hf : Fin3 m c) (t u : Fin cfg0.N) (hu : u.val = t.val - 1) (h0 : ¬t.val % 16 = 0) (h1 : ¬t.val % 16 = 15) (P : Point m c u) : Point m c t := by
  have hv := conv_next m c t u (by omega) h0 P _ (read_unread_whole _ (Memref.isWhole_whole _) _)
  have H := holds m c t _ _ hv (state_next m c t u (by omega) h0 P)
  simp only [hu] at H
  refine ⟨fun l j => ?_, fun p j => ?_, fun h p n => ?_⟩ <;> rw [outsAt0_B m c t h0 h1]
  · frame_out
    simp only [read_unread_whole]
    exact out_eq H _ _ _ _ _ _ _ (rows_eq H) (read_skip m c t) (read_z m c t) (read_w m c t) l j
  · frame_out
    exact (keep _ _ _ p j).trans (new_rows m c t _ j)
  · frame_out
    simp only [read_unread_whole]
    pointwise [k0_pay1]
    exact state_eq H hf h p n

/-- The last chunk of a sequence also leaves the state for the result. -/
theorem point_last (hf : Fin3 m c) (t u : Fin cfg0.N) (hu : u.val = t.val - 1) (h0 : ¬t.val % 16 = 0) (h1 : t.val % 16 = 15) (P : Point m c u) :
    Point m c t ∧ ∀ h p n, (outsAt0 m c t.val t.isLt).2.1 (ix3 0 (col h p) n) = stateRef m c (seq t) ⟨chunk t + 1, by omega⟩ h p n := by
  have hv := conv_next m c t u (by omega) h0 P _ (read_unread_whole _ (Memref.isWhole_whole _) _)
  have H := holds m c t _ _ hv (state_next m c t u (by omega) h0 P)
  simp only [hu] at H
  refine ⟨⟨fun l j => ?_, fun p j => ?_, fun h p n => ?_⟩, fun h p n => ?_⟩ <;> rw [outsAt0_C m c t h0 h1]
  · frame_out
    simp only [read_unread_whole]
    exact out_eq H _ _ _ _ _ _ _ (rows_eq H) (read_skip m c t) (read_z m c t) (read_w m c t) l j
  · frame_out
    exact (keep _ _ _ p j).trans (new_rows m c t _ j)
  · frame_out
    simp only [read_unread_whole]
    pointwise [k0_pay1]
    exact state_eq H hf h p n
  · frame_out
    simp only [read_unread_whole]
    pointwise [k0_pay3]
    exact state_eq H hf h p n

/-- Every point. -/
theorem point (hf : Fin3 m c) (n : ℕ) : ∀ hn : n < cfg0.N, Point m c ⟨n, hn⟩ := by
  induction n with
  | zero => exact fun hn => point_first m c hf ⟨0, hn⟩ rfl
  | succ n ih =>
    intro hn
    by_cases h0 : (n + 1) % 16 = 0
    · exact point_first m c hf ⟨n + 1, hn⟩ h0
    · by_cases h1 : (n + 1) % 16 = 15
      · exact (point_last m c hf ⟨n + 1, hn⟩ ⟨n, by omega⟩ rfl h0 h1 (ih _)).1
      · exact point_middle m c hf ⟨n + 1, hn⟩ ⟨n, by omega⟩ rfl h0 h1 (ih _)

/-- The state block that a sequence's last point leaves. -/
theorem state_last (hf : Fin3 m c) (t : Fin cfg0.N) (h1 : t.val % 16 = 15) (h : Fin 4) (p : Fin 64) (n : Fin 128) :
    (outsAt0 m c t.val t.isLt).2.1 (ix3 0 (col h p) n) = stateRef m c (seq t) 16 h p n := by
  have ht := lt_of_lt_of_eq t.isLt N_0
  rw [(point_last m c hf t ⟨t.val - 1, by omega⟩ rfl (by omega) h1 (point m c hf _ _)).2 h p n]
  exact congrArg (fun z => stateRef m c (seq t) z h p n) (Fin.ext (by simp only [chunk]; omega))

/-- The array of rows after the run is the reference's. -/
theorem final_rows (hf : Fin3 m c) : (dats m 0 c).arrAt 11 cfg0.N =
    val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  have ht := lt_of_lt_of_eq t.isLt N_0
  blk_simp
  rw [after0_11]
  have e : ((cfg0.win 11).blk t).view.emb y = ix2 (row (seq t) (chunk t) (y 0)) (y 1) := by
    blk_ext [idx_val t, row, seq, chunk]
  rw [e]
  exact (congrArg (outsAt0 m c t.val t.isLt).1 (ix2_eta y).symm).trans ((point m c hf t.val t.isLt).rows (y 0) (y 1))

/-- The array of the reference's last states, heads and their entries in one axis. -/
def lastStates (y : S8x256x128.Idx) : EReal :=
  stateRef m c (y 0) 16 ⟨(y 1).val / 64, by have : (y 1).val < 256 := (y 1).isLt; omega⟩ ⟨(y 1).val % 64, by omega⟩ (y 2)

/-- Its entries. -/
theorem lastStates_apply (b : Fin 8) (h : Fin 4) (p : Fin 64) (n : Fin 128) : lastStates m c (ix3 b (col h p) n) = stateRef m c b 16 h p n := by
  have a : (⟨(col h p).val / 64, by omega⟩ : Fin 4) = h := Fin.ext (by simp only [col]; omega)
  have b' : (⟨(col h p).val % 64, by omega⟩ : Fin 64) = p := Fin.ext (by simp only [col]; omega)
  exact congrArg₂ (fun h p => stateRef m c b 16 h p n) a b'

/-- The array of states after the run. -/
theorem final_states (hf : Fin3 m c) : (dats m 0 c).arrAt 12 cfg0.N = lastStates m c := by
  refine (dats m 0 c).arrAt_eq_of_covers 12 _ (by decide +kernel) fun t hfl y => ?_
  have ht := lt_of_lt_of_eq t.isLt N_0
  have h1 : t.val % 16 = 15 := (flush0_12 t).mp hfl
  obtain ⟨h, p, hq⟩ := col_all (y 1)
  have e : ((cfg0.win 12).blk t).view.emb y = ix3 (seq t) (col h p) (y 2) := by
    rw [← hq]
    blk_ext [idx_val t, seq]
  have ey : y = ix3 0 (col h p) (y 2) := by
    rw [← hq]
    blk_ext
  blk_simp
  rw [after0_12]
  refine Eq.trans ?_ ((congrArg (lastStates m c) e).trans (lastStates_apply m c (seq t) h p (y 2))).symm
  exact (congrArg (outsAt0 m c t.val t.isLt).2.1 ey).trans (state_last m c hf t h1 h p (y 2))

end Cert.SsdIdeal.Ssd

end
-- ==== Proof.Ssd.Run.lean ====
/- The run of the recurrence: its rows and its last states are the reference's results of the arguments. -/
module

public import proofs.«01_k».proof.Proof.Ssd.Bridge

@[expose] public section

set_option maxRecDepth 16384

noncomputable section

open Idealize.ShloMosaic Idealize.ShloMosaic.TcCoe Idealize.SL.Sem

namespace Cert.SsdIdeal.Ssd

open Cert.SsdIdeal Cert.SsdIdeal.Gen Cert.SsdRefIdeal.Read Cert.SsdRefIdeal.Ssd

variable (m : (ℓ : Loc nD τ sig) → Buf (Elt Ideal) ℓ)

/-- The windows' arrays are distinct. -/
theorem arrays_inj : Function.Injective (Pipeline.arrRef (cfgs 0).spec) := by decide +kernel

/-- The last states by head, which the host forms from the array of states. -/
theorem tail_18 (c : Dev nD) (hf : Fin3 m c) : Pipeline.afterTail₀ cfgs (dats m) 0 (V0 m) [hostOps1] c main_v18 =
    val_main_v112 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have a : Pipeline.withArrays (cfgs 0).spec c (V0 m c) (fun w => (dats m 0 c).arrAt w (cfgs 0).N) (Proc.tc.devRef main_v17_1) = lastStates m c :=
    (Pipeline.withArrays_arr (cfgs 0).spec arrays_inj c (V0 m c) (fun w => (dats m 0 c).arrAt w (cfgs 0).N) 12).trans (final_states m c hf)
  refine funext fun (i : S8x4x64x128.Idx) => ?_
  obtain ⟨b, h, p, n, rfl⟩ : ∃ b h p n, i = ix4 b h p n := ⟨_, _, _, _, (ix4_eta i).symm⟩
  rw [last_apply]
  refine Eq.trans ?_ (lastStates_apply m c b h p n)
  unfold Pipeline.afterTail₀
  simp only [List.flatten_cons, List.flatten_nil, List.append_nil]
  after_results_simp
  rw [a]
  pointwise [col]

set_option maxHeartbeats 4000000 in
/-- Every execution ends with the results at the reference's stages of the arguments, and the arguments unchanged. -/
theorem run (hf : ∀ c, Fin3 m c) (ρ : Dev nD → PrngReg) : θ_run (defs (F := Ideal)) (onTc (τ := τ) (main (F := Ideal))) ⟨m, fun _ => 0, ρ⟩ (fun r => ∀ c : Dev nD,
    r.2.mem ((c.tc : Thread nD τ).loc main_v17_0) = val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ∧
    r.2.mem ((c.tc : Thread nD τ).loc main_v18) = val_main_v112 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8)) :=
  (θ_run defs _ _).mono (fun _ h c => ⟨(h.2 c).1, (h.2 c).2, h.1 c⟩) (θ_run_and (unchanged m ρ)
    ((θ_run defs _ _).mono (fun r h (c : Dev nD) => (⟨((h c).1 11).trans (final_rows m c (hf c)),
      ((h c).2 main_v18 (Pipeline.mem_restRefs_of main_v18 (by decide) (by decide))).trans (tail_18 m c (hf c))⟩ :
      r.2.mem ((c.tc : Thread nD τ).loc main_v17_0) = _ ∧ r.2.mem ((c.tc : Thread nD τ).loc main_v18) = _)) (run_main m ρ)))

end Cert.SsdIdeal.Ssd

end
-- ==== Proof.Ssd.Pre.lean ====
/- The precondition of the recurrence, read: the step sizes before their bias, the bias and the rates are real numbers. -/
module

public import proofs.«01_k».proof.Pre_finite_steps
public import proofs.«01_k».proof.Proof.Ssd.Ref
public import Idealize.ShloMosaic.Lib.ReduceAll

@[expose] public section

set_option maxRecDepth 16384

noncomputable section

open Idealize.ShloMosaic Idealize.ShloMosaic.TcCoe Idealize.SL.Sem

namespace Cert.Pre_finite_steps

open Cert.SsdRefIdeal.Ssd Cert.Recurrence

/-- The side conditions of the precondition's operations. -/
instance facts : Facts where
  slices_S16384x128_S16384x4_0_68 := by decide
  bcast_S_S16384x4 := by decide
  reducesTo_S16384x4_S_d0_1 := by decide
  h_S_ := by decide
  bcast_S_S4 := by decide
  reducesTo_S4_S_d0 := by decide

/-- Both words of a conjunction that is one are one. -/
theorem and_one : ∀ a b : BitVec 1, a &&& b = 1#1 → a = 1#1 ∧ b = 1#1 := by decide

instance : Subsingleton S_.Idx := ⟨fun i j => funext fun a => a.elim0⟩

/-- A word of the comparison with infinity that is one has a real number behind it. -/
theorem real_of_word {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) : ∃ r : ℝ, x i = (r : EReal) := by
  refine real_of_abs_lt _ ?_
  have h2 : BitVec.ofBool (decide (max (x i) (-(x i)) < Ideal.ofBits FTy.f32 0x7F800000#32)) = 1#1 := h
  have top : Ideal.ofBits FTy.f32 0x7F800000#32 = (⊤ : EReal) := by simp [Ideal.ofBits, Ideal.ieee]
  rw [top] at h2
  by_contra hn
  rw [decide_eq_false hn] at h2
  exact absurd h2 (by decide)

/-- The precondition holds of arrays with real step sizes, biases and rates only. -/
theorem finite (x0 : FVec Ideal S16384x512 .f32) (x1 : FVec Ideal S16384x256 .f32) (x2 : FVec Ideal S16384x128 .f32) (x3 : FVec Ideal S4x512 .f32)
    (x4 : FVec Ideal S512 .f32) (x5 x6 x7 : FVec Ideal S4 .f32) (x8 : FVec Ideal S256 .f32)
    (h : fn (F := Ideal) x0 x1 x2 x3 x4 x5 x6 x7 x8 = fun _ => 1#1) : Finite x2 x5 x6 := by
  have h1 := congrFun h (Shape.Idx.first (by decide : 0 < S_.numel))
  unfold fn at h1
  simp only at h1
  obtain ⟨h2, hr⟩ := and_one _ _ h1
  obtain ⟨hs, hb⟩ := and_one _ _ h2
  refine ⟨fun b c l h => ?_, fun h => real_of_word x5 _ _ (Host.reduce_andi_all _ _ _ _ _ hb (ix1 h)), fun h => real_of_word x6 _ _ (Host.reduce_andi_all _ _ _ _ _ hr (ix1 h))⟩
  obtain ⟨q, hq⟩ := real_of_word _ _ _ (Host.reduce_andi_all _ _ _ _ _ hs (ix2 (row b c l) h))
  refine ⟨q, Eq.trans ?_ hq⟩
  pointwise [lane]

end Cert.Pre_finite_steps

end
-- ==== Proof.InprojSmp.Ref.lean ====
/- What the reference of the input projection of the short continuations computes, element by element: the normalized and modulated stream, its
   projection to 2120 columns, and the results cut from it, four of them turned by the rotary position embedding. -/
module

public import proofs.«01_k».proof.Proof.Gen.InprojSmpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojSmpRefIdeal.Inproj

open Cert.InprojSmpRefIdeal Cert.InprojSmpRefIdeal.Read

/-- The row of the flattened arrays that holds position `l` of sequence `b`. -/
def row (b : Fin 32) (l : Fin 4) : Fin 128 := ⟨b * 4 + l, by omega⟩

/-- A head of 64 lanes turned by the angles whose cosines are `co` and whose sines are `si`: lane `e` of the first half
    is paired with lane `32 + e`. -/
def turned (q : Fin 64 → EReal) (co si : Fin 32 → EReal) (e : Fin 64) : EReal :=
  if h : e.val < 32 then q e * co ⟨e, h⟩ - q ⟨32 + e, by omega⟩ * si ⟨e, h⟩
  else q e * co ⟨e - 32, by omega⟩ + q ⟨e - 32, by omega⟩ * si ⟨e - 32, by omega⟩

/-- The cosines of position `l`. -/
def cosRow (l : Fin 4) (i : Fin 32) : EReal := val_main_v48 (F := Ideal) (ix2 l i)

/-- The sines of position `l`. -/
def sinRow (l : Fin 4) (i : Fin 32) : EReal := val_main_v50 (F := Ideal) (ix2 l i)

variable (x0 : FVec Ideal S32x4x1024 .f32) (x1 : FVec Ideal S1024 .f32) (x2 x3 : FVec Ideal S32x1024 .f32)
  (x4 : FVec Ideal S1024x2120 .f32)

/-- Column `c` of the projection of position `l` of sequence `b`. -/
def col (b : Fin 32) (l : Fin 4) (c : Fin 2120) : EReal := val_main_v24 (F := Ideal) x0 x1 x2 x3 x4 (ix3 b l c)

/-- The normalized and modulated stream. -/
theorem hidden_apply (b : Fin 32) (l : Fin 4) (j : Fin 1024) :
    val_main_v23 (F := Ideal) x0 x1 x2 x3 (ix3 b l j) =
      x0 (ix3 b l j) * Ideal.rsqrt (Ideal.div (∑ i, x0 (ix3 b l i) * x0 (ix3 b l i)) (Ideal.ofBits FTy.f32 1149239296#32)
          + Ideal.ofBits FTy.f32 897988541#32) * x1 (ix1 j) * (1 + x2 (ix2 b j)) + x3 (ix2 b j) := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_cst, val_main_cst_0, val_main_cst_1, val_main_cst_2]

/-- A column of the projection is a contraction with the stream. -/
theorem col_apply (b : Fin 32) (l : Fin 4) (c : Fin 2120) : col x0 x1 x2 x3 x4 b l c =
    ∑ i, val_main_v23 (F := Ideal) x0 x1 x2 x3 (ix3 b l i) * x4 (ix2 i c) := by
  unfold col
  pointwise [val_main_v24]

/-- The turned queries. -/
theorem turned_q (b : Fin 32) (l : Fin 4) (h : Fin 8) (e : Fin 64) : val_main_v64 (F := Ideal) x0 x1 x2 x3 x4 (ix4 b l h e) =
    turned (fun e => col x0 x1 x2 x3 x4 b l ⟨h * 64 + e, by omega⟩) (cosRow l) (sinRow l) e := by
  pointwise [val_main_v64, val_main_v63, val_main_v62, val_main_v61, val_main_v60, val_main_v59, val_main_v58, val_main_v57,
    val_main_v56, val_main_v55, val_main_v54, val_main_v53, val_main_v52, val_main_v51, val_main_v49, val_main_v35, val_main_v25]
  unfold turned col cosRow sinRow
  split
  · rfl
  · rename_i hn
    simp only [Nat.add_sub_of_le (Nat.le_of_not_lt hn)]

/-- The turned keys. -/
theorem turned_k (b : Fin 32) (l : Fin 4) (h : Fin 2) (e : Fin 64) : val_main_v94 (F := Ideal) x0 x1 x2 x3 x4 (ix4 b l h e) =
    turned (fun e => col x0 x1 x2 x3 x4 b l ⟨512 + (h * 64 + e), by omega⟩) (cosRow l) (sinRow l) e := by
  pointwise [val_main_v94, val_main_v93, val_main_v92, val_main_v91, val_main_v90, val_main_v89, val_main_v88, val_main_v87,
    val_main_v86, val_main_v85, val_main_v84, val_main_v83, val_main_v82, val_main_v81, val_main_v79, val_main_v65, val_main_v26]
  unfold turned col cosRow sinRow
  split
  · rfl
  · rename_i hn
    simp only [Nat.add_sub_of_le (Nat.le_of_not_lt hn)]
    rfl

/-- The turned indexer queries. -/
theorem turned_qi (b : Fin 32) (l : Fin 4) (h : Fin 4) (e : Fin 64) :
    val_main_v125 (F := Ideal) x0 x1 x2 x3 x4 (ix4 b l h e) =
    turned (fun e => col x0 x1 x2 x3 x4 b l ⟨768 + (h * 64 + e), by omega⟩) (cosRow l) (sinRow l) e := by
  pointwise [val_main_v125, val_main_v124, val_main_v123, val_main_v122, val_main_v121, val_main_v120, val_main_v119,
    val_main_v118, val_main_v117, val_main_v116, val_main_v115, val_main_v114, val_main_v113, val_main_v112, val_main_v110,
    val_main_v96, val_main_v28]
  unfold turned col cosRow sinRow
  split
  · rfl
  · rename_i hn
    simp only [Nat.add_sub_of_le (Nat.le_of_not_lt hn)]
    rfl

/-- The turned indexer keys. -/
theorem turned_ki (b : Fin 32) (l : Fin 4) (e : Fin 64) : val_main_v156 (F := Ideal) x0 x1 x2 x3 x4 (ix3 b l e) =
    turned (fun e => col x0 x1 x2 x3 x4 b l ⟨1024 + e, by omega⟩) (cosRow l) (sinRow l) e := by
  pointwise [val_main_v156, val_main_v155, val_main_v154, val_main_v153, val_main_v152, val_main_v151, val_main_v150,
    val_main_v149, val_main_v148, val_main_v147, val_main_v146, val_main_v145, val_main_v144, val_main_v143, val_main_v142,
    val_main_v140, val_main_v126, val_main_v29]
  unfold turned col cosRow sinRow
  split
  · rfl
  · rename_i hn
    simp only [Nat.add_sub_of_le (Nat.le_of_not_lt hn)]
    rfl

/-- The scaled queries, flattened. -/
theorem q_apply (b : Fin 32) (l : Fin 4) (j : Fin 512) : val_main_v161 (F := Ideal) x0 x1 x2 x3 x4 (ix2 (row b l) j) =
    turned (fun e => col x0 x1 x2 x3 x4 b l ⟨j / 64 * 64 + e, by omega⟩) (cosRow l) (sinRow l) ⟨j % 64, by omega⟩
      * Ideal.ofBits FTy.f32 1040187392#32 := by
  pointwise [val_main_v161, val_main_v160, val_main_v159, val_main_v158, val_main_cst_11, row, turned_q]

/-- The scaled indexer queries, flattened. -/
theorem qi_apply (b : Fin 32) (l : Fin 4) (j : Fin 256) : val_main_v167 (F := Ideal) x0 x1 x2 x3 x4 (ix2 (row b l) j) =
    turned (fun e => col x0 x1 x2 x3 x4 b l ⟨768 + (j / 64 * 64 + e), by omega⟩) (cosRow l) (sinRow l) ⟨j % 64, by omega⟩
      * Ideal.ofBits FTy.f32 1040187392#32 := by
  pointwise [val_main_v167, val_main_v166, val_main_v165, val_main_v164, val_main_cst_12, row, turned_qi]

/-- The keys, flattened. -/
theorem kb_apply (b : Fin 32) (l : Fin 4) (j : Fin 128) : val_main_v175 (F := Ideal) x0 x1 x2 x3 x4 (ix2 (row b l) j) =
    turned (fun e => col x0 x1 x2 x3 x4 b l ⟨512 + (j / 64 * 64 + e), by omega⟩) (cosRow l) (sinRow l) ⟨j % 64, by omega⟩ := by
  pointwise [val_main_v175, val_main_v174, row, turned_k]

/-- The indexer keys, flattened. -/
theorem kib_apply (b : Fin 32) (l : Fin 4) (j : Fin 64) : val_main_v179 (F := Ideal) x0 x1 x2 x3 x4 (ix2 (row b l) j) =
    turned (fun e => col x0 x1 x2 x3 x4 b l ⟨1024 + e, by omega⟩) (cosRow l) (sinRow l) j := by
  pointwise [val_main_v179, val_main_v178, row, turned_ki]

/-- The values, flattened. -/
theorem vb_apply (b : Fin 32) (l : Fin 4) (j : Fin 128) : val_main_v177 (F := Ideal) x0 x1 x2 x3 x4 (ix2 (row b l) j) =
    col x0 x1 x2 x3 x4 b l ⟨640 + j, by omega⟩ := by
  pointwise [val_main_v177, val_main_v176, val_main_v95, val_main_v27, row, col]

/-- The gate of the recurrence. -/
theorem z_apply (b : Fin 32) (l : Fin 4) (j : Fin 256) : val_main_v169 (F := Ideal) x0 x1 x2 x3 x4 (ix2 (row b l) j) =
    col x0 x1 x2 x3 x4 b l ⟨1092 + j, by omega⟩ := by
  pointwise [val_main_v169, val_main_v31, row, col]

/-- The convolution's input, flattened. -/
theorem xbc_apply (b : Fin 32) (l : Fin 4) (j : Fin 512) : val_main_v170 (F := Ideal) x0 x1 x2 x3 x4 (ix2 (row b l) j) =
    col x0 x1 x2 x3 x4 b l ⟨1348 + j, by omega⟩ := by
  pointwise [val_main_v170, val_main_v32, row, col]

/-- The pooling's input, flattened. -/
theorem xp_apply (b : Fin 32) (l : Fin 4) (j : Fin 256) : val_main_v171 (F := Ideal) x0 x1 x2 x3 x4 (ix2 (row b l) j) =
    col x0 x1 x2 x3 x4 b l ⟨1864 + j, by omega⟩ := by
  pointwise [val_main_v171, val_main_v34, row, col]

/-- The last three positions of the convolution's input. -/
theorem conv_apply (b : Fin 32) (i : Fin 3) (j : Fin 512) : val_main_v172 (F := Ideal) x0 x1 x2 x3 x4 (ix3 b i j) =
    col x0 x1 x2 x3 x4 b ⟨1 + i, by omega⟩ ⟨1348 + j, by omega⟩ := by
  pointwise [val_main_v172, val_main_v32, col]

/-- The last fifteen positions of the pooling's carried inputs followed by the new ones. -/
theorem pool_apply (x5 : FVec Ideal S32x15x256 .f32) (b : Fin 32) (i : Fin 15) (j : Fin 256) :
    val_main_v173 (F := Ideal) x0 x1 x2 x3 x4 x5 (ix3 b i j) =
    if h : 4 + i.val < 15 then x5 (ix3 b ⟨4 + i, h⟩ j) else col x0 x1 x2 x3 x4 b ⟨4 + i - 15, by omega⟩ ⟨1864 + j, by omega⟩ := by
  pointwise [val_main_v173, val_main_v157, val_main_v34, col]

/-- Result 2 is the unrounded result 11. -/
theorem keys_eq : val_main_v162 (F := Ideal) x0 x1 x2 x3 x4 = val_main_v175 (F := Ideal) x0 x1 x2 x3 x4 := by
  refine funext fun (i : S128x128.Idx) => ?_
  obtain ⟨p, j, rfl⟩ : ∃ p j, i = ix2 p j := ⟨_, _, (ix2_eta i).symm⟩
  pointwise [val_main_v162, val_main_v175, val_main_v174]

/-- Result 3 is the unrounded result 12. -/
theorem values_eq : val_main_v163 (F := Ideal) x0 x1 x2 x3 x4 = val_main_v177 (F := Ideal) x0 x1 x2 x3 x4 := by
  refine funext fun (i : S128x128.Idx) => ?_
  obtain ⟨p, j, rfl⟩ : ∃ p j, i = ix2 p j := ⟨_, _, (ix2_eta i).symm⟩
  pointwise [val_main_v163, val_main_v177, val_main_v176]

/-- Result 5 is the unrounded result 13. -/
theorem indexer_keys_eq : val_main_v168 (F := Ideal) x0 x1 x2 x3 x4 = val_main_v179 (F := Ideal) x0 x1 x2 x3 x4 := by
  refine funext fun (i : S128x64.Idx) => ?_
  obtain ⟨p, j, rfl⟩ : ∃ p j, i = ix2 p j := ⟨_, _, (ix2_eta i).symm⟩
  pointwise [val_main_v168, val_main_v179, val_main_v178]

end Cert.InprojSmpRefIdeal.Inproj

end
-- ==== Proof.InprojSmp.Block.lean ====
/- What one grid point of the input projection of the short continuations computes, over blocks that hold the reference's operands. -/
module

public import proofs.«01_k».proof.Proof.Gen.InprojSmpIdeal.Skeleton
public import proofs.«01_k».proof.Proof.InprojSmp.Ref

@[expose] public section

set_option maxRecDepth 16384

noncomputable section

open Idealize.ShloMosaic Idealize.ShloMosaic.TcCoe Idealize.SL.Sem

namespace Cert.InprojSmpIdeal.Inproj

open Cert.InprojSmpIdeal Cert.InprojSmpIdeal.Gen Cert.InprojSmpRefIdeal.Read Cert.InprojSmpRefIdeal.Inproj

/-- The lane mask: set in the first half of every head of 64 lanes. -/
theorem mask (j : Fin 128) : k0_pay8 (Scalar.select (Scalar.cmpi .eq 64#32 0#32) 1#32 64#32) k0_pay6 k0_pay7 0#32 (ix2 0 j) =
    if j.val % 64 < 32 then 1#1 else 0#1 := by
  pointwise [k0_pay8, k0_pay6, k0_pay7]
  revert j
  decide +kernel

/-- The two lane rotations, picked by the mask and combined with the tables of cosines and signed sines, turn every head. -/
theorem turn_lane (s : Fin 128 → EReal) (co si : Fin 32 → EReal) (cb sb : EReal) (m : BitVec 1) (j : Fin 128)
    (hc : cb = co ⟨j % 32, by omega⟩) (hs : sb = if j.val % 64 < 32 then -si ⟨j % 32, by omega⟩ else si ⟨j % 32, by omega⟩)
    (hm : m = if j.val % 64 < 32 then 1#1 else 0#1) :
    s j * cb + Scalar.select m (s ⟨(j + 128 - 96) % 128, by omega⟩) (s ⟨(j + 128 - 32) % 128, by omega⟩) * sb =
      turned (fun e => s ⟨j / 64 * 64 + e, by omega⟩) co si ⟨j % 64, by omega⟩ := by
  subst hc hs hm
  unfold turned
  have e0 : (⟨j / 64 * 64 + j % 64, by omega⟩ : Fin 128) = j := Fin.ext (by simp only; omega)
  by_cases h : j.val % 64 < 32
  · have e1 : (⟨j % 32, by omega⟩ : Fin 32) = ⟨j % 64, h⟩ := Fin.ext (by simp only; omega)
    have e2 : (⟨(j + 128 - 96) % 128, by omega⟩ : Fin 128) = ⟨j / 64 * 64 + (32 + j % 64), by omega⟩ :=
      Fin.ext (by simp only; omega)
    simp only [h, if_true, dif_pos, e0, e1, e2]
    rw [show ∀ x y : EReal, Scalar.select (1#1) x y = x from fun _ _ => rfl, mul_neg, ← sub_eq_add_neg]
  · have e1 : (⟨j % 32, by omega⟩ : Fin 32) = ⟨j % 64 - 32, by omega⟩ := Fin.ext (by simp only; omega)
    have e2 : (⟨(j + 128 - 32) % 128, by omega⟩ : Fin 128) = ⟨j / 64 * 64 + (j % 64 - 32), by omega⟩ :=
      Fin.ext (by simp only; omega)
    simp only [h, if_false, dif_neg, not_false_eq_true, e0, e1, e2]
    rfl

variable (x0 : FVec Ideal S32x4x1024 .f32) (x1 : FVec Ideal S1024 .f32) (x2 x3 : FVec Ideal S32x1024 .f32)
  (x4 : FVec Ideal S1024x2120 .f32) (b : Fin 128 → Fin 32) (l : Fin 128 → Fin 4)

/-- The normalized and modulated rows of a block. -/
theorem hidden_block (xb : FVec Ideal S128x1024 .f32) (lnb : FVec Ideal S1x1024 .f32) (scb shb : FVec Ideal S1x128x1024 .f32)
    (hx : ∀ p j, xb (ix2 p j) = x0 (ix3 (b p) (l p) j)) (hln : ∀ j, lnb (ix2 0 j) = x1 (ix1 j))
    (hsc : ∀ p j, scb (ix3 0 p j) = x2 (ix2 (b p) j)) (hsh : ∀ p j, shb (ix3 0 p j) = x3 (ix2 (b p) j)) (p : Fin 128) (j : Fin 1024) :
    k0_pay3 (F := Ideal) xb lnb scb shb (ix2 p j) = val_main_v23 (F := Ideal) x0 x1 x2 x3 (ix3 (b p) (l p) j) := by
  rw [hidden_apply]
  pointwise [k0_pay3]
  simp only [hx, hln, hsc, hsh]

/-- The rows of a block contracted with one column of the weights. -/
theorem col_block (hb : FVec Ideal S128x1024 .bf16) (w : Fin 1024 → EReal) (c : Fin 2120)
    (hh : ∀ p j, hb (ix2 p j) = val_main_v23 (F := Ideal) x0 x1 x2 x3 (ix3 (b p) (l p) j)) (hw : ∀ k, w k = x4 (ix2 k c)) (p : Fin 128) :
    ∑ k, hb (ix2 p k) * w k = col x0 x1 x2 x3 x4 (b p) (l p) c := by
  rw [col_apply]
  simp only [hh, hw]

/-- A turned head of the block's projections is a turned head of the reference's columns. -/
theorem head_block (hb : FVec Ideal S128x1024 .bf16) (w : Fin 64 → Fin 1024 → EReal) (c : Fin 64 → Fin 2120) (co si : Fin 32 → EReal)
    (hh : ∀ p j, hb (ix2 p j) = val_main_v23 (F := Ideal) x0 x1 x2 x3 (ix3 (b p) (l p) j))
    (hw : ∀ e k, w e k = x4 (ix2 k (c e))) (p : Fin 128) (e e' : Fin 64) (he : e.val = e'.val) :
    turned (fun e => ∑ k, hb (ix2 p k) * w e k) co si e = turned (fun e => col x0 x1 x2 x3 x4 (b p) (l p) (c e)) co si e' := by
  rw [Fin.ext he]
  exact congrArg (fun q => turned q co si e') (funext fun e => col_block x0 x1 x2 x3 x4 b l hb (w e) (c e) hh (hw e) p)

variable (hb : FVec Ideal S128x1024 .bf16) (cb sb : FVec Ideal S128x128 .f32) (mb : IVec S1x128 1) (wb : FVec Ideal S1024x128 .bf16)
  (hh : ∀ p j, hb (ix2 p j) = val_main_v23 (F := Ideal) x0 x1 x2 x3 (ix3 (b p) (l p) j))
  (hc : ∀ p (j : Fin 128), cb (ix2 p j) = cosRow (l p) ⟨j % 32, by omega⟩)
  (hs : ∀ p (j : Fin 128), sb (ix2 p j) = if j.val % 64 < 32 then -sinRow (l p) ⟨j % 32, by omega⟩ else sinRow (l p) ⟨j % 32, by omega⟩)
  (hm : ∀ j : Fin 128, mb (ix2 0 j) = if j.val % 64 < 32 then 1#1 else 0#1)

include hh hc hs

/-- Queries, lanes 0 to 127. -/
theorem q_block0 (hw : ∀ k (j : Fin 128), wb (ix2 k j) = x4 (ix2 k ⟨j, by omega⟩)) (p : Fin 128) (j : Fin 128) :
    k0_pay9 (F := Ideal) hb cb sb (Scalar.select (Scalar.cmpi .eq 64#32 0#32) 1#32 64#32) k0_pay6 k0_pay7 0#32 wb (ix2 p j) =
      val_main_v161 (F := Ideal) x0 x1 x2 x3 x4 (ix2 (row (b p) (l p)) ⟨j, by omega⟩) := by
  rw [q_apply]
  pointwise [k0_pay9]
  rw [turn_lane (fun j => ∑ k, hb (ix2 p k) * wb (ix2 k j)) (cosRow (l p)) (sinRow (l p)) _ _ _ j (hc p j) (hs p j) (mask j)]
  exact congrArg (· * Ideal.ofBits FTy.f32 1040187392#32) (head_block x0 x1 x2 x3 x4 b l hb _ _ _ _ hh (fun e k =>
    (hw k _).trans (congrArg (fun c => x4 (ix2 k c)) (Fin.ext (by simp only)))) p _ _ (by simp only))

/-- Queries, lanes 128 to 255. -/
theorem q_block1 (hw : ∀ k (j : Fin 128), wb (ix2 k j) = x4 (ix2 k ⟨128 + j, by omega⟩)) (p : Fin 128) (j : Fin 128) :
    k0_pay10 (F := Ideal) hb cb sb (Scalar.select (Scalar.cmpi .eq 64#32 0#32) 1#32 64#32) k0_pay6 k0_pay7 0#32 wb (ix2 p j) =
      val_main_v161 (F := Ideal) x0 x1 x2 x3 x4 (ix2 (row (b p) (l p)) ⟨128 + j, by omega⟩) := by
  rw [q_apply]
  pointwise [k0_pay10]
  rw [turn_lane (fun j => ∑ k, hb (ix2 p k) * wb (ix2 k j)) (cosRow (l p)) (sinRow (l p)) _ _ _ j (hc p j) (hs p j) (mask j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

include hm

/-- Queries, lanes 256 to 383. -/
theorem q_block2 (hw : ∀ k (j : Fin 128), wb (ix2 k j) = x4 (ix2 k ⟨256 + j, by omega⟩)) (p : Fin 128) (j : Fin 128) :
    k0_pay11 (F := Ideal) hb cb sb mb wb (ix2 p j) =
      val_main_v161 (F := Ideal) x0 x1 x2 x3 x4 (ix2 (row (b p) (l p)) ⟨256 + j, by omega⟩) := by
  rw [q_apply]
  pointwise [k0_pay11]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

/-- Queries, lanes 384 to 511. -/
theorem q_block3 (hw : ∀ k (j : Fin 128), wb (ix2 k j) = x4 (ix2 k ⟨384 + j, by omega⟩)) (p : Fin 128) (j : Fin 128) :
    k0_pay12 (F := Ideal) hb cb sb mb wb (ix2 p j) =
      val_main_v161 (F := Ideal) x0 x1 x2 x3 x4 (ix2 (row (b p) (l p)) ⟨384 + j, by omega⟩) := by
  rw [q_apply]
  pointwise [k0_pay12]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

/-- Indexer queries, lanes 0 to 127. -/
theorem qi_block0 (hw : ∀ k (j : Fin 128), wb (ix2 k j) = x4 (ix2 k ⟨768 + j, by omega⟩)) (p : Fin 128) (j : Fin 128) :
    k0_pay20 (F := Ideal) hb cb sb mb wb (ix2 p j) =
      val_main_v167 (F := Ideal) x0 x1 x2 x3 x4 (ix2 (row (b p) (l p)) ⟨j, by omega⟩) := by
  rw [qi_apply]
  pointwise [k0_pay20]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only)))) p _ _ (by simp only))

/-- Indexer queries, lanes 128 to 255. -/
theorem qi_block1 (hw : ∀ k (j : Fin 128), wb (ix2 k j) = x4 (ix2 k ⟨896 + j, by omega⟩)) (p : Fin 128) (j : Fin 128) :
    k0_pay22 (F := Ideal) cb sb mb (k0_pay21 hb wb) (ix2 p j) =
      val_main_v167 (F := Ideal) x0 x1 x2 x3 x4 (ix2 (row (b p) (l p)) ⟨128 + j, by omega⟩) := by
  rw [qi_apply]
  pointwise [k0_pay22, k0_pay21]
  rw [turn_lane (fun j => ∑ k, hb (ix2 p k) * wb (ix2 k j)) (cosRow (l p)) (sinRow (l p)) _ _ _ j (hc p j) (hs p j) (hm j)]
  exact congrArg (· * Ideal.ofBits FTy.f32 1040187392#32) (head_block x0 x1 x2 x3 x4 b l hb _ _ _ _ hh (fun e k =>
    (hw k _).trans (congrArg (fun c => x4 (ix2 k c)) (Fin.ext (by simp only; omega)))) p _ _ (by simp only; omega))

/-- Keys. -/
theorem k_block (hw : ∀ k (j : Fin 128), wb (ix2 k j) = x4 (ix2 k ⟨512 + j, by omega⟩)) (p : Fin 128) (j : Fin 128) :
    k0_pay16 (F := Ideal) cb sb mb (k0_pay13 hb wb) (k0_pay14 hb wb) (k0_pay15 hb wb) (ix2 p j) =
      val_main_v175 (F := Ideal) x0 x1 x2 x3 x4 (ix2 (row (b p) (l p)) ⟨j, by omega⟩) := by
  rw [kb_apply]
  pointwise [k0_pay16, k0_pay15, k0_pay14, k0_pay13]
  rw [turn_lane (fun j => ∑ k, hb (ix2 p k) * wb (ix2 k j)) (cosRow (l p)) (sinRow (l p)) _ _ _ j (hc p j) (hs p j) (hm j)]
  exact (head_block x0 x1 x2 x3 x4 b l hb _ _ _ _ hh (fun e k =>
    (hw k _).trans (congrArg (fun c => x4 (ix2 k c)) (Fin.ext (by simp only)))) p _ _ (by simp only))

/-- Keys, rounded. -/
theorem kb_block (hw : ∀ k (j : Fin 128), wb (ix2 k j) = x4 (ix2 k ⟨512 + j, by omega⟩)) (p : Fin 128) (j : Fin 128) :
    k0_pay17 (F := Ideal) cb sb mb (k0_pay13 hb wb) (k0_pay14 hb wb) (k0_pay15 hb wb) (ix2 p j) =
      val_main_v175 (F := Ideal) x0 x1 x2 x3 x4 (ix2 (row (b p) (l p)) ⟨j, by omega⟩) := by
  rw [kb_apply]
  pointwise [k0_pay17, k0_pay16, k0_pay15, k0_pay14, k0_pay13]
  rw [turn_lane (fun j => ∑ k, hb (ix2 p k) * wb (ix2 k j)) (cosRow (l p)) (sinRow (l p)) _ _ _ j (hc p j) (hs p j) (hm j)]
  exact (head_block x0 x1 x2 x3 x4 b l hb _ _ _ _ hh (fun e k =>
    (hw k _).trans (congrArg (fun c => x4 (ix2 k c)) (Fin.ext (by simp only)))) p _ _ (by simp only))

/-- Indexer keys. -/
theorem ki_block (hw : ∀ k (e : Fin 64), wb (ix2 k ⟨e, by omega⟩) = x4 (ix2 k ⟨1024 + e, by omega⟩)) (p : Fin 128) (e : Fin 64) :
    k0_pay1 (F := Ideal) cb sb mb (k0_pay26 hb wb) (k0_pay27 hb wb) (ix2 p e) = val_main_v179 (F := Ideal) x0 x1 x2 x3 x4 (ix2 (row (b p) (l p)) e) := by
  rw [kib_apply]
  pointwise [k0_pay1, k0_pay27, k0_pay26]
  refine (turn_lane (fun j => ∑ k, hb (ix2 p k) * wb (ix2 k j)) (cosRow (l p)) (sinRow (l p)) _ _ _ ⟨e, by omega⟩
    (hc p _) (hs p _) (hm _)).trans ?_
  exact head_block x0 x1 x2 x3 x4 b l hb _ _ _ _ hh (fun e' k =>
    (congrArg (fun c => wb (ix2 k c)) (Fin.ext (by simp only; omega))).trans (hw k e')) p _ _ (by simp only; omega)

/-- Indexer keys, rounded. -/
theorem kib_block (hw : ∀ k (e : Fin 64), wb (ix2 k ⟨e, by omega⟩) = x4 (ix2 k ⟨1024 + e, by omega⟩)) (p : Fin 128) (e : Fin 64) :
    k0_pay2 (F := Ideal) cb sb mb (k0_pay26 hb wb) (k0_pay27 hb wb) (ix2 p e) = val_main_v179 (F := Ideal) x0 x1 x2 x3 x4 (ix2 (row (b p) (l p)) e) := by
  rw [kib_apply]
  pointwise [k0_pay2, k0_pay1, k0_pay27, k0_pay26]
  refine (turn_lane (fun j => ∑ k, hb (ix2 p k) * wb (ix2 k j)) (cosRow (l p)) (sinRow (l p)) _ _ _ ⟨e, by omega⟩
    (hc p _) (hs p _) (hm _)).trans ?_
  exact head_block x0 x1 x2 x3 x4 b l hb _ _ _ _ hh (fun e' k =>
    (congrArg (fun c => wb (ix2 k c)) (Fin.ext (by simp only; omega))).trans (hw k e')) p _ _ (by simp only; omega)

omit hc hs hm

/-- Values. -/
theorem v_block (wb : FVec Ideal S1024x128 .bf16) (hw : ∀ k (j : Fin 128), wb (ix2 k j) = x4 (ix2 k ⟨640 + j, by omega⟩)) (p : Fin 128) (j : Fin 128) :
    k0_pay18 (F := Ideal) hb wb (ix2 p j) = val_main_v177 (F := Ideal) x0 x1 x2 x3 x4 (ix2 (row (b p) (l p)) j) := by
  rw [vb_apply]
  pointwise [k0_pay18]
  exact col_block x0 x1 x2 x3 x4 b l hb _ _ hh (fun k => hw k j) p

/-- Values, rounded. -/
theorem vb_block (wb : FVec Ideal S1024x128 .bf16) (hw : ∀ k (j : Fin 128), wb (ix2 k j) = x4 (ix2 k ⟨640 + j, by omega⟩)) (p : Fin 128) (j : Fin 128) :
    k0_pay19 (F := Ideal) hb wb (ix2 p j) = val_main_v177 (F := Ideal) x0 x1 x2 x3 x4 (ix2 (row (b p) (l p)) j) := by
  rw [vb_apply]
  pointwise [k0_pay19, k0_pay18]
  exact col_block x0 x1 x2 x3 x4 b l hb _ _ hh (fun k => hw k j) p

/-- The gate of the recurrence. -/
theorem z_block (wb : FVec Ideal S1024x256 .bf16) (hw : ∀ k (j : Fin 256), wb (ix2 k j) = x4 (ix2 k ⟨1092 + j, by omega⟩)) (p : Fin 128) (j : Fin 256) :
    k0_pay23 (F := Ideal) hb wb (ix2 p j) = val_main_v169 (F := Ideal) x0 x1 x2 x3 x4 (ix2 (row (b p) (l p)) j) := by
  rw [z_apply]
  pointwise [k0_pay23]
  exact col_block x0 x1 x2 x3 x4 b l hb _ _ hh (fun k => hw k j) p

/-- The convolution's input. -/
theorem xbc_block (wb : FVec Ideal S1024x512 .bf16) (hw : ∀ k (j : Fin 512), wb (ix2 k j) = x4 (ix2 k ⟨1348 + j, by omega⟩)) (p : Fin 128) (j : Fin 512) :
    k0_pay24 (F := Ideal) hb wb (ix2 p j) = val_main_v170 (F := Ideal) x0 x1 x2 x3 x4 (ix2 (row (b p) (l p)) j) := by
  rw [xbc_apply]
  pointwise [k0_pay24]
  exact col_block x0 x1 x2 x3 x4 b l hb _ _ hh (fun k => hw k j) p

/-- The pooling's input. -/
theorem xp_block (wb : FVec Ideal S1024x256 .bf16) (hw : ∀ k (j : Fin 256), wb (ix2 k j) = x4 (ix2 k ⟨1864 + j, by omega⟩)) (p : Fin 128) (j : Fin 256) :
    k0_pay25 (F := Ideal) hb wb (ix2 p j) = val_main_v171 (F := Ideal) x0 x1 x2 x3 x4 (ix2 (row (b p) (l p)) j) := by
  rw [xp_apply]
  pointwise [k0_pay25]
  exact col_block x0 x1 x2 x3 x4 b l hb _ _ hh (fun k => hw k j) p

end Cert.InprojSmpIdeal.Inproj

end
-- ==== Proof.InprojSmp.Blocks.lean ====
/- What the blocks of the input projection's operands, for the short continuations, hold at a grid point, read off the host's preparation of them. -/
module

public import proofs.«01_k».proof.Proof.Gen.InprojSmpIdeal.Frame
public import proofs.«01_k».proof.Proof.InprojSmp.Ref

@[expose] public section

set_option maxRecDepth 16384

noncomputable section

open Idealize.ShloMosaic Idealize.ShloMosaic.TcCoe Idealize.SL.Sem

namespace Cert.InprojSmpIdeal.Inproj

open Cert.InprojSmpIdeal Cert.InprojSmpIdeal.Gen Cert.InprojSmpRefIdeal.Read Cert.InprojSmpRefIdeal.Inproj

variable (m : (ℓ : Loc nD τ sig) → Buf (Elt Ideal) ℓ) (c : Dev nD)

/-- There is one point, and every window is one block. -/
theorem idx_val : ∀ t : Fin cfg0.N, win0_0.index t = ![0, 0] ∧ win0_1.index t = ![0, 0] ∧ win0_2.index t = ![0, 0, 0] ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] := (by decide +kernel : ∀ t : Fin grid0.N, _)

/-- The sequence of a row of the block. -/
def seq (_ : Fin cfg0.N) (p : Fin 128) : Fin 32 := ⟨p.val / 4, by omega⟩

/-- The position in that sequence of a row of the block. -/
def pos (_ : Fin cfg0.N) (p : Fin 128) : Fin 4 := ⟨p.val % 4, by omega⟩

/-- The stream, flattened on the host. -/
theorem read_x (t : Fin cfg0.N) (p : Fin 128) (j : Fin 1024) : iblk m c 0 t (ix2 p j) = m ((c : Thread nD τ).loc main_arg0) (ix3 (seq t p) (pos t p) j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

/-- The normalization's weight. -/
theorem read_ln (t : Fin cfg0.N) (j : Fin 1024) : iblk m c 1 t (ix2 0 j) = m ((c : Thread nD τ).loc main_arg1) (ix1 j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

/-- The modulation's scale. -/
theorem read_sc (t : Fin cfg0.N) (p : Fin 128) (j : Fin 1024) : iblk m c 2 t (ix3 0 p j) = m ((c : Thread nD τ).loc main_arg2) (ix2 (seq t p) j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

/-- The modulation's shift. -/
theorem read_sh (t : Fin cfg0.N) (p : Fin 128) (j : Fin 1024) : iblk m c 3 t (ix3 0 p j) = m ((c : Thread nD τ).loc main_arg3) (ix2 (seq t p) j) := by
  have ht := lt_of_lt_of_eq t.isLt N_0
  unfold iblk
  blk_simp [idx_val t]
  unfold V V0
  simp only [List.flatten_cons, List.flatten_nil, List.append_nil]
  after_results_simp
  pointwise [seq, pos]
  blk_ext [idx_val t]

end Cert.InprojSmpIdeal.Inproj

end
-- ==== Proof.InprojSmp.Host.lean ====
/- What the host prepares for the input projection of the short continuations: the permuted weights and the two tables of the rotary embedding, read
   element by element, and the blocks of them that a grid point holds. -/
module

public import proofs.«01_k».proof.Proof.InprojSmp.Blocks

@[expose] public section

set_option maxRecDepth 16384

noncomputable section

open Idealize.ShloMosaic Idealize.ShloMosaic.TcCoe Idealize.SL.Sem

namespace Cert.InprojSmpIdeal.Inproj

open Cert.InprojSmpIdeal Cert.InprojSmpIdeal.Gen Cert.InprojSmpRefIdeal.Read Cert.InprojSmpRefIdeal.Inproj

variable (m : (ℓ : Loc nD τ sig) → Buf (Elt Ideal) ℓ) (c : Dev nD)

/-- The weights' block is the whole prepared array. -/
theorem block_w (t : Fin cfg0.N) (k : Fin 1024) (j : Fin 2176) : iblk m c 4 t (ix2 k j) = V m c main_v47 (ix2 k j) := by
  unfold iblk
  blk_simp [idx_val t]
  exact congrArg _ (by blk_ext [idx_val t])

/-- The permuted weights, the columns of `q`. -/
theorem read_w_q (t : Fin cfg0.N) (k : Fin 1024) (j : Fin 512) : iblk m c 4 t (ix2 k ⟨j, by omega⟩) = m ((c : Thread nD τ).loc main_arg4) (ix2 k ⟨j, by omega⟩) := by
  rw [block_w]
  unfold V V0
  simp only [List.flatten_cons, List.flatten_nil, List.append_nil]
  after_results_simp
  pointwise
  after_results_simp
  pointwise

/-- The permuted weights, the columns of `k`. -/
theorem read_w_k (t : Fin cfg0.N) (k : Fin 1024) (j : Fin 128) : iblk m c 4 t (ix2 k ⟨512 + j, by omega⟩) = m ((c : Thread nD τ).loc main_arg4) (ix2 k ⟨512 + j, by omega⟩) := by
  rw [block_w]
  unfold V V0
  simp only [List.flatten_cons, List.flatten_nil, List.append_nil]
  after_results_simp
  pointwise
  after_results_simp
  pointwise

/-- The permuted weights, the columns of `v`. -/
theorem read_w_v (t : Fin cfg0.N) (k : Fin 1024) (j : Fin 128) : iblk m c 4 t (ix2 k ⟨640 + j, by omega⟩) = m ((c : Thread nD τ).loc main_arg4) (ix2 k ⟨640 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `qi`. -/
theorem read_w_qi (t : Fin cfg0.N) (k : Fin 1024) (j : Fin 256) : iblk m c 4 t (ix2 k ⟨768 + j, by omega⟩) = m ((c : Thread nD τ).loc main_arg4) (ix2 k ⟨768 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `z`. -/
theorem read_w_z (t : Fin cfg0.N) (k : Fin 1024) (j : Fin 256) : iblk m c 4 t (ix2 k ⟨1024 + j, by omega⟩) = m ((c : Thread nD τ).loc main_arg4) (ix2 k ⟨1092 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `xbc`. -/
theorem read_w_xbc (t : Fin cfg0.N) (k : Fin 1024) (j : Fin 512) : iblk m c 4 t (ix2 k ⟨1280 + j, by omega⟩) = m ((c : Thread nD τ).loc main_arg4) (ix2 k ⟨1348 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `xp`. -/
theorem read_w_xp (t : Fin cfg0.N) (k : Fin 1024) (j : Fin 256) : iblk m c 4 t (ix2 k ⟨1792 + j, by omega⟩) = m ((c : Thread nD τ).loc main_arg4) (ix2 k ⟨1864 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The permuted weights, the columns of `ki`. -/
theorem read_w_ki (t : Fin cfg0.N) (k : Fin 1024) (j : Fin 64) : iblk m c 4 t (ix2 k ⟨2048 + j, by omega⟩) = m ((c : Thread nD τ).loc main_arg4) (ix2 k ⟨1024 + j, by omega⟩) := by
  rw [block_w]
  unfold V V0
  simp only [List.flatten_cons, List.flatten_nil, List.append_nil]
  after_results_simp
  pointwise
  repeat refine (dif_neg (by omega)).trans ?_
  refine (dif_pos (by omega)).trans ?_
  after_results_simp
  pointwise
  refine congrArg (fun i => m ((c : Thread nD τ).loc main_arg4) (ix2 k i)) (Fin.ext ?_)
  simp only
  omega

/-- The table of cosines repeats the 32 cosines of a row's position four times. -/
theorem table_cos (r : Fin 128) (j : Fin 128) : V m c main_v23 (ix2 r j) = cosRow ⟨r % 4, by omega⟩ ⟨j % 32, by omega⟩ := by
  unfold V V0 cosRow
  simp only [List.flatten_cons, List.flatten_nil, List.append_nil]
  after_results_simp
  pointwise
  after_results_simp
  pointwise [val_main_v48, val_main_v47, val_main_v46, val_main_v45, val_main_v44, val_main_v43, val_main_v42, val_main_v41, val_main_v40, val_main_v39, val_main_v38, val_main_v37, val_main_v36, val_main_v2, val_main_v1, val_main_v0, val_main_c, val_main_cst_3, val_main_cst_4]
  split_ifs <;> first
    | (exfalso; omega)
    | rw [show j.val % 32 = j.val by omega]
    | rw [show j.val % 32 = j.val - 32 by omega]
    | rw [show j.val % 32 = j.val - 32 - 32 by omega]
    | rw [show j.val % 32 = j.val - 32 - 32 - 32 by omega]

/-- The table of sines repeats the 32 sines of a row's position four times, negated in the first half of each head. -/
theorem table_sin (r : Fin 128) (j : Fin 128) : V m c main_v26 (ix2 r j) =
    if j.val % 64 < 32 then -sinRow ⟨r % 4, by omega⟩ ⟨j % 32, by omega⟩ else sinRow ⟨r % 4, by omega⟩ ⟨j % 32, by omega⟩ := by
  unfold V V0 sinRow
  simp only [List.flatten_cons, List.flatten_nil, List.append_nil]
  after_results_simp
  pointwise
  after_results_simp
  pointwise [val_main_v50, val_main_v47, val_main_v46, val_main_v45, val_main_v44, val_main_v43, val_main_v42, val_main_v41, val_main_v40, val_main_v39, val_main_v38, val_main_v37, val_main_v36, val_main_v2, val_main_v1, val_main_v0, val_main_c, val_main_cst_3, val_main_cst_4]
  split_ifs <;> first
    | (exfalso; omega)
    | rw [show j.val % 32 = j.val by omega]
    | rw [show j.val % 32 = j.val - 32 by omega]
    | rw [show j.val % 32 = j.val - 32 - 32 by omega]
    | rw [show j.val % 32 = j.val - 32 - 32 - 32 by omega]

/-- The block of the table holds the point's positions. -/
theorem read_cos (t : Fin cfg0.N) (p : Fin 128) (j : Fin 128) : iblk m c 5 t (ix2 p j) = cosRow (pos t p) ⟨j % 32, by omega⟩ := by
  refine Eq.trans ?_ (table_cos m c p j)
  unfold iblk
  blk_simp [idx_val t]
  exact congrArg _ (by blk_ext [idx_val t])

/-- The block of the table holds the point's positions. -/
theorem read_sin (t : Fin cfg0.N) (p : Fin 128) (j : Fin 128) : iblk m c 6 t (ix2 p j) = if j.val % 64 < 32 then -sinRow (pos t p) ⟨j % 32, by omega⟩ else sinRow (pos t p) ⟨j % 32, by omega⟩ := by
  refine Eq.trans ?_ (table_sin m c p j)
  unfold iblk
  blk_simp [idx_val t]
  exact congrArg _ (by blk_ext [idx_val t])

end Cert.InprojSmpIdeal.Inproj

end
-- ==== Proof.InprojSmp.Bridge.lean ====
/- What every grid point of the input projection of the short continuations writes, and the result arrays after the run. -/
module

public import proofs.«01_k».proof.Proof.Gen.InprojSmpIdeal.Frame
public import proofs.«01_k».proof.Proof.InprojSmp.Block
public import proofs.«01_k».proof.Proof.InprojSmp.Blocks
public import proofs.«01_k».proof.Proof.InprojSmp.Host

@[expose] public section

set_option maxRecDepth 16384

noncomputable section

open Idealize.ShloMosaic Idealize.ShloMosaic.TcCoe Idealize.SL.Sem

namespace Cert.InprojSmpIdeal.Inproj

open Cert.InprojSmpIdeal Cert.InprojSmpIdeal.Gen Cert.InprojSmpRefIdeal.Read Cert.InprojSmpRefIdeal.Inproj

variable (m : (ℓ : Loc nD τ sig) → Buf (Elt Ideal) ℓ) (c : Dev nD)

/-- The point's normalized rows. -/
theorem hid (t : Fin cfg0.N) (p : Fin 128) (j : Fin 1024) :
    k0_pay3 (F := Ideal) (iblk m c 0 t) (iblk m c 1 t) (iblk m c 2 t) (iblk m c 3 t) (ix2 p j) = val_main_v23 (F := Ideal) (m ((c : Thread nD τ).loc main_arg0)) (m ((c : Thread nD τ).loc main_arg1)) (m ((c : Thread nD τ).loc main_arg2)) (m ((c : Thread nD τ).loc main_arg3)) (ix3 (seq t p) (pos t p) j) :=
  hidden_block _ _ _ _ (seq t) (pos t) _ _ _ _ (read_x m c t) (read_ln m c t) (read_sc m c t) (read_sh m c t) p j

/-- The point's cosines. -/
theorem cosines (t : Fin cfg0.N) (p : Fin 128) (j : Fin 128) : k0_pay4 (F := Ideal) (iblk m c 5 t) (ix2 p j) = cosRow (pos t p) ⟨j % 32, by omega⟩ := by
  pointwise [k0_pay4]
  exact read_cos m c t p j

/-- The point's sines, negated in the first half of each head. -/
theorem sines (t : Fin cfg0.N) (p : Fin 128) (j : Fin 128) : k0_pay5 (F := Ideal) (iblk m c 6 t) (ix2 p j) =
    if j.val % 64 < 32 then -sinRow (pos t p) ⟨j % 32, by omega⟩ else sinRow (pos t p) ⟨j % 32, by omega⟩ := by
  pointwise [k0_pay5]
  exact read_sin m c t p j

/-- The queries a point writes. -/
theorem point_7 (t : Fin cfg0.N) (p : Fin 128) (j : Fin 512) : out0_7 (F := Ideal) (iblk m c 0 t) (iblk m c 1 t) (iblk m c 2 t) (iblk m c 3 t) (iblk m c 4 t) (iblk m c 5 t) (iblk m c 6 t) (ix2 p j) =
    val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_7
  canon_tiles x h
  · frame_out
    refine (congrArg _ (ix2_eta x).symm).trans ?_
    refine (q_block3 _ _ _ _ _ (seq t) (pos t) _ _ _ _ _ (hid m c t) (cosines m c t) (sines m c t) mask (fun k j => by pointwise; exact read_w_q m c t k ⟨384 + j, by omega⟩) (x 0) (x 1)).trans ?_
    refine congrArg _ ?_
    exact congrArg₂ ix2 (congrArg (fun p => row (seq t p) (pos t p)) (Fin.ext h0.symm)) (Fin.ext h1.symm)
  · frame_out
    refine (congrArg _ (ix2_eta x).symm).trans ?_
    refine (q_block2 _ _ _ _ _ (seq t) (pos t) _ _ _ _ _ (hid m c t) (cosines m c t) (sines m c t) mask (fun k j => by pointwise; exact read_w_q m c t k ⟨256 + j, by omega⟩) (x 0) (x 1)).trans ?_
    refine congrArg _ ?_
    exact congrArg₂ ix2 (congrArg (fun p => row (seq t p) (pos t p)) (Fin.ext h0.symm)) (Fin.ext h1.symm)
  · frame_out
    refine (congrArg _ (ix2_eta x).symm).trans ?_
    refine (q_block1 _ _ _ _ _ (seq t) (pos t) _ _ _ _ (hid m c t) (cosines m c t) (sines m c t) (fun k j => by pointwise; exact read_w_q m c t k ⟨128 + j, by omega⟩) (x 0) (x 1)).trans ?_
    refine congrArg _ ?_
    exact congrArg₂ ix2 (congrArg (fun p => row (seq t p) (pos t p)) (Fin.ext h0.symm)) (Fin.ext h1.symm)
  · frame_out
    refine (congrArg _ (ix2_eta x).symm).trans ?_
    refine (q_block0 _ _ _ _ _ (seq t) (pos t) _ _ _ _ (hid m c t) (cosines m c t) (sines m c t) (fun k j => by pointwise; exact read_w_q m c t k ⟨j, by omega⟩) (x 0) (x 1)).trans ?_
    refine congrArg _ ?_
    exact congrArg₂ ix2 (congrArg (fun p => row (seq t p) (pos t p)) (Fin.ext h0.symm)) (Fin.ext h1.symm)

/-- The keys a point writes. -/
theorem point_8 (t : Fin cfg0.N) (p : Fin 128) (j : Fin 128) : out0_8 (F := Ideal) (iblk m c 0 t) (iblk m c 1 t) (iblk m c 2 t) (iblk m c 3 t) (iblk m c 4 t) (iblk m c 5 t) (iblk m c 6 t) (ix2 p j) =
    val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_8
  frame_out
  exact k_block _ _ _ _ _ (seq t) (pos t) _ _ _ _ _ (hid m c t) (cosines m c t) (sines m c t) (mask) (fun k j => by pointwise; exact read_w_k m c t k j) p j

/-- The values a point writes. -/
theorem point_9 (t : Fin cfg0.N) (p : Fin 128) (j : Fin 128) : out0_9 (F := Ideal) (iblk m c 0 t) (iblk m c 1 t) (iblk m c 2 t) (iblk m c 3 t) (iblk m c 4 t) (iblk m c 5 t) (iblk m c 6 t) (ix2 p j) =
    val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_9
  frame_out
  exact v_block _ _ _ _ _ (seq t) (pos t) _ (hid m c t) _ (fun k j => by pointwise; exact read_w_v m c t k j) p j

/-- The indexer queries a point writes. -/
theorem point_10 (t : Fin cfg0.N) (p : Fin 128) (j : Fin 256) : out0_10 (F := Ideal) (iblk m c 0 t) (iblk m c 1 t) (iblk m c 2 t) (iblk m c 3 t) (iblk m c 4 t) (iblk m c 5 t) (iblk m c 6 t) (ix2 p j) =
    val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_10
  canon_tiles x h
  · frame_out
    refine (congrArg _ (ix2_eta x).symm).trans ?_
    refine (qi_block1 _ _ _ _ _ (seq t) (pos t) _ _ _ _ _ (hid m c t) (cosines m c t) (sines m c t) mask (fun k j => by pointwise; exact (congrArg (fun i => iblk m c 4 t (ix2 k i)) (Fin.ext (by simp only; omega))).trans ((read_w_qi m c t k ⟨128 + j, by omega⟩).trans (congrArg (fun i => (m ((c : Thread nD τ).loc main_arg4)) (ix2 k i)) (Fin.ext (by simp only; omega))))) (x 0) (x 1)).trans ?_
    refine congrArg _ ?_
    exact congrArg₂ ix2 (congrArg (fun p => row (seq t p) (pos t p)) (Fin.ext h0.symm)) (Fin.ext h1.symm)
  · frame_out
    refine (congrArg _ (ix2_eta x).symm).trans ?_
    refine (qi_block0 _ _ _ _ _ (seq t) (pos t) _ _ _ _ _ (hid m c t) (cosines m c t) (sines m c t) mask (fun k j => by pointwise; exact read_w_qi m c t k ⟨j, by omega⟩) (x 0) (x 1)).trans ?_
    refine congrArg _ ?_
    exact congrArg₂ ix2 (congrArg (fun p => row (seq t p) (pos t p)) (Fin.ext h0.symm)) (Fin.ext h1.symm)

/-- The indexer keys a point writes. -/
theorem point_11 (t : Fin cfg0.N) (p : Fin 128) (j : Fin 64) : out0_11 (F := Ideal) (iblk m c 0 t) (iblk m c 1 t) (iblk m c 2 t) (iblk m c 3 t) (iblk m c 4 t) (iblk m c 5 t) (iblk m c 6 t) (ix2 p j) =
    val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_11
  frame_out
  exact ki_block _ _ _ _ _ (seq t) (pos t) _ _ _ _ _ (hid m c t) (cosines m c t) (sines m c t) (mask) (fun k j => by pointwise; exact read_w_ki m c t k j) p j

/-- The gate of the recurrence a point writes. -/
theorem point_13 (t : Fin cfg0.N) (p : Fin 128) (j : Fin 256) : out0_13 (F := Ideal) (iblk m c 0 t) (iblk m c 1 t) (iblk m c 2 t) (iblk m c 3 t) (iblk m c 4 t) (iblk m c 5 t) (iblk m c 6 t) (ix2 p j) =
    val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_13
  frame_out
  exact z_block _ _ _ _ _ (seq t) (pos t) _ (hid m c t) _ (fun k j => by pointwise; exact read_w_z m c t k j) p j

/-- The convolution's input a point writes. -/
theorem point_14 (t : Fin cfg0.N) (p : Fin 128) (j : Fin 512) : out0_14 (F := Ideal) (iblk m c 0 t) (iblk m c 1 t) (iblk m c 2 t) (iblk m c 3 t) (iblk m c 4 t) (iblk m c 5 t) (iblk m c 6 t) (ix2 p j) =
    val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_14
  frame_out
  exact xbc_block _ _ _ _ _ (seq t) (pos t) _ (hid m c t) _ (fun k j => by pointwise; exact read_w_xbc m c t k j) p j

/-- The pooling's input a point writes. -/
theorem point_15 (t : Fin cfg0.N) (p : Fin 128) (j : Fin 256) : out0_15 (F := Ideal) (iblk m c 0 t) (iblk m c 1 t) (iblk m c 2 t) (iblk m c 3 t) (iblk m c 4 t) (iblk m c 5 t) (iblk m c 6 t) (ix2 p j) =
    val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_15
  frame_out
  exact xp_block _ _ _ _ _ (seq t) (pos t) _ (hid m c t) _ (fun k j => by pointwise; exact read_w_xp m c t k j) p j

/-- The rounded keys a point writes. -/
theorem point_16 (t : Fin cfg0.N) (p : Fin 128) (j : Fin 128) : out0_16 (F := Ideal) (iblk m c 0 t) (iblk m c 1 t) (iblk m c 2 t) (iblk m c 3 t) (iblk m c 4 t) (iblk m c 5 t) (iblk m c 6 t) (ix2 p j) =
    val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_16
  frame_out
  exact kb_block _ _ _ _ _ (seq t) (pos t) _ _ _ _ _ (hid m c t) (cosines m c t) (sines m c t) (mask) (fun k j => by pointwise; exact read_w_k m c t k j) p j

/-- The rounded values a point writes. -/
theorem point_17 (t : Fin cfg0.N) (p : Fin 128) (j : Fin 128) : out0_17 (F := Ideal) (iblk m c 0 t) (iblk m c 1 t) (iblk m c 2 t) (iblk m c 3 t) (iblk m c 4 t) (iblk m c 5 t) (iblk m c 6 t) (ix2 p j) =
    val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_17
  frame_out
  exact vb_block _ _ _ _ _ (seq t) (pos t) _ (hid m c t) _ (fun k j => by pointwise; exact read_w_v m c t k j) p j

/-- The rounded indexer keys a point writes. -/
theorem point_18 (t : Fin cfg0.N) (p : Fin 128) (j : Fin 64) : out0_18 (F := Ideal) (iblk m c 0 t) (iblk m c 1 t) (iblk m c 2 t) (iblk m c 3 t) (iblk m c 4 t) (iblk m c 5 t) (iblk m c 6 t) (ix2 p j) =
    val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row (seq t p) (pos t p)) j) := by
  unfold_out out0_18
  frame_out
  exact kib_block _ _ _ _ _ (seq t) (pos t) _ _ _ _ _ (hid m c t) (cosines m c t) (sines m c t) (mask) (fun k j => by pointwise; exact read_w_ki m c t k j) p j

/-- The array of the queries after the run. -/
theorem array_7 : (dats m 0 c).arrAt 7 cfg0.N = val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht := lt_of_lt_of_eq t.isLt N_0
  blk_simp
  rw [after0_7]
  have e : ((cfg0.win 7).blk t).view.emb y = ix2 (row (seq t (y 0)) (pos t (y 0))) (y 1) := by
    blk_ext [idx_val t, row, seq, pos]
  rw [e]
  exact (congrArg _ (ix2_eta y).symm).trans (point_7 m c t (y 0) (y 1))

/-- The array of the keys after the run. -/
theorem array_8 : (dats m 0 c).arrAt 8 cfg0.N = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht := lt_of_lt_of_eq t.isLt N_0
  blk_simp
  rw [after0_8]
  have e : ((cfg0.win 8).blk t).view.emb y = ix2 (row (seq t (y 0)) (pos t (y 0))) (y 1) := by
    blk_ext [idx_val t, row, seq, pos]
  rw [e]
  exact (congrArg _ (ix2_eta y).symm).trans (point_8 m c t (y 0) (y 1))

/-- The array of the values after the run. -/
theorem array_9 : (dats m 0 c).arrAt 9 cfg0.N = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht := lt_of_lt_of_eq t.isLt N_0
  blk_simp
  rw [after0_9]
  have e : ((cfg0.win 9).blk t).view.emb y = ix2 (row (seq t (y 0)) (pos t (y 0))) (y 1) := by
    blk_ext [idx_val t, row, seq, pos]
  rw [e]
  exact (congrArg _ (ix2_eta y).symm).trans (point_9 m c t (y 0) (y 1))

/-- The array of the indexer queries after the run. -/
theorem array_10 : (dats m 0 c).arrAt 10 cfg0.N = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  have ht := lt_of_lt_of_eq t.isLt N_0
  blk_simp
  rw [after0_10]
  have e : ((cfg0.win 10).blk t).view.emb y = ix2 (row (seq t (y 0)) (pos t (y 0))) (y 1) := by
    blk_ext [idx_val t, row, seq, pos]
  rw [e]
  exact (congrArg _ (ix2_eta y).symm).trans (point_10 m c t (y 0) (y 1))

/-- The array of the indexer keys after the run. -/
theorem array_11 : (dats m 0 c).arrAt 11 cfg0.N = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  have ht := lt_of_lt_of_eq t.isLt N_0
  blk_simp
  rw [after0_11]
  have e : ((cfg0.win 11).blk t).view.emb y = ix2 (row (seq t (y 0)) (pos t (y 0))) (y 1) := by
    blk_ext [idx_val t, row, seq, pos]
  rw [e]
  exact (congrArg _ (ix2_eta y).symm).trans (point_11 m c t (y 0) (y 1))

/-- The array of the recurrence's gate after the run. -/
theorem array_13 : (dats m 0 c).arrAt 13 cfg0.N = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  have ht := lt_of_lt_of_eq t.isLt N_0
  blk_simp
  rw [after0_13]
  have e : ((cfg0.win 13).blk t).view.emb y = ix2 (row (seq t (y 0)) (pos t (y 0))) (y 1) := by
    blk_ext [idx_val t, row, seq, pos]
  rw [e]
  exact (congrArg _ (ix2_eta y).symm).trans (point_13 m c t (y 0) (y 1))

/-- The array of the convolution's input after the run. -/
theorem array_14 : (dats m 0 c).arrAt 14 cfg0.N = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  have ht := lt_of_lt_of_eq t.isLt N_0
  blk_simp
  rw [after0_14]
  have e : ((cfg0.win 14).blk t).view.emb y = ix2 (row (seq t (y 0)) (pos t (y 0))) (y 1) := by
    blk_ext [idx_val t, row, seq, pos]
  rw [e]
  exact (congrArg _ (ix2_eta y).symm).trans (point_14 m c t (y 0) (y 1))

/-- The array of the pooling's input after the run. -/
theorem array_15 : (dats m 0 c).arrAt 15 cfg0.N = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  have ht := lt_of_lt_of_eq t.isLt N_0
  blk_simp
  rw [after0_15]
  have e : ((cfg0.win 15).blk t).view.emb y = ix2 (row (seq t (y 0)) (pos t (y 0))) (y 1) := by
    blk_ext [idx_val t, row, seq, pos]
  rw [e]
  exact (congrArg _ (ix2_eta y).symm).trans (point_15 m c t (y 0) (y 1))

/-- The array of the rounded keys after the run. -/
theorem array_16 : (dats m 0 c).arrAt 16 cfg0.N = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  have ht := lt_of_lt_of_eq t.isLt N_0
  blk_simp
  rw [after0_16]
  have e : ((cfg0.win 16).blk t).view.emb y = ix2 (row (seq t (y 0)) (pos t (y 0))) (y 1) := by
    blk_ext [idx_val t, row, seq, pos]
  rw [e]
  exact (congrArg _ (ix2_eta y).symm).trans (point_16 m c t (y 0) (y 1))

/-- The array of the rounded values after the run. -/
theorem array_17 : (dats m 0 c).arrAt 17 cfg0.N = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 17 _ (by decide +kernel) fun t hf y => ?_
  have ht := lt_of_lt_of_eq t.isLt N_0
  blk_simp
  rw [after0_17]
  have e : ((cfg0.win 17).blk t).view.emb y = ix2 (row (seq t (y 0)) (pos t (y 0))) (y 1) := by
    blk_ext [idx_val t, row, seq, pos]
  rw [e]
  exact (congrArg _ (ix2_eta y).symm).trans (point_17 m c t (y 0) (y 1))

/-- The array of the rounded indexer keys after the run. -/
theorem array_18 : (dats m 0 c).arrAt 18 cfg0.N = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 18 _ (by decide +kernel) fun t hf y => ?_
  have ht := lt_of_lt_of_eq t.isLt N_0
  blk_simp
  rw [after0_18]
  have e : ((cfg0.win 18).blk t).view.emb y = ix2 (row (seq t (y 0)) (pos t (y 0))) (y 1) := by
    blk_ext [idx_val t, row, seq, pos]
  rw [e]
  exact (congrArg _ (ix2_eta y).symm).trans (point_18 m c t (y 0) (y 1))

end Cert.InprojSmpIdeal.Inproj

end
-- ==== Proof.InprojSmp.Tail.lean ====
/- The results the host forms from the arrays of the input projection after the run. -/
module

public import proofs.«01_k».proof.Proof.InprojSmp.Bridge

@[expose] public section

set_option maxRecDepth 16384

noncomputable section

open Idealize.ShloMosaic Idealize.ShloMosaic.TcCoe Idealize.SL.Sem

namespace Cert.InprojSmpIdeal.Inproj

open Cert.InprojSmpIdeal Cert.InprojSmpIdeal.Gen Cert.InprojSmpRefIdeal.Read Cert.InprojSmpRefIdeal.Inproj

variable (m : (ℓ : Loc nD τ sig) → Buf (Elt Ideal) ℓ) (c : Dev nD)

/-- The windows' arrays are distinct. -/
theorem arrays_inj : Function.Injective (Pipeline.arrRef (cfgs 0).spec) := by decide +kernel

/-- The last three positions of the convolution's input. -/
theorem tail_52 : Pipeline.afterTail₀ cfgs (dats m) 0 (V0 m) [hostOps1] c main_v52 = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have a : Pipeline.withArrays (cfgs 0).spec c (V0 m c) (fun w => (dats m 0 c).arrAt w (cfgs 0).N) (Proc.tc.devRef main_v48_7) =
      val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (Pipeline.withArrays_arr (cfgs 0).spec arrays_inj c (V0 m c) (fun w => (dats m 0 c).arrAt w (cfgs 0).N) 14).trans (array_14 m c)
  refine funext fun (i : S32x3x512.Idx) => ?_
  obtain ⟨b, l, j, rfl⟩ : ∃ b l j, i = ix3 b l j := ⟨_, _, _, (ix3_eta i).symm⟩
  unfold Pipeline.afterTail₀
  simp only [List.flatten_cons, List.flatten_nil, List.append_nil]
  after_results_simp
  rw [a]
  pointwise [val_main_v170, val_main_v172]

/-- The last fifteen positions of the pooling's carried inputs followed by the new ones. -/
theorem tail_53 : Pipeline.afterTail₀ cfgs (dats m) 0 (V0 m) [hostOps1] c main_v53 = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have a : Pipeline.withArrays (cfgs 0).spec c (V0 m c) (fun w => (dats m 0 c).arrAt w (cfgs 0).N) (Proc.tc.devRef main_v48_8) =
      val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (Pipeline.withArrays_arr (cfgs 0).spec arrays_inj c (V0 m c) (fun w => (dats m 0 c).arrAt w (cfgs 0).N) 15).trans (array_15 m c)
  refine funext fun (i : S32x15x256.Idx) => ?_
  obtain ⟨b, l, j, rfl⟩ : ∃ b l j, i = ix3 b l j := ⟨_, _, _, (ix3_eta i).symm⟩
  unfold Pipeline.afterTail₀
  simp only [List.flatten_cons, List.flatten_nil, List.append_nil]
  after_results_simp
  pointwise [val_main_v173, val_main_v157]
  after_results_simp
  rw [a]
  pointwise [val_main_v171]
  rw [Pipeline.withArrays_of_ne (cfgs 0).spec c (V0 m c) _ main_arg5 (by decide)]
  split_ifs with h
  · exact congrFun (V_main_arg5 m c) _
  all_goals
    congr 2
    exact Fin.ext (show (b.val * 4 + (4 + l.val - 15)) % 4 = 4 + l.val - 15 by omega)

end Cert.InprojSmpIdeal.Inproj

end
-- ==== Proof.InprojSmp.Run.lean ====
/- The run of the input projection of the short continuations: its thirteen results are the reference's stages of the arguments. -/
module

public import proofs.«01_k».proof.Proof.InprojSmp.Tail

@[expose] public section

set_option maxRecDepth 16384

noncomputable section

open Idealize.ShloMosaic Idealize.ShloMosaic.TcCoe Idealize.SL.Sem

namespace Cert.InprojSmpIdeal.Inproj

open Cert.InprojSmpIdeal Cert.InprojSmpIdeal.Gen Cert.InprojSmpRefIdeal.Read Cert.InprojSmpRefIdeal.Inproj

variable (m : (ℓ : Loc nD τ sig) → Buf (Elt Ideal) ℓ)

set_option maxHeartbeats 4000000 in
/-- Every execution ends with the results at the reference's stages of the arguments, and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v48_0) = val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_1) = val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_2) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_3) = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_4) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_6) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_7) = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_8) = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v52) = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v53) = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ∧
    r.2.mem ((c.tc : Thread nD τ).loc main_v48_9) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_10) = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v48_11) = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5)) :=
  (θ_run defs _ _).mono (fun _ h c => ⟨((h c).1 7).trans (array_7 m c),
    ((h c).1 8).trans ((array_8 m c).trans (keys_eq _ _ _ _ _).symm),
    ((h c).1 9).trans ((array_9 m c).trans (values_eq _ _ _ _ _).symm),
    ((h c).1 10).trans (array_10 m c),
    ((h c).1 11).trans ((array_11 m c).trans (indexer_keys_eq _ _ _ _ _).symm),
    ((h c).1 13).trans (array_13 m c),
    ((h c).1 14).trans (array_14 m c),
    ((h c).1 15).trans (array_15 m c),
    ((h c).2 main_v52 (Pipeline.mem_restRefs_of main_v52 (by decide) (by decide))).trans (tail_52 m c),
    ((h c).2 main_v53 (Pipeline.mem_restRefs_of main_v53 (by decide) (by decide))).trans (tail_53 m c),
    ((h c).1 16).trans (array_16 m c),
    ((h c).1 17).trans (array_17 m c),
    ((h c).1 18).trans (array_18 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m ρ)

end Cert.InprojSmpIdeal.Inproj

end
-- ==== Proof.FfnSmp.Ref.lean ====
/- What the reference of the mixing and feed-forward call on the short continuations computes, element by element: the residual stream after mixing,
   its normalized and modulated copy, the gated hidden layer, the down projection, and the final normalization. -/
module

public import proofs.«01_k».proof.Proof.Gen.FfnSmpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnSmpRefIdeal.Ffn

open Cert.FfnSmpRefIdeal Cert.FfnSmpRefIdeal.Read

/-- A sum over 1024 positions, cut where the three concatenated parts meet. -/
theorem sum_parts (f : Fin 1024 → EReal) : ∑ k, f k =
    (∑ k : Fin 512, f ⟨k, by omega⟩ + ∑ k : Fin 256, f ⟨512 + k, by omega⟩) + ∑ k : Fin 256, f ⟨512 + (256 + k), by omega⟩ := by
  rw [Fin.sum_univ_two_halves 512 512 rfl, Fin.sum_univ_two_halves 256 256 rfl (fun k : Fin 512 => f ⟨512 + k, _⟩), add_assoc]

/-- The row of the flattened arrays that holds position `l` of sequence `b`. -/
def row (b : Fin 32) (l : Fin 4) : Fin 128 := ⟨b * 4 + l, by omega⟩

variable (x0 : FVec Ideal S32x4x1024 .f32) (x1 : FVec Ideal S128x512 .bf16) (x2 x3 : FVec Ideal S128x256 .bf16)
  (x4 : FVec Ideal S1024x1024 .f32) (x5 : FVec Ideal S32x1024 .f32) (x6 : FVec Ideal S1024 .f32) (x7 x8 x9 : FVec Ideal S32x1024 .f32)
  (x10 x11 : FVec Ideal S1024x2816 .f32) (x12 : FVec Ideal S2816x1024 .f32) (x13 : FVec Ideal S1024 .f32)

/-- The stream after the gated mix: the contraction with the output weight is cut into its three parts. -/
theorem stream_apply (b : Fin 32) (l : Fin 4) (j : Fin 1024) :
    val_main_v14 (F := Ideal) x0 x1 x2 x3 x4 x5 (ix3 b l j) = x0 (ix3 b l j) + x5 (ix2 b j) *
      ((∑ k : Fin 512, x1 (ix2 (row b l) k) * x4 (ix2 ⟨k, by omega⟩ j)
        + ∑ k : Fin 256, x2 (ix2 (row b l) k) * x4 (ix2 ⟨512 + k, by omega⟩ j))
        + ∑ k : Fin 256, x3 (ix2 (row b l) k) * x4 (ix2 ⟨512 + (256 + k), by omega⟩ j)) := by
  pointwise [val_main_v14, val_main_v13, val_main_v12, val_main_v11, val_main_v10, val_main_v9, val_main_v8, val_main_v7,
    val_main_v6, val_main_v5, val_main_v4, val_main_v0]
  rw [sum_parts]
  pointwise [row]

/-- The normalized and modulated stream. -/
theorem hidden_apply (b : Fin 32) (l : Fin 4) (j : Fin 1024) :
    val_main_v33 (F := Ideal) x0 x1 x2 x3 x4 x5 x6 x7 x8 (ix3 b l j) =
      val_main_v14 (F := Ideal) x0 x1 x2 x3 x4 x5 (ix3 b l j) *
            Ideal.rsqrt (Ideal.div (∑ x, val_main_v14 (F := Ideal) x0 x1 x2 x3 x4 x5 (ix3 b l x) *
              val_main_v14 (F := Ideal) x0 x1 x2 x3 x4 x5 (ix3 b l x)) (Ideal.ofBits FTy.f32 1149239296#32)
              + Ideal.ofBits FTy.f32 897988541#32) * x6 (ix1 j) * (1 + x7 (ix2 b j)) + x8 (ix2 b j) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v2, val_main_v1,
    val_main_cst, val_main_cst_0, val_main_cst_1, val_main_cst_2]

/-- The gated hidden layer. -/
theorem gated_apply (b : Fin 32) (l : Fin 4) (k : Fin 2816) :
    val_main_v37 (F := Ideal) x0 x1 x2 x3 x4 x5 x6 x7 x8 x10 x11 (ix3 b l k) =
      ((∑ i, val_main_v33 (F := Ideal) x0 x1 x2 x3 x4 x5 x6 x7 x8 (ix3 b l i) * x10 (ix2 i k)) *
        Ideal.logistic (∑ i, val_main_v33 (F := Ideal) x0 x1 x2 x3 x4 x5 x6 x7 x8 (ix3 b l i) * x10 (ix2 i k))) *
      ∑ i, val_main_v33 (F := Ideal) x0 x1 x2 x3 x4 x5 x6 x7 x8 (ix3 b l i) * x11 (ix2 i k) := by
  pointwise [val_main_v37, val_main_v36, val_main_v35, val_main_v34, val_main_call0_v5, val_main_call0_v4, val_main_call0_v3,
    val_main_call0_v2, val_main_call0_v1, val_main_call0_v0, val_main_call0_cst, val_main_call0_cst_0, Ideal.logistic]

/-- The down projection, its contraction cut into the two halves of the hidden layer. -/
theorem down_apply (b : Fin 32) (l : Fin 4) (j : Fin 1024) :
    val_main_v38 (F := Ideal) x0 x1 x2 x3 x4 x5 x6 x7 x8 x10 x11 x12 (ix3 b l j) =
      ∑ k : Fin 1408, val_main_v37 (F := Ideal) x0 x1 x2 x3 x4 x5 x6 x7 x8 x10 x11 (ix3 b l ⟨k, by omega⟩) * x12 (ix2 ⟨k, by omega⟩ j)
      + ∑ k : Fin 1408, val_main_v37 (F := Ideal) x0 x1 x2 x3 x4 x5 x6 x7 x8 x10 x11 (ix3 b l ⟨1408 + k, by omega⟩) *
          x12 (ix2 ⟨1408 + k, by omega⟩ j) := by
  pointwise [val_main_v38]
  exact Fin.sum_univ_two_halves 1408 1408 rfl _

/-- The result at the row of position `l` of sequence `b`. -/
theorem out_apply (b : Fin 32) (l : Fin 4) (j : Fin 1024) :
    val_main_v55 (F := Ideal) x0 x1 x2 x3 x4 x5 x6 x7 x8 x9 x10 x11 x12 x13 (ix2 (row b l) j) =
      (val_main_v14 (F := Ideal) x0 x1 x2 x3 x4 x5 (ix3 b l j)
        + x9 (ix2 b j) * val_main_v38 (F := Ideal) x0 x1 x2 x3 x4 x5 x6 x7 x8 x10 x11 x12 (ix3 b l j)) *
      Ideal.rsqrt (Ideal.div (∑ x, (val_main_v14 (F := Ideal) x0 x1 x2 x3 x4 x5 (ix3 b l x)
            + x9 (ix2 b x) * val_main_v38 (F := Ideal) x0 x1 x2 x3 x4 x5 x6 x7 x8 x10 x11 x12 (ix3 b l x)) *
          (val_main_v14 (F := Ideal) x0 x1 x2 x3 x4 x5 (ix3 b l x)
            + x9 (ix2 b x) * val_main_v38 (F := Ideal) x0 x1 x2 x3 x4 x5 x6 x7 x8 x10 x11 x12 (ix3 b l x)))
          (Ideal.ofBits FTy.f32 1149239296#32) + Ideal.ofBits FTy.f32 897988541#32) * x13 (ix1 j) := by
  have hb : (⟨(row b l).val / 4, by omega⟩ : Fin 32) = b := Fin.ext (by simp only [row]; omega)
  have hl : (⟨(row b l).val % 4, by omega⟩ : Fin 4) = l := Fin.ext (by simp only [row]; omega)
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v3, val_main_cst_3,
    val_main_cst_4, val_main_cst_5]
  simp only [hb, hl]

end Cert.FfnSmpRefIdeal.Ffn

end
-- ==== Proof.FfnSmp.Block.lean ====
/- What one grid point of the mixing and feed-forward call on the short continuations computes, over blocks that hold the reference's operands. -/
module

public import proofs.«01_k».proof.Proof.Gen.FfnSmpIdeal.Skeleton
public import proofs.«01_k».proof.Proof.FfnSmp.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnSmpIdeal.Ffn

open Cert.FfnSmpIdeal Cert.FfnSmpIdeal.Gen Cert.FfnSmpRefIdeal.Read Cert.FfnSmpRefIdeal.Ffn

variable (x0 : FVec Ideal S32x4x1024 .f32) (x1 : FVec Ideal S128x512 .bf16) (x2 x3 : FVec Ideal S128x256 .bf16)
  (x4 : FVec Ideal S1024x1024 .f32) (x5 : FVec Ideal S32x1024 .f32) (x6 : FVec Ideal S1024 .f32) (x7 x8 x9 : FVec Ideal S32x1024 .f32)
  (x10 x11 : FVec Ideal S1024x2816 .f32) (x12 : FVec Ideal S2816x1024 .f32) (x13 : FVec Ideal S1024 .f32)
  (b : Fin 128 → Fin 32) (l : Fin 128 → Fin 4)

/-- The first scratch after the first point of a row block: the stream after the gated mix. -/
theorem stream_block (xb : FVec Ideal S128x1024 .f32) (ab : FVec Ideal S128x512 .bf16) (sb pb : FVec Ideal S128x256 .bf16)
    (w0 : FVec Ideal S512x1024 .bf16) (w1 w2 : FVec Ideal S256x1024 .bf16) (gb : FVec Ideal S1x128x1024 .f32)
    (hx : ∀ p j, xb (ix2 p j) = x0 (ix3 (b p) (l p) j)) (ha : ∀ p k, ab (ix2 p k) = x1 (ix2 (row (b p) (l p)) k))
    (hs : ∀ p k, sb (ix2 p k) = x2 (ix2 (row (b p) (l p)) k)) (hp : ∀ p k, pb (ix2 p k) = x3 (ix2 (row (b p) (l p)) k))
    (h0 : ∀ (k : Fin 512) j, w0 (ix2 k j) = x4 (ix2 ⟨k, by omega⟩ j))
    (h1 : ∀ (k : Fin 256) j, w1 (ix2 k j) = x4 (ix2 ⟨512 + k, by omega⟩ j))
    (h2 : ∀ (k : Fin 256) j, w2 (ix2 k j) = x4 (ix2 ⟨512 + (256 + k), by omega⟩ j))
    (hg : ∀ p j, gb (ix3 0 p j) = x5 (ix2 (b p) j)) (p : Fin 128) (j : Fin 1024) :
    k0_pay5 (F := Ideal) ab w0 sb w1 pb w2 xb gb (ix2 p j) = val_main_v14 (F := Ideal) x0 x1 x2 x3 x4 x5 (ix3 (b p) (l p) j) := by
  rw [stream_apply]
  pointwise [k0_pay5]
  simp only [hx, ha, hs, hp, h0, h1, h2, hg]

/-- The second scratch: the normalized and modulated stream. -/
theorem hidden_block (xb : FVec Ideal S128x1024 .f32) (lnb : FVec Ideal S1x1024 .f32) (scb shb : FVec Ideal S128x1024 .f32)
    (hx : ∀ p j, xb (ix2 p j) = val_main_v14 (F := Ideal) x0 x1 x2 x3 x4 x5 (ix3 (b p) (l p) j))
    (hln : ∀ j, lnb (ix2 0 j) = x6 (ix1 j)) (hsc : ∀ p j, scb (ix2 p j) = x7 (ix2 (b p) j))
    (hsh : ∀ p j, shb (ix2 p j) = x8 (ix2 (b p) j)) (p : Fin 128) (j : Fin 1024) :
    k0_pay1 (F := Ideal) xb lnb scb shb (ix2 p j) =
      val_main_v33 (F := Ideal) x0 x1 x2 x3 x4 x5 x6 x7 x8 (ix3 (b p) (l p) j) := by
  rw [hidden_apply]
  pointwise [k0_pay1]
  simp only [hx, hln, hsc, hsh]

/-- The accumulator of the third scratch after a point: what it held plus one half of the down projection. -/
theorem half_block (hb : FVec Ideal S128x1024 .bf16) (gb ub : FVec Ideal S1024x1408 .bf16) (db : FVec Ideal S1408x1024 .bf16)
    (acc : FVec Ideal S128x1024 .f32) (c : Fin 1408 → Fin 2816)
    (hh : ∀ p j, hb (ix2 p j) = val_main_v33 (F := Ideal) x0 x1 x2 x3 x4 x5 x6 x7 x8 (ix3 (b p) (l p) j))
    (hg : ∀ i k, gb (ix2 i k) = x10 (ix2 i (c k))) (hu : ∀ i k, ub (ix2 i k) = x11 (ix2 i (c k)))
    (hd : ∀ k j, db (ix2 k j) = x12 (ix2 (c k) j)) (p : Fin 128) (j : Fin 1024) :
    k0_pay3 (F := Ideal) hb gb ub acc db (ix2 p j) = acc (ix2 p j) + ∑ k : Fin 1408,
      val_main_v37 (F := Ideal) x0 x1 x2 x3 x4 x5 x6 x7 x8 x10 x11 (ix3 (b p) (l p) (c k)) * x12 (ix2 (c k) j) := by
  simp only [gated_apply]
  pointwise [k0_pay3]
  simp only [hh, hg, hu, hd]

/-- The accumulator starts at zero. -/
theorem zero_block (y : S128x1024.Idx) : k0_pay2 (F := Ideal) y = 0 := by
  pointwise [k0_pay2]

/-- The block that a row block's second point writes. -/
theorem out_block (xb acc : FVec Ideal S128x1024 .f32) (gb : FVec Ideal S1x128x1024 .f32) (lnb : FVec Ideal S1x1024 .f32)
    (hx : ∀ p j, xb (ix2 p j) = val_main_v14 (F := Ideal) x0 x1 x2 x3 x4 x5 (ix3 (b p) (l p) j))
    (ha : ∀ p j, acc (ix2 p j) = val_main_v38 (F := Ideal) x0 x1 x2 x3 x4 x5 x6 x7 x8 x10 x11 x12 (ix3 (b p) (l p) j))
    (hg : ∀ p j, gb (ix3 0 p j) = x9 (ix2 (b p) j)) (hln : ∀ j, lnb (ix2 0 j) = x13 (ix1 j)) (p : Fin 128) (j : Fin 1024) :
    k0_pay4 (F := Ideal) xb gb acc lnb (ix2 p j) =
      val_main_v55 (F := Ideal) x0 x1 x2 x3 x4 x5 x6 x7 x8 x9 x10 x11 x12 x13 (ix2 (row (b p) (l p)) j) := by
  rw [out_apply]
  pointwise [k0_pay4]
  simp only [hx, ha, hg, hln]

end Cert.FfnSmpIdeal.Ffn

end
-- ==== Proof.FfnSmp.Blocks.lean ====
/- What each input block of the mixing and feed-forward call on the short continuations holds: its part of the argument it is cut from. -/
module

public import proofs.«01_k».proof.Proof.Gen.FfnSmpIdeal.Value
public import proofs.«01_k».proof.Proof.FfnSmp.Block
public import Idealize.ShloMosaic.Lib.Claim

@[expose] public section

set_option maxRecDepth 16384

noncomputable section

open Idealize.ShloMosaic Idealize.ShloMosaic.TcCoe Idealize.SL.Sem

namespace Cert.FfnSmpIdeal.Ffn

open Cert.FfnSmpIdeal Cert.FfnSmpIdeal.Gen Cert.FfnSmpRefIdeal.Read Cert.FfnSmpRefIdeal.Ffn

variable (m : (ℓ : Loc nD τ sig) → Buf (Elt Ideal) ℓ) (c : Dev nD)

/-- The block index of every window at a point: all rows are one block, and the point names the half `t % 2`. -/
theorem idx_val : ∀ t : Fin cfg0.N, win0_0.index t = ![0, 0] ∧ win0_1.index t = ![0, 0] ∧
    win0_2.index t = ![0, 0] ∧ win0_3.index t = ![0, 0] ∧ win0_4.index t = ![0, 0] ∧
    win0_5.index t = ![0, 0, 0] ∧ win0_6.index t = ![0, 0] ∧ win0_7.index t = ![0, 0, 0] ∧
    win0_8.index t = ![0, 0, 0] ∧ win0_9.index t = ![0, 0, 0] ∧ win0_10.index t = ![0, t.val % 2] ∧
    win0_11.index t = ![0, t.val % 2] ∧ win0_12.index t = ![t.val % 2, 0] ∧ win0_13.index t = ![0, 0] ∧
    win0_14.index t = ![0, 0] := (by decide +kernel : ∀ t : Fin grid0.N, _)

/-- The sequence of a row of the block. -/
def seq (p : Fin 128) : Fin 32 := ⟨p.val / 4, by omega⟩

/-- The position in that sequence of a row of the block. -/
def pos (p : Fin 128) : Fin 4 := ⟨p.val % 4, by omega⟩

/-- The hidden unit behind a column of the point's half. -/
def unit (t : Fin cfg0.N) (k : Fin 1408) : Fin 2816 := ⟨t.val % 2 * 1408 + k.val, by omega⟩

/-- Attention outputs: the rows of the block. -/
theorem read_a (t : Fin cfg0.N) (p : Fin 128) (k : Fin 512) : iblk m c 1 t (ix2 p k) = m ((c : Thread nD τ).loc main_arg1) (ix2 (row (seq p) (pos p)) k) := by
  have ht := lt_of_lt_of_eq t.isLt N_0
  unfold iblk
  blk_simp [idx_val t]
  entry_read
  pointwise [seq, pos, unit, row]
  blk_ext [idx_val t]

/-- Recurrence outputs. -/
theorem read_s (t : Fin cfg0.N) (p : Fin 128) (k : Fin 256) : iblk m c 2 t (ix2 p k) = m ((c : Thread nD τ).loc main_arg2) (ix2 (row (seq p) (pos p)) k) := by
  have ht := lt_of_lt_of_eq t.isLt N_0
  unfold iblk
  blk_simp [idx_val t]
  entry_read
  pointwise [seq, pos, unit, row]
  blk_ext [idx_val t]

/-- Pooled outputs. -/
theorem read_p (t : Fin cfg0.N) (p : Fin 128) (k : Fin 256) : iblk m c 3 t (ix2 p k) = m ((c : Thread nD τ).loc main_arg3) (ix2 (row (seq p) (pos p)) k) := by
  have ht := lt_of_lt_of_eq t.isLt N_0
  unfold iblk
  blk_simp [idx_val t]
  entry_read
  pointwise [seq, pos, unit, row]
  blk_ext [idx_val t]

/-- The residual stream, flattened on the host. -/
theorem read_x (t : Fin cfg0.N) (p : Fin 128) (j : Fin 1024) : iblk m c 0 t (ix2 p j) = m ((c : Thread nD τ).loc main_arg0) (ix3 (seq p) (pos p) j) := by
  have ht := lt_of_lt_of_eq t.isLt N_0
  unfold iblk
  blk_simp [idx_val t]
  entry_read
  pointwise [seq, pos, unit, row]
  blk_ext [idx_val t]

/-- The output weight, whole. -/
theorem read_wo (t : Fin cfg0.N) (k j : Fin 1024) : iblk m c 4 t (ix2 k j) = m ((c : Thread nD τ).loc main_arg4) (ix2 k j) := by
  have ht := lt_of_lt_of_eq t.isLt N_0
  unfold iblk
  blk_simp [idx_val t]
  entry_read
  pointwise [seq, pos, unit, row]
  blk_ext [idx_val t]

/-- A modulation row of the sequence. -/
theorem read_g1 (t : Fin cfg0.N) (p : Fin 128) (j : Fin 1024) : iblk m c 5 t (ix3 0 p j) = m ((c : Thread nD τ).loc main_arg5) (ix2 (seq p) j) := by
  have ht := lt_of_lt_of_eq t.isLt N_0
  unfold iblk
  blk_simp [idx_val t]
  entry_read
  pointwise [seq, pos, unit, row]
  blk_ext [idx_val t]

/-- A modulation row of the sequence. -/
theorem read_sc (t : Fin cfg0.N) (p : Fin 128) (j : Fin 1024) : iblk m c 7 t (ix3 0 p j) = m ((c : Thread nD τ).loc main_arg7) (ix2 (seq p) j) := by
  have ht := lt_of_lt_of_eq t.isLt N_0
  unfold iblk
  blk_simp [idx_val t]
  entry_read
  pointwise [seq, pos, unit, row]
  blk_ext [idx_val t]

/-- A modulation row of the sequence. -/
theorem read_sh (t : Fin cfg0.N) (p : Fin 128) (j : Fin 1024) : iblk m c 8 t (ix3 0 p j) = m ((c : Thread nD τ).loc main_arg8) (ix2 (seq p) j) := by
  have ht := lt_of_lt_of_eq t.isLt N_0
  unfold iblk
  blk_simp [idx_val t]
  entry_read
  pointwise [seq, pos, unit, row]
  blk_ext [idx_val t]

/-- A modulation row of the sequence. -/
theorem read_g2 (t : Fin cfg0.N) (p : Fin 128) (j : Fin 1024) : iblk m c 9 t (ix3 0 p j) = m ((c : Thread nD τ).loc main_arg9) (ix2 (seq p) j) := by
  have ht := lt_of_lt_of_eq t.isLt N_0
  unfold iblk
  blk_simp [idx_val t]
  entry_read
  pointwise [seq, pos, unit, row]
  blk_ext [idx_val t]

/-- A normalization weight. -/
theorem read_ln (t : Fin cfg0.N) (j : Fin 1024) : iblk m c 6 t (ix2 0 j) = m ((c : Thread nD τ).loc main_arg6) (ix1 j) := by
  have ht := lt_of_lt_of_eq t.isLt N_0
  unfold iblk
  blk_simp [idx_val t]
  entry_read
  pointwise [seq, pos, unit, row]
  blk_ext [idx_val t]

/-- A normalization weight. -/
theorem read_lnf (t : Fin cfg0.N) (j : Fin 1024) : iblk m c 13 t (ix2 0 j) = m ((c : Thread nD τ).loc main_arg13) (ix1 j) := by
  have ht := lt_of_lt_of_eq t.isLt N_0
  unfold iblk
  blk_simp [idx_val t]
  entry_read
  pointwise [seq, pos, unit, row]
  blk_ext [idx_val t]

/-- The point's half of an up projection. -/
theorem read_wg (t : Fin cfg0.N) (i : Fin 1024) (k : Fin 1408) : iblk m c 10 t (ix2 i k) = m ((c : Thread nD τ).loc main_arg10) (ix2 i (unit t k)) := by
  have ht := lt_of_lt_of_eq t.isLt N_0
  unfold iblk
  blk_simp [idx_val t]
  entry_read
  pointwise [seq, pos, unit, row]
  blk_ext [idx_val t]

/-- The point's half of an up projection. -/
theorem read_wu (t : Fin cfg0.N) (i : Fin 1024) (k : Fin 1408) : iblk m c 11 t (ix2 i k) = m ((c : Thread nD τ).loc main_arg11) (ix2 i (unit t k)) := by
  have ht := lt_of_lt_of_eq t.isLt N_0
  unfold iblk
  blk_simp [idx_val t]
  entry_read
  pointwise [seq, pos, unit, row]
  blk_ext [idx_val t]

/-- The point's half of the down projection. -/
theorem read_wd (t : Fin cfg0.N) (k : Fin 1408) (j : Fin 1024) : iblk m c 12 t (ix2 k j) = m ((c : Thread nD τ).loc main_arg12) (ix2 (unit t k) j) := by
  have ht := lt_of_lt_of_eq t.isLt N_0
  unfold iblk
  blk_simp [idx_val t]
  entry_read
  pointwise [seq, pos, unit, row]
  blk_ext [idx_val t]

end Cert.FfnSmpIdeal.Ffn

end
-- ==== Proof.FfnSmp.Bridge.lean ====
/- What the result array of the mixing and feed-forward call on the short continuations holds after the run. -/
module

public import proofs.«01_k».proof.Proof.Gen.FfnSmpIdeal.Value
public import proofs.«01_k».proof.Proof.FfnSmp.Block
public import proofs.«01_k».proof.Proof.FfnSmp.Blocks
public import Idealize.ShloMosaic.Lib.Pipeline.ReadBack

@[expose] public section

set_option maxRecDepth 16384

noncomputable section

open Idealize.ShloMosaic Idealize.ShloMosaic.TcCoe Idealize.SL.Sem

namespace Cert.FfnSmpIdeal.Ffn

open Cert.FfnSmpIdeal Cert.FfnSmpIdeal.Gen Cert.FfnSmpRefIdeal.Read Cert.FfnSmpRefIdeal.Ffn

variable (m : (ℓ : Loc nD τ sig) → Buf (Elt Ideal) ℓ) (c : Dev nD)

/-- The stream block that the first point computes. -/
theorem stream_point (t : Fin cfg0.N) (p : Fin 128) (j : Fin 1024) :
    k0_pay5 (F := Ideal) (iblk m c 1 t) (View.ld (iblk m c 4 t) (Rect.unit ![0, 0] ![512, 1024] inb_S1024x1024_S512x1024_0_0))
      (iblk m c 2 t) (View.ld (iblk m c 4 t) (Rect.unit ![512, 0] ![256, 1024] inb_S1024x1024_S256x1024_512_0))
      (iblk m c 3 t) (View.ld (iblk m c 4 t) (Rect.unit ![768, 0] ![256, 1024] inb_S1024x1024_S256x1024_768_0))
      (iblk m c 0 t) (iblk m c 5 t) (ix2 p j) =
    val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (seq p) (pos p) j) := by
  refine stream_block _ _ _ _ _ _ seq pos _ _ _ _ _ _ _ _ (read_x m c t) (read_a m c t) (read_s m c t) (read_p m c t)
    (fun k j => ?_) (fun k j => ?_) (fun k j => ?_) (read_g1 m c t) p j
  all_goals pointwise
  all_goals exact (read_wo m c t _ _).trans (congrArg _ (by blk_ext))

/-- The hidden block that the first point computes. -/
theorem hidden_point (t : Fin cfg0.N) (X : FVec Ideal S128x1024 .f32)
    (hX : ∀ p j, X (ix2 p j) = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (seq p) (pos p) j)) (p : Fin 128) (j : Fin 1024) :
    k0_pay1 (F := Ideal) X (k0_pay7 (iblk m c 6 t)) (k0_pay8 (iblk m c 7 t)) (k0_pay9 (iblk m c 8 t)) (ix2 p j) =
    val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (seq p) (pos p) j) := by
  refine hidden_block _ _ _ _ _ _ _ _ _ seq pos _ _ _ _ hX (fun j => ?_) (fun p j => ?_) (fun p j => ?_) p j
  · pointwise [k0_pay7]
    exact read_ln m c t j
  · pointwise [k0_pay8]
    exact read_sc m c t p j
  · pointwise [k0_pay9]
    exact read_sh m c t p j

/-- After the first point: the stream, the hidden block, and half of the down projection. -/
theorem first_point (t : Fin cfg0.N) (h : t.val % 2 = 0) (p : Fin 128) (j : Fin 1024) :
    (outsAt0 m c t.val t.isLt).2.1 (ix2 p j) = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (seq p) (pos p) j) ∧
    (outsAt0 m c t.val t.isLt).2.2.1 (ix2 p j) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (seq p) (pos p) j) ∧
    (outsAt0 m c t.val t.isLt).2.2.2 (ix2 p j) = ∑ k : Fin 1408,
      val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (ix3 (seq p) (pos p) (unit t k)) * (m ((c : Thread nD τ).loc main_arg12)) (ix2 (unit t k) j) := by
  rw [outsAt0_A m c t h (by omega)]
  refine ⟨?_, ?_, ?_⟩ <;> frame_out
  · pointwise [k0_pay6]
    exact stream_point m c t p j
  · exact hidden_point m c t _ (stream_point m c t) p j
  · refine (half_block _ _ _ _ _ _ _ _ _ _ _ _ seq pos _ _ _ _ _ (unit t) (hidden_point m c t _ (stream_point m c t))
      (read_wg m c t) (read_wu m c t) (read_wd m c t) p j).trans ?_
    rw [zero_block, zero_add]

/-- After the second point the output block holds the reference's rows. -/
theorem second_point (t : Fin cfg0.N) (h : t.val % 2 = 1) (p : Fin 128) (j : Fin 1024) :
    (outsAt0 m c t.val t.isLt).1 (ix2 p j) =
      val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (row (seq p) (pos p)) j) := by
  have ht := lt_of_lt_of_eq t.isLt N_0
  obtain ⟨u, hu⟩ : ∃ u : Fin cfg0.N, u.val = t.val - 1 := ⟨⟨t.val - 1, by omega⟩, rfl⟩
  have hf := fun p j => first_point m c u (by omega) p j
  simp only [hu] at hf
  rw [outsAt0_B m c t (by omega) h]
  frame_out
  simp only [read_unread_whole]
  refine out_block _ _ _ _ _ _ _ _ _ _ _ _ _ _ seq pos _ _ _ _ (fun p j => (hf p j).1) (fun p j => ?_)
    (read_g2 m c t) (read_lnf m c t) p j
  refine (half_block _ _ _ _ _ _ _ _ _ _ _ _ seq pos _ _ _ _ _ (unit t) (fun p j => (hf p j).2.1)
      (read_wg m c t) (read_wu m c t) (read_wd m c t) p j).trans ?_
  rw [(hf p j).2.2, down_apply]
  have h0 : ∀ k : Fin 1408, unit u k = ⟨k, by omega⟩ := fun k => Fin.ext (by simp only [unit]; omega)
  have h1 : ∀ k : Fin 1408, unit t k = ⟨1408 + k, by omega⟩ := fun k => Fin.ext (by simp only [unit]; omega)
  simp only [h0, h1]

/-- The result array after the run is the reference's result of the arguments. -/
theorem final : (dats m 0 c).arrAt 14 cfg0.N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  have ht := lt_of_lt_of_eq t.isLt N_0
  have h1 : t.val % 2 = 1 := (flush0_14 t).mp hf
  blk_simp
  rw [after0_14]
  have e : ((cfg0.win 14).blk t).view.emb y = ix2 (row (seq (y 0)) (pos (y 0))) (y 1) := by
    blk_ext [idx_val t, row, seq, pos]
  rw [e]
  exact (congrArg (outsAt0 m c t.val t.isLt).1 (ix2_eta y).symm).trans (second_point m c t h1 (y 0) (y 1))

end Cert.FfnSmpIdeal.Ffn

end
-- ==== Proof.SsdSmp.Ref.lean ====
/- What the reference of the recurrence on the short continuations computes, element by element: each continuation is one chunk of four rows
   that starts from a given state. -/
module

public import proofs.«01_k».proof.Proof.Gen.SsdSmpRefIdeal.Read
public import proofs.«01_k».proof.Proof.Ssd.Ref
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.SsdSmpRefIdeal.Ssd

open Cert.SsdSmpRefIdeal Cert.SsdSmpRefIdeal.Read Cert.Recurrence
open Cert.SsdRefIdeal.Ssd (col lane bot_pattern mask_apply)

variable (x0 : FVec Ideal S128x512 .f32) (x1 : FVec Ideal S128x256 .f32) (x2 : FVec Ideal S128x128 .f32) (x3 : FVec Ideal S32x3x512 .f32)
  (x4 : FVec Ideal S32x4x64x128 .f32) (x5 : FVec Ideal S4x512 .f32) (x6 : FVec Ideal S512 .f32) (x7 x8 x9 : FVec Ideal S4 .f32) (x10 : FVec Ideal S256 .f32)

/-- The row of the flattened arrays that holds row `l` of continuation `b`. -/
def row (b : Fin 32) (l : Fin 4) : Fin 128 := ⟨b * 4 + l, by omega⟩

/-- The masked differences are filled with minus infinity. -/
theorem constant_bot : constant S_ FTy.f32 4286578688#32 (F := Ideal) ix0 = (⊥ : EReal) := bot_pattern

/-- The convolution at a position, over the input with the three rows kept before it in front. -/
theorem conv_apply (b : Fin 32) (l : Fin 4) (j : Fin 512) :
    val_main_v34 (F := Ideal) x0 x3 x5 x6 (ix3 b l j) =
      x6 (ix1 j) + val_main_v4 (F := Ideal) x0 x3 (ix3 b ⟨l, by omega⟩ j) * x5 (ix2 0 j)
        + val_main_v4 (F := Ideal) x0 x3 (ix3 b ⟨1 + l, by omega⟩ j) * x5 (ix2 1 j)
        + val_main_v4 (F := Ideal) x0 x3 (ix3 b ⟨2 + l, by omega⟩ j) * x5 (ix2 2 j)
        + val_main_v4 (F := Ideal) x0 x3 (ix3 b ⟨3 + l, by omega⟩ j) * x5 (ix2 3 j) := by
  pointwise [val_main_v34, val_main_v27, val_main_v20, val_main_v13, val_main_v12, val_main_v11, val_main_v10, val_main_v9, val_main_v8, val_main_v7, val_main_v6, val_main_v5, val_main_v14, val_main_v15, val_main_v16, val_main_v17, val_main_v18, val_main_v19, val_main_v21, val_main_v22, val_main_v23, val_main_v24, val_main_v25, val_main_v26, val_main_v28, val_main_v29, val_main_v30, val_main_v31, val_main_v32, val_main_v33]

/-- The extended input: the three rows kept, then the continuation. -/
theorem ext_apply (b : Fin 32) (l : Fin 7) (j : Fin 512) :
    val_main_v4 (F := Ideal) x0 x3 (ix3 b l j) = if h : l.val < 3 then x3 (ix3 b ⟨l, h⟩ j) else x0 (ix2 (row b ⟨l - 3, by omega⟩) j) := by
  pointwise [row, val_main_v4, val_main_v0]

/-- The activated convolution. -/
theorem act_apply (b : Fin 32) (l : Fin 4) (j : Fin 512) :
    val_main_v35 (F := Ideal) x0 x3 x5 x6 (ix3 b l j) =
      val_main_v34 (F := Ideal) x0 x3 x5 x6 (ix3 b l j) * Ideal.logistic (val_main_v34 (F := Ideal) x0 x3 x5 x6 (ix3 b l j)) := by
  pointwise [val_main_v35, val_main_call0_v5, val_main_call0_v4, val_main_call0_v3,
    val_main_call0_v2, val_main_call0_v1, val_main_call0_v0, val_main_call0_cst, val_main_call0_cst_0, Ideal.logistic]

/-- The step sizes. -/
theorem dt_apply (b : Fin 32) (l : Fin 4) (h : Fin 4) :
    val_main_v42 (F := Ideal) x2 x7 (ix3 b (l) h) = max (x2 (ix2 (row b l) (lane h)) + x7 (ix1 h)) 0 +
      Ideal.log1p (Ideal.exp (-(max (x2 (ix2 (row b l) (lane h)) + x7 (ix1 h)) (-(x2 (ix2 (row b l) (lane h)) + x7 (ix1 h)))))) := by
  pointwise [row, lane, val_main_v42, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v41, val_main_v40, val_main_v39, val_main_v3, val_main_v2]
  rw [if_neg (fun e => e rfl)]
  rfl

/-- The scaled inputs. -/
theorem xdt_apply (b : Fin 32) (l : Fin 4) (h : Fin 4) (p : Fin 64) :
    val_main_v49 (F := Ideal) x0 x2 x3 x5 x6 x7 (ix5 b 0 l h p) =
      val_main_v35 (F := Ideal) x0 x3 x5 x6 (ix3 b (l) ⟨col h p, by omega⟩) * val_main_v42 (F := Ideal) x2 x7 (ix3 b (l) h) := by
  pointwise [col, val_main_v49, val_main_v48, val_main_v47, val_main_v46, val_main_v45, val_main_v36]

/-- The logarithm of a step's decay. -/
theorem a_apply (b : Fin 32) (h : Fin 4) (l : Fin 4) :
    val_main_v54 (F := Ideal) x2 x7 x8 (ix4 b h 0 l) = val_main_v42 (F := Ideal) x2 x7 (ix3 b (l) h) * -Ideal.exp (x8 (ix1 h)) := by
  pointwise [val_main_v54, val_main_v53, val_main_v52, val_main_v51, val_main_v50, val_main_v44, val_main_v43]

/-- The rank-four window of a running sum along the last axis has its positions on that axis. -/
def lastAxis : Fin 4 ≃ (⟨4, ![1, 1, 1, 4]⟩ : Shape).Idx where
  toFun k := ix4 0 0 0 k
  invFun i := i 3
  left_inv _ := rfl
  right_inv i := by
    refine funext fun a => ?_
    match a with
    | 0 => exact Fin.ext (by have := (i 0).isLt; change (i 0).val < 1 at this; show 0 = (i 0).val; omega)
    | 1 => exact Fin.ext (by have := (i 1).isLt; change (i 1).val < 1 at this; show 0 = (i 1).val; omega)
    | 2 => exact Fin.ext (by have := (i 2).isLt; change (i 2).val < 1 at this; show 0 = (i 2).val; omega)
    | 3 => rfl

/-- The running sum of the decays inside a chunk. -/
theorem cs_apply (b : Fin 32) (h : Fin 4) (l : Fin 4) :
    val_main_v57 (F := Ideal) x2 x7 x8 (ix4 b h 0 l) = ∑ s : Fin 4, if s ≤ l then val_main_v54 (F := Ideal) x2 x7 x8 (ix4 b h 0 s) else 0 := by
  unfold val_main_v57
  rw [window_sum _ _ _ _ _ _ _ _ (by pointwise [val_main_call2_call0_v0, val_main_call2_call0_cst]), ← lastAxis.sum_comp]
  refine running_sum 4 (fun s => val_main_v54 (F := Ideal) x2 x7 x8 (ix4 b h 0 s)) l _ fun n => ?_
  by_cases hn : 4 - 1 ≤ l.val + n.val
  · rw [dif_pos hn, dif_pos fun a => ?_]
    · refine congrArg _ (funext fun a => ?_)
      match a with
      | 0 => exact Fin.ext (show b.val * 1 + 0 - 0 = b.val by omega)
      | 1 => exact Fin.ext (show h.val * 1 + 0 - 0 = h.val by omega)
      | 2 => exact Fin.ext (show 0 * 1 + 0 - 0 = 0 by omega)
      | 3 => exact Fin.ext (show l.val * 1 + n.val - 3 = l.val + n.val - (4 - 1) by omega)
    · match a with
      | 0 => exact ⟨Nat.zero_le _, show b.val * 1 + 0 - 0 < 32 by omega⟩
      | 1 => exact ⟨Nat.zero_le _, show h.val * 1 + 0 - 0 < 4 by omega⟩
      | 2 => exact ⟨Nat.zero_le _, show 0 * 1 + 0 - 0 < 1 by omega⟩
      | 3 => exact ⟨show 3 ≤ l.val * 1 + n.val by omega, show l.val * 1 + n.val - 3 < 4 by omega⟩
  · rw [dif_neg hn, dif_neg fun hin => hn ?_]
    have h3 : 3 ≤ l.val * 1 + n.val := (hin 3).1
    omega

/-- The second copy of the running sum is the first. -/
theorem cs_again : val_main_v58 (F := Ideal) x2 x7 x8 = val_main_v57 (F := Ideal) x2 x7 x8 := rfl

/-- The rank-three window of a running sum along the last axis has its positions on that axis. -/
def lastAxis3 : Fin 2 ≃ (⟨3, ![1, 1, 2]⟩ : Shape).Idx where
  toFun k := ix3 0 0 k
  invFun i := i 2
  left_inv _ := rfl
  right_inv i := by
    refine funext fun a => ?_
    match a with
    | 0 => exact Fin.ext (by have := (i 0).isLt; change (i 0).val < 1 at this; show 0 = (i 0).val; omega)
    | 1 => exact Fin.ext (by have := (i 1).isLt; change (i 1).val < 1 at this; show 0 = (i 1).val; omega)
    | 2 => rfl

/-- The running sum of the decays of whole chunks. -/
theorem ccs_apply (b : Fin 32) (h : Fin 4) (z : Fin 2) :
    val_main_v88 (F := Ideal) x2 x7 x8 (ix3 b h z) = ∑ k : Fin 2, if k ≤ z then val_main_v87 (F := Ideal) x2 x7 x8 (ix3 b h k) else 0 := by
  unfold val_main_v88
  rw [window_sum _ _ _ _ _ _ _ _ (by pointwise [val_main_call7_call0_v0, val_main_call7_call0_cst]), ← lastAxis3.sum_comp]
  refine running_sum 2 (fun k => val_main_v87 (F := Ideal) x2 x7 x8 (ix3 b h k)) z _ fun n => ?_
  by_cases hn : 2 - 1 ≤ z.val + n.val
  · rw [dif_pos hn, dif_pos fun a => ?_]
    · refine congrArg _ (funext fun a => ?_)
      match a with
      | 0 => exact Fin.ext (show b.val * 1 + 0 - 0 = b.val by omega)
      | 1 => exact Fin.ext (show h.val * 1 + 0 - 0 = h.val by omega)
      | 2 => exact Fin.ext (show z.val * 1 + n.val - 1 = z.val + n.val - (2 - 1) by omega)
    · match a with
      | 0 => exact ⟨Nat.zero_le _, show b.val * 1 + 0 - 0 < 32 by omega⟩
      | 1 => exact ⟨Nat.zero_le _, show h.val * 1 + 0 - 0 < 4 by omega⟩
      | 2 => exact ⟨show 1 ≤ z.val * 1 + n.val by omega, show z.val * 1 + n.val - 1 < 2 by omega⟩
  · rw [dif_neg hn, dif_neg fun hin => hn ?_]
    have h3 : 1 ≤ z.val * 1 + n.val := (hin 2).1
    omega

/-- A chunk's decay, moved by one place. -/
theorem chunk_apply (b : Fin 32) (h : Fin 4) (z : Fin 2) :
    val_main_v87 (F := Ideal) x2 x7 x8 (ix3 b h z) = if hz : 1 ≤ z.val then val_main_v57 (F := Ideal) x2 x7 x8 (ix4 b h 0 3) else 0 := by
  have e : FloatOps.sitofp (F := Ideal) .f32 (0#32 : BitVec 32) = (0 : EReal) := by
    show (((0#32 : BitVec 32).toInt : ℝ) : EReal) = 0
    simp
  by_cases hz : 1 ≤ z.val <;> pointwise [val_main_v87, val_main_v86, val_main_v85, val_main_call6_v0, val_main_c_0]
  · rw [dif_pos (by omega), dif_pos hz]
  · rw [dif_neg (by omega), dif_neg hz, e]

/-- The products of the output and input projections inside a chunk. -/
theorem cb_apply (b : Fin 32) (l s : Fin 4) :
    val_main_v68 (F := Ideal) x0 x3 x5 x6 (ix4 b 0 l s) = ∑ x : Fin 128, val_main_v35 (F := Ideal) x0 x3 x5 x6 (ix3 b (l) ⟨384 + x, by omega⟩) *
      val_main_v35 (F := Ideal) x0 x3 x5 x6 (ix3 b (s) ⟨256 + x, by omega⟩) := by
  pointwise [val_main_v68, val_main_v56, val_main_v55, val_main_v37, val_main_v38]

/-- The masked decay from one row of a chunk to a later one. -/
theorem lm_apply (b : Fin 32) (h : Fin 4) (l s : Fin 4) :
    val_main_v67 (F := Ideal) x2 x7 x8 (ix5 b h 0 l s) = Ideal.exp (if s.val ≤ l.val then
      val_main_v57 (F := Ideal) x2 x7 x8 (ix4 b h 0 l) - val_main_v57 (F := Ideal) x2 x7 x8 (ix4 b h 0 s) else ⊥) := by
  pointwise [val_main_v67, val_main_v66, val_main_v63, val_main_v62, val_main_v61, val_main_v60, val_main_v59, val_main_call5_v1,  val_main_call5_v2,  val_main_call5_v0, val_main_cst, val_main_v65, val_main_call4_v0, val_main_call4_v1, val_main_call4_v2, val_main_call4_v3, val_main_call4_v4, val_main_call4_v5, val_main_call4_c, val_main_call4_c_0, val_main_v64, val_main_c]
  rw [mask_apply _ _ (by omega) (by omega), cs_again, id, constant_bot]

/-- What a chunk's rows give each other. -/
theorem diag_apply (b : Fin 32) (l : Fin 4) (h : Fin 4) (p : Fin 64) :
    val_main_v73 (F := Ideal) x0 x2 x3 x5 x6 x7 x8 (ix5 b 0 l h p) = ∑ x : Fin 4, val_main_v49 (F := Ideal) x0 x2 x3 x5 x6 x7 (ix5 b 0 x h p) *
      (val_main_v68 (F := Ideal) x0 x3 x5 x6 (ix4 b 0 l x) * val_main_v67 (F := Ideal) x2 x7 x8 (ix5 b h 0 l x)) := by
  pointwise [val_main_v73, val_main_v72, val_main_v71, val_main_v70, val_main_v69]

/-- What a chunk adds to the state. -/
theorem contrib_apply (b : Fin 32) (h : Fin 4) (p : Fin 64) (n : Fin 128) :
    val_main_v82 (F := Ideal) x0 x2 x3 x5 x6 x7 x8 (ix5 b 0 h p n) = ∑ x : Fin 4,
      Ideal.exp (val_main_v57 (F := Ideal) x2 x7 x8 (ix4 b h 0 3) - val_main_v57 (F := Ideal) x2 x7 x8 (ix4 b h 0 x)) *
        val_main_v49 (F := Ideal) x0 x2 x3 x5 x6 x7 (ix5 b 0 x h p) * val_main_v35 (F := Ideal) x0 x3 x5 x6 (ix3 b (x) ⟨256 + n, by omega⟩) := by
  pointwise [val_main_v82, val_main_v81, val_main_v80, val_main_v79, val_main_v78, val_main_v77, val_main_v76, val_main_v75, val_main_v74, val_main_v55, val_main_v37]

/-- The state before a chunk: the state the continuation starts from and what its chunk adds, each decayed. -/
theorem states_apply (b : Fin 32) (z : Fin 2) (h : Fin 4) (p : Fin 64) (n : Fin 128) :
    val_main_v99 (F := Ideal) x0 x2 x3 x4 x5 x6 x7 x8 (ix5 b z h p n) =
      x4 (ix4 b h p n) * Ideal.exp (val_main_v88 (F := Ideal) x2 x7 x8 (ix3 b h z) - val_main_v88 (F := Ideal) x2 x7 x8 (ix3 b h 0)) +
      val_main_v82 (F := Ideal) x0 x2 x3 x5 x6 x7 x8 (ix5 b 0 h p n) *
      Ideal.exp (if 1 ≤ z.val then
        val_main_v88 (F := Ideal) x2 x7 x8 (ix3 b h z) - val_main_v88 (F := Ideal) x2 x7 x8 (ix3 b h 1) else ⊥) := by
  pointwise [val_main_v99, val_main_v98, val_main_v97, val_main_v96, val_main_v93, val_main_v92, val_main_v91, val_main_v90, val_main_v89, val_main_call9_v1,  val_main_call9_v2,  val_main_call9_v0, val_main_cst_2, val_main_v95, val_main_call8_v0, val_main_call8_v1, val_main_call8_v2, val_main_call8_v3, val_main_call8_v4, val_main_call8_v5, val_main_call8_c, val_main_call8_c_0, val_main_v94, val_main_c_1, val_main_v84, val_main_v83, val_main_v5]
  rw [Fin.sum_univ_one, Fin.sum_univ_one]
  exact congrArg₂ (· + ·) (congrArg (fun e => _ * Ideal.exp e) ((mask_apply z.val 0 (by omega) (by omega) _ _).trans (if_pos (Nat.zero_le _))))
    (congrArg (fun e => _ * Ideal.exp e) ((mask_apply z.val 1 (by omega) (by omega) _ _).trans (congrArg (ite _ _) constant_bot)))

/-- What the state carried into a chunk gives its rows. -/
theorem off_apply (b : Fin 32) (l : Fin 4) (h : Fin 4) (p : Fin 64) :
    val_main_v106 (F := Ideal) x0 x2 x3 x4 x5 x6 x7 x8 (ix5 b 0 l h p) =
      (∑ x : Fin 128, val_main_v35 (F := Ideal) x0 x3 x5 x6 (ix3 b (l) ⟨384 + x, by omega⟩) *
        val_main_v99 (F := Ideal) x0 x2 x3 x4 x5 x6 x7 x8 (ix5 b 0 h p x)) * Ideal.exp (val_main_v57 (F := Ideal) x2 x7 x8 (ix4 b h 0 l)) := by
  pointwise [val_main_v106, val_main_v105, val_main_v104, val_main_v103, val_main_v102, val_main_v101, val_main_v100, val_main_v56, val_main_v38]

/-- The result before the gate, with the skip connection. -/
theorem sum_apply (b : Fin 32) (l : Fin 4) (h : Fin 4) (p : Fin 64) :
    val_main_v116 (F := Ideal) x0 x2 x3 x4 x5 x6 x7 x8 x9 (ix3 b (l) (col h p)) =
      val_main_v73 (F := Ideal) x0 x2 x3 x5 x6 x7 x8 (ix5 b 0 l h p) + val_main_v106 (F := Ideal) x0 x2 x3 x4 x5 x6 x7 x8 (ix5 b 0 l h p)
        + x9 (ix1 h) * val_main_v35 (F := Ideal) x0 x3 x5 x6 (ix3 b (l) ⟨col h p, by omega⟩) := by
  pointwise [col, val_main_v116, val_main_v115, val_main_v114, val_main_v113, val_main_v112, val_main_v111, val_main_v108, val_main_v107, val_main_v45, val_main_v36]

/-- The gated result. -/
theorem gated_apply (b : Fin 32) (l : Fin 4) (j : Fin 256) :
    val_main_v118 (F := Ideal) x0 x1 x2 x3 x4 x5 x6 x7 x8 x9 (ix3 b (l) j) = val_main_v116 (F := Ideal) x0 x2 x3 x4 x5 x6 x7 x8 x9 (ix3 b (l) j) *
      (x1 (ix2 (row b l) j) * Ideal.logistic (x1 (ix2 (row b l) j))) := by
  pointwise [row, val_main_v118, val_main_v117, val_main_call10_v5, val_main_call10_v4, val_main_call10_v3,
    val_main_call10_v2, val_main_call10_v1, val_main_call10_v0, val_main_call10_cst, val_main_call10_cst_0, val_main_v1, Ideal.logistic]

/-- The normalized result. -/
theorem y_apply (b : Fin 32) (l : Fin 4) (j : Fin 256) :
    val_main_v133 (F := Ideal) x0 x1 x2 x3 x4 x5 x6 x7 x8 x9 x10 (ix2 (row b l) j) =
      val_main_v118 (F := Ideal) x0 x1 x2 x3 x4 x5 x6 x7 x8 x9 (ix3 b (l) j) *
        Ideal.rsqrt (Ideal.div (∑ x : Fin 256, val_main_v118 (F := Ideal) x0 x1 x2 x3 x4 x5 x6 x7 x8 x9 (ix3 b (l) x) *
          val_main_v118 (F := Ideal) x0 x1 x2 x3 x4 x5 x6 x7 x8 x9 (ix3 b (l) x)) (Ideal.ofBits FTy.f32 1132462080#32) +
            Ideal.ofBits FTy.f32 897988541#32) * x10 (ix1 j) := by
  pointwise [row, val_main_v133, val_main_v132, val_main_v131, val_main_v130, val_main_v129, val_main_v128, val_main_v127, val_main_v126, val_main_v125, val_main_v124, val_main_v123, val_main_v122, val_main_v121, val_main_v120, val_main_v119, val_main_cst_3, val_main_cst_4, val_main_cst_5]

/-- The last state. -/
theorem last_apply (b : Fin 32) (h : Fin 4) (p : Fin 64) (n : Fin 128) :
    val_main_v110 (F := Ideal) x0 x2 x3 x4 x5 x6 x7 x8 (ix4 b h p n) = val_main_v99 (F := Ideal) x0 x2 x3 x4 x5 x6 x7 x8 (ix5 b 1 h p n) := by
  pointwise [val_main_v110, val_main_v109]

/-- An exponential is not negative. -/
theorem exp_nonneg (x : EReal) : 0 ≤ Ideal.exp x := by
  induction x using EReal.rec with
  | bot => exact le_refl (0 : EReal)
  | coe r => exact EReal.coe_nonneg.mpr (Real.exp_pos r).le
  | top => exact le_top

/-- The logarithm of one and something not negative is not negative. -/
theorem log1p_nonneg (x : EReal) (hx : 0 ≤ x) : 0 ≤ Ideal.log1p x := by
  induction x using EReal.rec with
  | bot => exact absurd hx (by simp)
  | coe r =>
    have hr : 0 ≤ r := EReal.coe_nonneg.mp hx
    show 0 ≤ Ideal.log (((1 : ℝ) : EReal) + (r : EReal))
    rw [← EReal.coe_add]
    show 0 ≤ (if 1 + r ≤ 0 then (⊥ : EReal) else ((Real.log (1 + r) : ℝ) : EReal))
    rw [if_neg (by linarith)]
    exact EReal.coe_nonneg.mpr (Real.log_nonneg (by linarith))
  | top =>
    show 0 ≤ Ideal.log (((1 : ℝ) : EReal) + ⊤)
    rw [EReal.coe_add_top]
    exact le_top

/-- The decays' logarithms are not positive, -/
theorem a_nonpos (b : Fin 32) (h l : Fin 4) : val_main_v54 (F := Ideal) x2 x7 x8 (ix4 b h 0 l) ≤ 0 := by
  rw [a_apply, dt_apply, mul_neg]
  exact EReal.neg_le_zero.mpr (mul_nonneg (add_nonneg (le_max_right _ _) (log1p_nonneg _ (exp_nonneg _))) (exp_nonneg _))

/-- so a running sum of them is minus infinity or real. -/
theorem cs_cases (b : Fin 32) (h l : Fin 4) :
    val_main_v57 (F := Ideal) x2 x7 x8 (ix4 b h 0 l) = ⊥ ∨ ∃ r : ℝ, val_main_v57 (F := Ideal) x2 x7 x8 (ix4 b h 0 l) = (r : EReal) := by
  have hle : val_main_v57 (F := Ideal) x2 x7 x8 (ix4 b h 0 l) ≤ 0 := by
    rw [cs_apply]
    refine Finset.sum_nonpos fun s _ => ?_
    split_ifs
    · exact a_nonpos x2 x7 x8 b h s
    · exact le_refl _
  revert hle
  generalize val_main_v57 (F := Ideal) x2 x7 x8 (ix4 b h 0 l) = v
  intro hle
  have hle' : (v : EReal) ≤ 0 := hle
  induction v using EReal.rec with
  | bot => exact Or.inl rfl
  | coe r => exact Or.inr ⟨r, rfl⟩
  | top => exact absurd hle' (by simp)

/-- The running sums over the chunks: nothing before the chunk, -/
theorem ccs_first (b : Fin 32) (h : Fin 4) : val_main_v88 (F := Ideal) x2 x7 x8 (ix3 b h 0) = (0 : EReal) := by
  rw [ccs_apply, Fin.sum_univ_two, if_pos (le_refl _), if_neg (by decide), chunk_apply, dif_neg (by decide), add_zero]

/-- and the chunk's own sum after it. -/
theorem ccs_last (b : Fin 32) (h : Fin 4) : val_main_v88 (F := Ideal) x2 x7 x8 (ix3 b h 1) = val_main_v57 (F := Ideal) x2 x7 x8 (ix4 b h 0 3) := by
  rw [ccs_apply, Fin.sum_univ_two, if_pos (by decide), if_pos (le_refl _), chunk_apply, chunk_apply, dif_neg (by decide), dif_pos (by decide), zero_add]

/-- The state a continuation starts from is the given one. -/
theorem states_first (b : Fin 32) (h : Fin 4) (p : Fin 64) (n : Fin 128) :
    val_main_v99 (F := Ideal) x0 x2 x3 x4 x5 x6 x7 x8 (ix5 b 0 h p n) = x4 (ix4 b h p n) := by
  have e0 : Ideal.exp (0 : EReal) = 1 := (exp_real 0).trans (by rw [Real.exp_zero, EReal.coe_one])
  have eb : Ideal.exp (⊥ : EReal) = 0 := rfl
  rw [states_apply, ccs_first, sub_zero, e0, mul_one, if_neg (by decide), eb, mul_zero, add_zero]

/-- The state after it: the given one, decayed, and what the chunk adds. -/
theorem states_last (b : Fin 32) (h : Fin 4) (p : Fin 64) (n : Fin 128) :
    val_main_v99 (F := Ideal) x0 x2 x3 x4 x5 x6 x7 x8 (ix5 b 1 h p n) =
      x4 (ix4 b h p n) * Ideal.exp (val_main_v57 (F := Ideal) x2 x7 x8 (ix4 b h 0 3)) + val_main_v82 (F := Ideal) x0 x2 x3 x5 x6 x7 x8 (ix5 b 0 h p n) := by
  rw [states_apply, ccs_first, ccs_last, sub_zero, if_pos (by decide)]
  congr 1
  rcases cs_cases x2 x7 x8 b h 3 with hb | ⟨r, hr⟩
  · have z : val_main_v82 (F := Ideal) x0 x2 x3 x5 x6 x7 x8 (ix5 b 0 h p n) = (0 : EReal) := by
      rw [contrib_apply]
      refine Finset.sum_eq_zero fun x _ => ?_
      have eb : Ideal.exp (⊥ : EReal) = 0 := rfl
      rw [hb, EReal.bot_sub, eb, zero_mul, zero_mul]
    rw [z, zero_mul]
  · rw [hr, ← EReal.coe_sub, sub_self, exp_real, Real.exp_zero, EReal.coe_one, mul_one]

end Cert.SsdSmpRefIdeal.Ssd

end
-- ==== Proof.SsdSmp.Block.lean ====
/- What the kernel of the recurrence computes from one continuation's blocks, padded to a chunk: the rows past the continuation have step size zero. -/
module

public import proofs.«01_k».proof.Proof.Gen.SsdSmpIdeal.Frame
public import proofs.«01_k».proof.Proof.SsdSmp.Ref
public import proofs.«01_k».proof.Proof.Ssd.Block
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen
open Cert.SsdRefIdeal.Ssd (col lane bot_pattern)
open Cert.SsdIdeal.Ssd (floor_row choose_col choose_row choose_band mask_select)

/-- The lanes that hold the heads' step sizes. -/
theorem head_lane (h : Fin 4) : (k0_pay11 (ix2 0 (lane h)) : BitVec 1) = 1#1 := by
  fin_cases h <;> decide +kernel

/-- The rows of a continuation among the rows of the chunk it is padded to. -/
theorem row_select (l : Fin 128) (A B : EReal) : Scalar.select (IntOp.cmpi CmpIPredicate.slt (BitVec.ofNat 32 l) 4#32) A B = if l.val < 4 then A else B := by
  have e : IntOp.cmpi CmpIPredicate.slt (BitVec.ofNat 32 l) (BitVec.ofNat 32 4) = BitVec.ofBool (decide (l.val < 4)) :=
    WordCmp.cmpi_slt_ofNat (by omega) (by omega)
  by_cases h : l.val < 4 <;> simp [Scalar.select, e, h]

/-- The step sizes: zero past the continuation. -/
theorem step_block (A : FVec Ideal S128x128 .f32) (B : FVec Ideal S1x128 .f32) (l : Fin 128) (h : Fin 4) :
    k0_pay12 (F := Ideal) A B (ix2 l (lane h)) = if l.val < 4 then max (A (ix2 l (lane h)) + B (ix2 0 (lane h))) 0 +
      Ideal.log1p (Ideal.exp (-(max (A (ix2 l (lane h)) + B (ix2 0 (lane h))) (-(A (ix2 l (lane h)) + B (ix2 0 (lane h))))))) else 0 := by
  pointwise [k0_pay12]
  rw [head_lane, zero_sub, row_select]
  rfl

/-- The running sum of the decays' logarithms. -/
theorem cs_block (A : FVec Ideal S128x128 .f32) (C : FVec Ideal S1x128 .f32) (l : Fin 128) (h : Fin 4) :
    k0_pay14 (F := Ideal) k0_pay11 A C (ix2 l (lane h)) = ∑ s : Fin 128, if s ≤ l then A (ix2 s (lane h)) * -Ideal.exp (C (ix2 0 (lane h))) else 0 := by
  pointwise [k0_pay14, k0_pay13]
  rw [head_lane, zero_sub]
  exact Finset.sum_congr rfl fun x _ => mask_select _ _ (by omega) (by omega) _ _

/-- The last row of the running sum. -/
theorem last_block (A : FVec Ideal S128x128 .f32) (C : FVec Ideal S1x128 .f32) (j : Fin 128) :
    k0_pay16 (F := Ideal) k0_pay11 A C (ix2 0 j) = k0_pay14 (F := Ideal) k0_pay11 A C (ix2 127 j) := by
  pointwise [k0_pay16]

/-- A step size, spread over its head's columns. -/
theorem spread_block (X : FVec Ideal S128x256 .f32) (A : FVec Ideal S128x128 .f32) (l : Fin 128) (h : Fin 4) (p : Fin 64) :
    k0_pay17 (F := Ideal) X A (ix2 l (col h p)) = X (ix2 l (col h p)) * A (ix2 l (lane h)) := by
  pointwise [k0_pay17, col]
  rw [choose_col h p fun j => A (ix2 l j)]

/-- The products of the projections. -/
theorem cb_block (B C : FVec Ideal S128x128 .bf16) (l s : Fin 128) :
    k0_pay18 (F := Ideal) B C (ix2 l s) = ∑ x : Fin 128, C (ix2 l x) * B (ix2 s x) := by
  pointwise [k0_pay18]

/-- What a chunk's rows give each other: at a column only its own head's masked product survives. -/
theorem diag_block (A : FVec Ideal S128x128 .f32) (C : FVec Ideal S1x128 .f32) (X' : FVec Ideal S128x128 .f32) (X : FVec Ideal S128x256 .f32)
    (l : Fin 128) (h : Fin 4) (p : Fin 64) :
    k0_pay24 (F := Ideal) k0_pay13 (k0_pay14 k0_pay11 A C) (k0_pay15 k0_pay11 A C) X X' (iota .tc S1x256 32 [1] iota_S1x256_d1_w32)
      (k0_pay21 k0_pay13 (k0_pay14 k0_pay11 A C) (k0_pay15 k0_pay11 A C) X X' (iota .tc S1x256 32 [1] iota_S1x256_d1_w32) k0_pay19 (k0_pay20 k0_pay11 A C))
      (k0_pay22 (k0_pay14 k0_pay11 A C) (k0_pay15 k0_pay11 A C)) k0_pay23
      (ix2 l (col h p)) = ∑ x : Fin 128, X' (ix2 l x) * Ideal.exp (if x.val ≤ l.val then
        k0_pay14 (F := Ideal) k0_pay11 A C (ix2 l (lane h)) - k0_pay14 (F := Ideal) k0_pay11 A C (ix2 x (lane h)) else ⊥) * X (ix2 x (col h p)) := by
  pointwise [k0_pay24, k0_pay21, k0_pay22, k0_pay23, k0_pay19, k0_pay20, k0_pay13, k0_pay15, col]
  refine (choose_band h p fun j x => X' (ix2 l x) * Ideal.exp (Scalar.select (IntOp.cmpi CmpIPredicate.sge (BitVec.ofNat 32 l) (BitVec.ofNat 32 x))
    (k0_pay14 (F := Ideal) k0_pay11 A C (ix2 l j) - k0_pay14 (F := Ideal) k0_pay11 A C (ix2 x j)) (Ideal.ofBits FTy.f32 4286578688#32)) *
        X (ix2 x (col h p))).trans (Finset.sum_congr rfl fun x _ => ?_)
  rw [mask_select _ _ (by omega) (by omega), bot_pattern]
  rfl

/-- The state's share of a row. -/
theorem off_block (C : FVec Ideal S128x128 .bf16) (S : FVec Ideal S256x128 .f32) (l : Fin 128) (j : Fin 256) :
    k0_pay25 (F := Ideal) C S (ix2 l j) = ∑ x : Fin 128, C (ix2 l x) * S (ix2 j x) := by
  pointwise [k0_pay25]

/-- The state's share of a row, decayed and added. -/
theorem add_block (D E : FVec Ideal S128x256 .f32) (A : FVec Ideal S128x128 .f32) (l : Fin 128) (h : Fin 4) (p : Fin 64) :
    k0_pay29 (F := Ideal) D E (k0_pay26 A) (iota .tc S1x256 32 [1] iota_S1x256_d1_w32) (k0_pay27 A) k0_pay28 (ix2 l (col h p)) =
      D (ix2 l (col h p)) + E (ix2 l (col h p)) * Ideal.exp (A (ix2 l (lane h))) := by
  pointwise [k0_pay29, k0_pay26, k0_pay27, k0_pay28, col]
  rw [choose_col h p fun j => Ideal.exp (A (ix2 l j))]

/-- What a chunk adds to the state. -/
theorem contrib_block (B : FVec Ideal S128x128 .bf16) (A : FVec Ideal S128x128 .f32) (L : FVec Ideal S1x128 .f32) (X : FVec Ideal S128x256 .f32)
    (h : Fin 4) (p : Fin 64) (n : Fin 128) :
    k0_pay34 (F := Ideal) B X (k0_pay31 A L) k0_pay32 (k0_pay33 A L) (ix2 (col h p) n) =
      ∑ x : Fin 128, X (ix2 x (col h p)) * Ideal.exp (L (ix2 0 (lane h)) - A (ix2 x (lane h))) * B (ix2 x n) := by
  pointwise [k0_pay34, k0_pay30, k0_pay31, k0_pay32, k0_pay33, col]
  refine Finset.sum_congr rfl fun x _ => ?_
  rw [choose_col h p fun j => Ideal.exp (L (ix2 0 j) - A (ix2 x j))]

/-- The state after a chunk. -/
theorem state_block (S C : FVec Ideal S256x128 .f32) (L : FVec Ideal S1x128 .f32) (h : Fin 4) (p : Fin 64) (n : Fin 128) :
    k0_pay38 (F := Ideal) S C (k0_pay35 L) k0_pay36 (k0_pay37 L) (ix2 (col h p) n) =
      S (ix2 (col h p) n) * Ideal.exp (L (ix2 0 (lane h))) + C (ix2 (col h p) n) := by
  pointwise [k0_pay38, k0_pay35, k0_pay36, k0_pay37, col]
  rw [floor_row, choose_row h fun j => Ideal.exp (L (ix2 0 j))]

/-- The convolution of a chunk's rows. -/
theorem conv_block (B : FVec Ideal S1x512 .f32) (X0 X1 X2 X3 : FVec Ideal S128x512 .f32) (W0 W1 W2 W3 : FVec Ideal S1x512 .f32) (l : Fin 128) (j : Fin 512) :
    k0_pay5 (F := Ideal) B X0 W0 X1 W1 X2 W2 X3 W3 (ix2 l j) = B (ix2 0 j) + X0 (ix2 l j) * W0 (ix2 0 j) + X1 (ix2 l j) * W1 (ix2 0 j)
      + X2 (ix2 l j) * W2 (ix2 0 j) + X3 (ix2 l j) * W3 (ix2 0 j) := by
  pointwise [k0_pay5]

/-- Its activation: the inputs, -/
theorem xs_block (X : FVec Ideal S128x512 .f32) (l : Fin 128) (j : Fin 256) :
    k0_pay8 (F := Ideal) X (ix2 l j) = X (ix2 l ⟨j, by omega⟩) * Ideal.logistic (X (ix2 l ⟨j, by omega⟩)) := by
  pointwise [k0_pay8, k0_pay7]

/-- the input projections, -/
theorem bm_block (X : FVec Ideal S128x512 .f32) (l : Fin 128) (j : Fin 128) :
    k0_pay9 (F := Ideal) X (ix2 l j) = X (ix2 l ⟨256 + j, by omega⟩) * Ideal.logistic (X (ix2 l ⟨256 + j, by omega⟩)) := by
  pointwise [k0_pay9, k0_pay7]

/-- and the output projections. -/
theorem cm_block (X : FVec Ideal S128x512 .f32) (l : Fin 128) (j : Fin 128) :
    k0_pay10 (F := Ideal) X (ix2 l j) = X (ix2 l ⟨384 + j, by omega⟩) * Ideal.logistic (X (ix2 l ⟨384 + j, by omega⟩)) := by
  pointwise [k0_pay10, k0_pay7]

/-- The gated and normalized rows. -/
theorem out_block (X Y : FVec Ideal S128x256 .f32) (D : FVec Ideal S1x256 .f32) (Z : FVec Ideal S128x256 .f32) (W : FVec Ideal S1x256 .f32)
    (l : Fin 128) (j : Fin 256) :
    k0_pay40 (F := Ideal) X Y D Z W (ix2 l j) =
      (Y (ix2 l j) + D (ix2 0 j) * X (ix2 l j)) * (Z (ix2 l j) * Ideal.logistic (Z (ix2 l j))) *
        Ideal.rsqrt (Ideal.div (∑ x : Fin 256, (Y (ix2 l x) + D (ix2 0 x) * X (ix2 l x)) * (Z (ix2 l x) * Ideal.logistic (Z (ix2 l x))) *
          ((Y (ix2 l x) + D (ix2 0 x) * X (ix2 l x)) * (Z (ix2 l x) * Ideal.logistic (Z (ix2 l x))))) (Ideal.ofBits FTy.f32 1132462080#32) +
            Ideal.ofBits FTy.f32 897988541#32) * W (ix2 0 j) := by
  pointwise [k0_pay40]

end Cert.SsdSmpIdeal.Ssd

end
-- ==== Proof.SsdSmp.Chunk.lean ====
/- What a grid point computes from one continuation's blocks: the state after it, and its rows of the result. -/
module

public import proofs.«01_k».proof.Proof.SsdSmp.Block
public import proofs.«01_k».proof.Proof.Ssd.Chunk

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen Cert.SsdSmpRefIdeal.Read Cert.SsdSmpRefIdeal.Ssd
open Cert.SsdRefIdeal.Ssd (col lane)
open Cert.SsdIdeal.Ssd (col_all)

/-- A continuation's row among the rows of the chunk it is padded to. -/
def up (l : Fin 4) : Fin 128 := ⟨l, by omega⟩

/-- A sum over the chunk's rows of what vanishes past the continuation. -/
theorem sum_short (f : Fin 128 → EReal) (hf : ∀ x : Fin 128, 4 ≤ x.val → f x = 0) : ∑ x : Fin 128, f x = ∑ x : Fin 4, f (up x) := by
  refine (Fin.sum_univ_add (a := 4) (b := 124) f).trans ?_
  rw [Finset.sum_eq_zero (s := Finset.univ) (f := fun i : Fin 124 => f (Fin.natAdd 4 i)) fun i _ => hf _ (by simp), add_zero]
  rfl

variable (x0 : FVec Ideal S128x512 .f32) (x1 : FVec Ideal S128x256 .f32) (x2 : FVec Ideal S128x128 .f32) (x3 : FVec Ideal S32x3x512 .f32)
  (x4 : FVec Ideal S32x4x64x128 .f32) (x5 : FVec Ideal S4x512 .f32) (x6 : FVec Ideal S512 .f32) (x7 x8 x9 : FVec Ideal S4 .f32) (x10 : FVec Ideal S256 .f32)
  (b : Fin 32)

/-- The blocks of a continuation are the arguments' rows of it, with the convolution done and the state before it in place. -/
structure Holds (V : FVec Ideal S128x512 .f32) (M : FVec Ideal S128x128 .f32) (B R : FVec Ideal S1x128 .f32) (S : FVec Ideal S256x128 .f32) : Prop where
  conv : ∀ l j, V (ix2 (up l) j) = val_main_v34 (F := Ideal) x0 x3 x5 x6 (ix3 b l j)
  step : ∀ l h, M (ix2 (up l) (lane h)) = x2 (ix2 (row b l) (lane h))
  bias : ∀ h, B (ix2 0 (lane h)) = x7 (ix1 h)
  rate : ∀ h, R (ix2 0 (lane h)) = x8 (ix1 h)
  state : ∀ h p n, S (ix2 (col h p) n) = x4 (ix4 b h p n)

variable {x0 x2 x3 x4 x5 x6 x7 x8 b} {V : FVec Ideal S128x512 .f32} {M : FVec Ideal S128x128 .f32} {B R : FVec Ideal S1x128 .f32} {S : FVec Ideal S256x128 .f32}

/-- Past the continuation the step sizes are zero, -/
theorem step_out (M : FVec Ideal S128x128 .f32) (B : FVec Ideal S1x128 .f32) (l : Fin 128) (hl : 4 ≤ l.val) (h : Fin 4) :
    k0_pay12 (F := Ideal) M B (ix2 l (lane h)) = (0 : EReal) := by
  rw [step_block, if_neg (by omega)]

/-- and so are the scaled inputs. -/
theorem xdt_out (X : FVec Ideal S128x256 .f32) (M : FVec Ideal S128x128 .f32) (B : FVec Ideal S1x128 .f32) (l : Fin 128) (hl : 4 ≤ l.val) (h : Fin 4) (p : Fin 64) :
    k0_pay17 (F := Ideal) X (k0_pay12 M B) (ix2 l (col h p)) = (0 : EReal) := by
  rw [spread_block, step_out M B l hl h]
  exact mul_zero _

variable (H : Holds x0 x2 x3 x4 x5 x6 x7 x8 b V M B R S)

include H

/-- The step sizes are the reference's. -/
theorem step_eq (l h : Fin 4) : k0_pay12 (F := Ideal) M B (ix2 (up l) (lane h)) = val_main_v42 (F := Ideal) x2 x7 (ix3 b l h) := by
  rw [step_block, if_pos (show (up l).val < 4 from l.isLt), dt_apply, H.step, H.bias]

/-- The running sums are the reference's: past the continuation they stay at its last one. -/
theorem cs_at (l : Fin 128) (k h : Fin 4) (hk : ∀ s : Fin 4, up s ≤ l ↔ s ≤ k) :
    k0_pay14 (F := Ideal) k0_pay11 (k0_pay12 M B) R (ix2 l (lane h)) = val_main_v57 (F := Ideal) x2 x7 x8 (ix4 b h 0 k) := by
  rw [cs_block, cs_apply, sum_short _ fun x hx => ?_]
  · refine Finset.sum_congr rfl fun s _ => ?_
    rw [a_apply, step_eq H, H.rate]
    exact if_congr (hk s) rfl rfl
  · rw [step_out M B x hx h, zero_mul]
    exact ite_self _

/-- Within the continuation, -/
theorem cs_eq (l h : Fin 4) : k0_pay14 (F := Ideal) k0_pay11 (k0_pay12 M B) R (ix2 (up l) (lane h)) = val_main_v57 (F := Ideal) x2 x7 x8 (ix4 b h 0 l) :=
  cs_at H _ _ _ fun _ => Iff.rfl

/-- and in the chunk's last row. -/
theorem cs_last (h : Fin 4) : k0_pay14 (F := Ideal) k0_pay11 (k0_pay12 M B) R (ix2 127 (lane h)) = val_main_v57 (F := Ideal) x2 x7 x8 (ix4 b h 0 3) :=
  cs_at H _ _ _ fun s => ⟨fun _ => by rw [Fin.le_def]; omega, fun _ => by rw [Fin.le_def]; show s.val ≤ 127; omega⟩

/-- The activated inputs are the reference's, -/
theorem xs_eq (l : Fin 4) (j : Fin 256) : k0_pay8 (F := Ideal) V (ix2 (up l) j) = val_main_v35 (F := Ideal) x0 x3 x5 x6 (ix3 b l ⟨j, by omega⟩) := by
  rw [xs_block, H.conv, act_apply]

/-- so are the input projections, -/
theorem bm_eq (l : Fin 4) (j : Fin 128) : k0_pay9 (F := Ideal) V (ix2 (up l) j) = val_main_v35 (F := Ideal) x0 x3 x5 x6 (ix3 b l ⟨256 + j, by omega⟩) := by
  rw [bm_block, H.conv, act_apply]

/-- the output projections, -/
theorem cm_eq (l : Fin 4) (j : Fin 128) : k0_pay10 (F := Ideal) V (ix2 (up l) j) = val_main_v35 (F := Ideal) x0 x3 x5 x6 (ix3 b l ⟨384 + j, by omega⟩) := by
  rw [cm_block, H.conv, act_apply]

/-- and the scaled inputs. -/
theorem xdt_eq (l h : Fin 4) (p : Fin 64) :
    k0_pay17 (F := Ideal) (k0_pay8 V) (k0_pay12 M B) (ix2 (up l) (col h p)) = val_main_v49 (F := Ideal) x0 x2 x3 x5 x6 x7 (ix5 b 0 l h p) := by
  rw [spread_block, xs_eq H, step_eq H, xdt_apply]

/-- The state after the continuation is the reference's. -/
theorem state_eq (h : Fin 4) (p : Fin 64) (n : Fin 128) :
    k0_pay38 (F := Ideal) S (k0_pay34 (k0_pay9 V) (k0_pay17 (k0_pay8 V) (k0_pay12 M B))
        (k0_pay31 (k0_pay14 k0_pay11 (k0_pay12 M B) R) (k0_pay16 k0_pay11 (k0_pay12 M B) R)) k0_pay32
        (k0_pay33 (k0_pay14 k0_pay11 (k0_pay12 M B) R) (k0_pay16 k0_pay11 (k0_pay12 M B) R)))
      (k0_pay35 (k0_pay16 k0_pay11 (k0_pay12 M B) R)) k0_pay36 (k0_pay37 (k0_pay16 k0_pay11 (k0_pay12 M B) R)) (ix2 (col h p) n) =
    val_main_v99 (F := Ideal) x0 x2 x3 x4 x5 x6 x7 x8 (ix5 b 1 h p n) := by
  rw [state_block, H.state, last_block, cs_last H, states_last, contrib_block, contrib_apply, sum_short _ fun x hx => ?_]
  · congr 1
    refine Finset.sum_congr rfl fun x _ => ?_
    rw [last_block, cs_last H, cs_eq H, xdt_eq H, bm_eq H, mul_comm (Ideal.exp _)]
  · rw [xdt_out _ M B x hx, zero_mul, zero_mul]

/-- The rows before the skip connection and the gate are the reference's. -/
theorem rows_eq (l h : Fin 4) (p : Fin 64) :
    k0_pay29 (F := Ideal) (k0_pay24 k0_pay13 (k0_pay14 k0_pay11 (k0_pay12 M B) R) (k0_pay15 k0_pay11 (k0_pay12 M B) R) (k0_pay17 (k0_pay8 V) (k0_pay12 M B))
        (k0_pay18 (k0_pay9 V) (k0_pay10 V)) (iota .tc S1x256 32 [1] iota_S1x256_d1_w32)
        (k0_pay21 k0_pay13 (k0_pay14 k0_pay11 (k0_pay12 M B) R) (k0_pay15 k0_pay11 (k0_pay12 M B) R) (k0_pay17 (k0_pay8 V) (k0_pay12 M B))
          (k0_pay18 (k0_pay9 V) (k0_pay10 V)) (iota .tc S1x256 32 [1] iota_S1x256_d1_w32) k0_pay19 (k0_pay20 k0_pay11 (k0_pay12 M B) R))
        (k0_pay22 (k0_pay14 k0_pay11 (k0_pay12 M B) R) (k0_pay15 k0_pay11 (k0_pay12 M B) R)) k0_pay23)
      (k0_pay25 (k0_pay10 V) S) (k0_pay26 (k0_pay14 k0_pay11 (k0_pay12 M B) R)) (iota .tc S1x256 32 [1] iota_S1x256_d1_w32)
      (k0_pay27 (k0_pay14 k0_pay11 (k0_pay12 M B) R)) k0_pay28 (ix2 (up l) (col h p)) =
    val_main_v73 (F := Ideal) x0 x2 x3 x5 x6 x7 x8 (ix5 b 0 l h p) + val_main_v106 (F := Ideal) x0 x2 x3 x4 x5 x6 x7 x8 (ix5 b 0 l h p) := by
  rw [add_block, diag_block, off_block, diag_apply, off_apply, cs_eq H, sum_short _ fun x hx => ?_]
  · congr 1
    · refine Finset.sum_congr rfl fun x _ => ?_
      rw [cs_eq H, xdt_eq H, lm_apply, cb_block, cb_apply, mul_comm]
      refine congrArg (fun e => _ * (e * _)) (Finset.sum_congr rfl fun y _ => ?_)
      rw [cm_eq H, bm_eq H]
    · refine congrArg (fun e => e * _) (Finset.sum_congr rfl fun x _ => ?_)
      rw [cm_eq H, H.state, states_first]
  · rw [xdt_out _ M B x hx]
    exact mul_zero _

/-- The continuation's rows of the result are the reference's. -/
theorem out_eq (x1 : FVec Ideal S128x256 .f32) (x9 : FVec Ideal S4 .f32) (x10 : FVec Ideal S256 .f32) (Y : FVec Ideal S128x256 .f32)
    (D : FVec Ideal S1x256 .f32) (Z : FVec Ideal S128x256 .f32) (W : FVec Ideal S1x256 .f32)
    (hY : ∀ l h p, Y (ix2 (up l) (col h p)) = val_main_v73 (F := Ideal) x0 x2 x3 x5 x6 x7 x8 (ix5 b 0 l h p) + val_main_v106 (F := Ideal) x0 x2 x3 x4 x5 x6 x7 x8 (ix5 b 0 l h p))
    (hD : ∀ h p, D (ix2 0 (col h p)) = x9 (ix1 h)) (hZ : ∀ l j, Z (ix2 (up l) j) = x1 (ix2 (row b l) j)) (hW : ∀ j, W (ix2 0 j) = x10 (ix1 j))
    (l : Fin 4) (j : Fin 256) :
    k0_pay40 (F := Ideal) (k0_pay8 V) Y D Z W (ix2 (up l) j) = val_main_v133 (F := Ideal) x0 x1 x2 x3 x4 x5 x6 x7 x8 x9 x10 (ix2 (row b l) j) := by
  have g : ∀ j : Fin 256, (Y (ix2 (up l) j) + D (ix2 0 j) * k0_pay8 (F := Ideal) V (ix2 (up l) j)) * (Z (ix2 (up l) j) * Ideal.logistic (Z (ix2 (up l) j))) =
      val_main_v118 (F := Ideal) x0 x1 x2 x3 x4 x5 x6 x7 x8 x9 (ix3 b l j) := fun j => by
    obtain ⟨h, p, rfl⟩ := col_all j
    rw [gated_apply, sum_apply, hY, hD, hZ, xs_eq H]
  rw [out_block, y_apply, hW]
  simp only [g]

end Cert.SsdSmpIdeal.Ssd

end
-- ==== Proof.SsdSmp.Lanes.lean ====
/- How the host lays the heads' parameters out: a row written into one place of a wider array. -/
module

public import proofs.«01_k».proof.Proof.SsdSmp.Chunk
public import Idealize.ShloMosaic.Lib.Routing.OpsOne

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen Cert.SsdSmpRefIdeal.Ssd
open Cert.SsdRefIdeal.Ssd (lane)

/-- Entry `k` of a row written at the place two index words name lands at the first word's row, `k` columns after the second word. -/
theorem lands_row (idx : IVec S2 32) (k : Fin 4) (r : Fin 1) (j : Fin 128) :
    scatter_S1x128_S2_S4_0_0_01_0.resultIdx? (ix1 k) idx = some (ix2 r j) ↔
      (idx (ix1 0)).toInt = r.val ∧ (idx (ix1 1)).toInt + (k.val : Int) = j.val := by
  have w0 : scatter_S1x128_S2_S4_0_0_01_0.window (ix1 k) 0 = 0 := by
    unfold ScatterDims.window
    exact dif_neg (by decide)
  have w1 : scatter_S1x128_S2_S4_0_0_01_0.window (ix1 k) 1 = k.val := by
    unfold ScatterDims.window
    rw [dif_pos (by decide)]
    rfl
  have s0 : scatter_S1x128_S2_S4_0_0_01_0.start (ix1 k) idx 0 = (idx (ix1 0)).toInt := Routing.start_pair (R := 1) (C := 128) _ rfl rfl idx (ix1 k) 0
  have s1 : scatter_S1x128_S2_S4_0_0_01_0.start (ix1 k) idx 1 = (idx (ix1 1)).toInt := Routing.start_pair (R := 1) (C := 128) _ rfl rfl idx (ix1 k) 1
  refine (Routing.resultIdx?_ix2 (R := 1) (C := 128) scatter_S1x128_S2_S4_0_0_01_0 (ix1 k) idx r j).trans ?_
  rw [s0, s1, w0, w1]
  omega

/-- The heads' lanes of the array that a row of four values is written into at lane 68 hold the values. -/
theorem lanes_apply (z : FVec Ideal S1x128 .f32) (idx : IVec S2 32) (v : FVec Ideal S4 .f32) (h0 : idx (ix1 0) = 0#32) (h1 : idx (ix1 1) = 68#32) (h : Fin 4) :
    Host.scatter scatter_S1x128_S2_S4_0_0_01_0 (fun _ b => b) z idx v (ix2 0 (lane h)) = v (ix1 h) := by
  have e0 : (idx (ix1 0)).toInt = 0 := by rw [h0]; rfl
  have e1 : (idx (ix1 1)).toInt = 68 := by rw [h1]; rfl
  refine Routing.scatter_set_hit _ _ _ _ _ _ (fun k hk => ?_) (ix1 h) ((lands_row idx h 0 (lane h)).mpr ⟨e0, ?_⟩)
  · obtain ⟨n, rfl⟩ : ∃ n : Fin 4, k = ix1 n := ⟨k 0, (ix1_eta k).symm⟩
    have h2 := ((lands_row idx n 0 (lane h)).mp hk).2
    rw [e1] at h2
    simp only [lane] at h2
    exact congrArg (fun n => v (ix1 n)) (Fin.ext (by omega))
  · rw [e1]
    simp only [lane]
    omega

end Cert.SsdSmpIdeal.Ssd

end
-- ==== Proof.SsdSmp.Blocks.lean ====
/- What the blocks of the recurrence's operands hold for a continuation, read off the host's preparation of them. -/
module

public import proofs.«01_k».proof.Proof.SsdSmp.Lanes

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen Cert.SsdSmpRefIdeal.Read Cert.SsdSmpRefIdeal.Ssd
open Cert.SsdRefIdeal.Ssd (col lane)

variable (m : (ℓ : Loc nD τ sig) → Buf (Elt Ideal) ℓ) (c : Dev nD)

/-- The block index of every window at a point: continuation `t`. -/
theorem idx_val : ∀ t : Fin cfg0.N, win0_0.index t = ![t.val, 0] ∧ win0_1.index t = ![t.val, 0] ∧ win0_2.index t = ![t.val, 0] ∧
    win0_3.index t = ![t.val, 0, 0] ∧ win0_4.index t = ![t.val, 0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![t.val, 0] ∧ win0_12.index t = ![t.val, 0, 0] := (by decide +kernel : ∀ t : Fin grid0.N, _)

/-- The continuation a point works on. -/
def seq (t : Fin cfg0.N) : Fin 32 := ⟨t.val, lt_of_lt_of_eq t.isLt N_0⟩

/-- The input of the convolution. -/
theorem read_x (t : Fin cfg0.N) (l : Fin 4) (j : Fin 512) : iblk m c 0 t (ix2 (up l) j) = m ((c : Thread nD τ).loc main_arg0) (ix2 (row (seq t) l) j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_0.blk t).view.emb (ix2 (up l) j) = ix2 ⟨t.val * 128 + l.val, by omega⟩ j := by blk_ext [idx_val t, up, seq, col]
  rw [e]
  simp -implicitDefEqProofs only [StableHlo.TRef.toBuf, StableHlo.TRef.ofBuf, cast_cast, cast_eq]
  have e1 : (t.val * 128 + l.val) / 128 = t.val := by omega
  have e2 : (t.val * 128 + l.val) % 128 = l.val := by omega
  pointwise [up, seq, row, e1, e2]

/-- The gate. -/
theorem read_z (t : Fin cfg0.N) (l : Fin 4) (j : Fin 256) : iblk m c 1 t (ix2 (up l) j) = m ((c : Thread nD τ).loc main_arg1) (ix2 (row (seq t) l) j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_1.blk t).view.emb (ix2 (up l) j) = ix2 ⟨t.val * 128 + l.val, by omega⟩ j := by blk_ext [idx_val t, up, seq, col]
  rw [e]
  simp -implicitDefEqProofs only [StableHlo.TRef.toBuf, StableHlo.TRef.ofBuf, cast_cast, cast_eq]
  have e1 : (t.val * 128 + l.val) / 128 = t.val := by omega
  have e2 : (t.val * 128 + l.val) % 128 = l.val := by omega
  pointwise [up, seq, row, e1, e2]

/-- The step sizes before their bias. -/
theorem read_s (t : Fin cfg0.N) (l : Fin 4) (j : Fin 128) : iblk m c 2 t (ix2 (up l) j) = m ((c : Thread nD τ).loc main_arg2) (ix2 (row (seq t) l) j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_2.blk t).view.emb (ix2 (up l) j) = ix2 ⟨t.val * 128 + l.val, by omega⟩ j := by blk_ext [idx_val t, up, seq, col]
  rw [e]
  simp -implicitDefEqProofs only [StableHlo.TRef.toBuf, StableHlo.TRef.ofBuf, cast_cast, cast_eq]
  have e1 : (t.val * 128 + l.val) / 128 = t.val := by omega
  have e2 : (t.val * 128 + l.val) % 128 = l.val := by omega
  pointwise [up, seq, row, e1, e2]

/-- The three rows kept before the continuation. -/
theorem read_buf (t : Fin cfg0.N) (p : Fin 8) (j : Fin 512) (hp : 5 ≤ p.val) : iblk m c 3 t (ix3 0 p j) = m ((c : Thread nD τ).loc main_arg3) (ix3 (seq t) ⟨p - 5, by omega⟩ j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_3.blk t).view.emb (ix3 0 p j) = ix3 (seq t) p j := by blk_ext [idx_val t, up, seq, col]
  rw [e]
  simp -implicitDefEqProofs only [StableHlo.TRef.toBuf, StableHlo.TRef.ofBuf, cast_cast, cast_eq]
  pointwise [seq]
  rw [dif_pos ⟨hp, by omega⟩]

/-- The state before the continuation. -/
theorem read_st (t : Fin cfg0.N) (h : Fin 4) (p : Fin 64) (n : Fin 128) : iblk m c 4 t (ix3 0 (col h p) n) = m ((c : Thread nD τ).loc main_arg4) (ix4 (seq t) h p n) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_4.blk t).view.emb (ix3 0 (col h p) n) = ix3 (seq t) (col h p) n := by blk_ext [idx_val t, up, seq, col]
  rw [e]
  pointwise [seq, col]

/-- The convolution's weight. -/
theorem read_cw (t : Fin cfg0.N) (k : Fin 4) (j : Fin 512) : iblk m c 5 t (ix2 k j) = m ((c : Thread nD τ).loc main_arg5) (ix2 k j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise [seq]
  blk_ext [idx_val t]

/-- Its bias. -/
theorem read_cb (t : Fin cfg0.N) (j : Fin 512) : iblk m c 6 t (ix2 0 j) = m ((c : Thread nD τ).loc main_arg6) (ix1 j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise [seq]
  blk_ext [idx_val t]

/-- The step sizes' bias, in the heads' lanes. -/
theorem read_bias (t : Fin cfg0.N) (h : Fin 4) : iblk m c 7 t (ix2 0 (lane h)) = m ((c : Thread nD τ).loc main_arg7) (ix1 h) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_7.blk t).view.emb (ix2 0 (lane h)) = ix2 0 (lane h) := by blk_ext [idx_val t, lane]
  rw [e]
  refine lanes_apply _ _ _ ?_ ?_ h
  · after_results_simp
    pointwise
  · after_results_simp
    pointwise

/-- The rates, in the heads' lanes. -/
theorem read_rate (t : Fin cfg0.N) (h : Fin 4) : iblk m c 8 t (ix2 0 (lane h)) = m ((c : Thread nD τ).loc main_arg8) (ix1 h) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  have e : (win0_8.blk t).view.emb (ix2 0 (lane h)) = ix2 0 (lane h) := by blk_ext [idx_val t, lane]
  rw [e]
  refine lanes_apply _ _ _ ?_ ?_ h
  · after_results_simp
    pointwise
  · after_results_simp
    pointwise

/-- The skip connection's weight, repeated over the head's columns. -/
theorem read_skip (t : Fin cfg0.N) (h : Fin 4) (p : Fin 64) : iblk m c 9 t (ix2 0 (col h p)) = m ((c : Thread nD τ).loc main_arg9) (ix1 h) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise [col]
  blk_ext [idx_val t]

/-- The normalization's weight. -/
theorem read_w (t : Fin cfg0.N) (j : Fin 256) : iblk m c 10 t (ix2 0 j) = m ((c : Thread nD τ).loc main_arg10) (ix1 j) := by
  have ht := lt_of_lt_of_eq t.isLt N_0
  unfold iblk
  blk_simp [idx_val t]
  unfold V V0
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise [seq]
  blk_ext [idx_val t]

end Cert.SsdSmpIdeal.Ssd

end
-- ==== Proof.SsdSmp.Carry.lean ====
/- The rows the convolution looks back to: the three rows kept before a continuation stand in front of its own. -/
module

public import proofs.«01_k».proof.Proof.SsdSmp.Blocks
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen Cert.SsdSmpRefIdeal.Read Cert.SsdSmpRefIdeal.Ssd

/-- The chunk's rows moved back by `8 - o`, with the kept rows in front. -/
def Window (E : Fin 8 → Fin 512 → EReal) (x : FVec Ideal S128x512 .f32) (o : ℕ) (ho : o ≤ 8) (X : FVec Ideal S128x512 .f32) : Prop :=
  ∀ (l : Fin 128) (j : Fin 512), X (ix2 l j) = if h : o + l.val < 8 then E ⟨o + l, h⟩ j else x (ix2 ⟨o + l - 8, by omega⟩ j)

section
variable {x0 : FVec Ideal S128x512 .f32} {x3 : FVec Ideal S32x3x512 .f32} {b : Fin 32} {E : Fin 8 → Fin 512 → EReal} {x : FVec Ideal S128x512 .f32}

/-- Such a window holds the extended input's rows. -/
theorem window_ext (hE : ∀ (p : Fin 8) (j : Fin 512) (_ : 5 ≤ p.val), E p j = x3 (ix3 b ⟨p - 5, by omega⟩ j)) (hx : ∀ l j, x (ix2 (up l) j) = x0 (ix2 (row b l) j))
    {o : ℕ} {ho : o ≤ 8} (h5 : 5 ≤ o) {X : FVec Ideal S128x512 .f32} (hX : Window E x o ho X) (l : Fin 4) (j : Fin 512) :
    X (ix2 (up l) j) = val_main_v4 (F := Ideal) x0 x3 (ix3 b ⟨(o - 5) + l, by omega⟩ j) := by
  rw [hX, ext_apply]
  have hl : (up l).val = l.val := rfl
  split
  · rename_i h
    rw [hE _ _ (by simp only []; omega), dif_pos (by simp only []; omega)]
    exact congrArg (fun r => x3 (ix3 b r j)) (Fin.ext (by simp only []; omega))
  · rename_i h
    rw [dif_neg (by simp only []; omega)]
    have z : (⟨o + (up l).val - 8, by omega⟩ : Fin 128) = up ⟨o - 5 + l.val - 3, by omega⟩ := Fin.ext (by simp only [up]; omega)
    rw [z, hx]

/-- The convolution of four windows is the reference's. -/
theorem window_conv {x5 : FVec Ideal S4x512 .f32} {x6 : FVec Ideal S512 .f32}
    (hE : ∀ (p : Fin 8) (j : Fin 512) (_ : 5 ≤ p.val), E p j = x3 (ix3 b ⟨p - 5, by omega⟩ j)) (hx : ∀ l j, x (ix2 (up l) j) = x0 (ix2 (row b l) j))
    {B W0 W1 W2 W3 : FVec Ideal S1x512 .f32} {X0 X1 X2 X3 : FVec Ideal S128x512 .f32} (hB : ∀ j, B (ix2 0 j) = x6 (ix1 j))
    (h0 : Window E x 5 (by omega) X0) (w0 : ∀ j, W0 (ix2 0 j) = x5 (ix2 0 j)) (h1 : Window E x 6 (by omega) X1) (w1 : ∀ j, W1 (ix2 0 j) = x5 (ix2 1 j))
    (h2 : Window E x 7 (by omega) X2) (w2 : ∀ j, W2 (ix2 0 j) = x5 (ix2 2 j)) (h3 : Window E x 8 (by omega) X3) (w3 : ∀ j, W3 (ix2 0 j) = x5 (ix2 3 j))
    (l : Fin 4) (j : Fin 512) :
    k0_pay5 (F := Ideal) B X0 W0 X1 W1 X2 W2 X3 W3 (ix2 (up l) j) = val_main_v34 (F := Ideal) x0 x3 x5 x6 (ix3 b l j) := by
  rw [conv_block, conv_apply, hB, w0, w1, w2, w3, window_ext hE hx (by omega) h0, window_ext hE hx (by omega) h1, window_ext hE hx (by omega) h2,
    window_ext hE hx (by omega) h3]
  have z : (⟨5 - 5 + l.val, by omega⟩ : Fin 7) = ⟨l.val, by omega⟩ := Fin.ext (by simp only []; omega)
  rw [z]

end

/-- Where a window's rows lie in the kept and new rows. -/
theorem window_row (o : ℕ) (inb : ∀ a : Fin 2, (![o, 0] : Fin 2 → ℕ) a + (![128, 512] : Fin 2 → ℕ) a ≤ S136x512.size a) (l : Fin 128) (j : Fin 512) (h : o + l.val < 136) :
    (Rect.unit (s := S136x512) ![o, 0] ![128, 512] inb).toLoadRect.idx (ix2 l j) = ix2 ⟨o + l, h⟩ j := by
  funext a
  apply Fin.ext
  match a with
  | 0 => show o + 1 * l.val = o + l.val; omega
  | 1 => show 0 + 1 * j.val = j.val; omega

/-- The new rows' places, -/
theorem new_row (r : Fin 128) (j : Fin 512) :
    (Rect.unit (s := S136x512) ![8, 0] ![128, 512] inb_S136x512_S128x512_8_0).emb (ix2 r j) = ix2 ⟨8 + r, by omega⟩ j := by
  blk_ext

/-- and the kept rows'. -/
theorem kept_row (r : Fin 8) (j : Fin 512) :
    (Rect.unit (s := S136x512) ![0, 0] ![8, 512] inb_S136x512_S8x512_0_0).emb (ix2 r j) = ix2 ⟨r, by omega⟩ j := by
  blk_ext

/-- Under the new rows' places the earlier rows are seen. -/
theorem under_new (x : FVec Ideal S128x512 .f32) (L : List (View.Piece (Elt Ideal) S136x512 cc0_scratch0.ty.elt)) (p : Fin 136) (j : Fin 512) (h : p.val < 8) :
    View.canon (Val := Elt Ideal) (s := S136x512) (e := cc0_scratch0.ty.elt) (⟨Rect.unit ![8, 0] ![128, 512] inb_S136x512_S128x512_8_0, x⟩ :: L) (ix2 p j) =
      View.canon (Val := Elt Ideal) L (ix2 p j) := by
  refine View.canon_cons_of_not_mem _ _ ?_
  rw [Rect.mem_set_unit]
  intro hall
  have : 8 ≤ p.val := (hall 0).1
  omega

/-- A load back from the rows just written, over kept rows written before them. -/
theorem load_first (x : FVec Ideal S128x512 .f32) (e : FVec Ideal S8x512 .f32) (o : ℕ) (ho : o ≤ 8)
    (inb : ∀ a : Fin 2, (![o, 0] : Fin 2 → ℕ) a + (![128, 512] : Fin 2 → ℕ) a ≤ S136x512.size a) :
    Window (fun p j => e (ix2 p j)) x o ho ((View.whole cc0_scratch0).readCov (Val := Elt Ideal) [⟨Rect.unit ![8, 0] ![128, 512] inb_S136x512_S128x512_8_0, x⟩,
      ⟨Rect.unit ![0, 0] ![8, 512] inb_S136x512_S8x512_0_0, e⟩] (Rect.unit (s := S136x512) ![o, 0] ![128, 512] inb).toLoadRect) := by
  intro l j
  rw [View.readCov_eq_canon']
  refine (congrArg _ (window_row o inb l j (by omega))).trans ?_
  split
  · rename_i h
    refine (under_new x _ ⟨o + l.val, by omega⟩ j h).trans ?_
    have z : (ix2 ⟨o + l.val, by omega⟩ j : S136x512.Idx) =
        (Rect.unit (s := S136x512) ![0, 0] ![8, 512] inb_S136x512_S8x512_0_0).emb (ix2 ⟨o + l.val, h⟩ j) := (kept_row ⟨o + l.val, h⟩ j).symm
    rw [z]
    exact View.canon_cons_emb _ _ _ _
  · have z : (ix2 ⟨o + l.val, by omega⟩ j : S136x512.Idx) =
        (Rect.unit (s := S136x512) ![8, 0] ![128, 512] inb_S136x512_S128x512_8_0).emb (ix2 ⟨o + l.val - 8, by omega⟩ j) := by
      rw [new_row]
      exact congrArg (fun r : Fin 136 => (ix2 r j : S136x512.Idx)) (Fin.ext (by simp only []; omega))
    rw [z]
    exact View.canon_cons_emb _ _ _ _

end Cert.SsdSmpIdeal.Ssd

end
-- ==== Proof.SsdSmp.Bridge.lean ====
/- What every grid point of the recurrence leaves: its continuation's rows of the result, and the state after it. -/
module

public import proofs.«01_k».proof.Proof.SsdSmp.Carry

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen Cert.SsdSmpRefIdeal.Read Cert.SsdSmpRefIdeal.Ssd
open Cert.SsdRefIdeal.Ssd (col lane)
open Cert.SsdIdeal.Ssd (col_all)

variable (m : (ℓ : Loc nD τ sig) → Buf (Elt Ideal) ℓ) (c : Dev nD)

/-- The reference's state after a continuation. -/
abbrev stateRef (b : Fin 32) (h : Fin 4) (p : Fin 64) (n : Fin 128) : EReal :=
  val_main_v99 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix5 b 1 h p n)

/-- The convolution's input block. -/
theorem new_rows (t : Fin cfg0.N) (l : Fin 4) (j : Fin 512) : k0_pay4 (F := Ideal) (iblk m c 0 t) (ix2 (up l) j) = m ((c : Thread nD τ).loc main_arg0) (ix2 (row (seq t) l) j) := by
  pointwise [k0_pay4]
  exact read_x m c t l j

/-- A row of the convolution's weight, loaded. -/
theorem weight_row (t : Fin cfg0.N) (k : Fin 4) (inb : ∀ a : Fin 2, (![k.val, 0] : Fin 2 → ℕ) a + (![1, 512] : Fin 2 → ℕ) a ≤ S4x512.size a) (j : Fin 512) :
    View.ld (iblk m c 5 t) (Rect.unit (s := S4x512) ![k.val, 0] ![1, 512] inb) (ix2 0 j) = m ((c : Thread nD τ).loc main_arg5) (ix2 k j) := by
  have e : (Rect.unit (s := S4x512) ![k.val, 0] ![1, 512] inb).emb (ix2 0 j) = ix2 k j := by
    blk_ext
  exact (congrArg (iblk m c 5 t) e).trans (read_cw m c t k j)

/-- The state block, its entries by head. -/
theorem old_state (t : Fin cfg0.N) (h : Fin 4) (p : Fin 64) (n : Fin 128) :
    k0_pay3 (F := Ideal) (iblk m c 4 t) (ix2 (col h p) n) = m ((c : Thread nD τ).loc main_arg4) (ix4 (seq t) h p n) := by
  pointwise [k0_pay3]
  exact read_st m c t h p n

/-- A point's blocks, given the convolution. -/
theorem holds (t : Fin cfg0.N) (V : FVec Ideal S128x512 .f32)
    (hV : ∀ l j, V (ix2 (up l) j) = val_main_v34 (F := Ideal) (m ((c : Thread nD τ).loc main_arg0)) (m ((c : Thread nD τ).loc main_arg3)) (m ((c : Thread nD τ).loc main_arg5)) (m ((c : Thread nD τ).loc main_arg6)) (ix3 (seq t) l j)) :
    Holds (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (seq t) V (iblk m c 2 t) (iblk m c 7 t) (iblk m c 8 t) (k0_pay3 (F := Ideal) (iblk m c 4 t)) :=
  ⟨hV, fun l h => read_s m c t l (lane h), read_bias m c t, read_rate m c t, old_state m c t⟩

/-- What a point leaves. -/
theorem point (t : Fin cfg0.N) : (∀ l j, (outsAt0 m c t).1 (ix2 (up l) j) =
      val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row (seq t) l) j)) ∧
    ∀ h p n, (outsAt0 m c t).2 (ix3 0 (col h p) n) = stateRef m c (seq t) h p n := by
  have hV := window_conv (x0 := m ((c : Thread nD τ).loc main_arg0)) (x3 := m ((c : Thread nD τ).loc main_arg3)) (x6 := m ((c : Thread nD τ).loc main_arg6))
    (E := fun p j => k0_pay2 (F := Ideal) (iblk m c 3 t) (ix2 p j)) (fun p j hp => by pointwise [k0_pay2]; exact read_buf m c t p j hp)
    (new_rows m c t) (read_cb m c t)
    (load_first _ _ 5 (by omega) inb_S136x512_S128x512_5_0) (weight_row m c t 0 inb_S4x512_S1x512_0_0)
    (load_first _ _ 6 (by omega) inb_S136x512_S128x512_6_0) (weight_row m c t 1 inb_S4x512_S1x512_1_0)
    (load_first _ _ 7 (by omega) inb_S136x512_S128x512_7_0) (weight_row m c t 2 inb_S4x512_S1x512_2_0)
    (load_first _ _ 8 (by omega) inb_S136x512_S128x512_8_0) (weight_row m c t 3 inb_S4x512_S1x512_3_0)
  have H := holds m c t _ hV
  refine ⟨fun l j => ?_, fun h p n => ?_⟩
  · unfold outsAt0
    frame_out
    exact out_eq H _ _ _ _ _ _ _ (rows_eq H) (read_skip m c t) (read_z m c t) (read_w m c t) l j
  · unfold outsAt0
    frame_out
    pointwise [k0_pay1]
    exact state_eq H h p n

/-- The array of rows the points leave, every continuation padded to a chunk. -/
def padded (y : S4096x256.Idx) : Elt Ideal .bf16 :=
  (outsAt0 m c ⟨(y 0).val / 128, lt_of_lt_of_eq (by have : (y 0).val < 4096 := (y 0).isLt; omega) N_0.symm⟩).1 (ix2 ⟨(y 0).val % 128, by omega⟩ (y 1))

/-- Its rows. -/
theorem padded_apply (t : Fin cfg0.N) (ht : t.val < 32) (l : Fin 128) (j : Fin 256) : padded m c (ix2 ⟨t.val * 128 + l.val, by omega⟩ j) = (outsAt0 m c t).1 (ix2 l j) := by
  have a : (⟨(t.val * 128 + l.val) / 128, lt_of_lt_of_eq (by omega) N_0.symm⟩ : Fin cfg0.N) = t := Fin.ext (by simp only []; omega)
  have b : (⟨(t.val * 128 + l.val) % 128, by omega⟩ : Fin 128) = l := Fin.ext (by simp only []; omega)
  exact congrArg₂ (fun t l => (outsAt0 m c t).1 (ix2 l j)) a b

/-- The array of rows after the run. -/
theorem final_rows : (dats m 0 c).arrAt 11 cfg0.N = padded m c := by
  refine (dats m 0 c).arrAt_eq_of_covers 11 _ (by decide +kernel) fun t _ y => ?_
  have ht := lt_of_lt_of_eq t.isLt N_0
  have hy : (y 0).val < 128 := (y 0).isLt
  blk_simp
  rw [after0_11]
  have e : ((cfg0.win 11).blk t).view.emb y = ix2 ⟨t.val * 128 + (y 0).val, by omega⟩ (y 1) := by
    blk_ext [idx_val t]
  rw [e]
  exact (congrArg (outsAt0 m c t).1 (ix2_eta y).symm).trans (padded_apply m c t ht (y 0) (y 1)).symm

/-- The array of the reference's states, heads and their entries in one axis. -/
def lastStates (y : S32x256x128.Idx) : EReal :=
  stateRef m c (y 0) ⟨(y 1).val / 64, by have : (y 1).val < 256 := (y 1).isLt; omega⟩ ⟨(y 1).val % 64, by omega⟩ (y 2)

/-- Its entries. -/
theorem lastStates_apply (b : Fin 32) (h : Fin 4) (p : Fin 64) (n : Fin 128) : lastStates m c (ix3 b (col h p) n) = stateRef m c b h p n := by
  have a : (⟨(col h p).val / 64, by omega⟩ : Fin 4) = h := Fin.ext (by simp only [col]; omega)
  have b' : (⟨(col h p).val % 64, by omega⟩ : Fin 64) = p := Fin.ext (by simp only [col]; omega)
  exact congrArg₂ (fun h p => stateRef m c b h p n) a b'

/-- The array of states after the run. -/
theorem final_states : (dats m 0 c).arrAt 12 cfg0.N = lastStates m c := by
  refine (dats m 0 c).arrAt_eq_of_covers 12 _ (by decide +kernel) fun t _ y => ?_
  have ht := lt_of_lt_of_eq t.isLt N_0
  obtain ⟨h, p, hq⟩ := col_all (y 1)
  have e : ((cfg0.win 12).blk t).view.emb y = ix3 (seq t) (col h p) (y 2) := by
    rw [← hq]
    blk_ext [idx_val t, seq]
  have ey : y = ix3 0 (col h p) (y 2) := by
    rw [← hq]
    blk_ext
  blk_simp
  rw [after0_12]
  refine Eq.trans ?_ ((congrArg (lastStates m c) e).trans (lastStates_apply m c (seq t) h p (y 2))).symm
  exact (congrArg (outsAt0 m c t).2 ey).trans ((point m c t).2 h p (y 2))

end Cert.SsdSmpIdeal.Ssd

end
-- ==== Proof.SsdSmp.Run.lean ====
/- The run of the recurrence over the continuations: its rows and states are the reference's results of the arguments. -/
module

public import proofs.«01_k».proof.Proof.SsdSmp.Bridge

@[expose] public section

set_option maxRecDepth 16384

noncomputable section

open Idealize.ShloMosaic Idealize.ShloMosaic.TcCoe Idealize.SL.Sem

namespace Cert.SsdSmpIdeal.Ssd

open Cert.SsdSmpIdeal Cert.SsdSmpIdeal.Gen Cert.SsdSmpRefIdeal.Read Cert.SsdSmpRefIdeal.Ssd
open Cert.SsdRefIdeal.Ssd (col lane)
open Cert.SsdIdeal.Ssd (col_all)

variable (m : (ℓ : Loc nD τ sig) → Buf (Elt Ideal) ℓ)

/-- The windows' arrays are distinct. -/
theorem arrays_inj : Function.Injective (Pipeline.arrRef (cfgs 0).spec) := by decide +kernel

/-- The continuations' rows, which the host takes from the padded array. -/
theorem tail_29 (c : Dev nD) : Pipeline.afterTail₀ cfgs (dats m) 0 (V0 m) [hostOps1] c main_v29 =
    val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have a : Pipeline.withArrays (cfgs 0).spec c (V0 m c) (fun w => (dats m 0 c).arrAt w (cfgs 0).N) (Proc.tc.devRef main_v26_0) = padded m c :=
    (Pipeline.withArrays_arr (cfgs 0).spec arrays_inj c (V0 m c) (fun w => (dats m 0 c).arrAt w (cfgs 0).N) 11).trans (final_rows m c)
  refine funext fun (i : S128x256.Idx) => ?_
  obtain ⟨b, l, j, rfl⟩ : ∃ (b : Fin 32) (l : Fin 4) (j : Fin 256), i = ix2 (row b l) j := by
    have hi : (i 0).val < 128 := (i 0).isLt
    refine ⟨⟨(i 0).val / 4, by omega⟩, ⟨(i 0).val % 4, by omega⟩, i 1, (ix2_eta i).symm.trans ?_⟩
    exact congrArg (fun r : Fin 128 => (ix2 r (i 1) : S128x256.Idx)) (Fin.ext (by simp only [row]; omega))
  refine Eq.trans ?_ ((padded_apply m c ⟨b.val, lt_of_lt_of_eq b.isLt N_0.symm⟩ b.isLt (up l) j).trans ((point m c ⟨b.val, lt_of_lt_of_eq b.isLt N_0.symm⟩).1 l j))
  unfold Pipeline.afterTail₀
  simp only [List.flatten_cons, List.flatten_nil, List.append_nil]
  after_results_simp
  rw [a]
  have e1 : (b.val * 4 + l.val) / 4 = b.val := by omega
  have e2 : (b.val * 4 + l.val) % 4 = l.val := by omega
  pointwise [row, up, e1, e2]

/-- The states by head, which the host forms from the array of states. -/
theorem tail_30 (c : Dev nD) : Pipeline.afterTail₀ cfgs (dats m) 0 (V0 m) [hostOps1] c main_v30 =
    val_main_v110 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have a : Pipeline.withArrays (cfgs 0).spec c (V0 m c) (fun w => (dats m 0 c).arrAt w (cfgs 0).N) (Proc.tc.devRef main_v26_1) = lastStates m c :=
    (Pipeline.withArrays_arr (cfgs 0).spec arrays_inj c (V0 m c) (fun w => (dats m 0 c).arrAt w (cfgs 0).N) 12).trans (final_states m c)
  refine funext fun (i : S32x4x64x128.Idx) => ?_
  obtain ⟨b, h, p, n, rfl⟩ : ∃ b h p n, i = ix4 b h p n := ⟨_, _, _, _, (ix4_eta i).symm⟩
  rw [last_apply]
  refine Eq.trans ?_ (lastStates_apply m c b h p n)
  unfold Pipeline.afterTail₀
  simp only [List.flatten_cons, List.flatten_nil, List.append_nil]
  after_results_simp
  rw [a]
  pointwise [col]

set_option maxHeartbeats 4000000 in
/-- Every execution ends with the results at the reference's stages of the arguments, and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v29) = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ∧
    r.2.mem ((c.tc : Thread nD τ).loc main_v30) = val_main_v110 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10)) :=
  (θ_run defs _ _).mono (fun _ h c => ⟨(h.2 c).1, (h.2 c).2, h.1 c⟩) (θ_run_and (unchanged m ρ)
    ((θ_run defs _ _).mono (fun r h (c : Dev nD) => (⟨((h c).2 main_v29 (Pipeline.mem_restRefs_of main_v29 (by decide) (by decide))).trans (tail_29 m c),
      ((h c).2 main_v30 (Pipeline.mem_restRefs_of main_v30 (by decide) (by decide))).trans (tail_30 m c)⟩ :
      r.2.mem ((c.tc : Thread nD τ).loc main_v29) = _ ∧ r.2.mem ((c.tc : Thread nD τ).loc main_v30) = _)) (run_main m ρ)))

end Cert.SsdSmpIdeal.Ssd

end
-- ==== Proof.lean ====
/- The claims, put together from the proofs of the calls: each call's frames, and its results beside its reference's on memories that agree on the arguments. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ffn.Bridge
public import proofs.«01_k».proof.Proof.Inproj.Run
public import proofs.«01_k».proof.Proof.Gen.Inproj.Frame
public import proofs.«01_k».proof.Proof.Gen.InprojRefIdeal.Run
public import proofs.«01_k».proof.Proof.Ssd.Run
public import proofs.«01_k».proof.Proof.Ssd.Pre
public import proofs.«01_k».proof.Proof.Gen.Ssd.Frame
public import proofs.«01_k».proof.Proof.Gen.SsdRefIdeal.Run
public import proofs.«01_k».proof.Proof.InprojSmp.Run
public import proofs.«01_k».proof.Proof.Gen.InprojSmp.Frame
public import proofs.«01_k».proof.Proof.Gen.InprojSmpRefIdeal.Run
public import proofs.«01_k».proof.Proof.FfnSmp.Bridge
public import proofs.«01_k».proof.Proof.Gen.FfnSmp.Frame
public import proofs.«01_k».proof.Proof.Gen.FfnSmpIdeal.Value
public import proofs.«01_k».proof.Proof.Gen.FfnSmpRefIdeal.Run
public import proofs.«01_k».proof.Proof.SsdSmp.Run
public import proofs.«01_k».proof.Proof.Gen.SsdSmp.Frame
public import proofs.«01_k».proof.Proof.Gen.SsdSmpRefIdeal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mixing and feed-forward call: the result array holds the reference's result of the same arguments. -/
theorem algebraic_KernelIdeal_ReferenceIdeal : algebraic_KernelIdeal_ReferenceIdeal := by
  intro m ρ m' ρ' _ hagree
  refine ⟨_, (θ_run Cert.KernelIdeal.defs _ _).mono (fun _ h c => ⟨(h c).1.trans (Cert.KernelIdeal.Ffn.final m c), (h c).2⟩)
    (Cert.KernelIdeal.Value.run_blocks (F := Ideal) m ρ), ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v55_eq (F := Ideal) m' c).trans ?_
  simp only [hagree c]

theorem quiescent_InprojRefIdeal : quiescent_InprojRefIdeal := fun m ρ _ =>
  (θ_run Cert.InprojRefIdeal.defs _ _).mono (fun r h => ⟨fun c => (h c).2.2.2.2.2.2.2.2.2.2.2.2.2.2.2, sem_eq_zero_of_no_sems (by decide) r.2⟩)
    (Cert.InprojRefIdeal.Value.run (F := Ideal) m ρ)

/-- The input projection: its fifteen results are the reference's results of the same arguments. -/
theorem algebraic_InprojIdeal_InprojRefIdeal : algebraic_InprojIdeal_InprojRefIdeal := by
  intro m ρ m' ρ' _ hagree
  refine ⟨_, _, _, _, _, _, _, _, _, _, _, _, _, _, _, Cert.InprojIdeal.Inproj.run m ρ, ?_⟩
  refine (θ_run Cert.InprojRefIdeal.defs _ _).mono (fun _ h c => ⟨?_, ?_, ?_, ?_, ?_, ?_, ?_, ?_, ?_, ?_, ?_, ?_, ?_, ?_, ?_, (h c).2.2.2.2.2.2.2.2.2.2.2.2.2.2.2⟩)
    (Cert.InprojRefIdeal.Value.run (F := Ideal) m' ρ')
  · rw [(h c).1]
    refine (Cert.InprojRefIdeal.Read.val_main_v158_eq (F := Ideal) (StableHlo.launchContents m' c)).trans ?_
    simp only [StableHlo.launchContents, hagree c]
  · rw [(h c).2.1]
    refine (Cert.InprojRefIdeal.Read.val_main_v92_eq (F := Ideal) (StableHlo.launchContents m' c)).trans ?_
    simp only [StableHlo.launchContents, hagree c]
  · rw [(h c).2.2.1]
    refine (Cert.InprojRefIdeal.Read.val_main_v93_eq (F := Ideal) (StableHlo.launchContents m' c)).trans ?_
    simp only [StableHlo.launchContents, hagree c]
  · rw [(h c).2.2.2.1]
    refine (Cert.InprojRefIdeal.Read.val_main_v162_eq (F := Ideal) (StableHlo.launchContents m' c)).trans ?_
    simp only [StableHlo.launchContents, hagree c]
  · rw [(h c).2.2.2.2.1]
    refine (Cert.InprojRefIdeal.Read.val_main_v154_eq (F := Ideal) (StableHlo.launchContents m' c)).trans ?_
    simp only [StableHlo.launchContents, hagree c]
  · rw [(h c).2.2.2.2.2.1]
    refine (Cert.InprojRefIdeal.Read.val_main_v163_eq (F := Ideal) (StableHlo.launchContents m' c)).trans ?_
    simp only [StableHlo.launchContents, hagree c]
  · rw [(h c).2.2.2.2.2.2.1]
    refine (Cert.InprojRefIdeal.Read.val_main_v164_eq (F := Ideal) (StableHlo.launchContents m' c)).trans ?_
    simp only [StableHlo.launchContents, hagree c]
  · rw [(h c).2.2.2.2.2.2.2.1]
    refine (Cert.InprojRefIdeal.Read.val_main_v165_eq (F := Ideal) (StableHlo.launchContents m' c)).trans ?_
    simp only [StableHlo.launchContents, hagree c]
  · rw [(h c).2.2.2.2.2.2.2.2.1]
    refine (Cert.InprojRefIdeal.Read.val_main_v166_eq (F := Ideal) (StableHlo.launchContents m' c)).trans ?_
    simp only [StableHlo.launchContents, hagree c]
  · rw [(h c).2.2.2.2.2.2.2.2.2.1]
    refine (Cert.InprojRefIdeal.Read.val_main_v167_eq (F := Ideal) (StableHlo.launchContents m' c)).trans ?_
    simp only [StableHlo.launchContents, hagree c]
  · rw [(h c).2.2.2.2.2.2.2.2.2.2.1]
    refine (Cert.InprojRefIdeal.Read.val_main_v168_eq (F := Ideal) (StableHlo.launchContents m' c)).trans ?_
    simp only [StableHlo.launchContents, hagree c]
  · rw [(h c).2.2.2.2.2.2.2.2.2.2.2.1]
    refine (Cert.InprojRefIdeal.Read.val_main_v169_eq (F := Ideal) (StableHlo.launchContents m' c)).trans ?_
    simp only [StableHlo.launchContents, hagree c]
  · rw [(h c).2.2.2.2.2.2.2.2.2.2.2.2.1]
    refine (Cert.InprojRefIdeal.Read.val_main_v171_eq (F := Ideal) (StableHlo.launchContents m' c)).trans ?_
    simp only [StableHlo.launchContents, hagree c]
  · rw [(h c).2.2.2.2.2.2.2.2.2.2.2.2.2.1]
    refine (Cert.InprojRefIdeal.Read.val_main_v173_eq (F := Ideal) (StableHlo.launchContents m' c)).trans ?_
    simp only [StableHlo.launchContents, hagree c]
  · rw [(h c).2.2.2.2.2.2.2.2.2.2.2.2.2.2.1]
    refine (Cert.InprojRefIdeal.Read.val_main_v175_eq (F := Ideal) (StableHlo.launchContents m' c)).trans ?_
    simp only [StableHlo.launchContents, hagree c]

theorem quiescent_SsdRefIdeal : quiescent_SsdRefIdeal := fun m ρ _ =>
  (θ_run Cert.SsdRefIdeal.defs _ _).mono (fun r h => ⟨fun c => (h c).2.2, sem_eq_zero_of_no_sems (by decide) r.2⟩)
    (Cert.SsdRefIdeal.Value.run (F := Ideal) m ρ)

/-- The recurrence: its rows and its last states are the reference's results of the same arguments, where the step sizes before their bias,
    the bias and the rates are finite. -/
theorem algebraic_SsdIdeal_SsdRefIdeal : algebraic_SsdIdeal_SsdRefIdeal_pre_finite_steps := by
  intro m ρ m' ρ' hpre hagree
  refine ⟨_, _, Cert.SsdIdeal.Ssd.run m (fun c => Cert.Pre_finite_steps.finite _ _ _ _ _ _ _ _ _ (hpre c)) ρ, ?_⟩
  refine (θ_run Cert.SsdRefIdeal.defs _ _).mono (fun _ h c => ⟨?_, ?_, (h c).2.2⟩) (Cert.SsdRefIdeal.Value.run (F := Ideal) m' ρ')
  · rw [(h c).1]
    refine (Cert.SsdRefIdeal.Read.val_main_v135_eq (F := Ideal) (StableHlo.launchContents m' c)).trans ?_
    simp only [StableHlo.launchContents, hagree c]
  · rw [(h c).2.1]
    refine (Cert.SsdRefIdeal.Read.val_main_v112_eq (F := Ideal) (StableHlo.launchContents m' c)).trans ?_
    simp only [StableHlo.launchContents, hagree c]

theorem quiescent_InprojSmpRefIdeal : quiescent_InprojSmpRefIdeal := fun m ρ _ =>
  (θ_run Cert.InprojSmpRefIdeal.defs _ _).mono (fun r h => ⟨fun c => (h c).2.2.2.2.2.2.2.2.2.2.2.2.2, sem_eq_zero_of_no_sems (by decide) r.2⟩)
    (Cert.InprojSmpRefIdeal.Value.run (F := Ideal) m ρ)

/-- The input projection of the short continuations: its thirteen results are the reference's results of the same arguments. -/
theorem algebraic_InprojSmpIdeal_InprojSmpRefIdeal : algebraic_InprojSmpIdeal_InprojSmpRefIdeal := by
  intro m ρ m' ρ' _ hagree
  refine ⟨_, _, _, _, _, _, _, _, _, _, _, _, _, Cert.InprojSmpIdeal.Inproj.run m ρ, ?_⟩
  refine (θ_run Cert.InprojSmpRefIdeal.defs _ _).mono (fun _ h c => ⟨?_, ?_, ?_, ?_, ?_, ?_, ?_, ?_, ?_, ?_, ?_, ?_, ?_, (h c).2.2.2.2.2.2.2.2.2.2.2.2.2⟩)
    (Cert.InprojSmpRefIdeal.Value.run (F := Ideal) m' ρ')
  · rw [(h c).1]
    refine (Cert.InprojSmpRefIdeal.Read.val_main_v161_eq (F := Ideal) (StableHlo.launchContents m' c)).trans ?_
    simp only [StableHlo.launchContents, hagree c]
  · rw [(h c).2.1]
    refine (Cert.InprojSmpRefIdeal.Read.val_main_v162_eq (F := Ideal) (StableHlo.launchContents m' c)).trans ?_
    simp only [StableHlo.launchContents, hagree c]
  · rw [(h c).2.2.1]
    refine (Cert.InprojSmpRefIdeal.Read.val_main_v163_eq (F := Ideal) (StableHlo.launchContents m' c)).trans ?_
    simp only [StableHlo.launchContents, hagree c]
  · rw [(h c).2.2.2.1]
    refine (Cert.InprojSmpRefIdeal.Read.val_main_v167_eq (F := Ideal) (StableHlo.launchContents m' c)).trans ?_
    simp only [StableHlo.launchContents, hagree c]
  · rw [(h c).2.2.2.2.1]
    refine (Cert.InprojSmpRefIdeal.Read.val_main_v168_eq (F := Ideal) (StableHlo.launchContents m' c)).trans ?_
    simp only [StableHlo.launchContents, hagree c]
  · rw [(h c).2.2.2.2.2.1]
    refine (Cert.InprojSmpRefIdeal.Read.val_main_v169_eq (F := Ideal) (StableHlo.launchContents m' c)).trans ?_
    simp only [StableHlo.launchContents, hagree c]
  · rw [(h c).2.2.2.2.2.2.1]
    refine (Cert.InprojSmpRefIdeal.Read.val_main_v170_eq (F := Ideal) (StableHlo.launchContents m' c)).trans ?_
    simp only [StableHlo.launchContents, hagree c]
  · rw [(h c).2.2.2.2.2.2.2.1]
    refine (Cert.InprojSmpRefIdeal.Read.val_main_v171_eq (F := Ideal) (StableHlo.launchContents m' c)).trans ?_
    simp only [StableHlo.launchContents, hagree c]
  · rw [(h c).2.2.2.2.2.2.2.2.1]
    refine (Cert.InprojSmpRefIdeal.Read.val_main_v172_eq (F := Ideal) (StableHlo.launchContents m' c)).trans ?_
    simp only [StableHlo.launchContents, hagree c]
  · rw [(h c).2.2.2.2.2.2.2.2.2.1]
    refine (Cert.InprojSmpRefIdeal.Read.val_main_v173_eq (F := Ideal) (StableHlo.launchContents m' c)).trans ?_
    simp only [StableHlo.launchContents, hagree c]
  · rw [(h c).2.2.2.2.2.2.2.2.2.2.1]
    refine (Cert.InprojSmpRefIdeal.Read.val_main_v175_eq (F := Ideal) (StableHlo.launchContents m' c)).trans ?_
    simp only [StableHlo.launchContents, hagree c]
  · rw [(h c).2.2.2.2.2.2.2.2.2.2.2.1]
    refine (Cert.InprojSmpRefIdeal.Read.val_main_v177_eq (F := Ideal) (StableHlo.launchContents m' c)).trans ?_
    simp only [StableHlo.launchContents, hagree c]
  · rw [(h c).2.2.2.2.2.2.2.2.2.2.2.2.1]
    refine (Cert.InprojSmpRefIdeal.Read.val_main_v179_eq (F := Ideal) (StableHlo.launchContents m' c)).trans ?_
    simp only [StableHlo.launchContents, hagree c]

theorem quiescent_FfnSmpRefIdeal : quiescent_FfnSmpRefIdeal := fun m ρ _ =>
  (θ_run Cert.FfnSmpRefIdeal.defs _ _).mono (fun r h => ⟨fun c => (h c).2, sem_eq_zero_of_no_sems (by decide) r.2⟩)
    (Cert.FfnSmpRefIdeal.Value.run (F := Ideal) m ρ)

/-- The mixing and feed-forward call on the short continuations: the result array holds the reference's result of the same arguments. -/
theorem algebraic_FfnSmpIdeal_FfnSmpRefIdeal : algebraic_FfnSmpIdeal_FfnSmpRefIdeal := by
  intro m ρ m' ρ' _ hagree
  refine ⟨_, (θ_run Cert.FfnSmpIdeal.defs _ _).mono (fun _ h c => ⟨(h c).1.trans (Cert.FfnSmpIdeal.Ffn.final m c), (h c).2⟩)
    (Cert.FfnSmpIdeal.Value.run_blocks (F := Ideal) m ρ), ?_⟩
  refine (θ_run Cert.FfnSmpRefIdeal.defs _ _).mono (fun _ h c => ⟨?_, (h c).2⟩) (Cert.FfnSmpRefIdeal.Value.run (F := Ideal) m' ρ')
  rw [(h c).1]
  refine (Cert.FfnSmpRefIdeal.Read.val_main_v55_eq (F := Ideal) m' c).trans ?_
  simp only [hagree c]

theorem quiescent_SsdSmpRefIdeal : quiescent_SsdSmpRefIdeal := fun m ρ _ =>
  (θ_run Cert.SsdSmpRefIdeal.defs _ _).mono (fun r h => ⟨fun c => (h c).2.2, sem_eq_zero_of_no_sems (by decide) r.2⟩)
    (Cert.SsdSmpRefIdeal.Value.run (F := Ideal) m ρ)

/-- The recurrence over the short continuations: its rows and the states after them are the reference's results of the same arguments. -/
theorem algebraic_SsdSmpIdeal_SsdSmpRefIdeal : algebraic_SsdSmpIdeal_SsdSmpRefIdeal := by
  intro m ρ m' ρ' _ hagree
  refine ⟨_, _, Cert.SsdSmpIdeal.Ssd.run m ρ, ?_⟩
  refine (θ_run Cert.SsdSmpRefIdeal.defs _ _).mono (fun _ h c => ⟨?_, ?_, (h c).2.2⟩) (Cert.SsdSmpRefIdeal.Value.run (F := Ideal) m' ρ')
  · rw [(h c).1]
    refine (Cert.SsdSmpRefIdeal.Read.val_main_v133_eq (F := Ideal) (StableHlo.launchContents m' c)).trans ?_
    simp only [StableHlo.launchContents, hagree c]
  · rw [(h c).2.1]
    refine (Cert.SsdSmpRefIdeal.Read.val_main_v110_eq (F := Ideal) (StableHlo.launchContents m' c)).trans ?_
    simp only [StableHlo.launchContents, hagree c]

theorem claim : Cert.Claim := ⟨Cert.Kernel.Gen.facts, Cert.KernelIdeal.Gen.facts, Cert.ReferenceIdeal.Gen.facts,
  Cert.Inproj.Gen.facts, Cert.InprojIdeal.Gen.facts, Cert.InprojRefIdeal.Gen.facts,
  Cert.Ssd.Gen.facts, Cert.SsdIdeal.Gen.facts, Cert.SsdRefIdeal.Gen.facts,
  Cert.InprojSmp.Gen.facts, Cert.InprojSmpIdeal.Gen.facts, Cert.InprojSmpRefIdeal.Gen.facts,
  Cert.FfnSmp.Gen.facts, Cert.FfnSmpIdeal.Gen.facts, Cert.FfnSmpRefIdeal.Gen.facts,
  Cert.SsdSmp.Gen.facts, Cert.SsdSmpIdeal.Gen.facts, Cert.SsdSmpRefIdeal.Gen.facts,
  Cert.Pre_finite_steps.facts,
  fun m ρ _ => Cert.Kernel.Gen.frame m ρ, fun m ρ _ => Cert.KernelIdeal.Gen.frame m ρ, quiescent_ReferenceIdeal,
  fun m ρ _ => Cert.Inproj.Gen.frame m ρ, fun m ρ _ => Cert.InprojIdeal.Gen.frame m ρ, quiescent_InprojRefIdeal,
  fun m ρ _ => Cert.Ssd.Gen.frame m ρ, fun m ρ _ => Cert.SsdIdeal.Gen.frame m ρ, fun m ρ _ => Cert.SsdIdeal.Gen.frame m ρ, quiescent_SsdRefIdeal,
  fun m ρ _ => quiescent_SsdRefIdeal m ρ trivial,
  fun m ρ _ => Cert.InprojSmp.Gen.frame m ρ, fun m ρ _ => Cert.InprojSmpIdeal.Gen.frame m ρ, quiescent_InprojSmpRefIdeal,
  fun m ρ _ => Cert.FfnSmp.Gen.frame m ρ, fun m ρ _ => Cert.FfnSmpIdeal.Gen.frame m ρ, quiescent_FfnSmpRefIdeal,
  fun m ρ _ => Cert.SsdSmp.Gen.frame m ρ, fun m ρ _ => Cert.SsdSmpIdeal.Gen.frame m ρ, quiescent_SsdSmpRefIdeal,
  (trivial : preserves_Kernel_KernelIdeal), algebraic_KernelIdeal_ReferenceIdeal,
  (trivial : preserves_Inproj_InprojIdeal), algebraic_InprojIdeal_InprojRefIdeal,
  (trivial : preserves_Ssd_SsdIdeal), algebraic_SsdIdeal_SsdRefIdeal,
  (trivial : preserves_InprojSmp_InprojSmpIdeal), algebraic_InprojSmpIdeal_InprojSmpRefIdeal,
  (trivial : preserves_FfnSmp_FfnSmpIdeal), algebraic_FfnSmpIdeal_FfnSmpRefIdeal,
  (trivial : preserves_SsdSmp_SsdSmpIdeal), algebraic_SsdSmpIdeal_SsdSmpRefIdeal⟩

end Cert.Proof

end
